-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v5_2)) (v4 : (c : Dev Cert.KernelIdeal.nD) → Buf (Elt Ideal) ((c.tc : Thread Cert.KernelIdeal.nD Cert.KernelIdeal.τ).loc Cert.KernelIdeal.main_v5_3)) (v5 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_v5_3) = v4 c
          ∧ r.2.mem ((c.tc : Thread Cert.KernelIdeal.nD Cert.KernelIdeal.τ).loc Cert.KernelIdeal.main_v5_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_v100) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_4)) (v1 : (c : Dev Cert.Kernel2Ideal.nD) → Buf (Elt Ideal) ((c.tc : Thread Cert.Kernel2Ideal.nD Cert.Kernel2Ideal.τ).loc Cert.Kernel2Ideal.main_v4_0)) (v2 : (c : Dev Cert.Kernel2Ideal.nD) → Buf (Elt Ideal) ((c.tc : Thread Cert.Kernel2Ideal.nD Cert.Kernel2Ideal.τ).loc Cert.Kernel2Ideal.main_v4_1)) (v3 : (c : Dev Cert.Kernel2Ideal.nD) → Buf (Elt Ideal) ((c.tc : Thread Cert.Kernel2Ideal.nD Cert.Kernel2Ideal.τ).loc Cert.Kernel2Ideal.main_v3_0)) (v4 : (c : Dev Cert.Kernel2Ideal.nD) → Buf (Elt Ideal) ((c.tc : Thread Cert.Kernel2Ideal.nD Cert.Kernel2Ideal.τ).loc Cert.Kernel2Ideal.main_v3_1)) (v5 : (c : Dev Cert.Kernel2Ideal.nD) → Buf (Elt Ideal) ((c.tc : Thread Cert.Kernel2Ideal.nD Cert.Kernel2Ideal.τ).loc Cert.Kernel2Ideal.main_v5_0)) (v6 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_4) = v0 c
          ∧ r.2.mem ((c.tc : Thread Cert.Kernel2Ideal.nD Cert.Kernel2Ideal.τ).loc Cert.Kernel2Ideal.main_v4_0) = v1 c
          ∧ r.2.mem ((c.tc : Thread Cert.Kernel2Ideal.nD Cert.Kernel2Ideal.τ).loc Cert.Kernel2Ideal.main_v4_1) = v2 c
          ∧ r.2.mem ((c.tc : Thread Cert.Kernel2Ideal.nD Cert.Kernel2Ideal.τ).loc Cert.Kernel2Ideal.main_v3_0) = v3 c
          ∧ r.2.mem ((c.tc : Thread Cert.Kernel2Ideal.nD Cert.Kernel2Ideal.τ).loc Cert.Kernel2Ideal.main_v3_1) = v4 c
          ∧ r.2.mem ((c.tc : Thread Cert.Kernel2Ideal.nD Cert.Kernel2Ideal.τ).loc Cert.Kernel2Ideal.main_v5_0) = v5 c
          ∧ r.2.mem ((c.tc : Thread Cert.Kernel2Ideal.nD Cert.Kernel2Ideal.τ).loc Cert.Kernel2Ideal.main_v5_1) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v75) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_v77) = v3 c
          ∧ r.2.mem ((c.tc : Thread Cert.Reference2Ideal.nD Cert.Reference2Ideal.τ).loc Cert.Reference2Ideal.main_v81) = v4 c
          ∧ r.2.mem ((c.tc : Thread Cert.Reference2Ideal.nD Cert.Reference2Ideal.τ).loc Cert.Reference2Ideal.main_v78) = v5 c
          ∧ r.2.mem ((c.tc : Thread Cert.Reference2Ideal.nD Cert.Reference2Ideal.τ).loc Cert.Reference2Ideal.main_v82) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts) (hPre_finite_inputs2 : Cert.Pre_finite_inputs2.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_inputs.lean ====
abbrev S4096x3072 : Shape := ⟨2, ![4096, 3072]⟩
abbrev S4096x8 : Shape := ⟨2, ![4096, 8]⟩
abbrev S4096x2048 : Shape := ⟨2, ![4096, 2048]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S4096x8 : S_.BroadcastsInDim S4096x8 (![] : Fin 0 → Fin S4096x8.rank)
  bcast_S_S4096x2048 : S_.BroadcastsInDim S4096x2048 (![] : Fin 0 → Fin S4096x2048.rank)

variable [Facts]

def fn {F : FTy → Type} [FloatOps F] (main_arg0 : FVec F S4096x3072 .bf16) (main_arg1 : FVec F S4096x8 .f32) (main_arg2 : FVec F S4096x2048 .f32) : IVec S4096x3072 1 × IVec S4096x8 1 × IVec S4096x2048 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_v7 : FVec F S4096x2048 .f32 := Host.absf main_arg2
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  (main_v3, main_v6, main_v9)
-- ==== Pre_finite_inputs2.lean ====
abbrev S4096x2048 : Shape := ⟨2, ![4096, 2048]⟩
abbrev S1x2048 : Shape := ⟨2, ![1, 2048]⟩
abbrev S2x8x688x2048 : Shape := ⟨4, ![2, 8, 688, 2048]⟩
abbrev S8x688x2048 : Shape := ⟨3, ![8, 688, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bitsLt_bf16_f32 : FTy.bits .bf16 < FTy.bits .f32
  bcast_S_S2x8x688x2048 : S_.BroadcastsInDim S2x8x688x2048 (![] : Fin 0 → Fin S2x8x688x2048.rank)
  bcast_S_S8x688x2048 : S_.BroadcastsInDim S8x688x2048 (![] : Fin 0 → Fin S8x688x2048.rank)

variable [Facts]

def fn {F : FTy → Type} [FloatOps F] (main_arg0 : FVec F S4096x2048 .f32) (main_arg1 : FVec F S1x2048 .f32) (main_arg2 : FVec F S2x8x688x2048 .bf16) (main_arg3 : FVec F S8x688x2048 .bf16) (main_arg4 : FVec F S4096x2048 .f32) : IVec S4096x2048 1 × IVec S1x2048 1 × IVec S2x8x688x2048 1 × IVec S8x688x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2x8x688x2048 .f32 := (extf .f32 · bitsLt_bf16_f32) main_arg2
  let main_v7 : FVec F S2x8x688x2048 .f32 := Host.absf main_v6
  let main_cst_1 : FVec F S_ .f32 := constant S_ .f32 0x7F800000#32
  let main_v8 : FVec F S2x8x688x2048 .f32 := broadcastInDim S2x8x688x2048 ![] bcast_S_S2x8x688x2048 main_cst_1
  let main_v9 : IVec S2x8x688x2048 1 := cmpf .olt main_v7 main_v8
  let main_v10 : FVec F S8x688x2048 .f32 := (extf .f32 · bitsLt_bf16_f32) main_arg3
  let main_v11 : FVec F S8x688x2048 .f32 := Host.absf main_v10
  let main_cst_2 : FVec F S_ .f32 := constant S_ .f32 0x7F800000#32
  let main_v12 : FVec F S8x688x2048 .f32 := broadcastInDim S8x688x2048 ![] bcast_S_S8x688x2048 main_cst_2
  let main_v13 : IVec S8x688x2048 1 := cmpf .olt main_v11 main_v12
  let main_v14 : FVec F S4096x2048 .f32 := Host.absf main_arg4
  let main_cst_3 : FVec F S_ .f32 := constant S_ .f32 0x7F800000#32
  let main_v15 : FVec F S4096x2048 .f32 := broadcastInDim S4096x2048 ![] bcast_S_S4096x2048 main_cst_3
  let main_v16 : IVec S4096x2048 1 := cmpf .olt main_v14 main_v15
  (main_v2, main_v5, main_v9, main_v13, main_v16)
-- ==== Kernel.lean ====
abbrev S4096x3072 : Shape := ⟨2, ![4096, 3072]⟩
abbrev S4096x8 : Shape := ⟨2, ![4096, 8]⟩
abbrev S4096x2048 : Shape := ⟨2, ![4096, 2048]⟩
abbrev S8x4096 : Shape := ⟨2, ![8, 4096]⟩
abbrev S8x4096x1 : Shape := ⟨3, ![8, 4096, 1]⟩
abbrev S8x1x4096 : Shape := ⟨3, ![8, 1, 4096]⟩
abbrev S8x8x1x512 : Shape := ⟨4, ![8, 8, 1, 512]⟩
abbrev S4096x1024 : Shape := ⟨2, ![4096, 1024]⟩
abbrev S512x128 : Shape := ⟨2, ![512, 128]⟩
abbrev S4096x128 : Shape := ⟨2, ![4096, 128]⟩
abbrev S1x512x1 : Shape := ⟨3, ![1, 512, 1]⟩
abbrev S1x8x1x512 : Shape := ⟨4, ![1, 8, 1, 512]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩
abbrev S1x4096x1 : Shape := ⟨3, ![1, 4096, 1]⟩
abbrev S1x1x512 : Shape := ⟨3, ![1, 1, 512]⟩
abbrev S4096x1 : Shape := ⟨2, ![4096, 1]⟩
abbrev S4096 : Shape := ⟨1, ![4096]⟩

abbrev nBuf : Space → Nat
  | .hbm => 14
  | .vmem => 41
  | .smem => 0
  | _ => 0

abbrev bufTy : (tb : Table) → Fin (tcTables nBuf tb) → BufTy
  | .hbm, ⟨0, _⟩ => ⟨S4096x3072, .bf16⟩
  | .hbm, ⟨1, _⟩ => ⟨S4096x8, .f32⟩
  | .hbm, ⟨2, _⟩ => ⟨S4096x2048, .f32⟩
  | .hbm, ⟨3, _⟩ => ⟨S8x4096, .f32⟩
  | .hbm, ⟨4, _⟩ => ⟨S8x4096x1, .f32⟩
  | .hbm, ⟨5, _⟩ => ⟨S8x1x4096, .f32⟩
  | .hbm, ⟨6, _⟩ => ⟨S8x8x1x512, .f32⟩
  | .hbm, ⟨7, _⟩ => ⟨S4096x1024, .f32⟩
  | .hbm, ⟨8, _⟩ => ⟨S8x4096x1, .f32⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S8x1x4096, .f32⟩
  | .hbm, ⟨13, _⟩ => ⟨S8x4096x1, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x512x1, .f32⟩
  | .local _ .vmem, ⟨7, _⟩ => ⟨S1x512x1, .f32⟩
  | .local _ .vmem, ⟨8, _⟩ => ⟨S1x8x1x512, .f32⟩
  | .local _ .vmem, ⟨9, _⟩ => ⟨S1x8x1x512, .f32⟩
  | .local _ .vmem, ⟨10, _⟩ => ⟨S512x128, .f32⟩
  | .local _ .vmem, ⟨11, _⟩ => ⟨S512x128, .f32⟩
  | .local _ .vmem, ⟨12, _⟩ => ⟨S1x512x1, .f32⟩
  | .local _ .vmem, ⟨13, _⟩ => ⟨S1x512x1, .f32⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x4096x1, .f32⟩
  | .local _ .vmem, ⟨21, _⟩ => ⟨S1x4096x1, .f32⟩
  | .local _ .vmem, ⟨22, _⟩ => ⟨S1x1x512, .f32⟩
  | .local _ .vmem, ⟨23, _⟩ => ⟨S1x1x512, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S1x4096x1, .f32⟩
  | .local _ .vmem, ⟨29, _⟩ => ⟨S1x4096x1, .f32⟩
  | .local _ .vmem, ⟨30, _⟩ => ⟨S4096x128, .f32⟩
  | .local _ .vmem, ⟨31, _⟩ => ⟨S4096x128, .f32⟩
  | .local _ .vmem, ⟨32, _⟩ => ⟨S512x128, .bf16⟩
  | .local _ .vmem, ⟨33, _⟩ => ⟨S512x128, .bf16⟩
  | .local _ .vmem, ⟨34, _⟩ => ⟨S512x128, .bf16⟩
  | .local _ .vmem, ⟨35, _⟩ => ⟨S512x128, .bf16⟩
  | .local _ .vmem, ⟨36, _⟩ => ⟨S1x1x512, .f32⟩
  | .local _ .vmem, ⟨37, _⟩ => ⟨S1x1x512, .f32⟩
  | .local _ .vmem, ⟨38, _⟩ => ⟨S1x4096x1, .f32⟩
  | .local _ .vmem, ⟨39, _⟩ => ⟨S1x4096x1, .f32⟩
  | .local _ .vmem, ⟨40, _⟩ => ⟨S4096x1, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_6 : BitVec 32 := 1#32
  ⟨c0_i32, v13, c1_i32_6⟩
def k0_mult1 (i : grid0.Coords) (k0_t1 : Fin (k0_t1_loop i).trips) : BitVec 32 :=
  let c0_i32 : BitVec 32 := 0#32
  let c1_i32_6 : BitVec 32 := 1#32
  let arg9 : BitVec 32 := Scf.iv c0_i32 c1_i32_6 k0_t1
  let c512_i32_24 : BitVec 32 := 512#32
  let v59 : BitVec 32 := Scalar.muli arg9 c512_i32_24
  v59
def k0_off1 (i : grid0.Coords) (k0_t1 : Fin (k0_t1_loop i).trips) : Fin 2 → Nat :=
  let c0_i32 : BitVec 32 := 0#32
  let c1_i32_6 : BitVec 32 := 1#32
  let arg9 : BitVec 32 := Scf.iv c0_i32 c1_i32_6 k0_t1
  let c512_i32_24 : BitVec 32 := 512#32
  let v59 : BitVec 32 := Scalar.muli arg9 c512_i32_24
  let v60 : BitVec 32 := v59
  let v61 : Index := Scalar.indexCast v60
  let c0_25 : Index := 0#32
  ![v61.toNat, 0]
def k0_off2 (i : grid0.Coords) (k0_t1 : Fin (k0_t1_loop i).trips) : Fin 4 → Nat :=
  let c0_28 : Index := 0#32
  let c0_i32 : BitVec 32 := 0#32
  let c1_i32_6 : BitVec 32 := 1#32
  let arg9 : BitVec 32 := Scf.iv c0_i32 c1_i32_6 k0_t1
  let v68 : Index := Scalar.indexCast arg9
  let c0_29 : Index := 0#32
  let c0_30 : Index := 0#32
  ![0, v68.toNat, 0, 0]
@[reducible] def k0_t2_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let v10 : BitVec 32 := Scalar.addi c0_i32 v9
  let c1_i32_7 : BitVec 32 := 1#32
  ⟨v13, v10, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg9 : BitVec 32 := Scf.iv v13 c1_i32_7 k0_t2
  let c512_i32_24 : BitVec 32 := 512#32
  let v59 : BitVec 32 := Scalar.muli arg9 c512_i32_24
  v59
def k0_off3 (i : grid0.Coords) (k0_t2 : Fin (k0_t2_loop i).trips) : Fin 2 → Nat :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg9 : BitVec 32 := Scf.iv v13 c1_i32_7 k0_t2
  let c512_i32_24 : BitVec 32 := 512#32
  let v59 : BitVec 32 := Scalar.muli arg9 c512_i32_24
  let v60 : BitVec 32 := v59
  let v61 : Index := Scalar.indexCast v60
  let c0_25 : Index := 0#32
  ![v61.toNat, 0]
def k0_off4 (i : grid0.Coords) (k0_t2 : Fin (k0_t2_loop i).trips) : Fin 4 → Nat :=
  let c0_28 : Index := 0#32
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg9 : BitVec 32 := Scf.iv v13 c1_i32_7 k0_t2
  let v68 : Index := Scalar.indexCast arg9
  let c0_29 : Index := 0#32
  let c0_30 : Index := 0#32
  ![0, v68.toNat, 0, 0]
def k0_mult3 (i : grid0.Coords) : BitVec 32 :=
  let arg1 : BitVec 32 := BitVec.ofNat 32 (i 1).val
  let c512_i32 : BitVec 32 := 512#32
  let v16 : BitVec 32 := Scalar.muli arg1 c512_i32
  v16
def k0_off5 (i : grid0.Coords) : Fin 2 → Nat :=
  let arg1 : BitVec 32 := BitVec.ofNat 32 (i 1).val
  let c512_i32 : BitVec 32 := 512#32
  let v16 : BitVec 32 := Scalar.muli arg1 c512_i32
  let v17 : BitVec 32 := v16
  let v18 : Index := Scalar.indexCast v17
  let c0_8 : Index := 0#32
  ![v18.toNat, 0]
def k0_off6 (i : grid0.Coords) : Fin 4 → Nat :=
  let c0_11 : Index := 0#32
  let arg1 : BitVec 32 := BitVec.ofNat 32 (i 1).val
  let v25 : Index := Scalar.indexCast arg1
  let c0_12 : Index := 0#32
  let c0_13 : Index := 0#32
  ![0, v25.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v13 : BitVec 32 := Scalar.muli arg1 c512_i32
  v13
def k1_off1 (i : grid1.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v15 : Index := Scalar.indexCast v14
  let c0_9 : Index := 0#32
  ![v15.toNat, 0]
def k1_off2 (i : grid1.Coords) : Fin 3 → Nat :=
  let c0_12 : Index := 0#32
  let arg1 : BitVec 32 := BitVec.ofNat 32 (i 1).val
  let c512_i32 : BitVec 32 := 512#32
  let v13 : BitVec 32 := Scalar.muli arg1 c512_i32
  let v14 : BitVec 32 := v13
  let v20 : Index := Scalar.indexCast v14
  let c0_13 : Index := 0#32
  ![0, v20.toNat, 0]
def k1_off3 (i : grid1.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v39 : Index := Scalar.indexCast v14
  let c0_19 : Index := 0#32
  ![v39.toNat, 0]
@[reducible] def k1_t1_loop (i : grid1.Coords) : Scf.Loop 32 :=
  let arg1 : BitVec 32 := BitVec.ofNat 32 (i 1).val
  let c1_i32 : BitVec 32 := 1#32
  let v72 : BitVec 32 := Scalar.addi arg1 c1_i32
  let c8_i32 : BitVec 32 := 8#32
  let v73 : BitVec 32 := Scalar.subi c8_i32 v72
  let c1_i32_32 : BitVec 32 := 1#32
  let v75 : BitVec 32 := Scalar.divsi v73 c1_i32_32
  let v76 : BitVec 32 := Scalar.muli v75 c1_i32_32
  let v77 : BitVec 32 := Scalar.addi v72 v76
  let c1_i32_33 : BitVec 32 := 1#32
  ⟨v72, v77, c1_i32_33⟩
def k1_mult2 (i : grid1.Coords) (k1_t1 : Fin (k1_t1_loop i).trips) : BitVec 32 :=
  let arg1 : BitVec 32 := BitVec.ofNat 32 (i 1).val
  let c1_i32 : BitVec 32 := 1#32
  let v72 : BitVec 32 := Scalar.addi arg1 c1_i32
  let c1_i32_33 : BitVec 32 := 1#32
  let arg16 : BitVec 32 := Scf.iv v72 c1_i32_33 k1_t1
  let c512_i32_43 : BitVec 32 := 512#32
  let v89 : BitVec 32 := Scalar.muli arg16 c512_i32_43
  v89
def k1_off4 (i : grid1.Coords) (k1_t1 : Fin (k1_t1_loop i).trips) : Fin 2 → Nat :=
  let arg1 : BitVec 32 := BitVec.ofNat 32 (i 1).val
  let c1_i32 : BitVec 32 := 1#32
  let v72 : BitVec 32 := Scalar.addi arg1 c1_i32
  let c1_i32_33 : BitVec 32 := 1#32
  let arg16 : BitVec 32 := Scf.iv v72 c1_i32_33 k1_t1
  let c512_i32_43 : BitVec 32 := 512#32
  let v89 : BitVec 32 := Scalar.muli arg16 c512_i32_43
  let v90 : BitVec 32 := v89
  let v91 : Index := Scalar.indexCast v90
  let c0_44 : Index := 0#32
  ![v91.toNat, 0]
def k1_off5 (i : grid1.Coords) (k1_t1 : Fin (k1_t1_loop i).trips) : Fin 3 → Nat :=
  let c0_47 : Index := 0#32
  let arg1 : BitVec 32 := BitVec.ofNat 32 (i 1).val
  let c1_i32 : BitVec 32 := 1#32
  let v72 : BitVec 32 := Scalar.addi arg1 c1_i32
  let c1_i32_33 : BitVec 32 := 1#32
  let arg16 : BitVec 32 := Scf.iv v72 c1_i32_33 k1_t1
  let c512_i32_43 : BitVec 32 := 512#32
  let v89 : BitVec 32 := Scalar.muli arg16 c512_i32_43
  let v90 : BitVec 32 := v89
  let v96 : Index := Scalar.indexCast v90
  let c0_48 : Index := 0#32
  ![0, v96.toNat, 0]
def k1_off6 (i : grid1.Coords) (k1_t1 : Fin (k1_t1_loop i).trips) : Fin 2 → Nat :=
  let arg1 : BitVec 32 := BitVec.ofNat 32 (i 1).val
  let c1_i32 : BitVec 32 := 1#32
  let v72 : BitVec 32 := Scalar.addi arg1 c1_i32
  let c1_i32_33 : BitVec 32 := 1#32
  let arg16 : BitVec 32 := Scf.iv v72 c1_i32_33 k1_t1
  let c512_i32_43 : BitVec 32 := 512#32
  let v89 : BitVec 32 := Scalar.muli arg16 c512_i32_43
  let v90 : BitVec 32 := v89
  let v113 : Index := Scalar.indexCast v90
  let c0_53 : Index := 0#32
  ![v113.toNat, 0]
@[reducible] def k1_t2_loop (i : grid1.Coords) : Scf.Loop 32 :=
  let arg1 : BitVec 32 := BitVec.ofNat 32 (i 1).val
  let c1_i32 : BitVec 32 := 1#32
  let v72 : BitVec 32 := Scalar.addi arg1 c1_i32
  let c8_i32 : BitVec 32 := 8#32
  let v73 : BitVec 32 := Scalar.subi c8_i32 v72
  let c1_i32_32 : BitVec 32 := 1#32
  let v75 : BitVec 32 := Scalar.divsi v73 c1_i32_32
  let v76 : BitVec 32 := Scalar.muli v75 c1_i32_32
  let v77 : BitVec 32 := Scalar.addi v72 v76
  let v74 : BitVec 32 := Scalar.addi v72 v73
  let c1_i32_34 : BitVec 32 := 1#32
  ⟨v77, v74, c1_i32_34⟩
def k1_mult3 (i : grid1.Coords) (k1_t2 : Fin (k1_t2_loop i).trips) : BitVec 32 :=
  let arg1 : BitVec 32 := BitVec.ofNat 32 (i 1).val
  let c1_i32 : BitVec 32 := 1#32
  let v72 : BitVec 32 := Scalar.addi arg1 c1_i32
  let c8_i32 : BitVec 32 := 8#32
  let v73 : BitVec 32 := Scalar.subi c8_i32 v72
  let c1_i32_32 : BitVec 32 := 1#32
  let v75 : BitVec 32 := Scalar.divsi v73 c1_i32_32
  let v76 : BitVec 32 := Scalar.muli v75 c1_i32_32
  let v77 : BitVec 32 := Scalar.addi v72 v76
  let c1_i32_34 : BitVec 32 := 1#32
  let arg16 : BitVec 32 := Scf.iv v77 c1_i32_34 k1_t2
  let c512_i32_43 : BitVec 32 := 512#32
  let v89 : BitVec 32 := Scalar.muli arg16 c512_i32_43
  v89
def k1_off7 (i : grid1.Coords) (k1_t2 : Fin (k1_t2_loop i).trips) : Fin 2 → Nat :=
  let arg1 : BitVec 32 := BitVec.ofNat 32 (i 1).val
  let c1_i32 : BitVec 32 := 1#32
  let v72 : BitVec 32 := Scalar.addi arg1 c1_i32
  let c8_i32 : BitVec 32 := 8#32
  let v73 : BitVec 32 := Scalar.subi c8_i32 v72
  let c1_i32_32 : BitVec 32 := 1#32
  let v75 : BitVec 32 := Scalar.divsi v73 c1_i32_32
  let v76 : BitVec 32 := Scalar.muli v75 c1_i32_32
  let v77 : BitVec 32 := Scalar.addi v72 v76
  let c1_i32_34 : BitVec 32 := 1#32
  let arg16 : BitVec 32 := Scf.iv v77 c1_i32_34 k1_t2
  let c512_i32_43 : BitVec 32 := 512#32
  let v89 : BitVec 32 := Scalar.muli arg16 c512_i32_43
  let v90 : BitVec 32 := v89
  let v91 : Index := Scalar.indexCast v90
  let c0_44 : Index := 0#32
  ![v91.toNat, 0]
def k1_off8 (i : grid1.Coords) (k1_t2 : Fin (k1_t2_loop i).trips) : Fin 3 → Nat :=
  let c0_47 : Index := 0#32
  let arg1 : BitVec 32 := BitVec.ofNat 32 (i 1).val
  let c1_i32 : BitVec 32 := 1#32
  let v72 : BitVec 32 := Scalar.addi arg1 c1_i32
  let c8_i32 : BitVec 32 := 8#32
  let v73 : BitVec 32 := Scalar.subi c8_i32 v72
  let c1_i32_32 : BitVec 32 := 1#32
  let v75 : BitVec 32 := Scalar.divsi v73 c1_i32_32
  let v76 : BitVec 32 := Scalar.muli v75 c1_i32_32
  let v77 : BitVec 32 := Scalar.addi v72 v76
  let c1_i32_34 : BitVec 32 := 1#32
  let arg16 : BitVec 32 := Scf.iv v77 c1_i32_34 k1_t2
  let c512_i32_43 : BitVec 32 := 512#32
  let v89 : BitVec 32 := Scalar.muli arg16 c512_i32_43
  let v90 : BitVec 32 := v89
  let v96 : Index := Scalar.indexCast v90
  let c0_48 : Index := 0#32
  ![0, v96.toNat, 0]
def k1_off9 (i : grid1.Coords) (k1_t2 : Fin (k1_t2_loop i).trips) : Fin 2 → Nat :=
  let arg1 : BitVec 32 := BitVec.ofNat 32 (i 1).val
  let c1_i32 : BitVec 32 := 1#32
  let v72 : BitVec 32 := Scalar.addi arg1 c1_i32
  let c8_i32 : BitVec 32 := 8#32
  let v73 : BitVec 32 := Scalar.subi c8_i32 v72
  let c1_i32_32 : BitVec 32 := 1#32
  let v75 : BitVec 32 := Scalar.divsi v73 c1_i32_32
  let v76 : BitVec 32 := Scalar.muli v75 c1_i32_32
  let v77 : BitVec 32 := Scalar.addi v72 v76
  let c1_i32_34 : BitVec 32 := 1#32
  let arg16 : BitVec 32 := Scf.iv v77 c1_i32_34 k1_t2
  let c512_i32_43 : BitVec 32 := 512#32
  let v89 : BitVec 32 := Scalar.muli arg16 c512_i32_43
  let v90 : BitVec 32 := v89
  let v113 : Index := Scalar.indexCast v90
  let c0_53 : Index := 0#32
  ![v113.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x4096x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S512x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S512x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x4096x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]
-- ==== KernelIdeal.lean ====
variable {F : FTy → Type} [FloatOps F] [Named F]
def κ : String → Option EReal := fun
  | "mask" => some ⊥
  | _ => none
-- ==== ReferenceIdeal.lean ====
abbrev S4096x3072 : Shape := ⟨2, ![4096, 3072]⟩
abbrev S4096x8 : Shape := ⟨2, ![4096, 8]⟩
abbrev S4096x2048 : Shape := ⟨2, ![4096, 2048]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 130
  | .vmem => 0
  | .smem => 0
  | _ => 0

abbrev hbmTy0_0 (i : Nat) : BufTy := match i % 128 with
  | 0 => ⟨S4096x3072, .bf16⟩
  | 1 => ⟨S4096x8, .f32⟩
  | 2 => ⟨S4096x2048, .f32⟩
  | 3 => ⟨S4096x1024, .bf16⟩
  | 4 => ⟨S4096x1024, .f32⟩
  | 5 => ⟨S4096x8x128, .f32⟩
  | 6 => ⟨S4096x1024, .bf16⟩
  | 7 => ⟨S4096x1024, .f32⟩
  | 8 => ⟨S4096x8x128, .f32⟩
  | 9 => ⟨S4096x1024, .bf16⟩
  | 10 => ⟨S4096x1024, .f32⟩
  | 11 => ⟨S4096x8x128, .f32⟩
  | 12 => ⟨S4096x1024, .f32⟩
  | 13 => ⟨S4096x8x128, .f32⟩
  | 14 => ⟨S8x4096x4096, .f32⟩
  | 15 => ⟨S_, .f32⟩
  | 16 => ⟨S8x4096x4096, .f32⟩
  | 17 => ⟨S8x4096x4096, .f32⟩
  | 18 => ⟨S8x4096, .f32⟩
  | 19 => ⟨S8x4096x1, .f32⟩
  | 20 => ⟨S8x4096x4096, .f32⟩
  | 21 => ⟨S8x4096x4096, .f32⟩
  | 22 => ⟨S8x4096, .f32⟩
  | 23 => ⟨S8x1x4096, .f32⟩
  | 24 => ⟨S8x4096x4096, .f32⟩
  | 25 => ⟨S8x4096x4096, .f32⟩
  | 26 => ⟨S4096, .i32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S8x4096x4096, .i1⟩
  | 35 => ⟨S8x4096x4096, .f32⟩
  | 36 => ⟨S8x4096x4096, .f32⟩
  | 37 => ⟨S_, .f32⟩
  | 38 => ⟨S8x4096x4096, .f32⟩
  | 39 => ⟨S_, .f32⟩
  | 40 => ⟨S8x4096, .f32⟩
  | 41 => ⟨S8x4096x1, .f32⟩
  | 42 => ⟨S8x4096x4096, .f32⟩
  | 43 => ⟨S8x4096x4096, .i1⟩
  | 44 => ⟨S8x4096x4096, .f32⟩
  | 45 => ⟨S_, .f32⟩
  | 46 => ⟨S8x4096, .f32⟩
  | 47 => ⟨S_, .f32⟩
  | 48 => ⟨S8x4096, .f32⟩
  | 49 => ⟨S8x4096, .f32⟩
  | 50 => ⟨S_, .f32⟩
  | 51 => ⟨S8x4096, .f32⟩
  | 52 => ⟨S8x4096, .i1⟩
  | 53 => ⟨S_, .f32⟩
  | 54 => ⟨S8x4096, .f32⟩
  | 55 => ⟨S8x4096, .i1⟩
  | 56 => ⟨S_, .f32⟩
  | 57 => ⟨S8x4096, .f32⟩
  | 58 => ⟨S_, .f32⟩
  | 59 => ⟨S8x4096, .f32⟩
  | 60 => ⟨S_, .f32⟩
  | 61 => ⟨S8x4096, .f32⟩
  | 62 => ⟨S8x4096, .f32⟩
  | 63 => ⟨S8x4096, .f32⟩
  | 64 => ⟨S8x4096x1, .f32⟩
  | 65 => ⟨S8x4096x4096, .f32⟩
  | 66 => ⟨S8x4096x4096, .f32⟩
  | 67 => ⟨S8x4096x4096, .f32⟩
  | 68 => ⟨S_, .f32⟩
  | 69 => ⟨S8x4096, .f32⟩
  | 70 => ⟨S8x4096x1, .f32⟩
  | 71 => ⟨S8x4096x4096, .f32⟩
  | 72 => ⟨S8x4096x4096, .f32⟩
  | 73 => ⟨S8x4096x1, .f32⟩
  | 74 => ⟨S_, .f32⟩
  | 75 => ⟨S8x4096x1, .f32⟩
  | 76 => ⟨S8x4096x1, .f32⟩
  | 77 => ⟨S8x128x4096, .f32⟩
  | 78 => ⟨S4096x8x128, .f32⟩
  | 79 => ⟨S8x128x4096, .f32⟩
  | 80 => ⟨S8x4096x4096, .f32⟩
  | 81 => ⟨S8x128x4096, .f32⟩
  | 82 => ⟨S4096x8x128, .f32⟩
  | 83 => ⟨S8x4096x4096, .f32⟩
  | 84 => ⟨S8x4096x4096, .f32⟩
  | 85 => ⟨S8x4096x4096, .f32⟩
  | 86 => ⟨S_, .f32⟩
  | 87 => ⟨S8x4096, .f32⟩
  | 88 => ⟨S8x4096x1, .f32⟩
  | 89 => ⟨S8x4096x1, .f32⟩
  | 90 => ⟨S8x4096x4096, .f32⟩
  | 91 => ⟨S8x4096x4096, .f32⟩
  | 92 => ⟨S_, .f32⟩
  | 93 => ⟨S8x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .f32⟩
  | 100 => ⟨S8x4096x4096, .f32⟩
  | 101 => ⟨S_, .f32⟩
  | 102 => ⟨S8x4096, .f32⟩
  | 103 => ⟨S8x1x4096, .f32⟩
  | 104 => ⟨S_, .f32⟩
  | 105 => ⟨S8x4096, .f32⟩
  | 106 => ⟨S4096x8, .f32⟩
  | 107 => ⟨S_, .f32⟩
  | 108 => ⟨S8x4096, .f32⟩
  | 109 => ⟨S8x4096x1, .f32⟩
  | 110 => ⟨S_, .f32⟩
  | 111 => ⟨S8x4096, .f32⟩
  | 112 => ⟨S4096x8, .f32⟩
  | 113 => ⟨S_, .f32⟩
  | 114 => ⟨S8x4096x4096, .f32⟩
  | 115 => ⟨S8x4096x4096, .f32⟩
  | 116 => ⟨S8x4096x128, .f32⟩
  | 117 => ⟨S4096x8x128, .f32⟩
  | 118 => ⟨S8x4096x128, .f32⟩
  | 119 => ⟨S4096x8x128, .f32⟩
  | 120 => ⟨S4096x1024, .f32⟩
  | 121 => ⟨S4096x1024, .f32⟩
  | 122 => ⟨S4096x1024, .f32⟩
  | 123 => ⟨S4096x1024, .bf16⟩
  | 124 => ⟨S4096x1024, .f32⟩
  | 125 => ⟨S4096x1024, .bf16⟩
  | 126 => ⟨S8x4096, .f32⟩
  | 127 => ⟨S8x1x4096, .f32⟩
  | _ => ⟨S4096x3072, .bf16⟩

abbrev hbmTy0_1 (i : Nat) : BufTy := match i % 128 with
  | 0 => ⟨S8x4096, .f32⟩
  | 1 => ⟨S8x4096x1, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]

def κ : String → Option EReal := fun
  | "mask" => some ⊥
  | _ => none
-- ==== Kernel2.lean ====
abbrev S4096x2048 : Shape := ⟨2, ![4096, 2048]⟩
abbrev S1x2048 : Shape := ⟨2, ![1, 2048]⟩
abbrev S2x8x688x2048 : Shape := ⟨4, ![2, 8, 688, 2048]⟩
abbrev S8x688x2048 : Shape := ⟨3, ![8, 688, 2048]⟩
abbrev S2x8x688x4096 : Shape := ⟨4, ![2, 8, 688, 4096]⟩
abbrev S8x688x4096 : Shape := ⟨3, ![8, 688, 4096]⟩
abbrev S1x128 : Shape := ⟨2, ![1, 128]⟩
abbrev S512x2048 : Shape := ⟨2, ![512, 2048]⟩
abbrev S2x1x688x2048 : Shape := ⟨4, ![2, 1, 688, 2048]⟩
abbrev S1x688x2048 : Shape := ⟨3, ![1, 688, 2048]⟩
abbrev S2x1x688x512 : Shape := ⟨4, ![2, 1, 688, 512]⟩
abbrev S1x688x512 : Shape := ⟨3, ![1, 688, 512]⟩
abbrev S512 : Shape := ⟨1, ![512]⟩
abbrev S512x1 : Shape := ⟨2, ![512, 1]⟩
abbrev S1x1x688x2048 : Shape := ⟨4, ![1, 1, 688, 2048]⟩
abbrev S688x2048 : Shape := ⟨2, ![688, 2048]⟩
abbrev S688x512 : Shape := ⟨2, ![688, 512]⟩
abbrev S1x1x688x512 : Shape := ⟨4, ![1, 1, 688, 512]⟩
abbrev S1 : Shape := ⟨1, ![1]⟩
abbrev S1x1 : Shape := ⟨2, ![1, 1]⟩
abbrev S16x688x4096 : Shape := ⟨3, ![16, 688, 4096]⟩
abbrev S16x688x2048 : Shape := ⟨3, ![16, 688, 2048]⟩
abbrev S1x688x4096 : Shape := ⟨3, ![1, 688, 4096]⟩
abbrev S4096x1024 : Shape := ⟨2, ![4096, 1024]⟩
abbrev S1x688x1024 : Shape := ⟨3, ![1, 688, 1024]⟩
abbrev S688x1024 : Shape := ⟨2, ![688, 1024]⟩
abbrev S688x4096 : Shape := ⟨2, ![688, 4096]⟩
abbrev S2048 : Shape := ⟨1, ![2048]⟩

abbrev nBuf : Space → Nat
  | .hbm => 20
  | .vmem => 58
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2x8x688x2048, .bf16⟩
  | .hbm, ⟨3, _⟩ => ⟨S8x688x2048, .bf16⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S2x8x688x4096, .bf16⟩
  | .hbm, ⟨8, _⟩ => ⟨S8x688x4096, .bf16⟩
  | .hbm, ⟨9, _⟩ => ⟨S1x128, .f32⟩
  | .hbm, ⟨10, _⟩ => ⟨S4096x2048, .f32⟩
  | .hbm, ⟨11, _⟩ => ⟨S2x8x688x4096, .bf16⟩
  | .hbm, ⟨12, _⟩ => ⟨S4096x2048, .bf16⟩
  | .hbm, ⟨13, _⟩ => ⟨S16x688x4096, .bf16⟩
  | .hbm, ⟨14, _⟩ => ⟨S16x688x2048, .f32⟩
  | .hbm, ⟨15, _⟩ => ⟨S16x688x2048, .bf16⟩
  | .hbm, ⟨16, _⟩ => ⟨S4096x2048, .f32⟩
  | .hbm, ⟨17, _⟩ => ⟨S1x2048, .f32⟩
  | .hbm, ⟨18, _⟩ => ⟨S8x688x2048, .f32⟩
  | .hbm, ⟨19, _⟩ => ⟨S8x688x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2x1x688x2048, .bf16⟩
  | .local _ .vmem, ⟨4, _⟩ => ⟨S2x1x688x2048, .bf16⟩
  | .local _ .vmem, ⟨5, _⟩ => ⟨S1x688x2048, .bf16⟩
  | .local _ .vmem, ⟨6, _⟩ => ⟨S1x688x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S2x1x688x512, .bf16⟩
  | .local _ .vmem, ⟨14, _⟩ => ⟨S2x1x688x512, .bf16⟩
  | .local _ .vmem, ⟨15, _⟩ => ⟨S1x688x512, .bf16⟩
  | .local _ .vmem, ⟨16, _⟩ => ⟨S1x688x512, .bf16⟩
  | .local _ .vmem, ⟨17, _⟩ => ⟨S1x128, .f32⟩
  | .local _ .vmem, ⟨18, _⟩ => ⟨S512x2048, .f32⟩
  | .local _ .vmem, ⟨19, _⟩ => ⟨S512x2048, .f32⟩
  | .local _ .vmem, ⟨20, _⟩ => ⟨S2x1x688x512, .bf16⟩
  | .local _ .vmem, ⟨21, _⟩ => ⟨S2x1x688x512, .bf16⟩
  | .local _ .vmem, ⟨22, _⟩ => ⟨S2x1x688x2048, .bf16⟩
  | .local _ .vmem, ⟨23, _⟩ => ⟨S2x1x688x2048, .bf16⟩
  | .local _ .vmem, ⟨24, _⟩ => ⟨S1x688x2048, .bf16⟩
  | .local _ .vmem, ⟨25, _⟩ => ⟨S1x688x2048, .bf16⟩
  | .local _ .vmem, ⟨26, _⟩ => ⟨S512x2048, .f32⟩
  | .local _ .vmem, ⟨27, _⟩ => ⟨S512x2048, .f32⟩
  | .local _ .vmem, ⟨28, _⟩ => ⟨S2x1x688x512, .bf16⟩
  | .local _ .vmem, ⟨29, _⟩ => ⟨S2x1x688x512, .bf16⟩
  | .local _ .vmem, ⟨30, _⟩ => ⟨S512x2048, .bf16⟩
  | .local _ .vmem, ⟨31, _⟩ => ⟨S512x2048, .bf16⟩
  | .local _ .vmem, ⟨32, _⟩ => ⟨S1x688x4096, .bf16⟩
  | .local _ .vmem, ⟨33, _⟩ => ⟨S1x688x4096, .bf16⟩
  | .local _ .vmem, ⟨34, _⟩ => ⟨S4096x1024, .bf16⟩
  | .local _ .vmem, ⟨35, _⟩ => ⟨S4096x1024, .bf16⟩
  | .local _ .vmem, ⟨36, _⟩ => ⟨S1x688x1024, .f32⟩
  | .local _ .vmem, ⟨37, _⟩ => ⟨S1x688x1024, .f32⟩
  | .local _ .vmem, ⟨38, _⟩ => ⟨S1x688x1024, .bf16⟩
  | .local _ .vmem, ⟨39, _⟩ => ⟨S1x688x1024, .bf16⟩
  | .local _ .vmem, ⟨40, _⟩ => ⟨S512x2048, .f32⟩
  | .local _ .vmem, ⟨41, _⟩ => ⟨S512x2048, .f32⟩
  | .local _ .vmem, ⟨42, _⟩ => ⟨S1x2048, .f32⟩
  | .local _ .vmem, ⟨43, _⟩ => ⟨S512x2048, .f32⟩
  | .local _ .vmem, ⟨44, _⟩ => ⟨S512x2048, .f32⟩
  | .local _ .vmem, ⟨45, _⟩ => ⟨S512x2048, .f32⟩
  | .local _ .vmem, ⟨46, _⟩ => ⟨S512x2048, .f32⟩
  | .local _ .vmem, ⟨47, _⟩ => ⟨S512x2048, .f32⟩
  | .local _ .vmem, ⟨48, _⟩ => ⟨S512x2048, .f32⟩
  | .local _ .vmem, ⟨49, _⟩ => ⟨S1x2048, .f32⟩
  | .local _ .vmem, ⟨50, _⟩ => ⟨S1x688x4096, .bf16⟩
  | .local _ .vmem, ⟨51, _⟩ => ⟨S1x688x4096, .bf16⟩
  | .local _ .vmem, ⟨52, _⟩ => ⟨S4096x1024, .bf16⟩
  | .local _ .vmem, ⟨53, _⟩ => ⟨S4096x1024, .bf16⟩
  | .local _ .vmem, ⟨54, _⟩ => ⟨S1x688x1024, .f32⟩
  | .local _ .vmem, ⟨55, _⟩ => ⟨S1x688x1024, .f32⟩
  | .local _ .vmem, ⟨56, _⟩ => ⟨S1x688x1024, .bf16⟩
  | .local _ .vmem, ⟨57, _⟩ => ⟨S1x688x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4_0 : Ref sig .tc := ⟨.hbm, 16, rfl⟩
abbrev main_v4_1 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg2_1 : Ref sig .tc := ⟨.vmem, 55, rfl⟩
abbrev cc4_stg3_0 : Ref sig .tc := ⟨.vmem, 56, rfl⟩
abbrev cc4_stg3_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem4_1 : DmaSem sig := 48
abbrev cc3_sem5_0 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem3_1 : DmaSem sig := 57

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_32 : BitVec 32 := 0#32
  let v40 : BitVec 1 := Scalar.cmpi .ne v39 c0_i32_32
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x688x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x688x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x688x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x688x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x1x688x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x1x688x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x688x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x1x688x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨4, ![2, 16, 1, 1], ![false, false, false, false]⟩

def k2_cond2 (i : grid2.Coords) : BitVec 1 :=
  let arg3 : BitVec 32 := BitVec.ofNat 32 (i 3).val
  let c0_i32_11 : BitVec 32 := 0#32
  let v14 : BitVec 1 := Scalar.cmpi .eq arg3 c0_i32_11
  let v15 : BitVec 32 := Scalar.extui v14
  let c0_i32_12 : BitVec 32 := 0#32
  let v16 : BitVec 1 := Scalar.cmpi .ne v15 c0_i32_12
  v16

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat, arg3.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat, arg0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat, arg0.toNat]

abbrev stage2_0 : Fin 2 → Memref sig .tc .vmem S1x688x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false, true]

abbrev stage2_2 : Fin 2 → Memref sig .tc .vmem S1x688x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]

abbrev stage2_3 : Fin 2 → Memref sig .tc .vmem S1x688x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨4, ![2, 8, 1, 1], ![false, false, false, false]⟩

def k4_cond2 (i : grid4.Coords) : BitVec 1 :=
  let arg3 : BitVec 32 := BitVec.ofNat 32 (i 3).val
  let c0_i32_11 : BitVec 32 := 0#32
  let v14 : BitVec 1 := Scalar.cmpi .eq arg3 c0_i32_11
  let v15 : BitVec 32 := Scalar.extui v14
  let c0_i32_12 : BitVec 32 := 0#32
  let v16 : BitVec 1 := Scalar.cmpi .ne v15 c0_i32_12
  v16

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat, arg3.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat, arg0.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat, arg0.toNat]

abbrev stage4_0 : Fin 2 → Memref sig .tc .vmem S1x688x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, false, true]

abbrev stage4_2 : Fin 2 → Memref sig .tc .vmem S1x688x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false]

abbrev stage4_3 : Fin 2 → Memref sig .tc .vmem S1x688x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, true, false]
-- ==== Reference2Ideal.lean ====
abbrev S4096x2048 : Shape := ⟨2, ![4096, 2048]⟩
abbrev S1x2048 : Shape := ⟨2, ![1, 2048]⟩
abbrev S2x8x688x2048 : Shape := ⟨4, ![2, 8, 688, 2048]⟩
abbrev S8x688x2048 : Shape := ⟨3, ![8, 688, 2048]⟩
abbrev S11008x2048 : Shape := ⟨2, ![11008, 2048]⟩
abbrev S2048x11008 : Shape := ⟨2, ![2048, 11008]⟩
abbrev S5504x2048 : Shape := ⟨2, ![5504, 2048]⟩
abbrev S_ : Shape := ⟨0, ![]⟩
abbrev S4096 : Shape := ⟨1, ![4096]⟩
abbrev S4096x1 : Shape := ⟨2, ![4096, 1]⟩
abbrev S4096x11008 : Shape := ⟨2, ![4096, 11008]⟩
abbrev S4096x5504 : Shape := ⟨2, ![4096, 5504]⟩
abbrev S2048x5504 : Shape := ⟨2, ![2048, 5504]⟩
abbrev S2048 : Shape := ⟨1, ![2048]⟩
abbrev S16x688x2048 : Shape := ⟨3, ![16, 688, 2048]⟩
abbrev S1x1 : Shape := ⟨2, ![1, 1]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2x8x688x2048, .bf16⟩
  | .hbm, ⟨3, _⟩ => ⟨S8x688x2048, .bf16⟩
  | .hbm, ⟨4, _⟩ => ⟨S4096x2048, .f32⟩
  | .hbm, ⟨5, _⟩ => ⟨S2x8x688x2048, .f32⟩
  | .hbm, ⟨6, _⟩ => ⟨S11008x2048, .f32⟩
  | .hbm, ⟨7, _⟩ => ⟨S2048x11008, .f32⟩
  | .hbm, ⟨8, _⟩ => ⟨S8x688x2048, .f32⟩
  | .hbm, ⟨9, _⟩ => ⟨S5504x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x11008, .f32⟩
  | .hbm, ⟨30, _⟩ => ⟨S4096x5504, .f32⟩
  | .hbm, ⟨31, _⟩ => ⟨S4096x5504, .f32⟩
  | .hbm, ⟨32, _⟩ => ⟨S4096x5504, .f32⟩
  | .hbm, ⟨33, _⟩ => ⟨S4096x5504, .f32⟩
  | .hbm, ⟨34, _⟩ => ⟨S_, .f32⟩
  | .hbm, ⟨35, _⟩ => ⟨S4096x5504, .f32⟩
  | .hbm, ⟨36, _⟩ => ⟨S4096x5504, .f32⟩
  | .hbm, ⟨37, _⟩ => ⟨S_, .f32⟩
  | .hbm, ⟨38, _⟩ => ⟨S4096x5504, .f32⟩
  | .hbm, ⟨39, _⟩ => ⟨S4096x5504, .f32⟩
  | .hbm, ⟨40, _⟩ => ⟨S_, .f32⟩
  | .hbm, ⟨41, _⟩ => ⟨S4096x5504, .f32⟩
  | .hbm, ⟨42, _⟩ => ⟨S4096x5504, .f32⟩
  | .hbm, ⟨43, _⟩ => ⟨S4096x5504, .f32⟩
  | .hbm, ⟨44, _⟩ => ⟨S4096x5504, .f32⟩
  | .hbm, ⟨45, _⟩ => ⟨S4096x5504, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4096x2048, .f32⟩
  | .hbm, ⟨76, _⟩ => ⟨S4096x2048, .f32⟩
  | .hbm, ⟨77, _⟩ => ⟨S2048x5504, .f32⟩
  | .hbm, ⟨78, _⟩ => ⟨S5504x2048, .f32⟩
  | .hbm, ⟨79, _⟩ => ⟨S4096x5504, .f32⟩
  | .hbm, ⟨80, _⟩ => ⟨S4096x5504, .f32⟩
  | .hbm, ⟨81, _⟩ => ⟨S4096x5504, .f32⟩
  | .hbm, ⟨82, _⟩ => ⟨S4096x5504, .f32⟩
  | .hbm, ⟨83, _⟩ => ⟨S4096x5504, .f32⟩
  | .hbm, ⟨84, _⟩ => ⟨S4096x5504, .f32⟩
  | .hbm, ⟨85, _⟩ => ⟨S4096x5504, .f32⟩
  | .hbm, ⟨86, _⟩ => ⟨S4096x11008, .f32⟩
  | .hbm, ⟨87, _⟩ => ⟨S11008x2048, .f32⟩
  | .hbm, ⟨88, _⟩ => ⟨S2048x11008, .f32⟩
  | .hbm, ⟨89, _⟩ => ⟨S4096x2048, .f32⟩
  | .hbm, ⟨90, _⟩ => ⟨S4096x2048, .f32⟩
  | .hbm, ⟨91, _⟩ => ⟨S_, .f32⟩
  | .hbm, ⟨92, _⟩ => ⟨S2048, .f32⟩
  | .hbm, ⟨93, _⟩ => ⟨S1x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x2048, .f32⟩
  | .hbm, ⟨101, _⟩ => ⟨S4096x2048, .f32⟩
  | .hbm, ⟨102, _⟩ => ⟨S4096x2048, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x2048, .f32⟩
  | .hbm, ⟨110, _⟩ => ⟨S4096x2048, .f32⟩
  | .hbm, ⟨111, _⟩ => ⟨S4096x2048, .f32⟩
  | .hbm, ⟨112, _⟩ => ⟨S4096x2048, .f32⟩
  | .hbm, ⟨113, _⟩ => ⟨S4096x2048, .f32⟩
  | .hbm, ⟨114, _⟩ => ⟨S11008x2048, .f32⟩
  | .hbm, ⟨115, _⟩ => ⟨S16x688x2048, .f32⟩
  | .hbm, ⟨116, _⟩ => ⟨S8x688x2048, .f32⟩
  | .hbm, ⟨117, _⟩ => ⟨S1x1, .f32⟩
  | .hbm, ⟨118, _⟩ => ⟨S_, .i32⟩
  | .hbm, ⟨119, _⟩ => ⟨S_, .f32⟩
  | .hbm, ⟨120, _⟩ => ⟨S1x128, .f32⟩
  | .hbm, ⟨121, _⟩ => ⟨S16x688x2048, .bf16⟩
  | .hbm, ⟨122, _⟩ => ⟨S8x688x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v23_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v23_1 : Ref sig .tc := ⟨.hbm, 43, rfl⟩
abbrev main_v23_0 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_cst_9 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_cst_11 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c : Ref sig .tc := ⟨.hbm, 118, rfl⟩
abbrev main_call2_v0 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩

abbrev nD : Nat := 1
abbrev τ : Topo := Topo.v7x

variable {F : FTy → Type} [FloatOps F]
-- ==== Kernel3.lean ====
abbrev S2x8x688x4096 : Shape := ⟨4, ![2, 8, 688, 4096]⟩
abbrev S4096x2048 : Shape := ⟨2, ![4096, 2048]⟩
abbrev S16x688x4096 : Shape := ⟨3, ![16, 688, 4096]⟩
abbrev S16x688x2048 : Shape := ⟨3, ![16, 688, 2048]⟩
abbrev S1x688x4096 : Shape := ⟨3, ![1, 688, 4096]⟩
abbrev S4096x1024 : Shape := ⟨2, ![4096, 1024]⟩
abbrev S1x688x1024 : Shape := ⟨3, ![1, 688, 1024]⟩
abbrev S688x1024 : Shape := ⟨2, ![688, 1024]⟩
abbrev S688x4096 : Shape := ⟨2, ![688, 4096]⟩

abbrev nBuf : Space → Nat
  | .hbm => 5
  | .vmem => 8
  | .smem => 0
  | _ => 0

abbrev bufTy : (tb : Table) → Fin (tcTables nBuf tb) → BufTy
  | .hbm, ⟨0, _⟩ => ⟨S2x8x688x4096, .bf16⟩
  | .hbm, ⟨1, _⟩ => ⟨S4096x2048, .bf16⟩
  | .hbm, ⟨2, _⟩ => ⟨S16x688x4096, .bf16⟩
  | .hbm, ⟨3, _⟩ => ⟨S16x688x2048, .f32⟩
  | .hbm, ⟨4, _⟩ => ⟨S16x688x2048, .bf16⟩
  | .local _ .vmem, ⟨0, _⟩ => ⟨S1x688x4096, .bf16⟩
  | .local _ .vmem, ⟨1, _⟩ => ⟨S1x688x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x688x1024, .f32⟩
  | .local _ .vmem, ⟨5, _⟩ => ⟨S1x688x1024, .f32⟩
  | .local _ .vmem, ⟨6, _⟩ => ⟨S1x688x1024, .bf16⟩
  | .local _ .vmem, ⟨7, _⟩ => ⟨S1x688x1024, .bf16⟩
  | _, _ => ⟨S2x8x688x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 16, 1, 1], ![false, false, false, false]⟩

def k0_cond2 (i : grid0.Coords) : BitVec 1 :=
  let arg3 : BitVec 32 := BitVec.ofNat 32 (i 3).val
  let c0_i32_11 : BitVec 32 := 0#32
  let v13 : BitVec 1 := Scalar.cmpi .eq arg3 c0_i32_11
  let v14 : BitVec 32 := Scalar.extui v13
  let c0_i32_12 : BitVec 32 := 0#32
  let v15 : BitVec 1 := Scalar.cmpi .ne v14 c0_i32_12
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat, arg0.toNat]

abbrev stage0_0 : Fin 2 → Memref sig .tc .vmem S1x688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1x688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference3Ideal.lean ====
abbrev S2x8x688x4096 : Shape := ⟨4, ![2, 8, 688, 4096]⟩
abbrev S4096x2048 : Shape := ⟨2, ![4096, 2048]⟩
abbrev S11008x4096 : Shape := ⟨2, ![11008, 4096]⟩
abbrev S4096x11008 : Shape := ⟨2, ![4096, 11008]⟩
abbrev S_ : Shape := ⟨0, ![]⟩
abbrev S2048x11008 : Shape := ⟨2, ![2048, 11008]⟩
abbrev S11008x2048 : Shape := ⟨2, ![11008, 2048]⟩
abbrev S16x688x2048 : Shape := ⟨3, ![16, 688, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x8x688x4096, .bf16⟩
  | .hbm, ⟨1, _⟩ => ⟨S4096x2048, .bf16⟩
  | .hbm, ⟨2, _⟩ => ⟨S2x8x688x4096, .f32⟩
  | .hbm, ⟨3, _⟩ => ⟨S11008x4096, .f32⟩
  | .hbm, ⟨4, _⟩ => ⟨S4096x11008, .f32⟩
  | .hbm, ⟨5, _⟩ => ⟨S_, .f32⟩
  | .hbm, ⟨6, _⟩ => ⟨S2048x11008, .f32⟩
  | .hbm, ⟨7, _⟩ => ⟨S4096x2048, .f32⟩
  | .hbm, ⟨8, _⟩ => ⟨S4096x11008, .f32⟩
  | .hbm, ⟨9, _⟩ => ⟨S11008x2048, .f32⟩
  | .hbm, ⟨10, _⟩ => ⟨S2048x11008, .f32⟩
  | .hbm, ⟨11, _⟩ => ⟨S11008x2048, .f32⟩
  | .hbm, ⟨12, _⟩ => ⟨S16x688x2048, .f32⟩
  | .hbm, ⟨13, _⟩ => ⟨S16x688x2048, .bf16⟩
  | _, _ => ⟨S2x8x688x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8x688x4096 : Shape := ⟨3, ![8, 688, 4096]⟩
abbrev S4096x2048 : Shape := ⟨2, ![4096, 2048]⟩
abbrev S8x688x2048 : Shape := ⟨3, ![8, 688, 2048]⟩
abbrev S1x688x4096 : Shape := ⟨3, ![1, 688, 4096]⟩
abbrev S4096x1024 : Shape := ⟨2, ![4096, 1024]⟩
abbrev S1x688x1024 : Shape := ⟨3, ![1, 688, 1024]⟩
abbrev S688x1024 : Shape := ⟨2, ![688, 1024]⟩
abbrev S688x4096 : Shape := ⟨2, ![688, 4096]⟩

abbrev nBuf : Space → Nat
  | .hbm => 4
  | .vmem => 8
  | .smem => 0
  | _ => 0

abbrev bufTy : (tb : Table) → Fin (tcTables nBuf tb) → BufTy
  | .hbm, ⟨0, _⟩ => ⟨S8x688x4096, .bf16⟩
  | .hbm, ⟨1, _⟩ => ⟨S4096x2048, .bf16⟩
  | .hbm, ⟨2, _⟩ => ⟨S8x688x2048, .f32⟩
  | .hbm, ⟨3, _⟩ => ⟨S8x688x2048, .bf16⟩
  | .local _ .vmem, ⟨0, _⟩ => ⟨S1x688x4096, .bf16⟩
  | .local _ .vmem, ⟨1, _⟩ => ⟨S1x688x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x688x1024, .f32⟩
  | .local _ .vmem, ⟨5, _⟩ => ⟨S1x688x1024, .f32⟩
  | .local _ .vmem, ⟨6, _⟩ => ⟨S1x688x1024, .bf16⟩
  | .local _ .vmem, ⟨7, _⟩ => ⟨S1x688x1024, .bf16⟩
  | _, _ => ⟨S8x688x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 8, 1, 1], ![false, false, false, false]⟩

def k0_cond2 (i : grid0.Coords) : BitVec 1 :=
  let arg3 : BitVec 32 := BitVec.ofNat 32 (i 3).val
  let c0_i32_11 : BitVec 32 := 0#32
  let v13 : BitVec 1 := Scalar.cmpi .eq arg3 c0_i32_11
  let v14 : BitVec 32 := Scalar.extui v13
  let c0_i32_12 : BitVec 32 := 0#32
  let v15 : BitVec 1 := Scalar.cmpi .ne v14 c0_i32_12
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat, arg0.toNat]

abbrev stage0_0 : Fin 2 → Memref sig .tc .vmem S1x688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1x688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference4Ideal.lean ====
abbrev S8x688x4096 : Shape := ⟨3, ![8, 688, 4096]⟩
abbrev S4096x2048 : Shape := ⟨2, ![4096, 2048]⟩
abbrev S5504x4096 : Shape := ⟨2, ![5504, 4096]⟩
abbrev S4096x5504 : Shape := ⟨2, ![4096, 5504]⟩
abbrev S_ : Shape := ⟨0, ![]⟩
abbrev S5504x2048 : Shape := ⟨2, ![5504, 2048]⟩
abbrev S2048x5504 : Shape := ⟨2, ![2048, 5504]⟩
abbrev S8x688x2048 : Shape := ⟨3, ![8, 688, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x688x4096, .bf16⟩
  | .hbm, ⟨1, _⟩ => ⟨S4096x2048, .bf16⟩
  | .hbm, ⟨2, _⟩ => ⟨S8x688x4096, .f32⟩
  | .hbm, ⟨3, _⟩ => ⟨S5504x4096, .f32⟩
  | .hbm, ⟨4, _⟩ => ⟨S4096x5504, .f32⟩
  | .hbm, ⟨5, _⟩ => ⟨S_, .f32⟩
  | .hbm, ⟨6, _⟩ => ⟨S5504x2048, .f32⟩
  | .hbm, ⟨7, _⟩ => ⟨S4096x2048, .f32⟩
  | .hbm, ⟨8, _⟩ => ⟨S4096x2048, .f32⟩
  | .hbm, ⟨9, _⟩ => ⟨S2048x5504, .f32⟩
  | .hbm, ⟨10, _⟩ => ⟨S5504x2048, .f32⟩
  | .hbm, ⟨11, _⟩ => ⟨S8x688x2048, .f32⟩
  | .hbm, ⟨12, _⟩ => ⟨S8x688x2048, .bf16⟩
  | _, _ => ⟨S8x688x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4096x2048 : Shape := ⟨2, ![4096, 2048]⟩
abbrev S8x688x4096 : Shape := ⟨3, ![8, 688, 4096]⟩
abbrev S8x688x2048 : Shape := ⟨3, ![8, 688, 2048]⟩
abbrev S1024x2048 : Shape := ⟨2, ![1024, 2048]⟩
abbrev S1x688x1024 : Shape := ⟨3, ![1, 688, 1024]⟩
abbrev S1x688x2048 : Shape := ⟨3, ![1, 688, 2048]⟩
abbrev S688x1024 : Shape := ⟨2, ![688, 1024]⟩
abbrev S688x2048 : Shape := ⟨2, ![688, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S8x688x4096, .bf16⟩
  | .hbm, ⟨2, _⟩ => ⟨S8x688x2048, .bf16⟩
  | .hbm, ⟨3, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x688x1024, .bf16⟩
  | .local _ .vmem, ⟨3, _⟩ => ⟨S1x688x1024, .bf16⟩
  | .local _ .vmem, ⟨4, _⟩ => ⟨S1x688x2048, .bf16⟩
  | .local _ .vmem, ⟨5, _⟩ => ⟨S1x688x2048, .bf16⟩
  | .local _ .vmem, ⟨6, _⟩ => ⟨S1024x2048, .f32⟩
  | .local _ .vmem, ⟨7, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S4096x2048 : Shape := ⟨2, ![4096, 2048]⟩
abbrev S8x688x4096 : Shape := ⟨3, ![8, 688, 4096]⟩
abbrev S8x688x2048 : Shape := ⟨3, ![8, 688, 2048]⟩
abbrev S5504x4096 : Shape := ⟨2, ![5504, 4096]⟩
abbrev S4096x5504 : Shape := ⟨2, ![4096, 5504]⟩
abbrev S5504x2048 : Shape := ⟨2, ![5504, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x688x4096, .bf16⟩
  | .hbm, ⟨2, _⟩ => ⟨S8x688x2048, .bf16⟩
  | .hbm, ⟨3, _⟩ => ⟨S8x688x4096, .f32⟩
  | .hbm, ⟨4, _⟩ => ⟨S5504x4096, .f32⟩
  | .hbm, ⟨5, _⟩ => ⟨S4096x5504, .f32⟩
  | .hbm, ⟨6, _⟩ => ⟨S8x688x2048, .f32⟩
  | .hbm, ⟨7, _⟩ => ⟨S5504x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.KernelIdeal.Fwd.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic
public import Idealize.ShloMosaic.Lib.Ring
public import Idealize.ShloMosaic.Lib.WordCmp

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body of the forward call on whole staging buffers: the pieces it leaves in its two results (the attention's output and
    the logarithm of each row's sum). -/
noncomputable def runFwd (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x512x1 .f32) (harg5 : arg5.IsWhole) (arg6 : Memref sig .tc .vmem S1x8x1x512 .f32) (harg6 : arg6.IsWhole) (arg7 : Memref sig .tc .vmem S512x128 .f32) (harg7 : arg7.IsWhole) (arg8 : Memref sig .tc .vmem S1x512x1 .f32) (harg8 : arg8.IsWhole) (x0 : Vec F S512x128 .bf16) (x1 : Vec F S4096x128 .bf16) (x2 : Vec F S4096x128 .bf16) (x3 : Vec F S1x512x1 .f32) (x4 : Vec F S1x8x1x512 .f32) :
    Σ' (L5 : List (View.Piece (Elt F) S512x128 .f32)), { L6 : List (View.Piece (Elt F) S1x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_fox_fwd i arg2 harg2 arg3 harg3 arg4 harg4 arg5 harg5 arg6 harg6 arg7 harg7 arg8 harg8) K } := by
  refine ⟨?_, ?_, fun E K => ?run⟩
  case run =>
    simp only [cc0_fox_fwd_eq_skeleton]; unfold cc0_fox_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

theorem fwd_cover_out (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x512x1 .f32) (harg5 : arg5.IsWhole) (arg6 : Memref sig .tc .vmem S1x8x1x512 .f32) (harg6 : arg6.IsWhole) (arg7 : Memref sig .tc .vmem S512x128 .f32) (harg7 : arg7.IsWhole) (arg8 : Memref sig .tc .vmem S1x512x1 .f32) (harg8 : arg8.IsWhole) (x0 : Vec F S512x128 .bf16) (x1 : Vec F S4096x128 .bf16) (x2 : Vec F S4096x128 .bf16) (x3 : Vec F S1x512x1 .f32) (x4 : Vec F S1x8x1x512 .f32) (y : S512x128.Idx) :
    ∃ p ∈ (runFwd c i arg2 harg2 arg3 harg3 arg4 harg4 arg5 harg5 arg6 harg6 arg7 harg7 arg8 harg8 x0 x1 x2 x3 x4).1, y ∈ p.1.set :=
  View.cover_of_tiledL (runFwd c i arg2 harg2 arg3 harg3 arg4 harg4 arg5 harg5 arg6 harg6 arg7 harg7 arg8 harg8 x0 x1 x2 x3 x4).1 S512x128.size (by sl_kernel_rfl) y

theorem fwd_cover_lse (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x512x1 .f32) (harg5 : arg5.IsWhole) (arg6 : Memref sig .tc .vmem S1x8x1x512 .f32) (harg6 : arg6.IsWhole) (arg7 : Memref sig .tc .vmem S512x128 .f32) (harg7 : arg7.IsWhole) (arg8 : Memref sig .tc .vmem S1x512x1 .f32) (harg8 : arg8.IsWhole) (x0 : Vec F S512x128 .bf16) (x1 : Vec F S4096x128 .bf16) (x2 : Vec F S4096x128 .bf16) (x3 : Vec F S1x512x1 .f32) (x4 : Vec F S1x8x1x512 .f32) (y : S1x512x1.Idx) :
    ∃ p ∈ (runFwd c i arg2 harg2 arg3 harg3 arg4 harg4 arg5 harg5 arg6 harg6 arg7 harg7 arg8 harg8 x0 x1 x2 x3 x4).2.1, y ∈ p.1.set :=
  View.cover_of_tiledL (runFwd c i arg2 harg2 arg3 harg3 arg4 harg4 arg5 harg5 arg6 harg6 arg7 harg7 arg8 harg8 x0 x1 x2 x3 x4).2.1 S1x512x1.size (by sl_kernel_rfl) y

/-- What the body leaves in the output's staging buffer. -/
def fwdOut (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x512x1 .f32) (harg5 : arg5.IsWhole) (arg6 : Memref sig .tc .vmem S1x8x1x512 .f32) (harg6 : arg6.IsWhole) (arg7 : Memref sig .tc .vmem S512x128 .f32) (harg7 : arg7.IsWhole) (arg8 : Memref sig .tc .vmem S1x512x1 .f32) (harg8 : arg8.IsWhole) (x0 : Vec F S512x128 .bf16) (x1 : Vec F S4096x128 .bf16) (x2 : Vec F S4096x128 .bf16) (x3 : Vec F S1x512x1 .f32) (x4 : Vec F S1x8x1x512 .f32) : Vec F S512x128 .f32 :=
  arg7.view.read (Elt F) (arg7.view.writes (Elt F) arg7.view.junk (runFwd c i arg2 harg2 arg3 harg3 arg4 harg4 arg5 harg5 arg6 harg6 arg7 harg7 arg8 harg8 x0 x1 x2 x3 x4).1)

/-- What the body leaves in the staging buffer of the rows' logarithms. -/
def fwdLse (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x512x1 .f32) (harg5 : arg5.IsWhole) (arg6 : Memref sig .tc .vmem S1x8x1x512 .f32) (harg6 : arg6.IsWhole) (arg7 : Memref sig .tc .vmem S512x128 .f32) (harg7 : arg7.IsWhole) (arg8 : Memref sig .tc .vmem S1x512x1 .f32) (harg8 : arg8.IsWhole) (x0 : Vec F S512x128 .bf16) (x1 : Vec F S4096x128 .bf16) (x2 : Vec F S4096x128 .bf16) (x3 : Vec F S1x512x1 .f32) (x4 : Vec F S1x8x1x512 .f32) : Vec F S1x512x1 .f32 :=
  arg8.view.read (Elt F) (arg8.view.writes (Elt F) arg8.view.junk (runFwd c i arg2 harg2 arg3 harg3 arg4 harg4 arg5 harg5 arg6 harg6 arg7 harg7 arg8 harg8 x0 x1 x2 x3 x4).2.1)

section Data

variable (V : (c : Dev nD) → (b : Ref sig .tc) → Buf (Elt F) ((c : Thread nD τ).loc b))

/-- The block of window `w`'s array that grid point `t` works on. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev mem0_0 (t : Fin cfg0.N) : Memref sig .tc .vmem S512x128 .bf16 := win0_0.stage (cfg0.slots t 0)
abbrev whole0_0 (t : Fin cfg0.N) : (mem0_0 t).IsWhole := hstage0_0 ((cfg0.slots t 0).cast nbuf0_0)
abbrev mem0_1 (t : Fin cfg0.N) : Memref sig .tc .vmem S4096x128 .bf16 := win0_1.stage (cfg0.slots t 1)
abbrev whole0_1 (t : Fin cfg0.N) : (mem0_1 t).IsWhole := hstage0_1 ((cfg0.slots t 1).cast nbuf0_1)
abbrev mem0_2 (t : Fin cfg0.N) : Memref sig .tc .vmem S4096x128 .bf16 := win0_2.stage (cfg0.slots t 2)
abbrev whole0_2 (t : Fin cfg0.N) : (mem0_2 t).IsWhole := hstage0_2 ((cfg0.slots t 2).cast nbuf0_2)
abbrev mem0_3 (t : Fin cfg0.N) : Memref sig .tc .vmem S1x512x1 .f32 := win0_3.stage (cfg0.slots t 3)
abbrev whole0_3 (t : Fin cfg0.N) : (mem0_3 t).IsWhole := hstage0_3 ((cfg0.slots t 3).cast nbuf0_3)
abbrev mem0_4 (t : Fin cfg0.N) : Memref sig .tc .vmem S1x8x1x512 .f32 := win0_4.stage (cfg0.slots t 4)
abbrev whole0_4 (t : Fin cfg0.N) : (mem0_4 t).IsWhole := hstage0_4 ((cfg0.slots t 4).cast nbuf0_4)
abbrev mem0_5 (t : Fin cfg0.N) : Memref sig .tc .vmem S512x128 .f32 := win0_5.stage (cfg0.slots t 5)
abbrev whole0_5 (t : Fin cfg0.N) : (mem0_5 t).IsWhole := hstage0_5 ((cfg0.slots t 5).cast nbuf0_5)
abbrev mem0_6 (t : Fin cfg0.N) : Memref sig .tc .vmem S1x512x1 .f32 := win0_6.stage (cfg0.slots t 6)
abbrev whole0_6 (t : Fin cfg0.N) : (mem0_6 t).IsWhole := hstage0_6 ((cfg0.slots t 6).cast nbuf0_6)

/-- The output block grid point `t` leaves. -/
def outAt (c : Dev nD) (t : Fin cfg0.N) : Vec F S512x128 .f32 :=
  fwdOut c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (blk0 V c 0 t) (blk0 V c 1 t) (blk0 V c 2 t) (blk0 V c 3 t) (blk0 V c 4 t)
/-- The block of rows' logarithms grid point `t` leaves. -/
def lseAt (c : Dev nD) (t : Fin cfg0.N) : Vec F S1x512x1 .f32 :=
  fwdLse c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (blk0 V c 0 t) (blk0 V c 1 t) (blk0 V c 2 t) (blk0 V c 3 t) (blk0 V c 4 t)

/-- The forward call's proof data at the buffer contents `V` it is entered with. -/
def fwdDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => outAt V c t
    | ⟨6, _⟩ => lseAt V c t
  Φ _ := Pipeline.ΦA spec0 c
  q w := Pipeline.shareOf spec0 w
  owed _ := 0

theorem arrays0 (c : Dev nD) (w : Fin cfg0.W) : (fwdDat V c).A w = V c (Pipeline.arrRef spec0 w) := by
  dsimp only [fwdDat]
theorem left0_5 (c : Dev nD) (t : Fin cfg0.N) : (fwdDat V c).after 5 t = outAt V c t := by dsimp only [fwdDat]
theorem left0_6 (c : Dev nD) (t : Fin cfg0.N) : (fwdDat V c).after 6 t = lseAt V c t := by dsimp only [fwdDat]
theorem left0_0 (c : Dev nD) (t : Fin cfg0.N) : (fwdDat V c).after 0 t = blk0 V c 0 t := by dsimp only [fwdDat]
theorem left0_1 (c : Dev nD) (t : Fin cfg0.N) : (fwdDat V c).after 1 t = blk0 V c 1 t := by dsimp only [fwdDat]
theorem left0_2 (c : Dev nD) (t : Fin cfg0.N) : (fwdDat V c).after 2 t = blk0 V c 2 t := by dsimp only [fwdDat]
theorem left0_3 (c : Dev nD) (t : Fin cfg0.N) : (fwdDat V c).after 3 t = blk0 V c 3 t := by dsimp only [fwdDat]
theorem left0_4 (c : Dev nD) (t : Fin cfg0.N) : (fwdDat V c).after 4 t = blk0 V c 4 t := by dsimp only [fwdDat]
theorem found0_0 (c : Dev nD) (t : Fin cfg0.N) (d) : (fwdDat V c).before 0 t d = blk0 V c 0 t :=
  ((fwdDat V c).before_in_eq_fetched 0 rfl (fun _ => rfl) (fun _ _ _ => rfl)
    (fun t => by rw [left0_0]; unfold Dat.blockOf blk0; rw [arrays0]; try rfl) t d).trans
    (by unfold Dat.fetched Dat.blockOf blk0; rw [arrays0]; try rfl)
theorem found0_1 (c : Dev nD) (t : Fin cfg0.N) (d) : (fwdDat V c).before 1 t d = blk0 V c 1 t :=
  ((fwdDat V c).before_in_eq_fetched 1 rfl (fun _ => rfl) (fun _ _ _ => rfl)
    (fun t => by rw [left0_1]; unfold Dat.blockOf blk0; rw [arrays0]; try rfl) t d).trans
    (by unfold Dat.fetched Dat.blockOf blk0; rw [arrays0]; try rfl)
theorem found0_2 (c : Dev nD) (t : Fin cfg0.N) (d) : (fwdDat V c).before 2 t d = blk0 V c 2 t :=
  ((fwdDat V c).before_in_eq_fetched 2 rfl (fun _ => rfl) (fun _ _ _ => rfl)
    (fun t => by rw [left0_2]; unfold Dat.blockOf blk0; rw [arrays0]; try rfl) t d).trans
    (by unfold Dat.fetched Dat.blockOf blk0; rw [arrays0]; try rfl)
theorem found0_3 (c : Dev nD) (t : Fin cfg0.N) (d) : (fwdDat V c).before 3 t d = blk0 V c 3 t :=
  ((fwdDat V c).before_in_eq_fetched 3 rfl (fun _ => rfl) (fun _ _ _ => rfl)
    (fun t => by rw [left0_3]; unfold Dat.blockOf blk0; rw [arrays0]; try rfl) t d).trans
    (by unfold Dat.fetched Dat.blockOf blk0; rw [arrays0]; try rfl)
theorem found0_4 (c : Dev nD) (t : Fin cfg0.N) (d) : (fwdDat V c).before 4 t d = blk0 V c 4 t :=
  ((fwdDat V c).before_in_eq_fetched 4 rfl (fun _ => rfl) (fun _ _ _ => rfl)
    (fun t => by rw [left0_4]; unfold Dat.blockOf blk0; rw [arrays0]; try rfl) t d).trans
    (by unfold Dat.fetched Dat.blockOf blk0; rw [arrays0]; try rfl)

def pre0 (c : Dev nD) (t : Fin cfg0.N) : sProp 𝕄 :=
  iprop((fwdDat V c).Φ t.castSucc ∗ (fwdDat V c).owesAt () t.castSucc
    ∗ (∃ d, owns (c : Thread nD τ) (mem0_0 t) fullShare ((fwdDat V c).before 0 t d)) ∗ (∃ d, owns (c : Thread nD τ) (mem0_1 t) fullShare ((fwdDat V c).before 1 t d)) ∗ (∃ d, owns (c : Thread nD τ) (mem0_2 t) fullShare ((fwdDat V c).before 2 t d)) ∗ (∃ d, owns (c : Thread nD τ) (mem0_3 t) fullShare ((fwdDat V c).before 3 t d)) ∗ (∃ d, owns (c : Thread nD τ) (mem0_4 t) fullShare ((fwdDat V c).before 4 t d)) ∗ (∃ d, owns (c : Thread nD τ) (mem0_5 t) fullShare ((fwdDat V c).before 5 t d)) ∗ (∃ d, owns (c : Thread nD τ) (mem0_6 t) fullShare ((fwdDat V c).before 6 t d)))

def post0 (c : Dev nD) (t : Fin cfg0.N) : sProp 𝕄 :=
  iprop((fwdDat V c).Φ t.succ ∗ (fwdDat V c).owesAt () t.succ
    ∗ owns (c : Thread nD τ) (mem0_0 t) fullShare ((fwdDat V c).after 0 t) ∗ owns (c : Thread nD τ) (mem0_1 t) fullShare ((fwdDat V c).after 1 t) ∗ owns (c : Thread nD τ) (mem0_2 t) fullShare ((fwdDat V c).after 2 t) ∗ owns (c : Thread nD τ) (mem0_3 t) fullShare ((fwdDat V c).after 3 t) ∗ owns (c : Thread nD τ) (mem0_4 t) fullShare ((fwdDat V c).after 4 t) ∗ owns (c : Thread nD τ) (mem0_5 t) fullShare ((fwdDat V c).after 5 t) ∗ owns (c : Thread nD τ) (mem0_6 t) fullShare ((fwdDat V c).after 6 t))

/-- The forward body at any grid point. -/
theorem fwd_point (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2, found0_3, found0_4]
  rw [show (fwdDat V c).Φ t.succ = (fwdDat V c).Φ t.castSucc from rfl,
    show (fwdDat V c).owesAt () t.succ = (fwdDat V c).owesAt () t.castSucc from rfl,
    left0_0, left0_1, left0_2, left0_3, left0_4, left0_5, left0_6]
  unfold outAt lseAt fwdOut fwdLse
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((runFwd c (grid0.coords t) _ _ _ _ _ _ _ _ _ _ _ _ _ _ (blk0 V c 0 t) (blk0 V c 1 t) (blk0 V c 2 t) (blk0 V c 3 t) (blk0 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (fwd_cover_out c _ _ _ _ _ _ _ _ _ _ _ _ _ _ _ _ _ _ _ _)
  unfold owns; iexists _; isplitr
  swap; · iexact H6
  ipureintro; exact View.read_writes_of_cover _ _ _ _ _ (fwd_cover_lse c _ _ _ _ _ _ _ _ _ _ _ _ _ _ _ _ _ _ _ _)

theorem row0 (t : Fin cfg0.N) : defs₀ (F := F) .tc cfg0.body (cfg0.bodyArgs t (cfg0.slots t)) = bodyAt0 t := by
  unfold defs₀; rw [Defs.onTc_tc]

theorem fwd_body (c : Dev nD) : BodyObligation (fwdDat (F := F) V c) (defs₀ (F := F)) Variants.none () Set.univ := fun t => by
  rw [bigSep_W0, bigSep_W0, row0]
  exact triple_restated (fwd_point V c t) rfl .rfl fun _ => .rfl

end Data

end Cert.KernelIdeal.Fox
-- ==== Proof.KernelIdeal.BwdRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev taken (i : grid1.Coords) : Prop := (Scalar.cmpi .ne (Scalar.extui (Scalar.cmpi .eq (BitVec.ofNat 32 (i 1).val) 0#32)) 0#32) = 1#1

set_option maxHeartbeats 4000000 in
/-- The body of the backward call at a grid point that is not a head's first, on whole staging buffers: the pieces it leaves in
    its five results, over the contents `x8`, `x12` found in the two results it accumulates, with the saved row sums `xs`. -/
noncomputable def runLater (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : ¬taken i)
    (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (x8 : Vec F S4096x128 .f32) (x12 : Vec F S1x4096x1 .f32) (xs : Vec F S4096x1 .f32) :
    Σ' (L8 : List (View.Piece (Elt F) S4096x128 .f32)) (L9 : List (View.Piece (Elt F) S512x128 .bf16)) (L10 : List (View.Piece (Elt F) S512x128 .bf16)) (L11 : List (View.Piece (Elt F) S1x1x512 .f32)), { L12 : List (View.Piece (Elt F) S1x4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x12 ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread x8) L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread x12) L12) ∗ owns (c : Thread nD τ) arg15 fullShare xs) -∗ K ⟨⟩))
          ⊢ wp frame (wpE (defs₀ (F := F)) Variants.none c none) E (cc1_fox_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc1_fox_bwd_eq_skeleton]; unfold cc1_fox_bwd_skel
    simp only [k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12; obtain rfl := harg15.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexists _; iexact H9
    isplitl [H10]; · iexists _; iexact H10
    isplitl [H11]; · iexists _; iexact H11
    isplitl [H12]; · iexact H12
    iexists _; isplitr; · ipureintro; exact harg15.read_unread _
    iexact HS0

set_option maxHeartbeats 4000000 in
/-- The body of the backward call at a grid point that is a head's first, on whole staging buffers: the pieces it leaves in
    its five results, with the pieces of the saved row sums, over whatever they held. -/
noncomputable def runFirst (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i)
    (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) :
    Σ' (L8 : List (View.Piece (Elt F) S4096x128 .f32)) (L9 : List (View.Piece (Elt F) S512x128 .bf16)) (L10 : List (View.Piece (Elt F) S512x128 .bf16)) (L11 : List (View.Piece (Elt F) S1x1x512 .f32)), Σ' (L12 : List (View.Piece (Elt F) S1x4096x1 .f32)), { LS : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS)) -∗ K ⟨⟩))
          ⊢ wp frame (wpE (defs₀ (F := F)) Variants.none c none) E (cc1_fox_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc1_fox_bwd_eq_skeleton]; unfold cc1_fox_bwd_skel
    simp only [k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact HS0

end Cert.KernelIdeal.Fox
-- ==== Proof.KernelIdeal.Bwd.lean ====
module

public import proofs.«01_k».proof.Proof.KernelIdeal.BwdRun
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Tactic
public import Idealize.ShloMosaic.Lib.Ring
public import Idealize.ShloMosaic.Lib.WordCmp

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem first_cover_8 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (y : S4096x128.Idx) :
    ∃ p ∈ (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ p.1.set :=
  View.cover_of_wholeMem (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 (by sl_whole_mem) y
theorem first_cover_9 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (y : S512x128.Idx) :
    ∃ p ∈ (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ p.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 S512x128.size (by sl_kernel_rfl) y
theorem first_cover_10 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (y : S512x128.Idx) :
    ∃ p ∈ (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ p.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 S512x128.size (by sl_kernel_rfl) y
theorem first_cover_11 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (y : S1x1x512.Idx) :
    ∃ p ∈ (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ p.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 S1x1x512.size (by sl_kernel_rfl) y
theorem first_cover_12 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (y : S1x4096x1.Idx) :
    ∃ p ∈ (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ p.1.set :=
  View.cover_of_wholeMem (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 (by sl_whole_mem) y
theorem first_cover_s (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (y : S4096x1.Idx) :
    ∃ p ∈ (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ p.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 S4096x1.size (by sl_kernel_rfl) y
theorem later_cover_9 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : ¬taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (x8 : Vec F S4096x128 .f32) (x12 : Vec F S1x4096x1 .f32) (xs : Vec F S4096x1 .f32) (y : S512x128.Idx) :
    ∃ p ∈ (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.1, y ∈ p.1.set :=
  View.cover_of_tiledL (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.1 S512x128.size (by sl_kernel_rfl) y
theorem later_cover_10 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : ¬taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (x8 : Vec F S4096x128 .f32) (x12 : Vec F S1x4096x1 .f32) (xs : Vec F S4096x1 .f32) (y : S512x128.Idx) :
    ∃ p ∈ (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.2.1, y ∈ p.1.set :=
  View.cover_of_tiledL (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.2.1 S512x128.size (by sl_kernel_rfl) y
theorem later_cover_11 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : ¬taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (x8 : Vec F S4096x128 .f32) (x12 : Vec F S1x4096x1 .f32) (xs : Vec F S4096x1 .f32) (y : S1x1x512.Idx) :
    ∃ p ∈ (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.2.2.1, y ∈ p.1.set :=
  View.cover_of_tiledL (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.2.2.1 S1x1x512.size (by sl_kernel_rfl) y
/-- What a head's first grid point leaves in the gradient of the queries. -/
def first8 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) : Vec F S4096x128 .f32 :=
  arg10.view.read (Elt F) (arg10.view.writes (Elt F) arg10.view.junk (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)
/-- What a later grid point of a head leaves in the gradient of the queries. -/
def later8 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : ¬taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (x8 : Vec F S4096x128 .f32) (x12 : Vec F S1x4096x1 .f32) (xs : Vec F S4096x1 .f32) : Vec F S4096x128 .f32 :=
  arg10.view.read (Elt F) (arg10.view.writes (Elt F) (harg10.unread x8) (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).1)
/-- What a head's first grid point leaves in the gradient of the keys. -/
def first9 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) : Vec F S512x128 .bf16 :=
  arg11.view.read (Elt F) (arg11.view.writes (Elt F) arg11.view.junk (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)
/-- What a later grid point of a head leaves in the gradient of the keys. -/
def later9 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : ¬taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (x8 : Vec F S4096x128 .f32) (x12 : Vec F S1x4096x1 .f32) (xs : Vec F S4096x1 .f32) : Vec F S512x128 .bf16 :=
  arg11.view.read (Elt F) (arg11.view.writes (Elt F) arg11.view.junk (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.1)
/-- What a head's first grid point leaves in the gradient of the values. -/
def first10 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) : Vec F S512x128 .bf16 :=
  arg12.view.read (Elt F) (arg12.view.writes (Elt F) arg12.view.junk (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)
/-- What a later grid point of a head leaves in the gradient of the values. -/
def later10 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : ¬taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (x8 : Vec F S4096x128 .f32) (x12 : Vec F S1x4096x1 .f32) (xs : Vec F S4096x1 .f32) : Vec F S512x128 .bf16 :=
  arg12.view.read (Elt F) (arg12.view.writes (Elt F) arg12.view.junk (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.2.1)
/-- What a head's first grid point leaves in the gradient of the gate sums as keys meet them. -/
def first11 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) : Vec F S1x1x512 .f32 :=
  arg13.view.read (Elt F) (arg13.view.writes (Elt F) arg13.view.junk (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)
/-- What a later grid point of a head leaves in the gradient of the gate sums as keys meet them. -/
def later11 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : ¬taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (x8 : Vec F S4096x128 .f32) (x12 : Vec F S1x4096x1 .f32) (xs : Vec F S4096x1 .f32) : Vec F S1x1x512 .f32 :=
  arg13.view.read (Elt F) (arg13.view.writes (Elt F) arg13.view.junk (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.2.2.1)
/-- What a head's first grid point leaves in the gradient of the gate sums as queries meet them. -/
def first12 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) : Vec F S1x4096x1 .f32 :=
  arg14.view.read (Elt F) (arg14.view.writes (Elt F) arg14.view.junk (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1)
/-- What a later grid point of a head leaves in the gradient of the gate sums as queries meet them. -/
def later12 (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : ¬taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) (x8 : Vec F S4096x128 .f32) (x12 : Vec F S1x4096x1 .f32) (xs : Vec F S4096x1 .f32) : Vec F S1x4096x1 .f32 :=
  arg14.view.read (Elt F) (arg14.view.writes (Elt F) (harg14.unread x12) (runLater c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs).2.2.2.2.1)
/-- What a head's first grid point leaves in the saved row sums. -/
def firsts (c : Dev nD) (i : grid1.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (hc0 : taken i) (x0 : Vec F S4096x128 .bf16) (x1 : Vec F S512x128 .bf16) (x2 : Vec F S512x128 .bf16) (x3 : Vec F S1x4096x1 .f32) (x4 : Vec F S1x1x512 .f32) (x5 : Vec F S4096x128 .f32) (x6 : Vec F S4096x128 .f32) (x7 : Vec F S1x4096x1 .f32) : Vec F S4096x1 .f32 :=
  arg15.view.read (Elt F) (arg15.view.writes (Elt F) arg15.view.junk (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1)

/-- The first branch is taken at the grid points whose key block is the first. -/
theorem taken_iff : ∀ t : Fin cfg1.N, taken (grid1.coords t) ↔ t.val % 8 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [taken, e0, e1]
    word_cmp
   : ∀ t : Fin grid1.N, taken (grid1.coords t) ↔ t.val % 8 = 0)

section Data

variable (V : (c : Dev nD) → (b : Ref sig .tc) → Buf (Elt F) ((c : Thread nD τ).loc b))

/-- The buffer the kernel keeps the row sums of one head in. -/
abbrev scratch : Memref sig .tc .vmem S4096x1 .f32 := Memref.whole cc1_scratch0
theorem scratch_whole : (scratch : Memref sig .tc .vmem S4096x1 .f32).IsWhole := Memref.isWhole_whole _

/-- The block of window `w`'s array that grid point `t` works on. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev mem1_0 (t : Fin cfg1.N) : Memref sig .tc .vmem S4096x128 .bf16 := win1_0.stage (cfg1.slots t 0)
abbrev whole1_0 (t : Fin cfg1.N) : (mem1_0 t).IsWhole := hstage1_0 ((cfg1.slots t 0).cast nbuf1_0)
abbrev mem1_1 (t : Fin cfg1.N) : Memref sig .tc .vmem S512x128 .bf16 := win1_1.stage (cfg1.slots t 1)
abbrev whole1_1 (t : Fin cfg1.N) : (mem1_1 t).IsWhole := hstage1_1 ((cfg1.slots t 1).cast nbuf1_1)
abbrev mem1_2 (t : Fin cfg1.N) : Memref sig .tc .vmem S512x128 .bf16 := win1_2.stage (cfg1.slots t 2)
abbrev whole1_2 (t : Fin cfg1.N) : (mem1_2 t).IsWhole := hstage1_2 ((cfg1.slots t 2).cast nbuf1_2)
abbrev mem1_3 (t : Fin cfg1.N) : Memref sig .tc .vmem S1x4096x1 .f32 := win1_3.stage (cfg1.slots t 3)
abbrev whole1_3 (t : Fin cfg1.N) : (mem1_3 t).IsWhole := hstage1_3 ((cfg1.slots t 3).cast nbuf1_3)
abbrev mem1_4 (t : Fin cfg1.N) : Memref sig .tc .vmem S1x1x512 .f32 := win1_4.stage (cfg1.slots t 4)
abbrev whole1_4 (t : Fin cfg1.N) : (mem1_4 t).IsWhole := hstage1_4 ((cfg1.slots t 4).cast nbuf1_4)
abbrev mem1_5 (t : Fin cfg1.N) : Memref sig .tc .vmem S4096x128 .f32 := win1_5.stage (cfg1.slots t 5)
abbrev whole1_5 (t : Fin cfg1.N) : (mem1_5 t).IsWhole := hstage1_5 ((cfg1.slots t 5).cast nbuf1_5)
abbrev mem1_6 (t : Fin cfg1.N) : Memref sig .tc .vmem S4096x128 .f32 := win1_6.stage (cfg1.slots t 6)
abbrev whole1_6 (t : Fin cfg1.N) : (mem1_6 t).IsWhole := hstage1_6 ((cfg1.slots t 6).cast nbuf1_6)
abbrev mem1_7 (t : Fin cfg1.N) : Memref sig .tc .vmem S1x4096x1 .f32 := win1_7.stage (cfg1.slots t 7)
abbrev whole1_7 (t : Fin cfg1.N) : (mem1_7 t).IsWhole := hstage1_7 ((cfg1.slots t 7).cast nbuf1_7)
abbrev mem1_8 (t : Fin cfg1.N) : Memref sig .tc .vmem S4096x128 .f32 := win1_8.stage (cfg1.slots t 8)
abbrev whole1_8 (t : Fin cfg1.N) : (mem1_8 t).IsWhole := hstage1_8 ((cfg1.slots t 8).cast nbuf1_8)
abbrev mem1_9 (t : Fin cfg1.N) : Memref sig .tc .vmem S512x128 .bf16 := win1_9.stage (cfg1.slots t 9)
abbrev whole1_9 (t : Fin cfg1.N) : (mem1_9 t).IsWhole := hstage1_9 ((cfg1.slots t 9).cast nbuf1_9)
abbrev mem1_10 (t : Fin cfg1.N) : Memref sig .tc .vmem S512x128 .bf16 := win1_10.stage (cfg1.slots t 10)
abbrev whole1_10 (t : Fin cfg1.N) : (mem1_10 t).IsWhole := hstage1_10 ((cfg1.slots t 10).cast nbuf1_10)
abbrev mem1_11 (t : Fin cfg1.N) : Memref sig .tc .vmem S1x1x512 .f32 := win1_11.stage (cfg1.slots t 11)
abbrev whole1_11 (t : Fin cfg1.N) : (mem1_11 t).IsWhole := hstage1_11 ((cfg1.slots t 11).cast nbuf1_11)
abbrev mem1_12 (t : Fin cfg1.N) : Memref sig .tc .vmem S1x4096x1 .f32 := win1_12.stage (cfg1.slots t 12)
abbrev whole1_12 (t : Fin cfg1.N) : (mem1_12 t).IsWhole := hstage1_12 ((cfg1.slots t 12).cast nbuf1_12)

/-- What a grid point leaves for the next: the two accumulated results and the row sums. -/
abbrev Kept (F : FTy → Type) : Type := Vec F S4096x128 .f32 × Vec F S1x4096x1 .f32 × Vec F S4096x1 .f32

def keptFirst (c : Dev nD) (t : Fin cfg1.N) (h : taken (grid1.coords t)) : Kept F :=
  (first8 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole h (blk1 V c 0 t) (blk1 V c 1 t) (blk1 V c 2 t) (blk1 V c 3 t) (blk1 V c 4 t) (blk1 V c 5 t) (blk1 V c 6 t) (blk1 V c 7 t),
   first12 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole h (blk1 V c 0 t) (blk1 V c 1 t) (blk1 V c 2 t) (blk1 V c 3 t) (blk1 V c 4 t) (blk1 V c 5 t) (blk1 V c 6 t) (blk1 V c 7 t),
   firsts c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole h (blk1 V c 0 t) (blk1 V c 1 t) (blk1 V c 2 t) (blk1 V c 3 t) (blk1 V c 4 t) (blk1 V c 5 t) (blk1 V c 6 t) (blk1 V c 7 t))

def keptLater (c : Dev nD) (t : Fin cfg1.N) (h : ¬taken (grid1.coords t)) (p : Kept F) : Kept F :=
  (later8 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole h (blk1 V c 0 t) (blk1 V c 1 t) (blk1 V c 2 t) (blk1 V c 3 t) (blk1 V c 4 t) (blk1 V c 5 t) (blk1 V c 6 t) (blk1 V c 7 t) p.1 p.2.1 p.2.2,
   later12 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole h (blk1 V c 0 t) (blk1 V c 1 t) (blk1 V c 2 t) (blk1 V c 3 t) (blk1 V c 4 t) (blk1 V c 5 t) (blk1 V c 6 t) (blk1 V c 7 t) p.1 p.2.1 p.2.2,
   p.2.2)

/-- What is kept after grid point `n`. -/
def kept (c : Dev nD) : (n : ℕ) → n < cfg1.N → Kept F
  | 0, hn => keptFirst V c ⟨0, hn⟩ ((taken_iff ⟨0, hn⟩).mpr (Nat.zero_mod _))
  | n + 1, hn =>
    if h : (n + 1) % 8 = 0 then keptFirst V c ⟨n + 1, hn⟩ ((taken_iff ⟨n + 1, hn⟩).mpr h)
    else keptLater V c ⟨n + 1, hn⟩ (fun h' => h ((taken_iff ⟨n + 1, hn⟩).mp h')) (kept c n (Nat.lt_of_succ_lt hn))

/-- What the grid point before `t` left. -/
abbrev before (c : Dev nD) (t : Fin cfg1.N) : Kept F := kept V c (t.val - 1) (Nat.lt_of_le_of_lt (Nat.sub_le _ _) t.isLt)

theorem kept_first (c : Dev nD) (t : Fin cfg1.N) (h : t.val % 8 = 0) :
    kept V c t.val t.isLt = keptFirst V c t ((taken_iff t).mpr h) := by
  obtain ⟨n, hn⟩ := t
  cases n with
  | zero => exact rfl
  | succ n => exact (dif_pos h).trans rfl

theorem kept_later (c : Dev nD) (t : Fin cfg1.N) (h : ¬t.val % 8 = 0) :
    kept V c t.val t.isLt = keptLater V c t (fun h' => h ((taken_iff t).mp h')) (before V c t) := by
  obtain ⟨n, hn⟩ := t
  cases n with
  | zero => exact absurd (Nat.zero_mod _) h
  | succ n => exact (dif_neg h).trans rfl

/-- The block of the gradient of the keys grid point `t` leaves. -/
def grad9 (c : Dev nD) (t : Fin cfg1.N) : Vec F S512x128 .bf16 :=
  if h : t.val % 8 = 0 then first9 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole ((taken_iff t).mpr h) (blk1 V c 0 t) (blk1 V c 1 t) (blk1 V c 2 t) (blk1 V c 3 t) (blk1 V c 4 t) (blk1 V c 5 t) (blk1 V c 6 t) (blk1 V c 7 t)
  else later9 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole (fun h' => h ((taken_iff t).mp h')) (blk1 V c 0 t) (blk1 V c 1 t) (blk1 V c 2 t) (blk1 V c 3 t) (blk1 V c 4 t) (blk1 V c 5 t) (blk1 V c 6 t) (blk1 V c 7 t) (before V c t).1 (before V c t).2.1 (before V c t).2.2
/-- The block of the gradient of the values grid point `t` leaves. -/
def grad10 (c : Dev nD) (t : Fin cfg1.N) : Vec F S512x128 .bf16 :=
  if h : t.val % 8 = 0 then first10 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole ((taken_iff t).mpr h) (blk1 V c 0 t) (blk1 V c 1 t) (blk1 V c 2 t) (blk1 V c 3 t) (blk1 V c 4 t) (blk1 V c 5 t) (blk1 V c 6 t) (blk1 V c 7 t)
  else later10 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole (fun h' => h ((taken_iff t).mp h')) (blk1 V c 0 t) (blk1 V c 1 t) (blk1 V c 2 t) (blk1 V c 3 t) (blk1 V c 4 t) (blk1 V c 5 t) (blk1 V c 6 t) (blk1 V c 7 t) (before V c t).1 (before V c t).2.1 (before V c t).2.2
/-- The block of the gradient of the gate sums as keys meet them grid point `t` leaves. -/
def grad11 (c : Dev nD) (t : Fin cfg1.N) : Vec F S1x1x512 .f32 :=
  if h : t.val % 8 = 0 then first11 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole ((taken_iff t).mpr h) (blk1 V c 0 t) (blk1 V c 1 t) (blk1 V c 2 t) (blk1 V c 3 t) (blk1 V c 4 t) (blk1 V c 5 t) (blk1 V c 6 t) (blk1 V c 7 t)
  else later11 c (grid1.coords t) (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole (fun h' => h ((taken_iff t).mp h')) (blk1 V c 0 t) (blk1 V c 1 t) (blk1 V c 2 t) (blk1 V c 3 t) (blk1 V c 4 t) (blk1 V c 5 t) (blk1 V c 6 t) (blk1 V c 7 t) (before V c t).1 (before V c t).2.1 (before V c t).2.2

/-- The forward call's staging buffers, at anything. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

theorem scoped_out (c : Dev nD) : (Pipeline.ΦA spec1 c : sProp 𝕄)
    ⊢ iprop((others c ∗ ∃ d, owns (c : Thread nD τ) scratch fullShare d) ∗ ∃ r, prngReg c r) := by
  unfold Pipeline.ΦA others
  rw [scopedRest1_eq]
  simp only [scratch, owns_whole]
  iintro ⟨⟨G0, G1, G2, G3, G4, G5, G6, G7, G8, G9, G10, G11, G12, G13, HS⟩, Hg⟩
  isplitr [Hg]
  · isplitr [HS]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      iexact G13
    iexact HS
  iexact Hg

theorem scoped_in (c : Dev nD) : iprop((others c ∗ ∃ d, owns (c : Thread nD τ) scratch fullShare d) ∗ ∃ r, prngReg c r)
    ⊢ (Pipeline.ΦA spec1 c : sProp 𝕄) := by
  unfold Pipeline.ΦA others
  rw [scopedRest1_eq]
  simp only [scratch, owns_whole]
  iintro ⟨⟨⟨G0, G1, G2, G3, G4, G5, G6, G7, G8, G9, G10, G11, G12, G13⟩, HS⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact HS
  iexact Hg

/-- What the backward call carries from one grid point to the next beside its windows: the row sums, by value after the first. -/
def carried (c : Dev nD) : (n : ℕ) → n ≤ cfg1.N → sProp 𝕄
  | 0, _ => Pipeline.ΦA spec1 c
  | n + 1, hn => iprop((others c ∗ owns (c : Thread nD τ) scratch fullShare (kept V c n hn).2.2) ∗ ∃ r, prngReg c r)

theorem carried_pos (c : Dev nD) (n : ℕ) (h : n ≤ cfg1.N) (hz : n ≠ 0) :
    carried V c n h = iprop((others c ∗ owns (c : Thread nD τ) scratch fullShare (kept V c (n - 1) (by omega)).2.2) ∗ ∃ r, prngReg c r) := by
  cases n with
  | zero => exact absurd rfl hz
  | succ n => rfl

theorem carried_any (c : Dev nD) (n : ℕ) (h : n ≤ cfg1.N) :
    carried V c n h ⊢ iprop((others c ∗ ∃ d, owns (c : Thread nD τ) scratch fullShare d) ∗ ∃ r, prngReg c r) := by
  cases n with
  | zero => exact scoped_out c
  | succ n =>
    unfold carried
    iintro ⟨⟨Hr, HS⟩, Hg⟩
    isplitr [Hg]
    · isplitl [Hr]; · iexact Hr
      iexists _; iexact HS
    iexact Hg

/-- The backward call's proof data at the buffer contents `V` it is entered with. -/
def bwdDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => (kept V c t.val t.isLt).1
    | ⟨9, _⟩ => grad9 V c t
    | ⟨10, _⟩ => grad10 V c t
    | ⟨11, _⟩ => grad11 V c t
    | ⟨12, _⟩ => (kept V c t.val t.isLt).2.1
  Φ t := carried V c t.val (Nat.le_of_lt_succ t.isLt)
  q w := Pipeline.shareOf spec1 w
  owed _ := 0

theorem arrays1 (c : Dev nD) (w : Fin cfg1.W) : (bwdDat V c).A w = V c (Pipeline.arrRef spec1 w) := by
  dsimp only [bwdDat]
theorem left1_8 (c : Dev nD) (t : Fin cfg1.N) : (bwdDat V c).after 8 t = (kept V c t.val t.isLt).1 := by dsimp only [bwdDat]
theorem left1_9 (c : Dev nD) (t : Fin cfg1.N) : (bwdDat V c).after 9 t = grad9 V c t := by dsimp only [bwdDat]
theorem left1_10 (c : Dev nD) (t : Fin cfg1.N) : (bwdDat V c).after 10 t = grad10 V c t := by dsimp only [bwdDat]
theorem left1_11 (c : Dev nD) (t : Fin cfg1.N) : (bwdDat V c).after 11 t = grad11 V c t := by dsimp only [bwdDat]
theorem left1_12 (c : Dev nD) (t : Fin cfg1.N) : (bwdDat V c).after 12 t = (kept V c t.val t.isLt).2.1 := by dsimp only [bwdDat]
theorem left1_0 (c : Dev nD) (t : Fin cfg1.N) : (bwdDat V c).after 0 t = blk1 V c 0 t := by dsimp only [bwdDat]
theorem left1_1 (c : Dev nD) (t : Fin cfg1.N) : (bwdDat V c).after 1 t = blk1 V c 1 t := by dsimp only [bwdDat]
theorem left1_2 (c : Dev nD) (t : Fin cfg1.N) : (bwdDat V c).after 2 t = blk1 V c 2 t := by dsimp only [bwdDat]
theorem left1_3 (c : Dev nD) (t : Fin cfg1.N) : (bwdDat V c).after 3 t = blk1 V c 3 t := by dsimp only [bwdDat]
theorem left1_4 (c : Dev nD) (t : Fin cfg1.N) : (bwdDat V c).after 4 t = blk1 V c 4 t := by dsimp only [bwdDat]
theorem left1_5 (c : Dev nD) (t : Fin cfg1.N) : (bwdDat V c).after 5 t = blk1 V c 5 t := by dsimp only [bwdDat]
theorem left1_6 (c : Dev nD) (t : Fin cfg1.N) : (bwdDat V c).after 6 t = blk1 V c 6 t := by dsimp only [bwdDat]
theorem left1_7 (c : Dev nD) (t : Fin cfg1.N) : (bwdDat V c).after 7 t = blk1 V c 7 t := by dsimp only [bwdDat]
theorem found1_0 (c : Dev nD) (t : Fin cfg1.N) (d) : (bwdDat V c).before 0 t d = blk1 V c 0 t :=
  ((bwdDat V c).before_in_eq_fetched 0 rfl (fun _ => rfl) (fun _ _ _ => rfl)
    (fun t => by rw [left1_0]; unfold Dat.blockOf blk1; rw [arrays1]; try rfl) t d).trans
    (by unfold Dat.fetched Dat.blockOf blk1; rw [arrays1]; try rfl)
theorem found1_1 (c : Dev nD) (t : Fin cfg1.N) (d) : (bwdDat V c).before 1 t d = blk1 V c 1 t :=
  ((bwdDat V c).before_in_eq_fetched 1 rfl (fun _ => rfl) (fun _ _ _ => rfl)
    (fun t => by rw [left1_1]; unfold Dat.blockOf blk1; rw [arrays1]; try rfl) t d).trans
    (by unfold Dat.fetched Dat.blockOf blk1; rw [arrays1]; try rfl)
theorem found1_2 (c : Dev nD) (t : Fin cfg1.N) (d) : (bwdDat V c).before 2 t d = blk1 V c 2 t :=
  ((bwdDat V c).before_in_eq_fetched 2 rfl (fun _ => rfl) (fun _ _ _ => rfl)
    (fun t => by rw [left1_2]; unfold Dat.blockOf blk1; rw [arrays1]; try rfl) t d).trans
    (by unfold Dat.fetched Dat.blockOf blk1; rw [arrays1]; try rfl)
theorem found1_3 (c : Dev nD) (t : Fin cfg1.N) (d) : (bwdDat V c).before 3 t d = blk1 V c 3 t :=
  ((bwdDat V c).before_in_eq_fetched 3 rfl (fun _ => rfl) (fun _ _ _ => rfl)
    (fun t => by rw [left1_3]; unfold Dat.blockOf blk1; rw [arrays1]; try rfl) t d).trans
    (by unfold Dat.fetched Dat.blockOf blk1; rw [arrays1]; try rfl)
theorem found1_4 (c : Dev nD) (t : Fin cfg1.N) (d) : (bwdDat V c).before 4 t d = blk1 V c 4 t :=
  ((bwdDat V c).before_in_eq_fetched 4 rfl (fun _ => rfl) (fun _ _ _ => rfl)
    (fun t => by rw [left1_4]; unfold Dat.blockOf blk1; rw [arrays1]; try rfl) t d).trans
    (by unfold Dat.fetched Dat.blockOf blk1; rw [arrays1]; try rfl)
theorem found1_5 (c : Dev nD) (t : Fin cfg1.N) (d) : (bwdDat V c).before 5 t d = blk1 V c 5 t :=
  ((bwdDat V c).before_in_eq_fetched 5 rfl (fun _ => rfl) (fun _ _ _ => rfl)
    (fun t => by rw [left1_5]; unfold Dat.blockOf blk1; rw [arrays1]; try rfl) t d).trans
    (by unfold Dat.fetched Dat.blockOf blk1; rw [arrays1]; try rfl)
theorem found1_6 (c : Dev nD) (t : Fin cfg1.N) (d) : (bwdDat V c).before 6 t d = blk1 V c 6 t :=
  ((bwdDat V c).before_in_eq_fetched 6 rfl (fun _ => rfl) (fun _ _ _ => rfl)
    (fun t => by rw [left1_6]; unfold Dat.blockOf blk1; rw [arrays1]; try rfl) t d).trans
    (by unfold Dat.fetched Dat.blockOf blk1; rw [arrays1]; try rfl)
theorem found1_7 (c : Dev nD) (t : Fin cfg1.N) (d) : (bwdDat V c).before 7 t d = blk1 V c 7 t :=
  ((bwdDat V c).before_in_eq_fetched 7 rfl (fun _ => rfl) (fun _ _ _ => rfl)
    (fun t => by rw [left1_7]; unfold Dat.blockOf blk1; rw [arrays1]; try rfl) t d).trans
    (by unfold Dat.fetched Dat.blockOf blk1; rw [arrays1]; try rfl)
theorem found1_8 (c : Dev nD) (t : Fin cfg1.N) (h : ¬t.val % 8 = 0) (d) : (bwdDat V c).before 8 t d = (before V c t).1 := by
  have hN : t.val < 64 := lt_of_lt_of_eq t.isLt (show cfg1.N = 64 from N_1)
  rw [Dat.before_out_kept _ 8 rfl t (by omega) (Bool.eq_false_iff.mpr fun h => by have := (flush1_8 _).mp h; dsimp only at this; omega)
    (fun _ => rfl) (fun _ _ => rfl)]
  dsimp only [bwdDat]
theorem found1_12 (c : Dev nD) (t : Fin cfg1.N) (h : ¬t.val % 8 = 0) (d) : (bwdDat V c).before 12 t d = (before V c t).2.1 := by
  have hN : t.val < 64 := lt_of_lt_of_eq t.isLt (show cfg1.N = 64 from N_1)
  rw [Dat.before_out_kept _ 12 rfl t (by omega) (Bool.eq_false_iff.mpr fun h => by have := (flush1_12 _).mp h; dsimp only at this; omega)
    (fun _ => rfl) (fun _ _ => rfl)]
  dsimp only [bwdDat]

theorem inv_castSucc (c : Dev nD) (t : Fin cfg1.N) : (bwdDat V c).Φ t.castSucc = carried V c t.val (Nat.le_of_lt t.isLt) := by
  dsimp only [bwdDat]; exact Pipeline.Dat.Φ_castSucc (carried V c) t

def pre1 (c : Dev nD) (t : Fin cfg1.N) : sProp 𝕄 :=
  iprop((bwdDat V c).Φ t.castSucc ∗ (bwdDat V c).owesAt () t.castSucc
    ∗ (∃ d, owns (c : Thread nD τ) (mem1_0 t) fullShare ((bwdDat V c).before 0 t d)) ∗ (∃ d, owns (c : Thread nD τ) (mem1_1 t) fullShare ((bwdDat V c).before 1 t d)) ∗ (∃ d, owns (c : Thread nD τ) (mem1_2 t) fullShare ((bwdDat V c).before 2 t d)) ∗ (∃ d, owns (c : Thread nD τ) (mem1_3 t) fullShare ((bwdDat V c).before 3 t d)) ∗ (∃ d, owns (c : Thread nD τ) (mem1_4 t) fullShare ((bwdDat V c).before 4 t d)) ∗ (∃ d, owns (c : Thread nD τ) (mem1_5 t) fullShare ((bwdDat V c).before 5 t d)) ∗ (∃ d, owns (c : Thread nD τ) (mem1_6 t) fullShare ((bwdDat V c).before 6 t d)) ∗ (∃ d, owns (c : Thread nD τ) (mem1_7 t) fullShare ((bwdDat V c).before 7 t d)) ∗ (∃ d, owns (c : Thread nD τ) (mem1_8 t) fullShare ((bwdDat V c).before 8 t d)) ∗ (∃ d, owns (c : Thread nD τ) (mem1_9 t) fullShare ((bwdDat V c).before 9 t d)) ∗ (∃ d, owns (c : Thread nD τ) (mem1_10 t) fullShare ((bwdDat V c).before 10 t d)) ∗ (∃ d, owns (c : Thread nD τ) (mem1_11 t) fullShare ((bwdDat V c).before 11 t d)) ∗ (∃ d, owns (c : Thread nD τ) (mem1_12 t) fullShare ((bwdDat V c).before 12 t d)))

def post1 (c : Dev nD) (t : Fin cfg1.N) : sProp 𝕄 :=
  iprop((bwdDat V c).Φ t.succ ∗ (bwdDat V c).owesAt () t.succ
    ∗ owns (c : Thread nD τ) (mem1_0 t) fullShare ((bwdDat V c).after 0 t) ∗ owns (c : Thread nD τ) (mem1_1 t) fullShare ((bwdDat V c).after 1 t) ∗ owns (c : Thread nD τ) (mem1_2 t) fullShare ((bwdDat V c).after 2 t) ∗ owns (c : Thread nD τ) (mem1_3 t) fullShare ((bwdDat V c).after 3 t) ∗ owns (c : Thread nD τ) (mem1_4 t) fullShare ((bwdDat V c).after 4 t) ∗ owns (c : Thread nD τ) (mem1_5 t) fullShare ((bwdDat V c).after 5 t) ∗ owns (c : Thread nD τ) (mem1_6 t) fullShare ((bwdDat V c).after 6 t) ∗ owns (c : Thread nD τ) (mem1_7 t) fullShare ((bwdDat V c).after 7 t) ∗ owns (c : Thread nD τ) (mem1_8 t) fullShare ((bwdDat V c).after 8 t) ∗ owns (c : Thread nD τ) (mem1_9 t) fullShare ((bwdDat V c).after 9 t) ∗ owns (c : Thread nD τ) (mem1_10 t) fullShare ((bwdDat V c).after 10 t) ∗ owns (c : Thread nD τ) (mem1_11 t) fullShare ((bwdDat V c).after 11 t) ∗ owns (c : Thread nD τ) (mem1_12 t) fullShare ((bwdDat V c).after 12 t))

set_option maxHeartbeats 4000000 in
/-- The backward body at any grid point. -/
theorem bwd_point (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2, found1_3, found1_4, found1_5, found1_6, found1_7]
  rw [show (bwdDat V c).owesAt () t.succ = (bwdDat V c).owesAt () t.castSucc from rfl,
    left1_0, left1_1, left1_2, left1_3, left1_4, left1_5, left1_6, left1_7, left1_8, left1_9, left1_10, left1_11, left1_12]
  rw [show (bwdDat V c).Φ t.succ = iprop((others c ∗ owns (c : Thread nD τ) scratch fullShare (kept V c t.val t.isLt).2.2) ∗ ∃ r, prngReg c r) from rfl,
    inv_castSucc V c t]
  by_cases h : t.val % 8 = 0
  · rw [kept_first V c t h]
    unfold grad9 grad10 grad11
    rw [dif_pos h, dif_pos h, dif_pos h]
    unfold keptFirst first8 first9 first10 first11 first12 firsts
    dsimp only
    refine (sep_mono (carried_any V c _ _) .rfl).trans ?_
    iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid1.coords t) _ _ _ _ _ _ _ _ _ _ _ _ _ _ _ _ _ _ _ _ _ _ _ _ _ _ _ _ ((taken_iff t).mpr h) (blk1 V c 0 t) (blk1 V c 1 t) (blk1 V c 2 t) (blk1 V c 3 t) (blk1 V c 4 t) (blk1 V c 5 t) (blk1 V c 6 t) (blk1 V c 7 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, ⟨%e8, H8⟩, ⟨%e9, H9⟩, ⟨%e10, H10⟩, ⟨%e11, H11⟩, ⟨%e12, H12⟩, ⟨%es, HS⟩⟩
    isplitl [Hr HS Hg]
    · isplitr [Hg]
      · isplitl [Hr]; · iexact Hr
        unfold owns; iexists _; isplitr
        swap; · iexact HS
        ipureintro; exact View.read_writes_of_cover _ _ _ _ _ (first_cover_s c _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (first_cover_8 c _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (first_cover_9 c _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (first_cover_10 c _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (first_cover_11 c _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (first_cover_12 c _ _ _ _ _ _ _ _ _ _ _ _ _ _ _ _ _ _ _ _ _ _ _ _ _ _ _ _ _ _ _ _ _ _ _ _ _ _)
  · have hz : t.val ≠ 0 := fun e => h (by rw [e])
    rw [carried_pos V c _ _ hz, kept_later V c t h]
    simp only [found1_8 V c t h, found1_12 V c t h]
    unfold grad9 grad10 grad11
    rw [dif_neg h, dif_neg h, dif_neg h]
    unfold keptLater later8 later9 later10 later11 later12
    dsimp only
    iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLater c (grid1.coords t) _ _ _ _ _ _ _ _ _ _ _ _ _ _ _ _ _ _ _ _ _ _ _ _ _ _ _ _ (fun h' => h ((taken_iff t).mp h')) (blk1 V c 0 t) (blk1 V c 1 t) (blk1 V c 2 t) (blk1 V c 3 t) (blk1 V c 4 t) (blk1 V c 5 t) (blk1 V c 6 t) (blk1 V c 7 t) (before V c t).1 (before V c t).2.1 (before V c t).2.2).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [HS]; · iexact HS
    iintro ⟨H0, H1, H2, H3, H4, H5, H6, H7, H8, ⟨%e9, H9⟩, ⟨%e10, H10⟩, ⟨%e11, H11⟩, H12, HS⟩
    isplitl [Hr HS Hg]
    · isplitr [Hg]
      · isplitl [Hr]; · iexact Hr
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rfl
    isplitl [H9]
    · unfold owns; iexists _; isplitr
      swap; · iexact H9
      ipureintro; exact View.read_writes_of_cover _ _ _ _ _ (later_cover_9 c _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (later_cover_10 c _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (later_cover_11 c _ _ _ _ _ _ _ _ _ _ _ _ _ _ _ _ _ _ _ _ _ _ _ _ _ _ _ _ _ _ _ _ _ _ _ _ _ _ _ _ _)
    unfold owns; iexists _; isplitr
    swap; · iexact H12
    ipureintro; rfl

theorem row1 (t : Fin cfg1.N) : defs₀ (F := F) .tc cfg1.body (cfg1.bodyArgs t (cfg1.slots t)) = bodyAt1 t := by
  unfold defs₀; rw [Defs.onTc_tc]

theorem bwd_body (c : Dev nD) : BodyObligation (bwdDat (F := F) V c) (defs₀ (F := F)) Variants.none () Set.univ := fun t => by
  rw [bigSep_W1, bigSep_W1, row1]
  exact triple_restated (bwd_point V c t) rfl .rfl fun _ => .rfl

theorem inv_in (c : Dev nD) : Pipeline.ΦA spec1 c ⊢ (bwdDat V c).Φ 0 := by
  rw [show (bwdDat V c).Φ 0 = Pipeline.ΦA spec1 c from rfl]

theorem inv_out (c : Dev nD) : (bwdDat V c).Φ (Fin.last cfg1.N) ⊢ Pipeline.ΦA spec1 c := by
  rw [show (bwdDat V c).Φ (Fin.last cfg1.N) = carried V c cfg1.N le_rfl from rfl]
  exact (carried_any V c _ _).trans (scoped_in c)

end Data

end Cert.KernelIdeal.Fox
-- ==== Proof.KernelIdeal.Run.lean ====
module

public import proofs.«01_k».proof.Proof.KernelIdeal.Fwd
public import proofs.«01_k».proof.Proof.KernelIdeal.Bwd
public import Idealize.ShloMosaic.Lib.Pipeline.RegionsLoop
public import Idealize.ShloMosaic.Lib.Pipeline.FrameSuffix

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2]

/-! # The buffers along the run -/

theorem host_fresh : (hostOps0 : List (HloOp τ sig (Elt F))).Forall fun op => op.fresh = ∅ := by
  simp only [List.Forall]; repeat' constructor
abbrev hostWrites : List (Ref sig .tc) := [main_v0, main_v1, main_v2, main_v3]
theorem host_writes : (hostOps0 : List (HloOp τ sig (Elt F))).Forall fun op => op.writes ⊆ (hostWrites.map (Proc.devRef (τ := τ) .tc)).toFinset :=
  StableHlo.forall_writes_sub_of_map rfl

/-- The buffers at the launch. -/
abbrev atStart : Dev nD → Valuation τ sig (Elt F) := fun c b => (s₀ m ρ).mem ((c : Dev nD), b)
/-- The buffers the forward call is entered with: the host's transposed gate sums written. -/
abbrev atFwd : Dev nD → Valuation τ sig (Elt F) := fun c => StableHlo.after hostOps0 (atStart m ρ c)
theorem atFwd_keeps (c : Dev nD) (r : Ref sig .tc) (h : r ∉ hostWrites) : atFwd m ρ c (Proc.devRef .tc r) = atStart m ρ c (Proc.devRef .tc r) :=
  StableHlo.after_of_writes_sub hostOps0 _ host_writes h
theorem args_unwritten : ∀ a ∈ argRefs, a ∉ hostWrites := ListAll.forall_mem_of_all_decide (by decide +kernel)
theorem atFwd_args (c : Dev nD) : ∀ a ∈ argRefs, atFwd m ρ c (Proc.devRef .tc a) = m ((c : Thread nD τ).loc a) :=
  fun a ha => (atFwd_keeps m ρ c a (args_unwritten a ha)).trans rfl

/-- The buffers after the forward call: its arrays at what its grid leaves, every other buffer untouched. -/
def atBwd (c : Dev nD) : Valuation τ sig (Elt F) :=
  Pipeline.withArrays spec0 c (atFwd m ρ c) fun w => (fwdDat (fun c b => atFwd m ρ c b) c).arrAt w cfg0.N
theorem atBwd_arr (c : Dev nD) (w : Fin cfg0.W) :
    atBwd m ρ c (Proc.devRef .tc (Pipeline.arrRef spec0 w)) = (fwdDat (fun c b => atFwd m ρ c b) c).arrAt w cfg0.N := by
  unfold atBwd; exact (fwdDat (fun c b => atFwd m ρ c b) c).withArrays_arrAt launch₀0.sharedIn _ (arrays0 (fun c b => atFwd m ρ c b) c) w
theorem atBwd_other (c : Dev nD) (b : Ref sig .tc) (hb : ∀ w, Pipeline.arrRef spec0 w ≠ b) :
    atBwd m ρ c (Proc.devRef .tc b) = atFwd m ρ c (Proc.devRef .tc b) := by
  unfold atBwd; exact Pipeline.withArrays_of_ne spec0 c _ _ b hb
/-- A buffer that is no result of the forward call is as before it. -/
theorem atBwd_keeps (c : Dev nD) (r : Ref sig .tc) (h : ∀ w : Fin cfg0.W, Pipeline.arrRef spec0 w = r → (cfg0.win w).isOut = false) :
    atBwd m ρ c (Proc.devRef .tc r) = atFwd m ρ c (Proc.devRef .tc r) := by
  by_cases hw : ∃ w : Fin cfg0.W, Pipeline.arrRef spec0 w = r
  · obtain ⟨w, rfl⟩ := hw
    exact (atBwd_arr m ρ c w).trans (((fwdDat (fun c b => atFwd m ρ c b) c).arrAt_in w (h w rfl) _).trans (arrays0 (fun c b => atFwd m ρ c b) c w))
  · exact atBwd_other m ρ c r fun w e => hw ⟨w, e⟩
theorem atBwd_ins : ∀ a ∈ argRefs, ∀ w : Fin cfg0.W, Pipeline.arrRef spec0 w = a → (cfg0.win w).isOut = false :=
  ListAll.forall_mem_of_all_decide (by decide +kernel)
theorem atBwd_args (c : Dev nD) : ∀ a ∈ argRefs, atBwd m ρ c (Proc.devRef .tc a) = m ((c : Thread nD τ).loc a) :=
  fun a ha => (atBwd_keeps m ρ c a (atBwd_ins a ha)).trans (atFwd_args m ρ c a ha)
theorem atBwd_exit (c : Dev nD) (w : Fin cfg0.W) :
    (fwdDat (fun c b => atFwd m ρ c b) c).arrAt w cfg0.N = (fun b : Ref sig .tc => atBwd m ρ c b) (Pipeline.arrRef spec0 w) :=
  (atBwd_arr m ρ c w).symm
theorem atBwd_rest (c : Dev nD) : ∀ b, b ∉ Finset.univ.image (Pipeline.arrRef spec0) → atBwd m ρ c (Proc.devRef .tc b) = atFwd m ρ c (Proc.devRef .tc b) :=
  fun b hb => atBwd_other m ρ c b fun w e => hb (Finset.mem_image.mpr ⟨w, Finset.mem_univ _, e⟩)

/-- The buffers after the backward call: its arrays at what its grid leaves, every other buffer untouched. -/
def atEnd (c : Dev nD) : Valuation τ sig (Elt F) :=
  Pipeline.withArrays spec1 c (atBwd m ρ c) fun w => (bwdDat (fun c b => atBwd m ρ c b) c).arrAt w cfg1.N
theorem atEnd_arr (c : Dev nD) (w : Fin cfg1.W) :
    atEnd m ρ c (Proc.devRef .tc (Pipeline.arrRef spec1 w)) = (bwdDat (fun c b => atBwd m ρ c b) c).arrAt w cfg1.N := by
  unfold atEnd; exact (bwdDat (fun c b => atBwd m ρ c b) c).withArrays_arrAt launch₀1.sharedIn _ (arrays1 (fun c b => atBwd m ρ c b) c) w
theorem atEnd_other (c : Dev nD) (b : Ref sig .tc) (hb : ∀ w, Pipeline.arrRef spec1 w ≠ b) :
    atEnd m ρ c (Proc.devRef .tc b) = atBwd m ρ c (Proc.devRef .tc b) := by
  unfold atEnd; exact Pipeline.withArrays_of_ne spec1 c _ _ b hb
/-- A buffer that is no result of the backward call is as before it. -/
theorem atEnd_keeps (c : Dev nD) (r : Ref sig .tc) (h : ∀ w : Fin cfg1.W, Pipeline.arrRef spec1 w = r → (cfg1.win w).isOut = false) :
    atEnd m ρ c (Proc.devRef .tc r) = atBwd m ρ c (Proc.devRef .tc r) := by
  by_cases hw : ∃ w : Fin cfg1.W, Pipeline.arrRef spec1 w = r
  · obtain ⟨w, rfl⟩ := hw
    exact (atEnd_arr m ρ c w).trans (((bwdDat (fun c b => atBwd m ρ c b) c).arrAt_in w (h w rfl) _).trans (arrays1 (fun c b => atBwd m ρ c b) c w))
  · exact atEnd_other m ρ c r fun w e => hw ⟨w, e⟩
theorem atEnd_ins : ∀ a ∈ argRefs, ∀ w : Fin cfg1.W, Pipeline.arrRef spec1 w = a → (cfg1.win w).isOut = false :=
  ListAll.forall_mem_of_all_decide (by decide +kernel)
theorem atEnd_args (c : Dev nD) : ∀ a ∈ argRefs, atEnd m ρ c (Proc.devRef .tc a) = m ((c : Thread nD τ).loc a) :=
  fun a ha => (atEnd_keeps m ρ c a (atEnd_ins a ha)).trans (atBwd_args m ρ c a ha)
theorem atEnd_exit (c : Dev nD) (w : Fin cfg1.W) :
    (bwdDat (fun c b => atBwd m ρ c b) c).arrAt w cfg1.N = (fun b : Ref sig .tc => atEnd m ρ c b) (Pipeline.arrRef spec1 w) :=
  (atEnd_arr m ρ c w).symm
theorem atEnd_rest (c : Dev nD) : ∀ b, b ∉ Finset.univ.image (Pipeline.arrRef spec1) → atEnd m ρ c (Proc.devRef .tc b) = atBwd m ρ c (Proc.devRef .tc b) :=
  fun b hb => atEnd_other m ρ c b fun w e => hb (Finset.mem_image.mpr ⟨w, Finset.mem_univ _, e⟩)

/-! # The segments -/

abbrev admits : (p : Fin 2) → (pcfgs (F := F) p).Adm := fun p => (cfgs p).toPCfg_adm
/-- Each call's proof data, at the buffers it is entered with. -/
def dats : (p : Fin 2) → (c : Dev nD) → Dat τ (Elt F) Unit ℕ (UR sig nD τ) ℕ (Pipeline.pin (pcfgs (F := F)) admits p) c
  | ⟨0, _⟩ => fun c => fwdDat (fun c b => atFwd m ρ c b) c
  | ⟨1, _⟩ => fun c => bwdDat (fun c b => atBwd m ρ c b) c
abbrev noLevels : GSem nD τ sig → Finset Unit := fun _ => ∅
abbrev zeroLevel : GSem nD τ sig → Unit → ℕ := fun _ _ => 0
/-- What rides along beside the buffers. -/
abbrev ride (c : Dev nD) : sProp 𝕄 := iprop((∃ r, prngReg c r) ∗ ∃ W, owes (c : Thread nD τ) (0 : CellTallies nD τ sig Unit) W)
abbrev hostSeg : Pipeline.HostSeg (Name := ℕ) (U := UR sig nD τ) (pcfgs (F := F)) defs₀ Variants.none noLevels zeroLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp host_fresh) op h) (atStart m ρ) ride

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the run ends in. -/
abbrev final (c : Dev nD) : sProp 𝕄 := iprop(StableHlo.held (c : Thread nD τ) (Pipeline.ucRefs τ sig) (atEnd m ρ c) ∗ ∃ r, prngReg c r)

set_option backward.isDefEq.respectTransparency.types false in
/-- The forward call as a segment of the run, from the buffers `atFwd` to the buffers `atBwd`. -/
def region0 : Pipeline.RegionSeg (pcfgs (F := F)) admits (dats m ρ) () defs₀ Variants.none noLevels zeroLevel 0 where
  win := launch₀0.win
  block_pos := launch₀0.block_pos
  stage_whole := launch₀0.stage_whole
  K := PEmpty
  osem k := k.elim
  ho := Pipeline.OwnSemFacts.none _
  hbody c := (fwd_body (fun c b => atFwd m ρ c b) c).loose
  hwaits := Pipeline.hwaits_of_owed_zero _ _ _ _ noLevels zeroLevel 0 fun _ _ => rfl
  pre c := iprop(StableHlo.held (c : Thread nD τ) (Pipeline.ucRefs τ sig) (atFwd m ρ c) ∗ ride c)
  post c := iprop(StableHlo.held (c : Thread nD τ) (Pipeline.ucRefs τ sig) (atBwd m ρ c) ∗ ride c)
  X c := iprop(∃ r, prngReg c r)
  Y c := iprop(∃ r, prngReg c r)
  Z c := Pipeline.unscopedRest (Ix := Unit) (Name := ℕ) (U := UR sig nD τ) (Lvl := ℕ) spec0 c (fun b => atFwd m ρ c b)
  hentry c := by
    rw [Pipeline.ownSems0_none]
    have hsplit := Pipeline.arrays_of_unscopedBufs_shared (p := 0) (pcfgs (F := F)) admits (dats m ρ) launch₀0.win launch₀0.sharedIn launch₀0.arr_whole c
      (fun _ _ => rfl) (fun b => atFwd m ρ c b) (arrays0 (fun c b => atFwd m ρ c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) admits (Ix := Unit) (Name := ℕ) (U := UR sig nD τ) (Lvl := ℕ)
      launch₀0.win launch₀0.sharedIn launch₀0.arr_whole c (dats m ρ) (fun _ _ => rfl)
      (fun b => atFwd m ρ c b) (fun b => atBwd m ρ c b) ((dats m ρ 0 c).arrAt · cfg0.N) (atBwd_exit m ρ c) (atBwd_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment of the run, from the buffers `atBwd` to the buffers `atEnd`. -/
def region1 : Pipeline.RegionSeg (pcfgs (F := F)) admits (dats m ρ) () defs₀ Variants.none noLevels zeroLevel 1 where
  win := launch₀1.win
  block_pos := launch₀1.block_pos
  stage_whole := launch₀1.stage_whole
  K := PEmpty
  osem k := k.elim
  ho := Pipeline.OwnSemFacts.none _
  hbody c := (bwd_body (fun c b => atBwd m ρ c b) c).loose
  hwaits := Pipeline.hwaits_of_owed_zero _ _ _ _ noLevels zeroLevel 1 fun _ _ => rfl
  pre c := iprop(StableHlo.held (c : Thread nD τ) (Pipeline.ucRefs τ sig) (atBwd m ρ c) ∗ ride c)
  post c := iprop(final m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => atBwd m ρ c b)
  hentry c := by
    rw [Pipeline.ownSems0_none]
    have hsplit := Pipeline.arrays_of_unscopedBufs_shared (p := 1) (pcfgs (F := F)) admits (dats m ρ) launch₀1.win launch₀1.sharedIn launch₀1.arr_whole c
      (fun _ _ => rfl) (fun b => atBwd m ρ c b) (arrays1 (fun c b => atBwd m ρ c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv_in (fun c b => atBwd m ρ c b) c); unfold Pipeline.ΦA
    iintro ⟨Hp, -, Hr⟩
    isplitl [Hr]; · iexact Hr
    iexact Hp
  hout c := by
    rw [Pipeline.ownSems0_none]; refine (inv_out (fun c b => atBwd m ρ c b) c).trans ?_; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) admits (Ix := Unit) (Name := ℕ) (U := UR sig nD τ) (Lvl := ℕ)
      launch₀1.win launch₀1.sharedIn launch₀1.arr_whole c (dats m ρ) (fun _ _ => rfl)
      (fun b => atBwd m ρ c b) (fun b => atEnd m ρ c b) ((dats m ρ 1 c).arrAt · cfg1.N) (atEnd_exit m ρ c) (atEnd_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The run -/

abbrev segments : List (Pipeline.Seg (pcfgs (F := F)) admits (dats m ρ) () defs₀ Variants.none noLevels zeroLevel) :=
  [.host (hostSeg m ρ), .region (region0 m ρ), .region (region1 m ρ)]

theorem main_eq (c : Dev nD) : main (F := F) c = Pipeline.Seg.run (segments m ρ) := (main_chain c).trans (by chain_rfl)

theorem all_scoped : ∀ sm : SemLoc sig, sm.isScoped .tc = true := by decide

set_option backward.isDefEq.respectTransparency.types false in
/-- Every run from memory `m` ends, with every buffer the calls do not own at `atEnd` and every semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = atEnd m ρ c b) ∧ r.2.sem = fun _ => 0) :=
  Pipeline.θ_run_regions_kit_sems (pcfgs (F := F)) admits (dats m ρ) () cellOf_inj emb₁ defs₀ Variants.none noLevels zeroLevel m ρ main (segments m ρ)
    (fun c Q => by rw [main_eq m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atStart m ρ c) ∗ ride c)) (Tₙ := final m ρ)
    (hch := ⟨fun _ => .rfl, fun _ => .rfl, fun _ => .rfl, fun _ => .rfl⟩)
    (hinit := by
      refine Pipeline.initEach noLevels zeroLevel fun c => ?_
      rw [show unscopedBufs c (fun b => m ((c : Thread nD τ).loc b)) = StableHlo.held (c : Thread nD τ) (Pipeline.ucRefs τ sig) (atStart m ρ c)
        from Pipeline.unscopedBufs_held c (atStart m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h hz => ⟨h, funext fun g => hz g (.inr (all_scoped g.2))⟩)

/-- The arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_unscoped main_arg0 (by decide))).trans (atEnd_args m ρ c main_arg0 (by decide)),
     (h.1 c _ (mem_unscoped main_arg1 (by decide))).trans (atEnd_args m ρ c main_arg1 (by decide)),
     (h.1 c _ (mem_unscoped main_arg2 (by decide))).trans (atEnd_args m ρ c main_arg2 (by decide))⟩, h.2⟩) (run m ρ)

end Cert.KernelIdeal.Fox
-- ==== Proof.Spec.lean ====
module

public import Idealize.ShloMosaic.PureOps.Ideal
public import Idealize.ShloMosaic.Lib.IdealHost

@[expose] public section

noncomputable section

namespace Cert.Fox

open Idealize.ShloMosaic

/-! ## One head of the forgetting attention over the reals -/

/-- The inputs of one head: queries, keys, values, the cotangent of the output and the cumulated log forget gates. -/
structure Head where
  q : ℕ → Fin 128 → ℝ
  k : ℕ → Fin 128 → ℝ
  v : ℕ → Fin 128 → ℝ
  g : ℕ → Fin 128 → ℝ
  c : ℕ → ℝ

/-- The scale of the scores: the literal both programs carry. -/
def sc : ℝ := (Ideal.ofBits .f32 0x3DB504F3#32 : EReal).toReal

namespace Head

variable (H : Head)

def score (i j : ℕ) : ℝ := (∑ d, H.q i d * H.k j d) * sc + H.c i - H.c j

/-- The unnormalised weight of position `j` for position `i`. -/
def wt (i j : ℕ) : ℝ := if j ≤ i then Real.exp (H.score i j) else 0

def tot (i : ℕ) : ℝ := ∑ j ∈ Finset.range 4096, H.wt i j

def pr (i j : ℕ) : ℝ := H.wt i j / H.tot i

def out (i : ℕ) (d : Fin 128) : ℝ := ∑ j ∈ Finset.range 4096, H.pr i j * H.v j d

def lse (i : ℕ) : ℝ := Real.log (H.tot i)

/-- The row sum of cotangent against output. -/
def dl (i : ℕ) : ℝ := ∑ d, H.g i d * H.out i d

def gv (i j : ℕ) : ℝ := ∑ d, H.g i d * H.v j d

/-- The cotangent of the scores. -/
def ds (i j : ℕ) : ℝ := H.pr i j * (H.gv i j - H.dl i)

def dq (i : ℕ) (d : Fin 128) : ℝ := (∑ j ∈ Finset.range 4096, H.ds i j * H.k j d) * sc
def dk (j : ℕ) (d : Fin 128) : ℝ := (∑ i ∈ Finset.range 4096, H.ds i j * H.q i d) * sc
def dv (j : ℕ) (d : Fin 128) : ℝ := ∑ i ∈ Finset.range 4096, H.pr i j * H.g i d
def dck (j : ℕ) : ℝ := -∑ i ∈ Finset.range 4096, H.ds i j
def dcq (i : ℕ) : ℝ := ∑ j ∈ Finset.range 4096, H.ds i j

theorem wt_nonneg (i j : ℕ) : 0 ≤ H.wt i j := by
  unfold wt; split
  · exact (Real.exp_pos _).le
  · exact le_rfl

theorem wt_of_lt {i j : ℕ} (h : i < j) : H.wt i j = 0 := if_neg (by omega)
theorem wt_of_le {i j : ℕ} (h : j ≤ i) : H.wt i j = Real.exp (H.score i j) := if_pos h

theorem tot_pos {i : ℕ} (hi : i < 4096) : 0 < H.tot i :=
  Finset.sum_pos' (fun j _ => H.wt_nonneg i j) ⟨i, Finset.mem_range.2 hi, by rw [H.wt_of_le le_rfl]; exact Real.exp_pos _⟩

/-- The total over the positions up to the end of the block that holds `i`. -/
theorem tot_eq {i n : ℕ} (hi : i < n) (hn : n ≤ 4096) : H.tot i = ∑ j ∈ Finset.range n, H.wt i j := by
  refine (Finset.sum_subset (Finset.range_mono hn) fun j _ hj => H.wt_of_lt ?_).symm
  rw [Finset.mem_range] at hj; omega

theorem pr_of_lt {i j : ℕ} (h : i < j) : H.pr i j = 0 := by rw [pr, H.wt_of_lt h, zero_div]
theorem ds_of_lt {i j : ℕ} (h : i < j) : H.ds i j = 0 := by rw [ds, H.pr_of_lt h, zero_mul]

theorem out_eq {i n : ℕ} (hi : i < n) (hn : n ≤ 4096) (d : Fin 128) :
    H.out i d = (∑ j ∈ Finset.range n, H.wt i j * H.v j d) / H.tot i := by
  rw [out, Finset.sum_div]
  refine (Finset.sum_subset (Finset.range_mono hn) fun j _ hj => ?_).symm.trans (Finset.sum_congr rfl fun j _ => ?_)
  · rw [Finset.mem_range] at hj; rw [H.pr_of_lt (by omega), zero_mul]
  · rw [pr]; ring

/-- The probability as the exponential of the score less the logarithm of the total. -/
theorem pr_eq_exp {i j : ℕ} (hi : i < 4096) (h : j ≤ i) : H.pr i j = Real.exp (H.score i j - H.lse i) := by
  rw [pr, H.wt_of_le h, lse, Real.exp_sub, Real.exp_log (H.tot_pos hi)]

end Head

/-! ## Sums over blocks of 512 -/

theorem sum_range_block (f : ℕ → ℝ) (b : ℕ) :
    ∑ j ∈ Finset.range ((b + 1) * 512), f j = ∑ j ∈ Finset.range (b * 512), f j + ∑ s : Fin 512, f (b * 512 + s.val) := by
  rw [add_mul, one_mul, Finset.sum_range_add, Finset.sum_range (fun x => f (b * 512 + x))]

/-! ## Extended reals that are real -/

theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem ofBits_neg_inf : Ideal.ofBits .f32 0xFF800000#32 = (⊥ : EReal) := by simp [Ideal.ofBits, Ideal.ieee]
theorem ofBits_inf : Ideal.ofBits .f32 0x7F800000#32 = (⊤ : EReal) := by simp [Ideal.ofBits, Ideal.ieee]

theorem ofBits_sc : Ideal.ofBits .f32 0x3DB504F3#32 = (sc : EReal) := by
  unfold sc
  refine (EReal.coe_toReal ?_ ?_).symm <;> simp [Ideal.ofBits, Ideal.ieee] <;> norm_cast

theorem exp_coe' (r : ℝ) : Ideal.exp (r : EReal) = ((Real.exp r : ℝ) : EReal) := rfl

theorem exp_bot : Ideal.exp (⊥ : EReal) = 0 := rfl

theorem log_coe' {r : ℝ} (h : 0 < r) : Ideal.log (r : EReal) = ((Real.log r : ℝ) : EReal) := by
  show (if r ≤ 0 then (⊥ : EReal) else _) = _
  rw [if_neg (not_le.2 h)]

theorem div_coe' (x : ℝ) {y : ℝ} (h : y ≠ 0) : Ideal.div (x : EReal) (y : EReal) = ((x / y : ℝ) : EReal) := by
  rw [Ideal.div_coe h, ← EReal.coe_mul]; congr 1; ring

/-! ## The online softmax, one row -/

/-- A carried entry `x` against its running maximum `m`: nothing seen yet, or the weighted sum `X` scaled down by the maximum. -/
def Row (m x : EReal) (X : ℝ) : Prop :=
  (m = ⊥ ∧ x = 0 ∧ X = 0) ∨ ∃ M : ℝ, m = (M : EReal) ∧ x = ((X * Real.exp (-M) : ℝ) : EReal)

/-- A score `t` with its weight `a`: masked away, or real. -/
def Wt (t : EReal) (a : ℝ) : Prop := (t = ⊥ ∧ a = 0) ∨ ∃ u : ℝ, t = (u : EReal) ∧ a = Real.exp u

theorem fold_max_real {ι : Type*} (s : Finset ι) (t : ι → EReal) (a : ι → ℝ) (h : ∀ i ∈ s, Wt (t i) (a i)) :
    (s.fold max (⊥ : EReal) t = ⊥ ∧ ∀ i ∈ s, a i = 0) ∨ ∃ M : ℝ, s.fold max (⊥ : EReal) t = (M : EReal) := by
  classical
  induction s using Finset.induction_on with
  | empty => exact .inl ⟨by simp, by simp⟩
  | insert b s hb ih =>
    rw [Finset.fold_insert hb]
    have hs := ih fun i hi => h i (Finset.mem_insert_of_mem hi)
    rcases h b (Finset.mem_insert_self b s) with ⟨ht, ha⟩ | ⟨u, ht, ha⟩
    · rw [ht, max_eq_right bot_le]
      rcases hs with ⟨h1, h2⟩ | h1
      · exact .inl ⟨h1, fun i hi => by rcases Finset.mem_insert.1 hi with rfl | hi; exacts [ha, h2 i hi]⟩
      · exact .inr h1
    · rcases hs with ⟨h1, -⟩ | ⟨M, h1⟩
      · exact .inr ⟨u, by rw [h1, ht, max_eq_left bot_le]⟩
      · refine .inr ⟨max u M, ?_⟩
        rw [h1, ht]; exact (EReal.coe_strictMono.monotone.map_max).symm

/-- The new running maximum is real as soon as one score of the block is. -/
theorem new_max {ι : Type*} [Fintype ι] {m x : EReal} {X : ℝ} (hm : Row m x X) {t : ι → EReal} {a : ι → ℝ} (h : ∀ i, Wt (t i) (a i))
    (hne : ∃ i, a i ≠ 0) : ∃ M : ℝ, max m (Finset.univ.fold max (⊥ : EReal) t) = (M : EReal) := by
  rcases fold_max_real Finset.univ t a (fun i _ => h i) with ⟨-, h2⟩ | ⟨M, hM⟩
  · obtain ⟨i, hi⟩ := hne; exact absurd (h2 i (Finset.mem_univ i)) hi
  · rcases hm with ⟨rfl, -, -⟩ | ⟨M', rfl, -⟩
    · exact ⟨M, by rw [hM, max_eq_right bot_le]⟩
    · refine ⟨max M' M, ?_⟩
      rw [hM]; exact (EReal.coe_strictMono.monotone.map_max).symm

theorem wt_exp {t : EReal} {a : ℝ} (h : Wt t a) (M : ℝ) : Ideal.exp (t - (M : EReal)) = ((a * Real.exp (-M) : ℝ) : EReal) := by
  rcases h with ⟨rfl, rfl⟩ | ⟨u, rfl, rfl⟩
  · rw [EReal.bot_sub, exp_bot, zero_mul, EReal.coe_zero]
  · rw [← EReal.coe_sub, exp_coe', sub_eq_add_neg, Real.exp_add]

theorem row_scale {m x : EReal} {X : ℝ} (h : Row m x X) (M : ℝ) : Ideal.exp (m - (M : EReal)) * x = ((X * Real.exp (-M) : ℝ) : EReal) := by
  rcases h with ⟨rfl, rfl, rfl⟩ | ⟨M', rfl, rfl⟩
  · rw [mul_zero, zero_mul, EReal.coe_zero]
  · rw [← EReal.coe_sub, exp_coe', ← EReal.coe_mul, sub_eq_add_neg, Real.exp_add]
    congr 1
    have : Real.exp M' * Real.exp (-M') = 1 := by rw [← Real.exp_add]; simp
    calc _ = X * Real.exp (-M) * (Real.exp M' * Real.exp (-M')) := by ring
      _ = _ := by rw [this, mul_one]

/-- One block more. -/
theorem row_step {ι : Type*} [Fintype ι] {m x : EReal} {X : ℝ} (h : Row m x X) {t : ι → EReal} {a : ι → ℝ} (ht : ∀ i, Wt (t i) (a i))
    {M : ℝ} (v : ι → ℝ) :
    Row (M : EReal) (Ideal.exp (m - (M : EReal)) * x + ∑ i, Ideal.exp (t i - (M : EReal)) * ((v i : ℝ) : EReal)) (X + ∑ i, a i * v i) := by
  refine .inr ⟨M, rfl, ?_⟩
  rw [row_scale h]
  simp only [wt_exp (ht _), ← EReal.coe_mul, sum_coe, ← EReal.coe_add]
  congr 1
  rw [add_mul, Finset.sum_mul]
  congr 1
  exact Finset.sum_congr rfl fun i _ => by ring

theorem row_step_one {ι : Type*} [Fintype ι] {m x : EReal} {X : ℝ} (h : Row m x X) {t : ι → EReal} {a : ι → ℝ} (ht : ∀ i, Wt (t i) (a i))
    {M : ℝ} :
    Row (M : EReal) (Ideal.exp (m - (M : EReal)) * x + ∑ i, Ideal.exp (t i - (M : EReal))) (X + ∑ i, a i) := by
  simpa using row_step h ht (M := M) fun _ => (1 : ℝ)

/-- The end of the online softmax: dividing two carried entries. -/
theorem row_div {m x y : EReal} {X Y : ℝ} (hx : Row m x X) (hy : Row m y Y) (hY : 0 < Y) : Ideal.div x y = ((X / Y : ℝ) : EReal) := by
  rcases hy with ⟨-, -, rfl⟩ | ⟨M, rfl, rfl⟩
  · exact absurd hY (lt_irrefl _)
  · rcases hx with ⟨h, -, -⟩ | ⟨M', h, rfl⟩
    · exact absurd h (EReal.coe_ne_bot M)
    · obtain rfl := EReal.coe_injective h
      have he := Real.exp_pos (-M)
      rw [div_coe' _ (mul_pos hY he).ne', mul_div_mul_right _ _ he.ne']

/-- The end of the online softmax: the maximum put back on the logarithm. -/
theorem row_log {m y : EReal} {Y : ℝ} (hy : Row m y Y) (hY : 0 < Y) : m + Ideal.log y = ((Real.log Y : ℝ) : EReal) := by
  rcases hy with ⟨-, -, rfl⟩ | ⟨M, rfl, rfl⟩
  · exact absurd hY (lt_irrefl _)
  · have he := Real.exp_pos (-M)
    rw [log_coe' (mul_pos hY he), ← EReal.coe_add, Real.log_mul hY.ne' he.ne', Real.log_exp]
    congr 1; ring

end Cert.Fox

end

end
-- ==== Proof.Inputs.lean ====
module

public import proofs.«01_k».proof.Proof.Spec
public import Idealize.ShloMosaic.Lib.Pointwise

@[expose] public section

set_option maxRecDepth 16384

noncomputable section

namespace Cert.Fox

open Idealize.ShloMosaic Idealize.ShloMosaic.TcCoe Idealize.SL.Sem

/-- The three arguments as arrays of extended reals: the projected rows, the cumulated log gates, the cotangents. -/
structure Args where
  A : FVec Ideal (⟨2, ![4096, 3072]⟩ : Shape) .bf16
  C : FVec Ideal (⟨2, ![4096, 8]⟩ : Shape) .f32
  D : FVec Ideal (⟨2, ![4096, 2048]⟩ : Shape) .f32

/-- Every entry is a real number. -/
structure Args.Real (a : Args) : Prop where
  hA : ∀ x, ((a.A x : EReal).toReal : EReal) = a.A x
  hC : ∀ x, ((a.C x : EReal).toReal : EReal) = a.C x
  hD : ∀ x, ((a.D x : EReal).toReal : EReal) = a.D x

namespace Args

variable (a : Args)

/-- Row `i` of an array, zero past its end. -/
def row {n : ℕ} {φ : FTy} (X : FVec Ideal (⟨2, ![4096, n]⟩ : Shape) φ) (i : ℕ) (l : Fin n) : ℝ :=
  if hi : i < 4096 then (X (ix2 (⟨i, hi⟩ : Fin 4096) l) : EReal).toReal else 0

theorem row_fin {n : ℕ} {φ : FTy} (X : FVec Ideal (⟨2, ![4096, n]⟩ : Shape) φ) (hX : ∀ x, ((X x : EReal).toReal : EReal) = X x)
    (i : Fin 4096) (l : Fin n) : X (ix2 i l) = ((row X i l : ℝ) : EReal) := by
  unfold row; rw [dif_pos i.isLt]; exact (hX _).symm

/-- The head `h` of the arguments. -/
def head (h : Fin 8) : Head where
  q i d := row a.A i ⟨h.val * 128 + d.val, by omega⟩
  k i d := row a.A i ⟨1024 + (h.val * 128 + d.val), by omega⟩
  v i d := row a.A i ⟨2048 + (h.val * 128 + d.val), by omega⟩
  g i d := row a.D i ⟨1024 + (h.val * 128 + d.val), by omega⟩
  c i := row a.C i h

end Args

end Cert.Fox

end

end
-- ==== Proof.ReferenceIdeal.Arrays.lean ====
module

public import proofs.«01_k».proof.Proof.Inputs
public import proofs.«01_k».proof.Proof.Gen.ReferenceIdeal.Run

@[expose] public section

set_option maxRecDepth 16384

noncomputable section

namespace Cert.ReferenceIdeal.Fox

open Cert.ReferenceIdeal Cert.ReferenceIdeal.Gen Cert.Fox
open Idealize.ShloMosaic Idealize.ShloMosaic.TcCoe Idealize.SL.Sem

/-! ## The reference's arrays, named -/

section Arrays

variable (A : FVec Ideal S4096x3072 .bf16) (C : FVec Ideal S4096x8 .f32) (D : FVec Ideal S4096x2048 .f32)

def q3 : FVec Ideal S4096x8x128 .f32 := shapeCast _ (extf .f32 (extractStridedSlice S4096x1024 ![0, 0] A slices_S4096x3072_S4096x1024_0_0) bitsLt_bf16_f32) shapeCasts_S4096x1024_S4096x8x128
def k3 : FVec Ideal S4096x8x128 .f32 := shapeCast _ (extf .f32 (extractStridedSlice S4096x1024 ![0, 1024] A slices_S4096x3072_S4096x1024_0_1024) bitsLt_bf16_f32) shapeCasts_S4096x1024_S4096x8x128
def v3 : FVec Ideal S4096x8x128 .f32 := shapeCast _ (extf .f32 (extractStridedSlice S4096x1024 ![0, 2048] A slices_S4096x3072_S4096x1024_0_2048) bitsLt_bf16_f32) shapeCasts_S4096x1024_S4096x8x128
def g3 : FVec Ideal S8x128x4096 .f32 := transpose S8x128x4096 [1, 2, 0] (shapeCast _ (extractStridedSlice S4096x1024 ![0, 1024] D slices_S4096x2048_S4096x1024_0_1024) shapeCasts_S4096x1024_S4096x8x128) transposes_S4096x8x128_S8x128x4096_1_2_0

/-- The scores, not yet masked. -/
def logits : FVec Ideal S8x4096x4096 .f32 :=
  subf (addf (mulf (Host.dotGeneral dot_S4096x8x128_S4096x8x128_S8x4096x4096_2_2_0_0_1_1 none (q3 A) (k3 A)) (broadcastInDim S8x4096x4096 ![] bcast_S_S8x4096x4096 (constant S_ .f32 0x3DB504F3#32))) (broadcastInDim S8x4096x4096 ![0, 1, 2] bcast_S8x4096x1_S8x4096x4096_0_1_2 (broadcastInDim S8x4096x1 ![0, 1] bcast_S8x4096_S8x4096x1_0_1 (transpose S8x4096 [1, 0] C transposes_S4096x8_S8x4096_1_0)))) (broadcastInDim S8x4096x4096 ![0, 1, 2] bcast_S8x1x4096_S8x4096x4096_0_1_2 (broadcastInDim S8x1x4096 ![0, 2] bcast_S8x4096_S8x1x4096_0_2 (transpose S8x4096 [1, 0] C transposes_S4096x8_S8x4096_1_0)))

def below : IVec S8x4096x4096 1 :=
  broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The masked scores. -/
def masked : FVec Ideal S8x4096x4096 .f32 :=
  select below (logits A C) (broadcastInDim S8x4096x4096 ![] bcast_S_S8x4096x4096 (id (constant S_ .f32 0xFF800000#32)))

/-- Their row maximum. -/
def top : FVec Ideal S8x4096 .f32 :=
  maximumf (broadcastInDim S8x4096 ![] bcast_S_S8x4096 (constant S_ .f32 0xFF800000#32)) (Host.reduce FloatOps.maximumf (masked A C) (constant S_ .f32 0xFF800000#32) reducesTo_S8x4096x4096_S8x4096_d2 h_S_)

/-- The exponentials. -/
def expo : FVec Ideal S8x4096x4096 .f32 :=
  Host.exp (subf (masked A C) (broadcastInDim S8x4096x4096 ![0, 1, 2] bcast_S8x4096x1_S8x4096x4096_0_1_2 (broadcastInDim S8x4096x1 ![0, 1] bcast_S8x4096_S8x4096x1_0_1 (top A C))))

/-- Their row totals. -/
def total : FVec Ideal S8x4096x1 .f32 :=
  broadcastInDim S8x4096x1 ![0, 1] bcast_S8x4096_S8x4096x1_0_1 (Host.reduceAdd (expo A C) (constant S_ .f32 0x00000000#32) reducesTo_S8x4096x4096_S8x4096_d2 h_S_)

/-- The attention weights. -/
def prob : FVec Ideal S8x4096x4096 .f32 :=
  Host.divf (expo A C) (broadcastInDim S8x4096x4096 ![0, 1, 2] bcast_S8x4096x1_S8x4096x4096_0_1_2 (total A C))

/-- The cotangent of the weights. -/
def cot : FVec Ideal S8x4096x4096 .f32 :=
  Host.dotGeneral dot_S8x128x4096_S4096x8x128_S8x4096x4096_1_2_2_0_0_1 none (g3 D) (v3 A)

/-- The cotangent of the row totals. -/
def cotTotal : FVec Ideal S8x4096 .f32 :=
  Host.reduceAdd (Host.negf (shapeCast S8x4096x1 (Host.reduceAdd (mulf (mulf (cot A D) (broadcastInDim S8x4096x4096 ![0, 1, 2] bcast_S8x4096x1_S8x4096x4096_0_1_2 (Host.divf (broadcastInDim S8x4096x1 ![] bcast_S_S8x4096x1 (constant S_ .f32 0x3F800000#32)) (mulf (total A C) (total A C))))) (expo A C)) (constant S_ .f32 0x00000000#32) reducesTo_S8x4096x4096_S8x4096_d2 h_S_) shapeCasts_S8x4096_S8x4096x1)) (constant S_ .f32 0x00000000#32) reducesTo_S8x4096x1_S8x4096_d2 h_S_

/-- The cotangent of the masked scores. -/
def cotMasked : FVec Ideal S8x4096x4096 .f32 :=
  select below (mulf (addf (Host.divf (cot A D) (broadcastInDim S8x4096x4096 ![0, 1, 2] bcast_S8x4096x1_S8x4096x4096_0_1_2 (total A C))) (broadcastInDim S8x4096x4096 ![0, 1] bcast_S8x4096_S8x4096x4096_0_1 (cotTotal A C D))) (expo A C)) (broadcastInDim S8x4096x4096 ![] bcast_S_S8x4096x4096 (constant S_ .f32 0x00000000#32))

/-- The same, times the scale. -/
def cotScaled : FVec Ideal S8x4096x4096 .f32 :=
  mulf (cotMasked A C D) (broadcastInDim S8x4096x4096 ![] bcast_S_S8x4096x4096 (constant S_ .f32 0x3DB504F3#32))

def outOut : FVec Ideal S4096x1024 .f32 :=
  shapeCast _ (transpose S4096x8x128 [2, 0, 1] (Host.dotGeneral dot_S4096x8x128_S8x4096x4096_S8x128x4096_0_2_2_1_1_0 none (v3 A) (prob A C)) transposes_S8x128x4096_S4096x8x128_2_0_1) shapeCasts_S4096x8x128_S4096x1024
def outDq : FVec Ideal S4096x1024 .f32 :=
  shapeCast _ (transpose S4096x8x128 [1, 0, 2] (Host.dotGeneral dot_S8x4096x4096_S4096x8x128_S8x4096x128_2_0_1_2_0_1 none (cotScaled A C D) (k3 A)) transposes_S8x4096x128_S4096x8x128_1_0_2) shapeCasts_S4096x8x128_S4096x1024
def outDk : FVec Ideal S4096x1024 .bf16 :=
  truncf .bf16 (shapeCast _ (transpose S4096x8x128 [1, 0, 2] (Host.dotGeneral dot_S8x4096x4096_S4096x8x128_S8x4096x128_1_0_2_2_0_1 none (cotScaled A C D) (q3 A)) transposes_S8x4096x128_S4096x8x128_1_0_2) shapeCasts_S4096x8x128_S4096x1024) bitsLt_bf16_f32
def outDv : FVec Ideal S4096x1024 .bf16 :=
  truncf .bf16 (shapeCast _ (transpose S4096x8x128 [2, 0, 1] (Host.dotGeneral dot_S8x128x4096_S8x4096x4096_S8x128x4096_2_1_1_2_0_0 none (g3 D) (prob A C)) transposes_S8x128x4096_S4096x8x128_2_0_1) shapeCasts_S4096x8x128_S4096x1024) bitsLt_bf16_f32
def outDck : FVec Ideal S8x1x4096 .f32 :=
  broadcastInDim S8x1x4096 ![0, 2] bcast_S8x4096_S8x1x4096_0_2 (transpose S8x4096 [1, 0] (transpose S4096x8 [1, 0] (Host.reduceAdd (shapeCast S8x1x4096 (Host.reduceAdd (Host.negf (cotMasked A C D)) (constant S_ .f32 0x00000000#32) reducesTo_S8x4096x4096_S8x4096_d1 h_S_) shapeCasts_S8x4096_S8x1x4096) (constant S_ .f32 0x00000000#32) reducesTo_S8x1x4096_S8x4096_d1 h_S_) transposes_S8x4096_S4096x8_1_0) transposes_S4096x8_S8x4096_1_0)
def outDcq : FVec Ideal S8x4096x1 .f32 :=
  broadcastInDim S8x4096x1 ![0, 1] bcast_S8x4096_S8x4096x1_0_1 (transpose S8x4096 [1, 0] (transpose S4096x8 [1, 0] (Host.reduceAdd (shapeCast S8x4096x1 (Host.reduceAdd (cotMasked A C D) (constant S_ .f32 0x00000000#32) reducesTo_S8x4096x4096_S8x4096_d2 h_S_) shapeCasts_S8x4096_S8x4096x1) (constant S_ .f32 0x00000000#32) reducesTo_S8x4096x1_S8x4096_d2 h_S_) transposes_S8x4096_S4096x8_1_0) transposes_S4096x8_S8x4096_1_0)

end Arrays

section Run

open Cert.ReferenceIdeal.Value

variable (m : (ℓ : Loc nD τ sig) → Buf (Elt Ideal) ℓ) (c : Dev nD)

theorem res_out : res_main_v91 m c = outOut (m ((c.tc : Thread nD τ).loc main_arg0)) (m ((c.tc : Thread nD τ).loc main_arg1)) := rfl
theorem res_dq : res_main_v92 m c = outDq (m ((c.tc : Thread nD τ).loc main_arg0)) (m ((c.tc : Thread nD τ).loc main_arg1)) (m ((c.tc : Thread nD τ).loc main_arg2)) := rfl
theorem res_dk : res_main_v94 m c = outDk (m ((c.tc : Thread nD τ).loc main_arg0)) (m ((c.tc : Thread nD τ).loc main_arg1)) (m ((c.tc : Thread nD τ).loc main_arg2)) := rfl
theorem res_dv : res_main_v96 m c = outDv (m ((c.tc : Thread nD τ).loc main_arg0)) (m ((c.tc : Thread nD τ).loc main_arg1)) (m ((c.tc : Thread nD τ).loc main_arg2)) := rfl
theorem res_dck : res_main_v98 m c = outDck (m ((c.tc : Thread nD τ).loc main_arg0)) (m ((c.tc : Thread nD τ).loc main_arg1)) (m ((c.tc : Thread nD τ).loc main_arg2)) := rfl
theorem res_dcq : res_main_v100 m c = outDcq (m ((c.tc : Thread nD τ).loc main_arg0)) (m ((c.tc : Thread nD τ).loc main_arg1)) (m ((c.tc : Thread nD τ).loc main_arg2)) := rfl

end Run

end Cert.ReferenceIdeal.Fox

end

end
-- ==== Proof.ReferenceIdeal.Value.lean ====
module

public import proofs.«01_k».proof.Proof.ReferenceIdeal.Arrays

@[expose] public section

set_option maxRecDepth 16384

noncomputable section

namespace Cert.Fox.Head

/-- The row sum of cotangent against output, as a weighted sum over positions. -/
theorem dl_eq (H : Head) (i : ℕ) : H.dl i = ∑ j ∈ Finset.range 4096, H.pr i j * H.gv i j := by
  simp only [dl, out, gv, Finset.mul_sum]
  rw [Finset.sum_comm]
  exact Finset.sum_congr rfl fun j _ => Finset.sum_congr rfl fun d _ => by ring

end Cert.Fox.Head

namespace Cert.ReferenceIdeal.Fox

open Cert.ReferenceIdeal Cert.ReferenceIdeal.Gen Cert.Fox
open Idealize.ShloMosaic Idealize.ShloMosaic.TcCoe Idealize.SL.Sem

theorem sum_fin (f : ℕ → ℝ) : (∑ j : Fin 4096, ((f j.val : ℝ) : EReal)) = ((∑ j ∈ Finset.range 4096, f j : ℝ) : EReal) := by
  rw [sum_coe, Finset.sum_range]

section Raw

variable (A : FVec Ideal S4096x3072 .bf16) (C : FVec Ideal S4096x8 .f32) (D : FVec Ideal S4096x2048 .f32)

theorem q3_raw (i : Fin 4096) (h : Fin 8) (d : Fin 128) : q3 A (ix3 i h d) = A (ix2 i ⟨h.val * 128 + d.val, by omega⟩) := by
  pointwise [q3]
theorem k3_raw (i : Fin 4096) (h : Fin 8) (d : Fin 128) : k3 A (ix3 i h d) = A (ix2 i ⟨1024 + (h.val * 128 + d.val), by omega⟩) := by
  pointwise [k3]
theorem v3_raw (i : Fin 4096) (h : Fin 8) (d : Fin 128) : v3 A (ix3 i h d) = A (ix2 i ⟨2048 + (h.val * 128 + d.val), by omega⟩) := by
  pointwise [v3]
theorem g3_raw (i : Fin 4096) (h : Fin 8) (d : Fin 128) : g3 D (ix3 h d i) = D (ix2 i ⟨1024 + (h.val * 128 + d.val), by omega⟩) := by
  pointwise [g3]
theorem logits_raw (h : Fin 8) (i j : Fin 4096) : logits A C (ix3 h i j) =
    (∑ x, q3 A (ix3 i h x) * k3 A (ix3 j h x)) * Ideal.ofBits FTy.f32 0x3DB504F3#32 + C (ix2 i h) - C (ix2 j h) := by
  pointwise [logits]
theorem below_raw (h : Fin 8) (i j : Fin 4096) : below (ix3 h i j) = IntOp.cmpi .sle (BitVec.ofNat 32 j.val) (BitVec.ofNat 32 i.val) := by
  pointwise [below]
theorem masked_raw (h : Fin 8) (i j : Fin 4096) : masked A C (ix3 h i j) = Scalar.select (below (ix3 h i j)) (logits A C (ix3 h i j)) (⊥ : EReal) := by
  pointwise [masked]
  exact congrArg _ ofBits_neg_inf
theorem max_raw (X : FVec Ideal S8x4096x4096 .f32) (h : Fin 8) (i : Fin 4096) :
    Host.reduce FloatOps.maximumf X (constant S_ .f32 0xFF800000#32) reducesTo_S8x4096x4096_S8x4096_d2 h_S_ (ix2 h i)
      = Finset.univ.fold max (⊥ : EReal) fun j => X (ix3 h i j) := by
  pointwise
  rw [ofBits_neg_inf]
theorem bot_raw (h : Fin 8) (i : Fin 4096) :
    (broadcastInDim S8x4096 ![] bcast_S_S8x4096 (constant S_ .f32 0xFF800000#32) : FVec Ideal S8x4096 .f32) (ix2 h i) = (⊥ : EReal) := by
  pointwise
  rw [ofBits_neg_inf]
theorem maximumf_raw {s : Shape} (X Y : FVec Ideal s .f32) (x : s.Idx) : maximumf X Y x = (max (X x) (Y x) : EReal) := rfl
theorem top_raw (h : Fin 8) (i : Fin 4096) : top A C (ix2 h i) =
    max (⊥ : EReal) (Finset.univ.fold max (⊥ : EReal) fun j => masked A C (ix3 h i j)) := by
  rw [top, maximumf_raw, bot_raw, max_raw]
theorem expo_raw (h : Fin 8) (i j : Fin 4096) : expo A C (ix3 h i j) = Ideal.exp (masked A C (ix3 h i j) - top A C (ix2 h i)) := by
  pointwise [expo]
theorem total_raw (h : Fin 8) (i : Fin 4096) : total A C (ix3 h i 0) = ∑ j, expo A C (ix3 h i j) := by
  pointwise [total]
theorem prob_raw (h : Fin 8) (i j : Fin 4096) : prob A C (ix3 h i j) = Ideal.div (expo A C (ix3 h i j)) (total A C (ix3 h i 0)) := by
  pointwise [prob]
theorem cot_raw (h : Fin 8) (i j : Fin 4096) : cot A D (ix3 h i j) = ∑ x, g3 D (ix3 h x i) * v3 A (ix3 j h x) := by
  pointwise [cot]
theorem cotTotal_raw (h : Fin 8) (i : Fin 4096) : cotTotal A C D (ix2 h i) =
    ∑ _y : Fin 1, -∑ x, cot A D (ix3 h i x) * Ideal.div 1 (total A C (ix3 h i 0) * total A C (ix3 h i 0)) * expo A C (ix3 h i x) := by
  pointwise [cotTotal]
theorem cotMasked_raw (h : Fin 8) (i j : Fin 4096) : cotMasked A C D (ix3 h i j) =
    Scalar.select (below (ix3 h i j)) ((Ideal.div (cot A D (ix3 h i j)) (total A C (ix3 h i 0)) + cotTotal A C D (ix2 h i)) * expo A C (ix3 h i j)) (0 : EReal) := by
  pointwise [cotMasked]
theorem outOut_raw (i : Fin 4096) (h : Fin 8) (d : Fin 128) : outOut A C (ix2 i ⟨h.val * 128 + d.val, by omega⟩) =
    ∑ x, v3 A (ix3 x h d) * prob A C (ix3 h i x) := by
  pointwise [outOut]
theorem outDq_raw (i : Fin 4096) (h : Fin 8) (d : Fin 128) : outDq A C D (ix2 i ⟨h.val * 128 + d.val, by omega⟩) =
    ∑ x, cotMasked A C D (ix3 h i x) * Ideal.ofBits FTy.f32 0x3DB504F3#32 * k3 A (ix3 x h d) := by
  pointwise [outDq, cotScaled]
theorem outDk_raw (i : Fin 4096) (h : Fin 8) (d : Fin 128) : outDk A C D (ix2 i ⟨h.val * 128 + d.val, by omega⟩) =
    ∑ x, cotMasked A C D (ix3 h x i) * Ideal.ofBits FTy.f32 0x3DB504F3#32 * q3 A (ix3 x h d) := by
  pointwise [outDk, cotScaled]
theorem outDv_raw (i : Fin 4096) (h : Fin 8) (d : Fin 128) : outDv A C D (ix2 i ⟨h.val * 128 + d.val, by omega⟩) =
    ∑ x, g3 D (ix3 h d x) * prob A C (ix3 h x i) := by
  pointwise [outDv]
theorem outDck_raw (h : Fin 8) (i : Fin 4096) : outDck A C D (ix3 h 0 i) = ∑ _y : Fin 1, ∑ x, -cotMasked A C D (ix3 h x i) := by
  pointwise [outDck]
theorem outDcq_raw (h : Fin 8) (i : Fin 4096) : outDcq A C D (ix3 h i 0) = ∑ _y : Fin 1, ∑ x, cotMasked A C D (ix3 h i x) := by
  pointwise [outDcq]

end Raw

theorem sle_ofNat (i j : Fin 4096) : IntOp.cmpi .sle (BitVec.ofNat 32 j.val) (BitVec.ofNat 32 i.val) = if j.val ≤ i.val then 1#1 else 0#1 := by
  have hi := i.isLt; have hj := j.isLt
  simp only [IntOp.cmpi, BitVec.sle]
  have e : ∀ n : ℕ, n < 4096 → (BitVec.ofNat 32 n).toInt = n := fun n hn => by
    rw [BitVec.toInt_eq_toNat_cond, BitVec.toNat_ofNat]; split <;> omega
  rw [e _ hi, e _ hj]
  by_cases h : j.val ≤ i.val
  · rw [if_pos h]; simp [h]
  · rw [if_neg h]; simp [h]

section Real

variable {a : Args} (ha : a.Real)
include ha

theorem q3_val (i : Fin 4096) (h : Fin 8) (d : Fin 128) : q3 a.A (ix3 i h d) = (((a.head h).q i d : ℝ) : EReal) := by
  rw [q3_raw]; exact Args.row_fin _ ha.hA _ _
theorem k3_val (i : Fin 4096) (h : Fin 8) (d : Fin 128) : k3 a.A (ix3 i h d) = (((a.head h).k i d : ℝ) : EReal) := by
  rw [k3_raw]; exact Args.row_fin _ ha.hA _ _
theorem v3_val (i : Fin 4096) (h : Fin 8) (d : Fin 128) : v3 a.A (ix3 i h d) = (((a.head h).v i d : ℝ) : EReal) := by
  rw [v3_raw]; exact Args.row_fin _ ha.hA _ _
theorem g3_val (i : Fin 4096) (h : Fin 8) (d : Fin 128) : g3 a.D (ix3 h d i) = (((a.head h).g i d : ℝ) : EReal) := by
  rw [g3_raw]; exact Args.row_fin _ ha.hD _ _
theorem logits_val (h : Fin 8) (i j : Fin 4096) : logits a.A a.C (ix3 h i j) = (((a.head h).score i j : ℝ) : EReal) := by
  rw [logits_raw]
  simp only [q3_val ha, k3_val ha, ofBits_sc, ← EReal.coe_mul, sum_coe, Args.row_fin _ ha.hC, ← EReal.coe_add, ← EReal.coe_sub]
  rfl
theorem masked_val (h : Fin 8) (i j : Fin 4096) : Wt (masked a.A a.C (ix3 h i j)) ((a.head h).wt i j) := by
  rw [masked_raw, below_raw, sle_ofNat, logits_val ha]
  by_cases hj : j.val ≤ i.val
  · rw [if_pos hj, (a.head h).wt_of_le hj]; exact .inr ⟨_, rfl, rfl⟩
  · rw [if_neg hj, (a.head h).wt_of_lt (by omega)]; exact .inl ⟨rfl, rfl⟩
theorem top_val (h : Fin 8) (i : Fin 4096) : ∃ M : ℝ, top a.A a.C (ix2 h i) = (M : EReal) := by
  rw [top_raw]
  exact new_max (.inl ⟨rfl, rfl, rfl⟩) (fun j => masked_val ha h i j)
    ⟨i, by rw [(a.head h).wt_of_le le_rfl]; exact (Real.exp_pos _).ne'⟩
theorem expo_val {h : Fin 8} {i : Fin 4096} {M : ℝ} (hM : top a.A a.C (ix2 h i) = (M : EReal)) (j : Fin 4096) :
    expo a.A a.C (ix3 h i j) = (((a.head h).wt i j * Real.exp (-M) : ℝ) : EReal) := by
  rw [expo_raw, hM, wt_exp (masked_val ha h i j)]
theorem total_val {h : Fin 8} {i : Fin 4096} {M : ℝ} (hM : top a.A a.C (ix2 h i) = (M : EReal)) :
    total a.A a.C (ix3 h i 0) = (((a.head h).tot i * Real.exp (-M) : ℝ) : EReal) := by
  rw [total_raw]
  simp only [expo_val ha hM]
  rw [sum_fin fun j => (a.head h).wt i j * Real.exp (-M), ← Finset.sum_mul]; rfl
theorem prob_val (h : Fin 8) (i j : Fin 4096) : prob a.A a.C (ix3 h i j) = (((a.head h).pr i j : ℝ) : EReal) := by
  obtain ⟨M, hM⟩ := top_val ha h i
  have he := Real.exp_pos (-M)
  rw [prob_raw, expo_val ha hM, total_val ha hM, div_coe' _ (mul_pos ((a.head h).tot_pos i.isLt) he).ne', mul_div_mul_right _ _ he.ne']; rfl
theorem cot_val (h : Fin 8) (i j : Fin 4096) : cot a.A a.D (ix3 h i j) = (((a.head h).gv i j : ℝ) : EReal) := by
  rw [cot_raw]; simp only [g3_val ha, v3_val ha, ← EReal.coe_mul, sum_coe]; rfl
theorem cotTotal_val {h : Fin 8} {i : Fin 4096} {M : ℝ} (hM : top a.A a.C (ix2 h i) = (M : EReal)) :
    cotTotal a.A a.C a.D (ix2 h i) = ((-((a.head h).dl i / ((a.head h).tot i * Real.exp (-M))) : ℝ) : EReal) := by
  have he := Real.exp_pos (-M)
  have ht := (a.head h).tot_pos i.isLt
  have hp := mul_pos ht he
  rw [cotTotal_raw, Fin.sum_univ_one]
  simp only [cot_val ha, total_val ha hM, expo_val ha hM, ← EReal.coe_mul]
  rw [← EReal.coe_one, div_coe' _ (mul_pos hp hp).ne']
  simp only [← EReal.coe_mul]
  rw [sum_fin fun j => (a.head h).gv i j * (1 / ((a.head h).tot i * Real.exp (-M) * ((a.head h).tot i * Real.exp (-M)))) * ((a.head h).wt i j * Real.exp (-M)),
    ← EReal.coe_neg]
  refine congrArg Real.toEReal (congrArg Neg.neg ?_)
  rw [Head.dl_eq, Finset.sum_div]
  refine Finset.sum_congr rfl fun j _ => ?_
  rw [Head.pr]
  field_simp
theorem cotMasked_val (h : Fin 8) (i j : Fin 4096) : cotMasked a.A a.C a.D (ix3 h i j) = (((a.head h).ds i j : ℝ) : EReal) := by
  obtain ⟨M, hM⟩ := top_val ha h i
  have he := Real.exp_pos (-M)
  have ht := (a.head h).tot_pos i.isLt
  have hp := mul_pos ht he
  rw [cotMasked_raw, below_raw, sle_ofNat]
  by_cases hj : j.val ≤ i.val
  · rw [if_pos hj, cot_val ha, total_val ha hM, cotTotal_val ha hM, expo_val ha hM, div_coe' _ hp.ne', ← EReal.coe_add, ← EReal.coe_mul]
    refine congrArg Real.toEReal ?_
    rw [Head.ds, Head.pr]
    field_simp
    ring
  · rw [if_neg hj, (a.head h).ds_of_lt (by omega)]; rfl

theorem outOut_val (i : Fin 4096) (h : Fin 8) (d : Fin 128) : outOut a.A a.C (ix2 i ⟨h.val * 128 + d.val, by omega⟩) = (((a.head h).out i d : ℝ) : EReal) := by
  rw [outOut_raw]
  simp only [v3_val ha, prob_val ha, ← EReal.coe_mul]
  rw [sum_fin fun j => (a.head h).v j d * (a.head h).pr i j, Head.out]
  exact congrArg Real.toEReal <| Finset.sum_congr rfl fun j _ => by ring
theorem outDq_val (i : Fin 4096) (h : Fin 8) (d : Fin 128) : outDq a.A a.C a.D (ix2 i ⟨h.val * 128 + d.val, by omega⟩) = (((a.head h).dq i d : ℝ) : EReal) := by
  rw [outDq_raw]
  simp only [k3_val ha, cotMasked_val ha, ofBits_sc, ← EReal.coe_mul]
  rw [sum_fin fun j => (a.head h).ds i j * sc * (a.head h).k j d, Head.dq, Finset.sum_mul]
  exact congrArg Real.toEReal <| Finset.sum_congr rfl fun j _ => by ring
theorem outDk_val (i : Fin 4096) (h : Fin 8) (d : Fin 128) : outDk a.A a.C a.D (ix2 i ⟨h.val * 128 + d.val, by omega⟩) = (((a.head h).dk i d : ℝ) : EReal) := by
  rw [outDk_raw]
  simp only [q3_val ha, cotMasked_val ha, ofBits_sc, ← EReal.coe_mul]
  rw [sum_fin fun j => (a.head h).ds j i * sc * (a.head h).q j d, Head.dk, Finset.sum_mul]
  exact congrArg Real.toEReal <| Finset.sum_congr rfl fun j _ => by ring
theorem outDv_val (i : Fin 4096) (h : Fin 8) (d : Fin 128) : outDv a.A a.C a.D (ix2 i ⟨h.val * 128 + d.val, by omega⟩) = (((a.head h).dv i d : ℝ) : EReal) := by
  rw [outDv_raw]
  simp only [g3_val ha, prob_val ha, ← EReal.coe_mul]
  rw [sum_fin fun j => (a.head h).g j d * (a.head h).pr j i, Head.dv]
  exact congrArg Real.toEReal <| Finset.sum_congr rfl fun j _ => by ring
theorem outDck_val (h : Fin 8) (i : Fin 4096) : outDck a.A a.C a.D (ix3 h 0 i) = (((a.head h).dck i : ℝ) : EReal) := by
  rw [outDck_raw, Fin.sum_univ_one]
  simp only [cotMasked_val ha, ← EReal.coe_neg]
  rw [sum_fin fun j => -(a.head h).ds j i, Head.dck, Finset.sum_neg_distrib]
theorem outDcq_val (h : Fin 8) (i : Fin 4096) : outDcq a.A a.C a.D (ix3 h i 0) = (((a.head h).dcq i : ℝ) : EReal) := by
  rw [outDcq_raw, Fin.sum_univ_one]
  simp only [cotMasked_val ha]
  rw [sum_fin fun j => (a.head h).ds i j]; rfl

end Real

end Cert.ReferenceIdeal.Fox

end

end
-- ==== Proof.KernelIdeal.FwdValue.lean ====
module

public import proofs.«01_k».proof.Proof.KernelIdeal.Fwd
public import proofs.«01_k».proof.Proof.Inputs
public import Idealize.ShloMosaic.Lib.VecWindow
public import proofs.«01_k».proof.Proof.ReferenceIdeal.Value

@[expose] public section

set_option maxRecDepth 16384

noncomputable section

namespace Cert.KernelIdeal.Fox

open Cert.KernelIdeal Cert.KernelIdeal.Gen Cert.Fox
open Idealize.ShloMosaic Idealize.ShloMosaic.TcCoe Idealize.SL.Sem

/-! ## The forward body's values, entry by entry -/

section Raw

variable (v0 : Vec Ideal S512x128 .bf16) (v1 : Vec Ideal S1x512x1 .f32) (v62 v89 : Vec Ideal S512x128 .bf16) (v69 : Vec Ideal S1x1x1x512 .f32)
variable (m l p : FVec Ideal S512x1 .f32) (a : FVec Ideal S512x128 .f32) (S : FVec Ideal S512x512 .f32)

theorem mask_bot : (Named.named (F := Ideal) κ "mask" (φ := .f32) 0xF149F2CA#32) = (⊥ : EReal) :=
  IdealRules.named_const.ideal_named_scalar κ "mask" _ ⊥ rfl

theorem score_raw (r s : Fin 512) : k0_pay9 v0 v1 v62 v69 (ix2 r s) =
    ((∑ x, v0 (ix2 r x) * v62 (ix2 s x)) * Ideal.ofBits FTy.f32 0x3DB504F3#32 + v1 (ix3 0 r 0) - v69 (ix4 0 0 0 s) : EReal) := by
  pointwise [k0_pay9, k0_pay5]
theorem diag_raw (r s : Fin 512) : k0_pay21 v0 v1 v62 v69 (ix2 r s) =
    Scalar.select (IntOp.cmpi .sle (BitVec.ofNat 32 s.val) (BitVec.ofNat 32 r.val))
      ((∑ x, v0 (ix2 r x) * v62 (ix2 s x)) * Ideal.ofBits FTy.f32 0x3DB504F3#32 + v1 (ix3 0 r 0) - v69 (ix4 0 0 0 s) : EReal) (⊥ : EReal) := by
  rw [← mask_bot]
  pointwise [k0_pay21, k0_pay5]
theorem pay10_raw (r : Fin 512) : k0_pay10 v0 v1 m v62 v69 (ix2 r 0) =
    (max (m (ix2 r 0)) (Finset.univ.fold max ⊥ fun x => k0_pay9 v0 v1 v62 v69 (ix2 r x)) : EReal) := by
  pointwise [k0_pay10]
  rw [ofBits_neg_inf]
theorem pay13_raw (r : Fin 512) : k0_pay13 v0 v1 m l v62 v69 (ix2 r 0) =
    (Ideal.exp (m (ix2 r 0) - k0_pay10 v0 v1 m v62 v69 (ix2 r 0)) * l (ix2 r 0) +
      ∑ x, Ideal.exp (k0_pay9 v0 v1 v62 v69 (ix2 r x) - k0_pay10 v0 v1 m v62 v69 (ix2 r 0)) : EReal) := by
  pointwise [k0_pay13, k0_pay11, k0_pay12]
theorem pay14_raw (r : Fin 512) (d : Fin 128) : k0_pay14 v0 v1 m a v62 v69 v89 (ix2 r d) =
    (Ideal.exp (m (ix2 r 0) - k0_pay10 v0 v1 m v62 v69 (ix2 r 0)) * a (ix2 r d) +
      ∑ x, Ideal.exp (k0_pay9 v0 v1 v62 v69 (ix2 r x) - k0_pay10 v0 v1 m v62 v69 (ix2 r 0)) * v89 (ix2 x d) : EReal) := by
  pointwise [k0_pay14, k0_pay11, k0_pay12]
theorem pay6_raw (r : Fin 512) : k0_pay6 (F := Ideal) (ix2 r 0) = (⊥ : EReal) := by
  rw [← mask_bot]
  pointwise [k0_pay6]
theorem pay7_raw (r : Fin 512) : k0_pay7 (F := Ideal) (ix2 r 0) = (0 : EReal) := by
  pointwise [k0_pay7]
theorem pay8_raw (r : Fin 512) (d : Fin 128) : k0_pay8 (F := Ideal) (ix2 r d) = (0 : EReal) := by
  pointwise [k0_pay8]
theorem pay3_raw (r : Fin 512) (d : Fin 128) : k0_pay3 (F := Ideal) l a S m p v89 (ix2 r d) =
    Ideal.div (p (ix2 r 0) * a (ix2 r d) + ∑ x, Ideal.exp (S (ix2 r x) - m (ix2 r 0)) * v89 (ix2 x d))
      (p (ix2 r 0) * l (ix2 r 0) + ∑ x, Ideal.exp (S (ix2 r x) - m (ix2 r 0))) := by
  pointwise [k0_pay3, k0_pay1, k0_pay2]
theorem pay4_raw (r : Fin 512) : k0_pay4 (F := Ideal) l S m p (ix3 0 r 0) =
    (m (ix2 r 0) + Ideal.log (p (ix2 r 0) * l (ix2 r 0) + ∑ x, Ideal.exp (S (ix2 r x) - m (ix2 r 0))) : EReal) := by
  pointwise [k0_pay4, k0_pay1, k0_pay2]
theorem pay22_raw (r : Fin 512) : k0_pay22 v0 v1 m v62 v69 (ix2 r 0) =
    (max (m (ix2 r 0)) (Finset.univ.fold max ⊥ fun x => k0_pay21 v0 v1 v62 v69 (ix2 r x)) : EReal) := by
  pointwise [k0_pay22]
  rw [ofBits_neg_inf]
theorem pay23_raw (r : Fin 512) : k0_pay23 v0 v1 m v62 v69 (ix2 r 0) =
    Ideal.exp (m (ix2 r 0) - k0_pay22 v0 v1 m v62 v69 (ix2 r 0)) := by
  pointwise [k0_pay23]

end Raw

/-! ## Loads from whole staging buffers -/

theorem load_rows {e : EltTy} (arg : Memref sig .tc .vmem S4096x128 e) (h : arg.IsWhole) (x : Vec Ideal S4096x128 e) {off : Fin 2 → ℕ}
    (hb : ∀ a, off a + S512x128.size a ≤ S4096x128.size a) {b : ℕ} (ho : off = ![b * 512, 0]) (r : Fin 512) (d : Fin 128) (hr : b * 512 + r.val < 4096) :
    View.readAt (Elt Ideal) arg.view (Rect.unit (s := S4096x128) off S512x128.size hb).toLoadRect (h.unread x) (ix2 r d) = x (ix2 ⟨b * 512 + r.val, hr⟩ d) := by
  subst ho
  rw [View.readAt_eq_ld, h.read_unread]
  pointwise

theorem load_all2 {e : EltTy} (arg : Memref sig .tc .vmem S512x128 e) (h : arg.IsWhole) (x : Vec Ideal S512x128 e) (r : Fin 512) (d : Fin 128) :
    View.readAt (Elt Ideal) arg.view (Rect.unit (s := S512x128) ![0, 0] S512x128.size inb_S512x128_S512x128_0_0).toLoadRect (h.unread x) (ix2 r d) = x (ix2 r d) := by
  rw [View.readAt_eq_ld, h.read_unread]
  pointwise

theorem load_col {e : EltTy} (arg : Memref sig .tc .vmem S1x512x1 e) (h : arg.IsWhole) (x : Vec Ideal S1x512x1 e) (r : Fin 512) :
    View.readAt (Elt Ideal) arg.view (Rect.unit (s := S1x512x1) ![0, 0, 0] S1x512x1.size inb_S1x512x1_S1x512x1_0_0_0).toLoadRect (h.unread x) (ix3 0 r 0) = x (ix3 0 r 0) := by
  rw [View.readAt_eq_ld, h.read_unread]
  pointwise

theorem load_tile {e : EltTy} (arg : Memref sig .tc .vmem S1x8x1x512 e) (h : arg.IsWhole) (x : Vec Ideal S1x8x1x512 e) {off : Fin 4 → ℕ}
    (hb : ∀ a, off a + S1x1x1x512.size a ≤ S1x8x1x512.size a) {b : ℕ} (ho : off = ![0, b, 0, 0]) (hk : b < 8) (r : Fin 512) :
    View.readAt (Elt Ideal) arg.view (Rect.unit (s := S1x8x1x512) off S1x1x1x512.size hb).toLoadRect (h.unread x) (ix4 0 0 0 r) = x (ix4 0 ⟨b, hk⟩ 0 r) := by
  subst ho
  rw [View.readAt_eq_ld, h.read_unread]
  pointwise

/-! ## The loop's bounds and offsets -/

theorem t1_trips : ∀ i : grid0.Coords, (k0_t1_loop i).trips = (i 1).val := by decide +kernel
theorem t2_trips : ∀ i : grid0.Coords, (k0_t2_loop i).trips = 0 := by decide +kernel
theorem off1_eq : ∀ (i : grid0.Coords) (k : Fin (k0_t1_loop i).trips), k0_off1 i k = ![k.val * 512, 0] := by decide +kernel
theorem off2_eq : ∀ (i : grid0.Coords) (k : Fin (k0_t1_loop i).trips), k0_off2 i k = ![0, k.val, 0, 0] := by decide +kernel
theorem off5_eq : ∀ i : grid0.Coords, k0_off5 i = ![(i 1).val * 512, 0] := by decide +kernel
theorem off6_eq : ∀ i : grid0.Coords, k0_off6 i = ![0, (i 1).val, 0, 0] := by decide +kernel

/-! ## The carried rows -/

/-- The carried maximum, total and weighted values of query block `b` after the first `n` positions. -/
def Acc (H : Head) (b n : ℕ) (m l : Fin 512 → EReal) (a : Fin 512 → Fin 128 → EReal) : Prop :=
  ∀ r : Fin 512, Row (m r) (l r) (∑ j ∈ Finset.range n, H.wt (b * 512 + r.val) j) ∧
    ∀ d, Row (m r) (a r d) (∑ j ∈ Finset.range n, H.wt (b * 512 + r.val) j * H.v j d)

theorem Acc.zero (H : Head) (b : ℕ) {m l : Fin 512 → EReal} {a : Fin 512 → Fin 128 → EReal} (hm : ∀ r, m r = ⊥) (hl : ∀ r, l r = 0)
    (ha : ∀ r d, a r d = 0) : Acc H b 0 m l a :=
  fun r => ⟨.inl ⟨hm r, hl r, by simp⟩, fun d => .inl ⟨hm r, ha r d, by simp⟩⟩

theorem Acc.step {H : Head} {b k : ℕ} {m l : Fin 512 → EReal} {a : Fin 512 → Fin 128 → EReal} (h : Acc H b (k * 512) m l a)
    {S : Fin 512 → Fin 512 → EReal} (hS : ∀ r s, Wt (S r s) (H.wt (b * 512 + r.val) (k * 512 + s.val))) (hk : k ≤ b)
    {v : Fin 512 → Fin 128 → EReal} (hv : ∀ s d, v s d = ((H.v (k * 512 + s.val) d : ℝ) : EReal))
    {m' l' : Fin 512 → EReal} {a' : Fin 512 → Fin 128 → EReal}
    (hm : ∀ r, m' r = max (m r) (Finset.univ.fold max ⊥ fun s => S r s))
    (hl : ∀ r, l' r = Ideal.exp (m r - m' r) * l r + ∑ s, Ideal.exp (S r s - m' r))
    (ha : ∀ r d, a' r d = Ideal.exp (m r - m' r) * a r d + ∑ s, Ideal.exp (S r s - m' r) * v s d) :
    Acc H b ((k + 1) * 512) m' l' a' := by
  intro r
  obtain ⟨h1, h2⟩ := h r
  obtain ⟨M, hM⟩ := new_max h1 (hS r) ⟨⟨0, by omega⟩, by
    rw [H.wt_of_le (by show k * 512 + 0 ≤ _; have := Nat.mul_le_mul_right 512 hk; omega)]; exact (Real.exp_pos _).ne'⟩
  rw [← hm] at hM
  refine ⟨?_, fun d => ?_⟩
  · rw [hl, hM, sum_range_block]; exact row_step_one h1 (hS r)
  · rw [ha, hM, sum_range_block fun j => H.wt (b * 512 + r.val) j * H.v j d]
    simp only [hv]
    exact row_step (h2 d) (hS r) fun s => H.v (k * 512 + s.val) d

section Body

variable {H : Head}

theorem score_val {v0 : Vec Ideal S512x128 .bf16} {v1 : Vec Ideal S1x512x1 .f32} {v62 : Vec Ideal S512x128 .bf16} {v69 : Vec Ideal S1x1x1x512 .f32} {b k : ℕ}
    (h0 : ∀ r d, v0 (ix2 r d) = ((H.q (b * 512 + r.val) d : ℝ) : EReal)) (h1 : ∀ r, v1 (ix3 0 r 0) = ((H.c (b * 512 + r.val) : ℝ) : EReal))
    (h62 : ∀ r d, v62 (ix2 r d) = ((H.k (k * 512 + r.val) d : ℝ) : EReal)) (h69 : ∀ r, v69 (ix4 0 0 0 r) = ((H.c (k * 512 + r.val) : ℝ) : EReal))
    (r s : Fin 512) :
    ((∑ x, v0 (ix2 r x) * v62 (ix2 s x)) * Ideal.ofBits FTy.f32 0x3DB504F3#32 + v1 (ix3 0 r 0) - v69 (ix4 0 0 0 s) : EReal)
      = ((H.score (b * 512 + r.val) (k * 512 + s.val) : ℝ) : EReal) := by
  simp only [h0, h1, h62, h69, ofBits_sc, ← EReal.coe_mul, sum_coe, ← EReal.coe_add, ← EReal.coe_sub]
  rfl

theorem full_wt {v0 : Vec Ideal S512x128 .bf16} {v1 : Vec Ideal S1x512x1 .f32} {v62 : Vec Ideal S512x128 .bf16} {v69 : Vec Ideal S1x1x1x512 .f32} {b k : ℕ} (hk : k < b)
    (h0 : ∀ r d, v0 (ix2 r d) = ((H.q (b * 512 + r.val) d : ℝ) : EReal)) (h1 : ∀ r, v1 (ix3 0 r 0) = ((H.c (b * 512 + r.val) : ℝ) : EReal))
    (h62 : ∀ r d, v62 (ix2 r d) = ((H.k (k * 512 + r.val) d : ℝ) : EReal)) (h69 : ∀ r, v69 (ix4 0 0 0 r) = ((H.c (k * 512 + r.val) : ℝ) : EReal))
    (r s : Fin 512) : Wt (k0_pay9 v0 v1 v62 v69 (ix2 r s)) (H.wt (b * 512 + r.val) (k * 512 + s.val)) := by
  rw [score_raw, score_val h0 h1 h62 h69, H.wt_of_le (by have := Nat.mul_le_mul_right 512 (Nat.succ_le_of_lt hk); omega)]
  exact .inr ⟨_, rfl, rfl⟩

theorem sle_small (r s : Fin 512) : IntOp.cmpi .sle (BitVec.ofNat 32 s.val) (BitVec.ofNat 32 r.val) = if s.val ≤ r.val then 1#1 else 0#1 :=
  Cert.ReferenceIdeal.Fox.sle_ofNat (⟨r.val, by omega⟩ : Fin 4096) (⟨s.val, by omega⟩ : Fin 4096)

theorem diag_wt {v0 : Vec Ideal S512x128 .bf16} {v1 : Vec Ideal S1x512x1 .f32} {v62 : Vec Ideal S512x128 .bf16} {v69 : Vec Ideal S1x1x1x512 .f32} {b : ℕ}
    (h0 : ∀ r d, v0 (ix2 r d) = ((H.q (b * 512 + r.val) d : ℝ) : EReal)) (h1 : ∀ r, v1 (ix3 0 r 0) = ((H.c (b * 512 + r.val) : ℝ) : EReal))
    (h62 : ∀ r d, v62 (ix2 r d) = ((H.k (b * 512 + r.val) d : ℝ) : EReal)) (h69 : ∀ r, v69 (ix4 0 0 0 r) = ((H.c (b * 512 + r.val) : ℝ) : EReal))
    (r s : Fin 512) : Wt (k0_pay21 v0 v1 v62 v69 (ix2 r s)) (H.wt (b * 512 + r.val) (b * 512 + s.val)) := by
  rw [diag_raw, score_val h0 h1 h62 h69, sle_small]
  by_cases h : s.val ≤ r.val
  · rw [if_pos h, H.wt_of_le (by omega)]; exact .inr ⟨_, rfl, rfl⟩
  · rw [if_neg h, H.wt_of_lt (by omega)]; exact .inl ⟨rfl, rfl⟩

variable  (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x512x1 .f32) (harg5 : arg5.IsWhole) (arg6 : Memref sig .tc .vmem S1x8x1x512 .f32) (harg6 : arg6.IsWhole) (arg7 : Memref sig .tc .vmem S512x128 .f32) (harg7 : arg7.IsWhole) (arg8 : Memref sig .tc .vmem S1x512x1 .f32) (harg8 : arg8.IsWhole)
  (x0 : Vec Ideal S512x128 .bf16) (x1 x2 : Vec Ideal S4096x128 .bf16) (x3 : Vec Ideal S1x512x1 .f32) (x4 : Vec Ideal S1x8x1x512 .f32)

/-- What the forward body's buffers hold for one head: query block `(i 1)`, all keys, values and gates. -/
structure FwdIn (H : Head) (b : ℕ) (x0 : Vec Ideal S512x128 .bf16) (x1 x2 : Vec Ideal S4096x128 .bf16) (x3 : Vec Ideal S1x512x1 .f32) (x4 : Vec Ideal S1x8x1x512 .f32) : Prop where
  q : ∀ (r : Fin 512) (d : Fin 128), x0 (ix2 r d) = ((H.q (b * 512 + r.val) d : ℝ) : EReal)
  k : ∀ (r : Fin 4096) (d : Fin 128), x1 (ix2 r d) = ((H.k r.val d : ℝ) : EReal)
  v : ∀ (r : Fin 4096) (d : Fin 128), x2 (ix2 r d) = ((H.v r.val d : ℝ) : EReal)
  cq : ∀ r : Fin 512, x3 (ix3 0 r 0) = ((H.c (b * 512 + r.val) : ℝ) : EReal)
  ck : ∀ (k : Fin 8) (r : Fin 512), x4 (ix4 0 k 0 r) = ((H.c (k.val * 512 + r.val) : ℝ) : EReal)

variable {x0 x1 x2 x3 x4}

abbrev fwdState (n : ℕ) : FVec Ideal S512x1 .f32 × FVec Ideal S512x1 .f32 × FVec Ideal S512x128 .f32 :=
  st_k0_t1 (F := Ideal) Variants.none c none i arg2 harg2 arg3 harg3 arg4 harg4 arg5 harg5 arg6 harg6 arg7 harg7 arg8 harg8 (View.readAt (Elt Ideal) arg2.view (Rect.unit (s := S512x128) ![0, 0] S512x128.size inb_S512x128_S512x128_0_0).toLoadRect (harg2.unread x0)) (View.readAt (Elt Ideal) arg5.view (Rect.unit (s := S1x512x1) ![0, 0, 0] S1x512x1.size inb_S1x512x1_S1x512x1_0_0_0).toLoadRect (harg5.unread x3)) (harg3.unread x1) (harg4.unread x2) (harg6.unread x4) (k0_pay6 (F := Ideal), k0_pay7 (F := Ideal), k0_pay8 (F := Ideal)) n

theorem fwd_state (hx : FwdIn H (i 1).val x0 x1 x2 x3 x4) (n : ℕ) (hn : n ≤ (i 1).val) :
    Acc H (i 1).val (n * 512) (fun r => (fwdState c i arg2 harg2 arg3 harg3 arg4 harg4 arg5 harg5 arg6 harg6 arg7 harg7 arg8 harg8 (x0 := x0) (x1 := x1) (x2 := x2) (x3 := x3) (x4 := x4) n).1 (ix2 r 0)) (fun r => (fwdState c i arg2 harg2 arg3 harg3 arg4 harg4 arg5 harg5 arg6 harg6 arg7 harg7 arg8 harg8 (x0 := x0) (x1 := x1) (x2 := x2) (x3 := x3) (x4 := x4) n).2.1 (ix2 r 0)) (fun r d => (fwdState c i arg2 harg2 arg3 harg3 arg4 harg4 arg5 harg5 arg6 harg6 arg7 harg7 arg8 harg8 (x0 := x0) (x1 := x1) (x2 := x2) (x3 := x3) (x4 := x4) n).2.2 (ix2 r d)) := by
  have hi : (i 1).val < 8 := (i 1).isLt
  induction n with
  | zero =>
    rw [zero_mul]
    exact Acc.zero H _ (fun r => pay6_raw r) (fun r => pay7_raw r) (fun r d => pay8_raw r d)
  | succ n ih =>
    have ih := ih (by omega)
    have hk : n < (k0_t1_loop i).trips := by rw [t1_trips]; omega
    have e := st_k0_t1_succ (F := Ideal) Variants.none c none i arg2 harg2 arg3 harg3 arg4 harg4 arg5 harg5 arg6 harg6 arg7 harg7 arg8 harg8 (View.readAt (Elt Ideal) arg2.view (Rect.unit (s := S512x128) ![0, 0] S512x128.size inb_S512x128_S512x128_0_0).toLoadRect (harg2.unread x0)) (View.readAt (Elt Ideal) arg5.view (Rect.unit (s := S1x512x1) ![0, 0, 0] S1x512x1.size inb_S1x512x1_S1x512x1_0_0_0).toLoadRect (harg5.unread x3)) (harg3.unread x1) (harg4.unread x2) (harg6.unread x4) (k0_pay6 (F := Ideal), k0_pay7 (F := Ideal), k0_pay8 (F := Ideal)) ⟨n, hk⟩
    unfold tripR_k0_t1 trip_k0_t1 at e
    unfold fwdState at ih ⊢
    rw [e]
    refine ih.step (full_wt (by omega : n < (i 1).val) ?_ ?_ ?_ ?_) (by omega) ?_ (fun r => pay10_raw ..) (fun r => pay13_raw ..) (fun r d => pay14_raw ..)
    · intro r d; rw [load_all2]; exact hx.q r d
    · intro r; rw [load_col]; exact hx.cq r
    · intro r d; rw [load_rows _ _ _ _ (off1_eq i ⟨n, hk⟩) r d (by show n * 512 + _ < _; omega)]; exact hx.k _ d
    · intro r; rw [load_tile _ _ _ _ (off2_eq i ⟨n, hk⟩) (by show n < _; omega) r]; exact hx.ck _ r
    · intro r d; rw [load_rows _ _ _ _ (off1_eq i ⟨n, hk⟩) r d (by show n * 512 + _ < _; omega)]; exact hx.v _ d

/-- The carried rows after the whole key loop, the diagonal block included. -/
theorem fwd_acc (hx : FwdIn H (i 1).val x0 x1 x2 x3 x4) :
    Acc H (i 1).val (((i 1).val + 1) * 512)
      (fun r => runFwd.sl.r_3 (F := Ideal) c i arg2 harg2 arg3 harg3 arg4 harg4 arg5 harg5 arg6 harg6 arg7 harg7 arg8 harg8 x0 x1 x2 x3 x4 (ix2 r 0))
      (fun r => runFwd.sl.r_4 (F := Ideal) c i arg2 harg2 arg3 harg3 arg4 harg4 arg5 harg5 arg6 harg6 arg7 harg7 arg8 harg8 x0 x1 x2 x3 x4 (ix2 r 0) * runFwd.sl.r (F := Ideal) c i arg2 harg2 arg3 harg3 arg4 harg4 arg5 harg5 arg6 harg6 arg7 harg7 arg8 harg8 x0 x1 x2 x3 x4 (ix2 r 0)
        + ∑ s, Ideal.exp (runFwd.sl.r_2 (F := Ideal) c i arg2 harg2 arg3 harg3 arg5 harg5 arg6 harg6 x0 x1 x3 x4 (ix2 r s) - runFwd.sl.r_3 (F := Ideal) c i arg2 harg2 arg3 harg3 arg4 harg4 arg5 harg5 arg6 harg6 arg7 harg7 arg8 harg8 x0 x1 x2 x3 x4 (ix2 r 0)))
      (fun r d => runFwd.sl.r_4 (F := Ideal) c i arg2 harg2 arg3 harg3 arg4 harg4 arg5 harg5 arg6 harg6 arg7 harg7 arg8 harg8 x0 x1 x2 x3 x4 (ix2 r 0) * runFwd.sl.r_1 (F := Ideal) c i arg2 harg2 arg3 harg3 arg4 harg4 arg5 harg5 arg6 harg6 arg7 harg7 arg8 harg8 x0 x1 x2 x3 x4 (ix2 r d)
        + ∑ s, Ideal.exp (runFwd.sl.r_2 (F := Ideal) c i arg2 harg2 arg3 harg3 arg5 harg5 arg6 harg6 x0 x1 x3 x4 (ix2 r s) - runFwd.sl.r_3 (F := Ideal) c i arg2 harg2 arg3 harg3 arg4 harg4 arg5 harg5 arg6 harg6 arg7 harg7 arg8 harg8 x0 x1 x2 x3 x4 (ix2 r 0))
          * View.readAt (Elt Ideal) arg4.view (Rect.unit (s := S4096x128) (k0_off5 i) S512x128.size (k0_off5_inb i)).toLoadRect (harg4.unread x2) (ix2 s d)) := by
  have hi : (i 1).val < 8 := (i 1).isLt
  unfold runFwd.sl.r runFwd.sl.r_1 runFwd.sl.r_2 runFwd.sl.r_3 runFwd.sl.r_4
  have e0 : Scf.trips (k0_t2_loop i).lb (k0_t2_loop i).ub (k0_t2_loop i).st = 0 := t2_trips i
  rw [e0]
  have et : Scf.trips (k0_t1_loop i).lb (k0_t1_loop i).ub (k0_t1_loop i).st = (i 1).val := t1_trips i
  rw [et]
  refine (fwd_state c i arg2 harg2 arg3 harg3 arg4 harg4 arg5 harg5 arg6 harg6 arg7 harg7 arg8 harg8 hx (i 1).val le_rfl).step (S := fun r s => _)
    (v := fun s d => View.readAt (Elt Ideal) arg4.view (Rect.unit (s := S4096x128) (k0_off5 i) S512x128.size (k0_off5_inb i)).toLoadRect (harg4.unread x2) (ix2 s d))
    (diag_wt ?_ ?_ ?_ ?_) le_rfl ?_ (fun r => pay22_raw ..) (fun r => ?_) (fun r d => ?_)
  · intro r d; rw [load_all2]; exact hx.q r d
  · intro r; rw [load_col]; exact hx.cq r
  · intro r d; rw [load_rows _ _ _ _ (off5_eq i) r d (by omega)]; exact hx.k _ d
  · intro r; rw [load_tile _ _ _ _ (off6_eq i) hi r]; exact hx.ck _ r
  · intro r d
    show View.readAt _ _ _ _ _ = _
    rw [load_rows _ _ _ _ (off5_eq i) r d (by omega)]; exact hx.v _ d
  · rw [pay23_raw]; rfl
  · rw [pay23_raw]; rfl

/-- The output block: the attention's rows. -/
theorem fwdOut_val (hx : FwdIn H (i 1).val x0 x1 x2 x3 x4) (r : Fin 512) (d : Fin 128) :
    fwdOut (F := Ideal) c i arg2 harg2 arg3 harg3 arg4 harg4 arg5 harg5 arg6 harg6 arg7 harg7 arg8 harg8 x0 x1 x2 x3 x4 (ix2 r d) = ((H.out ((i 1).val * 512 + r.val) d : ℝ) : EReal) := by
  have hi : (i 1).val < 8 := (i 1).isLt
  have hn : ((i 1).val + 1) * 512 ≤ 4096 := by omega
  have hr : (i 1).val * 512 + r.val < ((i 1).val + 1) * 512 := by omega
  have e : fwdOut (F := Ideal) c i arg2 harg2 arg3 harg3 arg4 harg4 arg5 harg5 arg6 harg6 arg7 harg7 arg8 harg8 x0 x1 x2 x3 x4 = k0_pay3 (runFwd.sl.r (F := Ideal) c i arg2 harg2 arg3 harg3 arg4 harg4 arg5 harg5 arg6 harg6 arg7 harg7 arg8 harg8 x0 x1 x2 x3 x4) (runFwd.sl.r_1 (F := Ideal) c i arg2 harg2 arg3 harg3 arg4 harg4 arg5 harg5 arg6 harg6 arg7 harg7 arg8 harg8 x0 x1 x2 x3 x4) (runFwd.sl.r_2 (F := Ideal) c i arg2 harg2 arg3 harg3 arg5 harg5 arg6 harg6 x0 x1 x3 x4) (runFwd.sl.r_3 (F := Ideal) c i arg2 harg2 arg3 harg3 arg4 harg4 arg5 harg5 arg6 harg6 arg7 harg7 arg8 harg8 x0 x1 x2 x3 x4) (runFwd.sl.r_4 (F := Ideal) c i arg2 harg2 arg3 harg3 arg4 harg4 arg5 harg5 arg6 harg6 arg7 harg7 arg8 harg8 x0 x1 x2 x3 x4)
      (View.readAt (Elt Ideal) arg4.view (Rect.unit (s := S4096x128) (k0_off5 i) S512x128.size (k0_off5_inb i)).toLoadRect (harg4.unread x2)) :=
    View.read_writes_full arg7.view arg7.view.junk _ _ []
  rw [e, pay3_raw]
  obtain ⟨h1, h2⟩ := fwd_acc c i arg2 harg2 arg3 harg3 arg4 harg4 arg5 harg5 arg6 harg6 arg7 harg7 arg8 harg8 hx r
  have hp := H.tot_pos (i := (i 1).val * 512 + r.val) (by omega)
  rw [H.tot_eq hr hn] at hp
  rw [row_div (h2 d) h1 hp, H.out_eq hr hn, H.tot_eq hr hn]

/-- The logarithm of each row's total. -/
theorem fwdLse_val (hx : FwdIn H (i 1).val x0 x1 x2 x3 x4) (r : Fin 512) :
    fwdLse (F := Ideal) c i arg2 harg2 arg3 harg3 arg4 harg4 arg5 harg5 arg6 harg6 arg7 harg7 arg8 harg8 x0 x1 x2 x3 x4 (ix3 0 r 0) = ((H.lse ((i 1).val * 512 + r.val) : ℝ) : EReal) := by
  have hi : (i 1).val < 8 := (i 1).isLt
  have hn : ((i 1).val + 1) * 512 ≤ 4096 := by omega
  have hr : (i 1).val * 512 + r.val < ((i 1).val + 1) * 512 := by omega
  have e : fwdLse (F := Ideal) c i arg2 harg2 arg3 harg3 arg4 harg4 arg5 harg5 arg6 harg6 arg7 harg7 arg8 harg8 x0 x1 x2 x3 x4 = k0_pay4 (runFwd.sl.r (F := Ideal) c i arg2 harg2 arg3 harg3 arg4 harg4 arg5 harg5 arg6 harg6 arg7 harg7 arg8 harg8 x0 x1 x2 x3 x4) (runFwd.sl.r_2 (F := Ideal) c i arg2 harg2 arg3 harg3 arg5 harg5 arg6 harg6 x0 x1 x3 x4) (runFwd.sl.r_3 (F := Ideal) c i arg2 harg2 arg3 harg3 arg4 harg4 arg5 harg5 arg6 harg6 arg7 harg7 arg8 harg8 x0 x1 x2 x3 x4) (runFwd.sl.r_4 (F := Ideal) c i arg2 harg2 arg3 harg3 arg4 harg4 arg5 harg5 arg6 harg6 arg7 harg7 arg8 harg8 x0 x1 x2 x3 x4) :=
    View.read_writes_full arg8.view arg8.view.junk _ _ []
  rw [e, pay4_raw]
  obtain ⟨h1, h2⟩ := fwd_acc c i arg2 harg2 arg3 harg3 arg4 harg4 arg5 harg5 arg6 harg6 arg7 harg7 arg8 harg8 hx r
  have hp := H.tot_pos (i := (i 1).val * 512 + r.val) (by omega)
  rw [H.tot_eq hr hn] at hp
  rw [row_log h1 hp, Head.lse, H.tot_eq hr hn]

end Body

end Cert.KernelIdeal.Fox

end

end
-- ==== Proof.KernelIdeal.BwdValue.lean ====
module

public import proofs.«01_k».proof.Proof.KernelIdeal.Bwd
public import proofs.«01_k».proof.Proof.KernelIdeal.FwdValue

@[expose] public section

set_option maxRecDepth 16384

noncomputable section

namespace Cert.Fox

open Idealize.ShloMosaic

/-! ## The gradients of one head, block of keys by block of keys -/

namespace Head

variable (H : Head)

/-- The query gradient's part from the first `b` blocks of keys. -/
def dqTo (b i : ℕ) (d : Fin 128) : ℝ := (∑ j ∈ Finset.range (b * 512), H.ds i j * H.k j d) * sc
/-- The query gate gradient's part from the first `b` blocks of keys. -/
def cqTo (b i : ℕ) : ℝ := ∑ j ∈ Finset.range (b * 512), H.ds i j

theorem dqTo_succ (b i : ℕ) (d : Fin 128) :
    H.dqTo (b + 1) i d = H.dqTo b i d + (∑ s : Fin 512, H.ds i (b * 512 + s.val) * H.k (b * 512 + s.val) d) * sc := by
  rw [dqTo, sum_range_block fun j => H.ds i j * H.k j d, add_mul]; rfl
theorem cqTo_succ (b i : ℕ) : H.cqTo (b + 1) i = H.cqTo b i + ∑ s : Fin 512, H.ds i (b * 512 + s.val) := by
  rw [cqTo, sum_range_block fun j => H.ds i j]; rfl
theorem dqTo_of_lt {b i : ℕ} (h : i < b * 512) (d : Fin 128) : H.dqTo (b + 1) i d = H.dqTo b i d := by
  rw [dqTo_succ, Finset.sum_eq_zero fun s _ => by rw [H.ds_of_lt (by omega), zero_mul], zero_mul, add_zero]
theorem cqTo_of_lt {b i : ℕ} (h : i < b * 512) : H.cqTo (b + 1) i = H.cqTo b i := by
  rw [cqTo_succ, Finset.sum_eq_zero fun s _ => H.ds_of_lt (by omega), add_zero]

end Head

/-- Block `b` of keys against the first `n` blocks of queries: the five gradients so far. -/
structure Part (H : Head) (b n : ℕ) (dq : Fin 4096 → Fin 128 → EReal) (cq : Fin 4096 → EReal) (dk dv : Fin 512 → Fin 128 → EReal)
    (ck : Fin 512 → EReal) : Prop where
  dq : ∀ r d, dq r d = (((if r.val < n * 512 then H.dqTo (b + 1) r.val d else H.dqTo b r.val d) : ℝ) : EReal)
  cq : ∀ r, cq r = (((if r.val < n * 512 then H.cqTo (b + 1) r.val else H.cqTo b r.val) : ℝ) : EReal)
  dk : ∀ s d, dk s d = ((∑ i ∈ Finset.range (n * 512), H.ds i (b * 512 + s.val) * H.q i d : ℝ) : EReal)
  dv : ∀ s d, dv s d = ((∑ i ∈ Finset.range (n * 512), H.pr i (b * 512 + s.val) * H.g i d : ℝ) : EReal)
  ck : ∀ s, ck s = ((-∑ i ∈ Finset.range (n * 512), H.ds i (b * 512 + s.val) : ℝ) : EReal)

section Part

variable {H : Head} {b n : ℕ} {dq dq' : Fin 4096 → Fin 128 → EReal} {cq cq' : Fin 4096 → EReal} {dk dv dk' dv' : Fin 512 → Fin 128 → EReal}
  {ck ck' : Fin 512 → EReal}

/-- The blocks of queries before block `b` do not see block `b` of keys. -/
theorem Part.start (hq : ∀ r d, dq r d = ((H.dqTo b r.val d : ℝ) : EReal)) (hc : ∀ r, cq r = ((H.cqTo b r.val : ℝ) : EReal))
    (hdk : ∀ s d, dk s d = 0) (hdv : ∀ s d, dv s d = 0) (hck : ∀ s, ck s = 0) : Part H b b dq cq dk dv ck where
  dq r d := by
    rw [hq]; split
    · next h => rw [H.dqTo_of_lt h]
    · rfl
  cq r := by
    rw [hc]; split
    · next h => rw [H.cqTo_of_lt h]
    · rfl
  dk s d := by
    rw [hdk, Finset.sum_eq_zero fun i hi => by rw [H.ds_of_lt (by rw [Finset.mem_range] at hi; omega), zero_mul], EReal.coe_zero]
  dv s d := by
    rw [hdv, Finset.sum_eq_zero fun i hi => by rw [H.pr_of_lt (by rw [Finset.mem_range] at hi; omega), zero_mul], EReal.coe_zero]
  ck s := by
    rw [hck, Finset.sum_eq_zero fun i hi => H.ds_of_lt (by rw [Finset.mem_range] at hi; omega), neg_zero, EReal.coe_zero]

/-- One more block of queries. -/
theorem Part.step (h : Part H b n dq cq dk dv ck) (hn : n < 8) {P S : Fin 512 → Fin 512 → EReal} {q g k : Fin 512 → Fin 128 → EReal}
    (hP : ∀ r s, P r s = ((H.pr (n * 512 + r.val) (b * 512 + s.val) : ℝ) : EReal))
    (hS : ∀ r s, S r s = ((H.ds (n * 512 + r.val) (b * 512 + s.val) : ℝ) : EReal))
    (hq : ∀ r d, q r d = ((H.q (n * 512 + r.val) d : ℝ) : EReal)) (hg : ∀ r d, g r d = ((H.g (n * 512 + r.val) d : ℝ) : EReal))
    (hk : ∀ s d, k s d = ((H.k (b * 512 + s.val) d : ℝ) : EReal))
    (dq1 : ∀ (r : Fin 512) (hr : n * 512 + r.val < 4096) d, dq' ⟨n * 512 + r.val, hr⟩ d = dq ⟨n * 512 + r.val, hr⟩ d + (∑ s, S r s * k s d) * Ideal.ofBits FTy.f32 0x3DB504F3#32)
    (dq0 : ∀ r d, (r.val < n * 512 ∨ n * 512 + 512 ≤ r.val) → dq' r d = dq r d)
    (cq1 : ∀ (r : Fin 512) (hr : n * 512 + r.val < 4096), cq' ⟨n * 512 + r.val, hr⟩ = cq ⟨n * 512 + r.val, hr⟩ + ∑ s, S r s)
    (cq0 : ∀ r, (r.val < n * 512 ∨ n * 512 + 512 ≤ r.val) → cq' r = cq r)
    (hdk : ∀ s d, dk' s d = dk s d + ∑ r, S r s * q r d) (hdv : ∀ s d, dv' s d = dv s d + ∑ r, P r s * g r d)
    (hck : ∀ s, ck' s = ck s - ∑ r, S r s) : Part H b (n + 1) dq' cq' dk' dv' ck' where
  dq r d := by
    by_cases hr : n * 512 ≤ r.val ∧ r.val < n * 512 + 512
    · obtain ⟨h1, h2⟩ := hr
      have e : r = ⟨n * 512 + (⟨r.val - n * 512, by omega⟩ : Fin 512).val, by show n * 512 + (r.val - n * 512) < 4096; omega⟩ :=
        Fin.ext (show r.val = n * 512 + (r.val - n * 512) by omega)
      have ev : n * 512 + (r.val - n * 512) = r.val := by omega
      rw [e, dq1, h.dq]
      simp only [hS, hk, ofBits_sc, ← EReal.coe_mul, sum_coe, ← EReal.coe_add]
      rw [ev, if_neg (by omega), if_pos (by omega), H.dqTo_succ]
    · rw [dq0 r d (by omega), h.dq]
      refine congrArg Real.toEReal ?_
      split
      · rw [if_pos (by omega)]
      · rw [if_neg (by omega)]
  cq r := by
    by_cases hr : n * 512 ≤ r.val ∧ r.val < n * 512 + 512
    · obtain ⟨h1, h2⟩ := hr
      have e : r = ⟨n * 512 + (⟨r.val - n * 512, by omega⟩ : Fin 512).val, by show n * 512 + (r.val - n * 512) < 4096; omega⟩ :=
        Fin.ext (show r.val = n * 512 + (r.val - n * 512) by omega)
      have ev : n * 512 + (r.val - n * 512) = r.val := by omega
      rw [e, cq1, h.cq]
      simp only [hS, sum_coe, ← EReal.coe_add]
      rw [ev, if_neg (by omega), if_pos (by omega), H.cqTo_succ]
    · rw [cq0 r (by omega), h.cq]
      refine congrArg Real.toEReal ?_
      split
      · rw [if_pos (by omega)]
      · rw [if_neg (by omega)]
  dk s d := by
    rw [hdk, h.dk, sum_range_block fun i => H.ds i (b * 512 + s.val) * H.q i d]
    simp only [hS, hq, ← EReal.coe_mul, sum_coe, ← EReal.coe_add]
  dv s d := by
    rw [hdv, h.dv, sum_range_block fun i => H.pr i (b * 512 + s.val) * H.g i d]
    simp only [hP, hg, ← EReal.coe_mul, sum_coe, ← EReal.coe_add]
  ck s := by
    rw [hck, h.ck, sum_range_block fun i => H.ds i (b * 512 + s.val)]
    simp only [hS, sum_coe, ← EReal.coe_sub]
    refine congrArg Real.toEReal ?_
    ring

end Part

end Cert.Fox

namespace Cert.KernelIdeal.Fox

open Cert.KernelIdeal Cert.KernelIdeal.Gen Cert.Fox
open Idealize.ShloMosaic Idealize.ShloMosaic.TcCoe Idealize.SL.Sem

/-! ## The backward body's values, entry by entry -/

section Raw

variable (v3 v4 v92 : Vec Ideal S512x128 .bf16) (v6 : FVec Ideal S1x512 .f32) (v5 : Vec Ideal S1x1x512 .f32) (v97 v104 v129 : Vec Ideal S1x512x1 .f32)
  (v110 v120 : Vec Ideal S512x128 .f32) (v114 : Vec Ideal S512x1 .f32) (P S : FVec Ideal S512x512 .f32) (a : FVec Ideal S512x128 .f32) (e : FVec Ideal S1x512 .f32)

theorem bpr_raw (r s : Fin 512) : k1_pay12 v3 v6 v92 v97 v104 (ix2 r s) =
    Ideal.exp ((∑ x, v92 (ix2 r x) * v3 (ix2 s x)) * Ideal.ofBits FTy.f32 0x3DB504F3#32 + v97 (ix3 0 r 0) - v6 (ix2 0 s) - v104 (ix3 0 r 0)) := by
  pointwise [k1_pay12]
theorem bds_raw (r s : Fin 512) : k1_pay14 v3 v4 v6 v92 v97 v104 v110 v114 (ix2 r s) =
    (k1_pay12 v3 v6 v92 v97 v104 (ix2 r s) * ((∑ x, v110 (ix2 r x) * v4 (ix2 s x)) - v114 (ix2 r 0)) : EReal) := by
  pointwise [k1_pay14, k1_pay13]
theorem bdq_raw (r : Fin 512) (d : Fin 128) : k1_pay16 v3 v4 v6 v92 v97 v104 v110 v114 v120 (ix2 r d) =
    (v120 (ix2 r d) + (∑ s, k1_pay14 v3 v4 v6 v92 v97 v104 v110 v114 (ix2 r s) * v3 (ix2 s d)) * Ideal.ofBits FTy.f32 0x3DB504F3#32 : EReal) := by
  pointwise [k1_pay16, k1_pay15]
theorem bcq_raw (r : Fin 512) : k1_pay1 S v129 (ix3 0 r 0) = (v129 (ix3 0 r 0) + ∑ s, S (ix2 r s) : EReal) := by
  pointwise [k1_pay1]
theorem bdk_raw (s : Fin 512) (d : Fin 128) : k1_pay2 a v92 (k1_pay15 v3 v4 v6 v92 v97 v104 v110 v114) (ix2 s d) =
    (a (ix2 s d) + ∑ r, k1_pay14 v3 v4 v6 v92 v97 v104 v110 v114 (ix2 r s) * v92 (ix2 r d) : EReal) := by
  pointwise [k1_pay2, k1_pay15]
theorem bdv_raw (s : Fin 512) (d : Fin 128) : k1_pay3 a P (k1_pay13 v110) (ix2 s d) =
    (a (ix2 s d) + ∑ r, P (ix2 r s) * v110 (ix2 r d) : EReal) := by
  pointwise [k1_pay3, k1_pay13]
theorem bck_raw (s : Fin 512) : k1_pay4 e S (ix2 0 s) = (e (ix2 0 s) - ∑ r, S (ix2 r s) : EReal) := by
  pointwise [k1_pay4]

theorem out_dk_raw (s : Fin 512) (d : Fin 128) : k1_pay9 a (ix2 s d) = (a (ix2 s d) * Ideal.ofBits FTy.f32 0x3DB504F3#32 : EReal) := by
  pointwise [k1_pay9]
theorem out_dv_raw (s : Fin 512) (d : Fin 128) : k1_pay10 a (ix2 s d) = (a (ix2 s d) : EReal) := by
  pointwise [k1_pay10]
theorem out_ck_raw (s : Fin 512) : k1_pay11 e (ix3 0 0 s) = (e (ix2 0 s) : EReal) := by
  pointwise [k1_pay11]

theorem zero_dq_raw (r : Fin 4096) (d : Fin 128) : k1_pay22 (F := Ideal) (ix2 r d) = (0 : EReal) := by
  pointwise [k1_pay22]
theorem zero_cq_raw (r : Fin 4096) : k1_pay23 (F := Ideal) (ix3 0 r 0) = (0 : EReal) := by
  pointwise [k1_pay23]
theorem sums_raw (x y : Vec Ideal S4096x128 .f32) (r : Fin 4096) : k1_pay24 x y (ix2 r 0) = (∑ d, x (ix2 r d) * y (ix2 r d) : EReal) := by
  pointwise [k1_pay24]
theorem gate_raw (s : Fin 512) : k1_pay25 v5 (ix2 0 s) = (v5 (ix3 0 0 s) : EReal) := by
  pointwise [k1_pay25]
theorem zero_dk_raw (r : Fin 512) (d : Fin 128) : k1_pay26 (F := Ideal) (ix2 r d) = (0 : EReal) := by
  pointwise [k1_pay26]
theorem zero_dv_raw (r : Fin 512) (d : Fin 128) : k1_pay27 (F := Ideal) (ix2 r d) = (0 : EReal) := by
  pointwise [k1_pay27]
theorem zero_ck_raw (r : Fin 512) : k1_pay28 (F := Ideal) (ix2 0 r) = (0 : EReal) := by
  pointwise [k1_pay28]

theorem dpr_raw (r s : Fin 512) : k1_pay29 v3 v5 v92 v97 v104 (ix2 r s) =
    Ideal.exp (Scalar.select (IntOp.cmpi .sle (BitVec.ofNat 32 s.val) (BitVec.ofNat 32 r.val))
      ((∑ x, v92 (ix2 r x) * v3 (ix2 s x)) * Ideal.ofBits FTy.f32 0x3DB504F3#32 + v97 (ix3 0 r 0) - v5 (ix3 0 0 s) : EReal) (⊥ : EReal) - v104 (ix3 0 r 0)) := by
  rw [← mask_bot]
  pointwise [k1_pay29, k1_pay25]
theorem dds_raw (r s : Fin 512) : k1_pay31 v4 P v110 v114 (ix2 r s) =
    (P (ix2 r s) * ((∑ x, v110 (ix2 r x) * v4 (ix2 s x)) - v114 (ix2 r 0)) : EReal) := by
  pointwise [k1_pay31, k1_pay30]
theorem ddq_raw (r : Fin 512) (d : Fin 128) : k1_pay33 v3 v4 P v110 v114 v120 (ix2 r d) =
    (v120 (ix2 r d) + (∑ s, k1_pay31 v4 P v110 v114 (ix2 r s) * v3 (ix2 s d)) * Ideal.ofBits FTy.f32 0x3DB504F3#32 : EReal) := by
  pointwise [k1_pay33, k1_pay32]
theorem dcq_raw (r : Fin 512) : k1_pay34 v4 P v110 v114 v129 (ix3 0 r 0) = (v129 (ix3 0 r 0) + ∑ s, k1_pay31 v4 P v110 v114 (ix2 r s) : EReal) := by
  pointwise [k1_pay34]
theorem ddk_raw (s : Fin 512) (d : Fin 128) : k1_pay35 v4 a v92 P v110 v114 (ix2 s d) =
    (a (ix2 s d) + ∑ r, k1_pay31 v4 P v110 v114 (ix2 r s) * v92 (ix2 r d) : EReal) := by
  pointwise [k1_pay35, k1_pay32]
theorem ddv_raw (s : Fin 512) (d : Fin 128) : k1_pay36 a P v110 (ix2 s d) = (a (ix2 s d) + ∑ r, P (ix2 r s) * v110 (ix2 r d) : EReal) := by
  pointwise [k1_pay36, k1_pay30]
theorem dck_raw (s : Fin 512) : k1_pay37 v4 e P v110 v114 (ix2 0 s) = (e (ix2 0 s) - ∑ r, k1_pay31 v4 P v110 v114 (ix2 r s) : EReal) := by
  pointwise [k1_pay37]

end Raw

/-! ## Loads and stores of whole staging buffers -/

theorem read_rows {e : EltTy} (arg : Memref sig .tc .vmem S4096x128 e) (f : arg.view.ty.Contents (Elt Ideal)) {off : Fin 2 → ℕ}
    (hb : ∀ a, off a + S512x128.size a ≤ S4096x128.size a) {b : ℕ} (ho : off = ![b * 512, 0]) (r : Fin 512) (d : Fin 128) (hr : b * 512 + r.val < 4096) :
    View.readAt (Elt Ideal) arg.view (Rect.unit (s := S4096x128) off S512x128.size hb).toLoadRect f (ix2 r d) = arg.view.read (Elt Ideal) f (ix2 ⟨b * 512 + r.val, hr⟩ d) := by
  subst ho
  rw [View.readAt_eq_ld]
  pointwise

theorem read_gates {e : EltTy} (arg : Memref sig .tc .vmem S1x4096x1 e) (f : arg.view.ty.Contents (Elt Ideal)) {off : Fin 3 → ℕ}
    (hb : ∀ a, off a + S1x512x1.size a ≤ S1x4096x1.size a) {b : ℕ} (ho : off = ![0, b * 512, 0]) (r : Fin 512) (hr : b * 512 + r.val < 4096) :
    View.readAt (Elt Ideal) arg.view (Rect.unit (s := S1x4096x1) off S1x512x1.size hb).toLoadRect f (ix3 0 r 0) = arg.view.read (Elt Ideal) f (ix3 0 ⟨b * 512 + r.val, hr⟩ 0) := by
  subst ho
  rw [View.readAt_eq_ld]
  pointwise

theorem read_sums {e : EltTy} (arg : Memref sig .tc .vmem S4096x1 e) (f : arg.view.ty.Contents (Elt Ideal)) {off : Fin 2 → ℕ}
    (hb : ∀ a, off a + S512x1.size a ≤ S4096x1.size a) {b : ℕ} (ho : off = ![b * 512, 0]) (r : Fin 512) (hr : b * 512 + r.val < 4096) :
    View.readAt (Elt Ideal) arg.view (Rect.unit (s := S4096x1) off S512x1.size hb).toLoadRect f (ix2 r 0) = arg.view.read (Elt Ideal) f (ix2 ⟨b * 512 + r.val, hr⟩ 0) := by
  subst ho
  rw [View.readAt_eq_ld]
  pointwise

theorem load_all4096 {e : EltTy} (arg : Memref sig .tc .vmem S4096x128 e) (h : arg.IsWhole) (x : Vec Ideal S4096x128 e) (r : Fin 4096) (d : Fin 128) :
    View.readAt (Elt Ideal) arg.view (Rect.unit (s := S4096x128) ![0, 0] S4096x128.size inb_S4096x128_S4096x128_0_0).toLoadRect (h.unread x) (ix2 r d) = x (ix2 r d) := by
  rw [View.readAt_eq_ld, h.read_unread]
  pointwise

theorem load_keys {e : EltTy} (arg : Memref sig .tc .vmem S1x1x512 e) (h : arg.IsWhole) (x : Vec Ideal S1x1x512 e) (s : Fin 512) :
    View.readAt (Elt Ideal) arg.view (Rect.unit (s := S1x1x512) ![0, 0, 0] S1x1x512.size inb_S1x1x512_S1x1x512_0_0_0).toLoadRect (h.unread x) (ix3 0 0 s) = x (ix3 0 0 s) := by
  rw [View.readAt_eq_ld, h.read_unread]
  pointwise

section Store

variable (arg : Memref sig .tc .vmem S4096x128 .f32) (f : arg.view.ty.Contents (Elt Ideal)) {off : Fin 2 → ℕ}
  (hb : ∀ a, off a + S512x128.size a ≤ S4096x128.size a) {b : ℕ} (ho : off = ![b * 512, 0]) (w : Vec Ideal S512x128 .f32) (L : List (View.Piece (Elt Ideal) S4096x128 .f32))
include ho

theorem put_rows (r : Fin 512) (d : Fin 128) (hr : b * 512 + r.val < 4096) :
    arg.view.read (Elt Ideal) (arg.view.writes (Elt Ideal) f (⟨Rect.unit (s := S4096x128) off S512x128.size hb, w⟩ :: L)) (ix2 ⟨b * 512 + r.val, hr⟩ d) = w (ix2 r d) :=
  View.read_writes_cons_unit_of_mem arg.view f hb w L _ (ix2 r d) ho fun a => by
    fin_cases a
    · rfl
    · exact (Nat.zero_add _).symm

theorem put_rows_other (r : Fin 4096) (d : Fin 128) (hr : r.val < b * 512 ∨ b * 512 + 512 ≤ r.val) :
    arg.view.read (Elt Ideal) (arg.view.writes (Elt Ideal) f (⟨Rect.unit (s := S4096x128) off S512x128.size hb, w⟩ :: L)) (ix2 r d)
      = arg.view.read (Elt Ideal) (arg.view.writes (Elt Ideal) f L) (ix2 r d) :=
  View.read_writes_cons_unit_of_not_mem arg.view f hb w L _ ho (0 : Fin 2) hr

end Store

section Store

variable (arg : Memref sig .tc .vmem S1x4096x1 .f32) (f : arg.view.ty.Contents (Elt Ideal)) {off : Fin 3 → ℕ}
  (hb : ∀ a, off a + S1x512x1.size a ≤ S1x4096x1.size a) {b : ℕ} (ho : off = ![0, b * 512, 0]) (w : Vec Ideal S1x512x1 .f32) (L : List (View.Piece (Elt Ideal) S1x4096x1 .f32))
include ho

theorem put_gates (r : Fin 512) (hr : b * 512 + r.val < 4096) :
    arg.view.read (Elt Ideal) (arg.view.writes (Elt Ideal) f (⟨Rect.unit (s := S1x4096x1) off S1x512x1.size hb, w⟩ :: L)) (ix3 0 ⟨b * 512 + r.val, hr⟩ 0) = w (ix3 0 r 0) :=
  View.read_writes_cons_unit_of_mem arg.view f hb w L _ (ix3 0 r 0) ho fun a => by
    fin_cases a
    · rfl
    · rfl
    · rfl

theorem put_gates_other (r : Fin 4096) (hr : r.val < b * 512 ∨ b * 512 + 512 ≤ r.val) :
    arg.view.read (Elt Ideal) (arg.view.writes (Elt Ideal) f (⟨Rect.unit (s := S1x4096x1) off S1x512x1.size hb, w⟩ :: L)) (ix3 0 r 0)
      = arg.view.read (Elt Ideal) (arg.view.writes (Elt Ideal) f L) (ix3 0 r 0) :=
  View.read_writes_cons_unit_of_not_mem arg.view f hb w L _ ho (1 : Fin 3) hr

end Store

/-! ## The loop's bounds and offsets -/

theorem b1_trips : ∀ i : grid1.Coords, (k1_t1_loop i).trips = 7 - (i 1).val := by decide +kernel
theorem b2_trips : ∀ i : grid1.Coords, (k1_t2_loop i).trips = 0 := by decide +kernel
theorem boff1_eq : ∀ i : grid1.Coords, k1_off1 i = ![(i 1).val * 512, 0] := by decide +kernel
theorem boff2_eq : ∀ i : grid1.Coords, k1_off2 i = ![0, (i 1).val * 512, 0] := by decide +kernel
theorem boff3_eq : ∀ i : grid1.Coords, k1_off3 i = ![(i 1).val * 512, 0] := by decide +kernel
theorem boff4_eq : ∀ (i : grid1.Coords) (k : Fin (k1_t1_loop i).trips), k1_off4 i k = ![((i 1).val + 1 + k.val) * 512, 0] := by decide +kernel
theorem boff5_eq : ∀ (i : grid1.Coords) (k : Fin (k1_t1_loop i).trips), k1_off5 i k = ![0, ((i 1).val + 1 + k.val) * 512, 0] := by decide +kernel
theorem boff6_eq : ∀ (i : grid1.Coords) (k : Fin (k1_t1_loop i).trips), k1_off6 i k = ![((i 1).val + 1 + k.val) * 512, 0] := by decide +kernel

/-! ## One tile -/

section Tile

variable {H : Head} {n b : ℕ} {v3 v4 v92 : Vec Ideal S512x128 .bf16} {v6 : FVec Ideal S1x512 .f32} {v5 : Vec Ideal S1x1x512 .f32} {v97 v104 : Vec Ideal S1x512x1 .f32}
  {v110 : Vec Ideal S512x128 .f32} {v114 : Vec Ideal S512x1 .f32}

theorem bscore (h3 : ∀ s d, v3 (ix2 s d) = ((H.k (b * 512 + s.val) d : ℝ) : EReal)) (h92 : ∀ r d, v92 (ix2 r d) = ((H.q (n * 512 + r.val) d : ℝ) : EReal))
    (h97 : ∀ r, v97 (ix3 0 r 0) = ((H.c (n * 512 + r.val) : ℝ) : EReal)) {y : EReal} {s : Fin 512} (hy : y = ((H.c (b * 512 + s.val) : ℝ) : EReal)) (r : Fin 512) :
    ((∑ x, v92 (ix2 r x) * v3 (ix2 s x)) * Ideal.ofBits FTy.f32 0x3DB504F3#32 + v97 (ix3 0 r 0) - y : EReal) = ((H.score (n * 512 + r.val) (b * 512 + s.val) : ℝ) : EReal) := by
  simp only [h3, h92, h97, hy, ofBits_sc, ← EReal.coe_mul, sum_coe, ← EReal.coe_add, ← EReal.coe_sub]
  rfl

/-- The probabilities of a block of queries after the block of keys. -/
theorem bpr_val (hn : n < 8) (hb : b < n) (h3 : ∀ s d, v3 (ix2 s d) = ((H.k (b * 512 + s.val) d : ℝ) : EReal)) (h6 : ∀ s, v6 (ix2 0 s) = ((H.c (b * 512 + s.val) : ℝ) : EReal))
    (h92 : ∀ r d, v92 (ix2 r d) = ((H.q (n * 512 + r.val) d : ℝ) : EReal)) (h97 : ∀ r, v97 (ix3 0 r 0) = ((H.c (n * 512 + r.val) : ℝ) : EReal))
    (h104 : ∀ r, v104 (ix3 0 r 0) = ((H.lse (n * 512 + r.val) : ℝ) : EReal)) (r s : Fin 512) :
    k1_pay12 v3 v6 v92 v97 v104 (ix2 r s) = ((H.pr (n * 512 + r.val) (b * 512 + s.val) : ℝ) : EReal) := by
  rw [bpr_raw, bscore h3 h92 h97 (h6 s), h104, ← EReal.coe_sub, exp_coe', H.pr_eq_exp (by omega) (by omega)]

/-- The probabilities of the diagonal block. -/
theorem dpr_val (hb : b < 8) (h3 : ∀ s d, v3 (ix2 s d) = ((H.k (b * 512 + s.val) d : ℝ) : EReal)) (h5 : ∀ s, v5 (ix3 0 0 s) = ((H.c (b * 512 + s.val) : ℝ) : EReal))
    (h92 : ∀ r d, v92 (ix2 r d) = ((H.q (b * 512 + r.val) d : ℝ) : EReal)) (h97 : ∀ r, v97 (ix3 0 r 0) = ((H.c (b * 512 + r.val) : ℝ) : EReal))
    (h104 : ∀ r, v104 (ix3 0 r 0) = ((H.lse (b * 512 + r.val) : ℝ) : EReal)) (r s : Fin 512) :
    k1_pay29 v3 v5 v92 v97 v104 (ix2 r s) = ((H.pr (b * 512 + r.val) (b * 512 + s.val) : ℝ) : EReal) := by
  rw [dpr_raw, bscore h3 h92 h97 (h5 s), h104, sle_small]
  by_cases h : s.val ≤ r.val
  · rw [if_pos h, H.pr_eq_exp (by omega) (by omega), ← exp_coe', EReal.coe_sub]; rfl
  · rw [if_neg h, H.pr_of_lt (by omega), EReal.coe_zero, ← exp_bot]
    exact congrArg Ideal.exp (EReal.bot_sub _)

theorem bds_of_pr {P : EReal} {r s : Fin 512} (hP : P = ((H.pr (n * 512 + r.val) (b * 512 + s.val) : ℝ) : EReal)) (h4 : ∀ s d, v4 (ix2 s d) = ((H.v (b * 512 + s.val) d : ℝ) : EReal))
    (h110 : ∀ r d, v110 (ix2 r d) = ((H.g (n * 512 + r.val) d : ℝ) : EReal)) (h114 : ∀ r, v114 (ix2 r 0) = ((H.dl (n * 512 + r.val) : ℝ) : EReal)) :
    (P * ((∑ x, v110 (ix2 r x) * v4 (ix2 s x)) - v114 (ix2 r 0)) : EReal) = ((H.ds (n * 512 + r.val) (b * 512 + s.val) : ℝ) : EReal) := by
  simp only [hP, h4, h110, h114, ← EReal.coe_mul, sum_coe, ← EReal.coe_sub]
  rfl

end Tile

section Body

variable {H : Head} (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (c : Dev nD) (i : grid1.Coords)
  {v3 v4 : Vec Ideal S512x128 .bf16} {v5 : Vec Ideal S1x1x512 .f32} (v72 : BitVec 32)
  {X2 : arg2.view.ty.Contents (Elt Ideal)} {X5 : arg5.view.ty.Contents (Elt Ideal)} {X8 : arg8.view.ty.Contents (Elt Ideal)} {X9 : arg9.view.ty.Contents (Elt Ideal)} {X15 : arg15.view.ty.Contents (Elt Ideal)}

/-- What the backward body reads at key block `b` of one head: the keys, values and gates of the block, and all the head's queries,
gates, cotangents, logarithms of totals and row sums. -/
structure Reads (H : Head) (b : ℕ) (arg2 : Memref sig .tc .vmem S4096x128 .bf16) (arg5 : Memref sig .tc .vmem S1x4096x1 .f32) (arg8 : Memref sig .tc .vmem S4096x128 .f32)
    (arg9 : Memref sig .tc .vmem S1x4096x1 .f32) (arg15 : Memref sig .tc .vmem S4096x1 .f32) (v3 v4 : Vec Ideal S512x128 .bf16) (v5 : Vec Ideal S1x1x512 .f32)
    (X2 : arg2.view.ty.Contents (Elt Ideal)) (X5 : arg5.view.ty.Contents (Elt Ideal)) (X8 : arg8.view.ty.Contents (Elt Ideal)) (X9 : arg9.view.ty.Contents (Elt Ideal)) (X15 : arg15.view.ty.Contents (Elt Ideal)) : Prop where
  k : ∀ (s : Fin 512) (d : Fin 128), v3 (ix2 s d) = ((H.k (b * 512 + s.val) d : ℝ) : EReal)
  v : ∀ (s : Fin 512) (d : Fin 128), v4 (ix2 s d) = ((H.v (b * 512 + s.val) d : ℝ) : EReal)
  ck : ∀ s : Fin 512, v5 (ix3 0 0 s) = ((H.c (b * 512 + s.val) : ℝ) : EReal)
  q : ∀ (r : Fin 4096) (d : Fin 128), arg2.view.read (Elt Ideal) X2 (ix2 r d) = ((H.q r.val d : ℝ) : EReal)
  cq : ∀ r : Fin 4096, arg5.view.read (Elt Ideal) X5 (ix3 0 r 0) = ((H.c r.val : ℝ) : EReal)
  g : ∀ (r : Fin 4096) (d : Fin 128), arg8.view.read (Elt Ideal) X8 (ix2 r d) = ((H.g r.val d : ℝ) : EReal)
  lse : ∀ r : Fin 4096, arg9.view.read (Elt Ideal) X9 (ix3 0 r 0) = ((H.lse r.val : ℝ) : EReal)
  dl : ∀ r : Fin 4096, arg15.view.read (Elt Ideal) X15 (ix2 r 0) = ((H.dl r.val : ℝ) : EReal)

variable {G10 : arg10.view.ty.Contents (Elt Ideal)} {G14 : arg14.view.ty.Contents (Elt Ideal)} {init : FVec Ideal S512x128 .f32 × FVec Ideal S512x128 .f32 × FVec Ideal S1x512 .f32}

/-- The gradients after `n` trips of the loop over the later blocks of queries. -/
theorem bwd_state (hx : Reads H (i 1).val arg2 arg5 arg8 arg9 arg15 v3 v4 v5 X2 X5 X8 X9 X15)
    (h0 : Part H (i 1).val ((i 1).val + 1) (fun r d => arg10.view.read (Elt Ideal) G10 (ix2 r d)) (fun r => arg14.view.read (Elt Ideal) G14 (ix3 0 r 0))
      (fun s d => init.1 (ix2 s d)) (fun s d => init.2.1 (ix2 s d)) (fun s => init.2.2 (ix2 0 s)))
    (n : ℕ) (hn : n ≤ 7 - (i 1).val) {S} (hS : S = st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v3 v4 (k1_pay25 v5) v72 X2 X5 X8 X9 X15 G10 G14 init n) :
    Part H (i 1).val ((i 1).val + 1 + n) (fun r d => arg10.view.read (Elt Ideal) (arg10.view.writes (Elt Ideal) G10 S.2.1) (ix2 r d))
      (fun r => arg14.view.read (Elt Ideal) (arg14.view.writes (Elt Ideal) G14 S.2.2) (ix3 0 r 0))
      (fun s d => S.1.1 (ix2 s d)) (fun s d => S.1.2.1 (ix2 s d)) (fun s => S.1.2.2 (ix2 0 s)) := by
  have hi : (i 1).val < 8 := (i 1).isLt
  induction n generalizing S with
  | zero => subst hS; exact h0
  | succ n ih =>
    have ih := ih (by omega) rfl
    have hk : n < (k1_t1_loop i).trips := by rw [b1_trips]; omega
    have e := st_k1_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v3 v4 (k1_pay25 v5) v72 X2 X5 X8 X9 X15 G10 G14 init ⟨n, hk⟩
    unfold tripR_k1_t1 tripL_k1_t1 trip_k1_t1 at e
    rw [hS, e]
    have hr : ∀ r : Fin 512, ((i 1).val + 1 + n) * 512 + r.val < 4096 := fun r => by omega
    have hq := fun (r : Fin 512) (d : Fin 128) => (read_rows arg2 X2 (k1_off4_inb i ⟨n, hk⟩) (boff4_eq i ⟨n, hk⟩) r d (hr r)).trans (hx.q _ d)
    have hc := fun (r : Fin 512) => (read_gates arg5 X5 (k1_off5_inb i ⟨n, hk⟩) (boff5_eq i ⟨n, hk⟩) r (hr r)).trans (hx.cq _)
    have hl := fun (r : Fin 512) => (read_gates arg9 X9 (k1_off5_inb i ⟨n, hk⟩) (boff5_eq i ⟨n, hk⟩) r (hr r)).trans (hx.lse _)
    have hg := fun (r : Fin 512) (d : Fin 128) => (read_rows arg8 X8 (k1_off4_inb i ⟨n, hk⟩) (boff4_eq i ⟨n, hk⟩) r d (hr r)).trans (hx.g _ d)
    have hd := fun (r : Fin 512) => (read_sums arg15 X15 (k1_off6_inb i ⟨n, hk⟩) (boff6_eq i ⟨n, hk⟩) r (hr r)).trans (hx.dl _)
    have h6 : ∀ s, k1_pay25 v5 (ix2 0 s) = ((H.c ((i 1).val * 512 + s.val) : ℝ) : EReal) := fun s => (gate_raw v5 s).trans (hx.ck s)
    have hP := bpr_val (n := (i 1).val + 1 + n) (b := (i 1).val) (by omega) (by omega) hx.k h6 hq hc hl
    have hDs := fun r s => (bds_raw v3 v4 _ (k1_pay25 v5) _ _ _ _ r s).trans (bds_of_pr (hP r s) hx.v hg hd)
    exact ih.step (by omega) hP hDs hq hg hx.k
      (fun r hr d => (put_rows arg10 G10 _ (boff4_eq i ⟨n, hk⟩) _ _ r d hr).trans ((bdq_raw ..).trans (congrArg (· + _) (read_rows arg10 _ _ (boff4_eq i ⟨n, hk⟩) r d hr))))
      (fun r d hr => put_rows_other arg10 G10 _ (boff4_eq i ⟨n, hk⟩) _ _ r d hr)
      (fun r hr => (put_gates arg14 G14 _ (boff5_eq i ⟨n, hk⟩) _ _ r hr).trans ((bcq_raw ..).trans (congrArg (· + _) (read_gates arg14 _ _ (boff5_eq i ⟨n, hk⟩) r hr))))
      (fun r hr => put_gates_other arg14 G14 _ (boff5_eq i ⟨n, hk⟩) _ _ r hr)
      (fun s d => bdk_raw ..) (fun s d => bdv_raw ..) (fun s => bck_raw ..)

end Body

end Cert.KernelIdeal.Fox

end

end
-- ==== Proof.KernelIdeal.BwdPoint.lean ====
module

public import proofs.«01_k».proof.Proof.KernelIdeal.BwdValue

@[expose] public section

set_option maxRecDepth 16384

noncomputable section

namespace Cert.KernelIdeal.Fox

open Cert.KernelIdeal Cert.KernelIdeal.Gen Cert.Fox
open Idealize.ShloMosaic Idealize.ShloMosaic.TcCoe Idealize.SL.Sem

section Body

variable {H : Head} (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x4096x1 .f32) (harg5 : arg5.IsWhole) (arg6 : Memref sig .tc .vmem S1x1x512 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1x4096x1 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x1x512 .f32) (harg13 : arg13.IsWhole) (arg14 : Memref sig .tc .vmem S1x4096x1 .f32) (harg14 : arg14.IsWhole) (arg15 : Memref sig .tc .vmem S4096x1 .f32) (harg15 : arg15.IsWhole) (c : Dev nD) (i : grid1.Coords)

section Defs

variable (v3 v4 : Vec Ideal S512x128 .bf16) (v5 : Vec Ideal S1x1x512 .f32) (v72 : BitVec 32)
  (X2 : arg2.view.ty.Contents (Elt Ideal)) (X5 : arg5.view.ty.Contents (Elt Ideal)) (X8 : arg8.view.ty.Contents (Elt Ideal)) (X9 : arg9.view.ty.Contents (Elt Ideal)) (X15 : arg15.view.ty.Contents (Elt Ideal))
  (B10 : arg10.view.ty.Contents (Elt Ideal)) (B14 : arg14.view.ty.Contents (Elt Ideal))

/-- The query gradient's buffer after the diagonal block. -/
abbrev diag10 : arg10.view.ty.Contents (Elt Ideal) := (arg10.view.writes (Elt Ideal) B10 [⟨Rect.unit (s := S4096x128) (k1_off1 i) S512x128.size (k1_off1_inb i), k1_pay33 v3 v4 (k1_pay29 v3 v5 (View.readAt (Elt Ideal) arg2.view (Rect.unit (s := S4096x128) (k1_off1 i) S512x128.size (k1_off1_inb i)).toLoadRect X2) (View.readAt (Elt Ideal) arg5.view (Rect.unit (s := S1x4096x1) (k1_off2 i) S1x512x1.size (k1_off2_inb i)).toLoadRect X5) (View.readAt (Elt Ideal) arg9.view (Rect.unit (s := S1x4096x1) (k1_off2 i) S1x512x1.size (k1_off2_inb i)).toLoadRect X9)) (View.readAt (Elt Ideal) arg8.view (Rect.unit (s := S4096x128) (k1_off1 i) S512x128.size (k1_off1_inb i)).toLoadRect X8) (View.readAt (Elt Ideal) arg15.view (Rect.unit (s := S4096x1) (k1_off3 i) S512x1.size (k1_off3_inb i)).toLoadRect X15) (View.readAt (Elt Ideal) arg10.view (Rect.unit (s := S4096x128) (k1_off1 i) S512x128.size (k1_off1_inb i)).toLoadRect B10)⟩])
/-- The query gate gradient's buffer after the diagonal block. -/
abbrev diag14 : arg14.view.ty.Contents (Elt Ideal) := (arg14.view.writes (Elt Ideal) B14 [⟨Rect.unit (s := S1x4096x1) (k1_off2 i) S1x512x1.size (k1_off2_inb i), k1_pay34 v4 (k1_pay29 v3 v5 (View.readAt (Elt Ideal) arg2.view (Rect.unit (s := S4096x128) (k1_off1 i) S512x128.size (k1_off1_inb i)).toLoadRect X2) (View.readAt (Elt Ideal) arg5.view (Rect.unit (s := S1x4096x1) (k1_off2 i) S1x512x1.size (k1_off2_inb i)).toLoadRect X5) (View.readAt (Elt Ideal) arg9.view (Rect.unit (s := S1x4096x1) (k1_off2 i) S1x512x1.size (k1_off2_inb i)).toLoadRect X9)) (View.readAt (Elt Ideal) arg8.view (Rect.unit (s := S4096x128) (k1_off1 i) S512x128.size (k1_off1_inb i)).toLoadRect X8) (View.readAt (Elt Ideal) arg15.view (Rect.unit (s := S4096x1) (k1_off3 i) S512x1.size (k1_off3_inb i)).toLoadRect X15) (View.readAt (Elt Ideal) arg14.view (Rect.unit (s := S1x4096x1) (k1_off2 i) S1x512x1.size (k1_off2_inb i)).toLoadRect B14)⟩])
/-- The keys' three gradients after the diagonal block. -/
abbrev diagAcc : FVec Ideal S512x128 .f32 × FVec Ideal S512x128 .f32 × FVec Ideal S1x512 .f32 := (k1_pay35 v4 (k1_pay26 (F := Ideal)) (View.readAt (Elt Ideal) arg2.view (Rect.unit (s := S4096x128) (k1_off1 i) S512x128.size (k1_off1_inb i)).toLoadRect X2) (k1_pay29 v3 v5 (View.readAt (Elt Ideal) arg2.view (Rect.unit (s := S4096x128) (k1_off1 i) S512x128.size (k1_off1_inb i)).toLoadRect X2) (View.readAt (Elt Ideal) arg5.view (Rect.unit (s := S1x4096x1) (k1_off2 i) S1x512x1.size (k1_off2_inb i)).toLoadRect X5) (View.readAt (Elt Ideal) arg9.view (Rect.unit (s := S1x4096x1) (k1_off2 i) S1x512x1.size (k1_off2_inb i)).toLoadRect X9)) (View.readAt (Elt Ideal) arg8.view (Rect.unit (s := S4096x128) (k1_off1 i) S512x128.size (k1_off1_inb i)).toLoadRect X8) (View.readAt (Elt Ideal) arg15.view (Rect.unit (s := S4096x1) (k1_off3 i) S512x1.size (k1_off3_inb i)).toLoadRect X15), k1_pay36 (k1_pay27 (F := Ideal)) (k1_pay29 v3 v5 (View.readAt (Elt Ideal) arg2.view (Rect.unit (s := S4096x128) (k1_off1 i) S512x128.size (k1_off1_inb i)).toLoadRect X2) (View.readAt (Elt Ideal) arg5.view (Rect.unit (s := S1x4096x1) (k1_off2 i) S1x512x1.size (k1_off2_inb i)).toLoadRect X5) (View.readAt (Elt Ideal) arg9.view (Rect.unit (s := S1x4096x1) (k1_off2 i) S1x512x1.size (k1_off2_inb i)).toLoadRect X9)) (View.readAt (Elt Ideal) arg8.view (Rect.unit (s := S4096x128) (k1_off1 i) S512x128.size (k1_off1_inb i)).toLoadRect X8), k1_pay37 v4 (k1_pay28 (F := Ideal)) (k1_pay29 v3 v5 (View.readAt (Elt Ideal) arg2.view (Rect.unit (s := S4096x128) (k1_off1 i) S512x128.size (k1_off1_inb i)).toLoadRect X2) (View.readAt (Elt Ideal) arg5.view (Rect.unit (s := S1x4096x1) (k1_off2 i) S1x512x1.size (k1_off2_inb i)).toLoadRect X5) (View.readAt (Elt Ideal) arg9.view (Rect.unit (s := S1x4096x1) (k1_off2 i) S1x512x1.size (k1_off2_inb i)).toLoadRect X9)) (View.readAt (Elt Ideal) arg8.view (Rect.unit (s := S4096x128) (k1_off1 i) S512x128.size (k1_off1_inb i)).toLoadRect X8) (View.readAt (Elt Ideal) arg15.view (Rect.unit (s := S4096x1) (k1_off3 i) S512x1.size (k1_off3_inb i)).toLoadRect X15))

end Defs

section Point

variable {v3 v4 : Vec Ideal S512x128 .bf16} {v5 : Vec Ideal S1x1x512 .f32} (v72 : BitVec 32)
  {X2 : arg2.view.ty.Contents (Elt Ideal)} {X5 : arg5.view.ty.Contents (Elt Ideal)} {X8 : arg8.view.ty.Contents (Elt Ideal)} {X9 : arg9.view.ty.Contents (Elt Ideal)} {X15 : arg15.view.ty.Contents (Elt Ideal)}
  {B10 : arg10.view.ty.Contents (Elt Ideal)} {B14 : arg14.view.ty.Contents (Elt Ideal)}

/-- The gradients after the diagonal block. -/
theorem bwd_diag (hx : Reads H (i 1).val arg2 arg5 arg8 arg9 arg15 v3 v4 v5 X2 X5 X8 X9 X15)
    (hq : ∀ (r : Fin 4096) (d : Fin 128), arg10.view.read (Elt Ideal) B10 (ix2 r d) = ((H.dqTo (i 1).val r.val d : ℝ) : EReal))
    (hc : ∀ r : Fin 4096, arg14.view.read (Elt Ideal) B14 (ix3 0 r 0) = ((H.cqTo (i 1).val r.val : ℝ) : EReal)) :
    Part H (i 1).val ((i 1).val + 1) (fun r d => arg10.view.read (Elt Ideal) (diag10 arg2 arg5 arg8 arg9 arg10 arg15 i v3 v4 v5 X2 X5 X8 X9 X15 B10) (ix2 r d)) (fun r => arg14.view.read (Elt Ideal) (diag14 arg2 arg5 arg8 arg9 arg14 arg15 i v3 v4 v5 X2 X5 X8 X9 X15 B14) (ix3 0 r 0))
      (fun s d => (diagAcc arg2 arg5 arg8 arg9 arg15 i v3 v4 v5 X2 X5 X8 X9 X15).1 (ix2 s d)) (fun s d => (diagAcc arg2 arg5 arg8 arg9 arg15 i v3 v4 v5 X2 X5 X8 X9 X15).2.1 (ix2 s d)) (fun s => (diagAcc arg2 arg5 arg8 arg9 arg15 i v3 v4 v5 X2 X5 X8 X9 X15).2.2 (ix2 0 s)) := by
  have hi : (i 1).val < 8 := (i 1).isLt
  have hr : ∀ r : Fin 512, (i 1).val * 512 + r.val < 4096 := fun r => by omega
  have h2 := fun (r : Fin 512) (d : Fin 128) => (read_rows arg2 X2 (k1_off1_inb i) (boff1_eq i) r d (hr r)).trans (hx.q _ d)
  have h5 := fun (r : Fin 512) => (read_gates arg5 X5 (k1_off2_inb i) (boff2_eq i) r (hr r)).trans (hx.cq _)
  have h9 := fun (r : Fin 512) => (read_gates arg9 X9 (k1_off2_inb i) (boff2_eq i) r (hr r)).trans (hx.lse _)
  have h8 := fun (r : Fin 512) (d : Fin 128) => (read_rows arg8 X8 (k1_off1_inb i) (boff1_eq i) r d (hr r)).trans (hx.g _ d)
  have h15 := fun (r : Fin 512) => (read_sums arg15 X15 (k1_off3_inb i) (boff3_eq i) r (hr r)).trans (hx.dl _)
  have hP := dpr_val (b := (i 1).val) hi hx.k hx.ck h2 h5 h9
  have hDs := fun r s => (dds_raw v4 _ _ _ r s).trans (bds_of_pr (hP r s) hx.v h8 h15)
  exact (Part.start (H := H) (b := (i 1).val) (dk := fun s d => k1_pay26 (F := Ideal) (ix2 s d)) (dv := fun s d => k1_pay27 (F := Ideal) (ix2 s d)) (ck := fun s => k1_pay28 (F := Ideal) (ix2 0 s))
    hq hc (fun s d => zero_dk_raw s d) (fun s d => zero_dv_raw s d) (fun s => zero_ck_raw s)).step hi hP hDs h2 h8 hx.k
      (fun r hr d => (put_rows arg10 B10 _ (boff1_eq i) _ _ r d hr).trans ((ddq_raw ..).trans (congrArg (· + _) (read_rows arg10 _ _ (boff1_eq i) r d hr))))
      (fun r d hr => put_rows_other arg10 B10 _ (boff1_eq i) _ _ r d hr)
      (fun r hr => (put_gates arg14 B14 _ (boff2_eq i) _ _ r hr).trans ((dcq_raw ..).trans (congrArg (· + _) (read_gates arg14 _ _ (boff2_eq i) r hr))))
      (fun r hr => put_gates_other arg14 B14 _ (boff2_eq i) _ _ r hr)
      (fun s d => ddk_raw ..) (fun s d => ddv_raw ..) (fun s => dck_raw ..)

/-- The gradients after every block of queries. -/
theorem bwd_block (hx : Reads H (i 1).val arg2 arg5 arg8 arg9 arg15 v3 v4 v5 X2 X5 X8 X9 X15)
    (hq : ∀ (r : Fin 4096) (d : Fin 128), arg10.view.read (Elt Ideal) B10 (ix2 r d) = ((H.dqTo (i 1).val r.val d : ℝ) : EReal))
    (hc : ∀ r : Fin 4096, arg14.view.read (Elt Ideal) B14 (ix3 0 r 0) = ((H.cqTo (i 1).val r.val : ℝ) : EReal))
    {S} (hS : S = (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v3 v4 (k1_pay25 v5) v72 X2 X5 X8 X9 X15 (diag10 arg2 arg5 arg8 arg9 arg10 arg15 i v3 v4 v5 X2 X5 X8 X9 X15 B10) (diag14 arg2 arg5 arg8 arg9 arg14 arg15 i v3 v4 v5 X2 X5 X8 X9 X15 B14) (diagAcc arg2 arg5 arg8 arg9 arg15 i v3 v4 v5 X2 X5 X8 X9 X15) (k1_t1_loop i).trips)) :
    Part H (i 1).val 8 (fun r d => arg10.view.read (Elt Ideal) (arg10.view.writes (Elt Ideal) (diag10 arg2 arg5 arg8 arg9 arg10 arg15 i v3 v4 v5 X2 X5 X8 X9 X15 B10) S.2.1) (ix2 r d))
      (fun r => arg14.view.read (Elt Ideal) (arg14.view.writes (Elt Ideal) (diag14 arg2 arg5 arg8 arg9 arg14 arg15 i v3 v4 v5 X2 X5 X8 X9 X15 B14) S.2.2) (ix3 0 r 0))
      (fun s d => S.1.1 (ix2 s d)) (fun s d => S.1.2.1 (ix2 s d)) (fun s => S.1.2.2 (ix2 0 s)) := by
  have hi : (i 1).val < 8 := (i 1).isLt
  have h := bwd_state arg2 harg2 arg3 harg3 arg4 harg4 arg5 harg5 arg6 harg6 arg7 harg7 arg8 harg8 arg9 harg9 arg10 harg10 arg11 harg11 arg12 harg12 arg13 harg13 arg14 harg14 arg15 harg15 c i v72 hx (bwd_diag arg2 arg5 arg8 arg9 arg10 arg14 arg15 i hx hq hc) (k1_t1_loop i).trips (b1_trips i).le hS
  have e : (i 1).val + 1 + (k1_t1_loop i).trips = 8 := by rw [b1_trips]; omega
  rwa [e] at h

end Point

/-- What the backward body's buffers hold for key block `b` of one head. -/
structure BwdIn (H : Head) (b : ℕ) (x0 : Vec Ideal S4096x128 .bf16) (x1 : Vec Ideal S512x128 .bf16) (x2 : Vec Ideal S512x128 .bf16) (x3 : Vec Ideal S1x4096x1 .f32) (x4 : Vec Ideal S1x1x512 .f32) (x5 : Vec Ideal S4096x128 .f32) (x6 : Vec Ideal S4096x128 .f32) (x7 : Vec Ideal S1x4096x1 .f32) : Prop where
  q : ∀ (r : Fin 4096) (d : Fin 128), x0 (ix2 r d) = ((H.q r.val d : ℝ) : EReal)
  k : ∀ (s : Fin 512) (d : Fin 128), x1 (ix2 s d) = ((H.k (b * 512 + s.val) d : ℝ) : EReal)
  v : ∀ (s : Fin 512) (d : Fin 128), x2 (ix2 s d) = ((H.v (b * 512 + s.val) d : ℝ) : EReal)
  cq : ∀ r : Fin 4096, x3 (ix3 0 r 0) = ((H.c r.val : ℝ) : EReal)
  ck : ∀ s : Fin 512, x4 (ix3 0 0 s) = ((H.c (b * 512 + s.val) : ℝ) : EReal)
  o : ∀ (r : Fin 4096) (d : Fin 128), x5 (ix2 r d) = ((H.out r.val d : ℝ) : EReal)
  g : ∀ (r : Fin 4096) (d : Fin 128), x6 (ix2 r d) = ((H.g r.val d : ℝ) : EReal)
  lse : ∀ r : Fin 4096, x7 (ix3 0 r 0) = ((H.lse r.val : ℝ) : EReal)

/-- The five gradients after key block `b`: the queries' two sums up to this block, the keys' three of this block. -/
structure BwdOut (H : Head) (b : ℕ) (y8 : Vec Ideal S4096x128 .f32) (y9 y10 : Vec Ideal S512x128 .bf16) (y11 : Vec Ideal S1x1x512 .f32) (y12 : Vec Ideal S1x4096x1 .f32) : Prop where
  dq : ∀ (r : Fin 4096) (d : Fin 128), y8 (ix2 r d) = ((H.dqTo (b + 1) r.val d : ℝ) : EReal)
  cq : ∀ r : Fin 4096, y12 (ix3 0 r 0) = ((H.cqTo (b + 1) r.val : ℝ) : EReal)
  dk : ∀ (s : Fin 512) (d : Fin 128), y9 (ix2 s d) = ((H.dk (b * 512 + s.val) d : ℝ) : EReal)
  dv : ∀ (s : Fin 512) (d : Fin 128), y10 (ix2 s d) = ((H.dv (b * 512 + s.val) d : ℝ) : EReal)
  ck : ∀ s : Fin 512, y11 (ix3 0 0 s) = ((H.dck (b * 512 + s.val) : ℝ) : EReal)

theorem Part.out {H : Head} {b : ℕ} {y8 : Vec Ideal S4096x128 .f32} {y12 : Vec Ideal S1x4096x1 .f32} {a a' : FVec Ideal S512x128 .f32} {e : FVec Ideal S1x512 .f32}
    (h : Part H b 8 (fun r d => y8 (ix2 r d)) (fun r => y12 (ix3 0 r 0)) (fun s d => a (ix2 s d)) (fun s d => a' (ix2 s d)) (fun s => e (ix2 0 s))) :
    BwdOut H b y8 (k1_pay9 a) (k1_pay10 a') (k1_pay11 e) y12 where
  dq r d := by rw [h.dq r d, if_pos (by omega)]
  cq r := by rw [h.cq r, if_pos (by omega)]
  dk s d := by rw [out_dk_raw, h.dk s d, ofBits_sc, ← EReal.coe_mul]; rfl
  dv s d := by rw [out_dv_raw, h.dv s d]; rfl
  ck s := by rw [out_ck_raw, h.ck s]; rfl

variable {x0 : Vec Ideal S4096x128 .bf16} {x1 : Vec Ideal S512x128 .bf16} {x2 : Vec Ideal S512x128 .bf16} {x3 : Vec Ideal S1x4096x1 .f32} {x4 : Vec Ideal S1x1x512 .f32} {x5 : Vec Ideal S4096x128 .f32} {x6 : Vec Ideal S4096x128 .f32} {x7 : Vec Ideal S1x4096x1 .f32} {x8 : Vec Ideal S4096x128 .f32} {x12 : Vec Ideal S1x4096x1 .f32} {xs : Vec Ideal S4096x1 .f32}

theorem BwdIn.reads {b : ℕ} (hx : BwdIn H b x0 x1 x2 x3 x4 x5 x6 x7) {X15 : arg15.view.ty.Contents (Elt Ideal)}
    (hs : ∀ r : Fin 4096, arg15.view.read (Elt Ideal) X15 (ix2 r 0) = ((H.dl r.val : ℝ) : EReal)) :
    Reads H b arg2 arg5 arg8 arg9 arg15
      (View.readAt (Elt Ideal) arg3.view (Rect.unit (s := S512x128) ![0, 0] S512x128.size inb_S512x128_S512x128_0_0).toLoadRect (harg3.unread x1))
      (View.readAt (Elt Ideal) arg4.view (Rect.unit (s := S512x128) ![0, 0] S512x128.size inb_S512x128_S512x128_0_0).toLoadRect (harg4.unread x2))
      (View.readAt (Elt Ideal) arg6.view (Rect.unit (s := S1x1x512) ![0, 0, 0] S1x1x512.size inb_S1x1x512_S1x1x512_0_0_0).toLoadRect (harg6.unread x4))
      (harg2.unread x0) (harg5.unread x3) (harg8.unread x6) (harg9.unread x7) X15 where
  k s d := (load_all2 arg3 harg3 x1 s d).trans (hx.k s d)
  v s d := (load_all2 arg4 harg4 x2 s d).trans (hx.v s d)
  ck s := (load_keys arg6 harg6 x4 s).trans (hx.ck s)
  q r d := (congrFun (harg2.read_unread x0) _).trans (hx.q r d)
  cq r := (congrFun (harg5.read_unread x3) _).trans (hx.cq r)
  g r d := (congrFun (harg8.read_unread x6) _).trans (hx.g r d)
  lse r := (congrFun (harg9.read_unread x7) _).trans (hx.lse r)
  dl := hs

theorem later8_eq (hc0 : ¬taken i) : later8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs = arg10.view.read (Elt Ideal) (arg10.view.writes (Elt Ideal) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg10.unread x8)) (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runLater.sl.v72 i) (harg2.unread x0) (harg5.unread x3) (harg8.unread x6) (harg9.unread x7) (harg15.unread xs) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg10.unread x8)) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg14.unread x12)) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs)) (k1_t1_loop i).trips).2.1) := by
  have e0 : Scf.trips (k1_t2_loop i).lb (k1_t2_loop i).ub (k1_t2_loop i).st = 0 := b2_trips i
  unfold k1_t2_loop at e0
  dsimp only at e0
  unfold later8 runLater
  dsimp only
  refine congrArg (arg10.view.read (Elt Ideal)) ?_
  rw [e0]
  refine (congrArg (arg10.view.writes (Elt Ideal) (harg10.unread x8)) (List.nil_append _)).trans ?_
  exact View.writes_append arg10.view (harg10.unread x8) (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runLater.sl.v72 i) (harg2.unread x0) (harg5.unread x3) (harg8.unread x6) (harg9.unread x7) (harg15.unread xs) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg10.unread x8)) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg14.unread x12)) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs)) (k1_t1_loop i).trips).2.1 _

theorem later12_eq (hc0 : ¬taken i) : later12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs = arg14.view.read (Elt Ideal) (arg14.view.writes (Elt Ideal) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg14.unread x12)) (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runLater.sl.v72 i) (harg2.unread x0) (harg5.unread x3) (harg8.unread x6) (harg9.unread x7) (harg15.unread xs) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg10.unread x8)) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg14.unread x12)) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs)) (k1_t1_loop i).trips).2.2) := by
  have e0 : Scf.trips (k1_t2_loop i).lb (k1_t2_loop i).ub (k1_t2_loop i).st = 0 := b2_trips i
  unfold k1_t2_loop at e0
  dsimp only at e0
  unfold later12 runLater
  dsimp only
  refine congrArg (arg14.view.read (Elt Ideal)) ?_
  rw [e0]
  refine (congrArg (arg14.view.writes (Elt Ideal) (harg14.unread x12)) (List.nil_append _)).trans ?_
  exact View.writes_append arg14.view (harg14.unread x12) (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runLater.sl.v72 i) (harg2.unread x0) (harg5.unread x3) (harg8.unread x6) (harg9.unread x7) (harg15.unread xs) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg10.unread x8)) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg14.unread x12)) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs)) (k1_t1_loop i).trips).2.2 _

theorem later9_eq (hc0 : ¬taken i) : later9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs = k1_pay9 (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runLater.sl.v72 i) (harg2.unread x0) (harg5.unread x3) (harg8.unread x6) (harg9.unread x7) (harg15.unread xs) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg10.unread x8)) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg14.unread x12)) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs)) (k1_t1_loop i).trips).1.1 := by
  have e0 : Scf.trips (k1_t2_loop i).lb (k1_t2_loop i).ub (k1_t2_loop i).st = 0 := b2_trips i
  unfold k1_t2_loop at e0
  dsimp only at e0
  unfold later9 runLater
  dsimp only
  refine (View.read_writes_full arg11.view arg11.view.junk _ _ []).trans ?_
  rw [e0]
  rfl

theorem later10_eq (hc0 : ¬taken i) : later10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs = k1_pay10 (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runLater.sl.v72 i) (harg2.unread x0) (harg5.unread x3) (harg8.unread x6) (harg9.unread x7) (harg15.unread xs) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg10.unread x8)) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg14.unread x12)) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs)) (k1_t1_loop i).trips).1.2.1 := by
  have e0 : Scf.trips (k1_t2_loop i).lb (k1_t2_loop i).ub (k1_t2_loop i).st = 0 := b2_trips i
  unfold k1_t2_loop at e0
  dsimp only at e0
  unfold later10 runLater
  dsimp only
  refine (View.read_writes_full arg12.view arg12.view.junk _ _ []).trans ?_
  rw [e0]
  rfl

theorem later11_eq (hc0 : ¬taken i) : later11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs = k1_pay11 (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runLater.sl.v72 i) (harg2.unread x0) (harg5.unread x3) (harg8.unread x6) (harg9.unread x7) (harg15.unread xs) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg10.unread x8)) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs) (harg14.unread x12)) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (harg15.unread xs)) (k1_t1_loop i).trips).1.2.2 := by
  have e0 : Scf.trips (k1_t2_loop i).lb (k1_t2_loop i).ub (k1_t2_loop i).st = 0 := b2_trips i
  unfold k1_t2_loop at e0
  dsimp only at e0
  unfold later11 runLater
  dsimp only
  refine (View.read_writes_full arg13.view arg13.view.junk _ _ []).trans ?_
  rw [e0]
  rfl

/-- A later key block of a head, over what the blocks before it left. -/
theorem later_val (hc0 : ¬taken i) (hx : BwdIn H (i 1).val x0 x1 x2 x3 x4 x5 x6 x7)
    (h8 : ∀ (r : Fin 4096) (d : Fin 128), x8 (ix2 r d) = ((H.dqTo (i 1).val r.val d : ℝ) : EReal)) (h12 : ∀ r : Fin 4096, x12 (ix3 0 r 0) = ((H.cqTo (i 1).val r.val : ℝ) : EReal))
    (hs : ∀ r : Fin 4096, xs (ix2 r 0) = ((H.dl r.val : ℝ) : EReal)) :
    BwdOut H (i 1).val (later8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs) (later9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs) (later10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs) (later11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs) (later12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x12 xs) := by
  have h := bwd_block arg2 harg2 arg3 harg3 arg4 harg4 arg5 harg5 arg6 harg6 arg7 harg7 arg8 harg8 arg9 harg9 arg10 harg10 arg11 harg11 arg12 harg12 arg13 harg13 arg14 harg14 arg15 harg15 c i (runLater.sl.v72 i) (hx.reads arg2 harg2 arg3 harg3 arg4 harg4 arg5 harg5 arg6 harg6 arg8 harg8 arg9 harg9 arg15 (X15 := harg15.unread xs) (fun r => (congrFun (harg15.read_unread xs) _).trans (hs r))) (B10 := harg10.unread x8) (fun r d => (congrFun (harg10.read_unread x8) _).trans (h8 r d)) (B14 := harg14.unread x12) (fun r => (congrFun (harg14.read_unread x12) _).trans (h12 r)) rfl
  rw [later8_eq, later9_eq, later10_eq, later11_eq, later12_eq]
  exact Part.out h

theorem first_sums {b : ℕ} (hx : BwdIn H b x0 x1 x2 x3 x4 x5 x6 x7) (r : Fin 4096) : arg15.view.read (Elt Ideal) (arg15.view.writes (Elt Ideal) arg15.view.junk (runFirst.sl.HS0_1 (F := Ideal) c arg7 harg7 arg8 harg8 x5 x6)) (ix2 r 0) = ((H.dl r.val : ℝ) : EReal) := by
  refine (congrFun (View.read_writes_full arg15.view arg15.view.junk _ _ []) _).trans ?_
  rw [sums_raw]
  refine (Finset.sum_congr rfl fun d _ => congrArg₂ (· * ·) ((load_all4096 arg8 harg8 x6 r d).trans (hx.g r d)) ((load_all4096 arg7 harg7 x5 r d).trans (hx.o r d))).trans ?_
  simp only [← EReal.coe_mul, sum_coe]
  rfl

theorem firsts_val (hc0 : taken i) (hx : BwdIn H (i 1).val x0 x1 x2 x3 x4 x5 x6 x7) (r : Fin 4096) :
    firsts (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r 0) = ((H.dl r.val : ℝ) : EReal) := by
  unfold firsts runFirst
  exact first_sums arg7 harg7 arg8 harg8 arg15 c hx r

theorem first8_eq (hc0 : taken i) : first8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = arg10.view.read (Elt Ideal) (arg10.view.writes (Elt Ideal) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg10.view.writes (Elt Ideal) arg10.view.junk (runFirst.sl.H8_1 (F := Ideal)))) (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runFirst.sl.v72 i) (harg2.unread x0) (harg5.unread x3) (harg8.unread x6) (harg9.unread x7) (arg15.view.writes (Elt Ideal) arg15.view.junk (runFirst.sl.HS0_1 (F := Ideal) c arg7 harg7 arg8 harg8 x5 x6)) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg10.view.writes (Elt Ideal) arg10.view.junk (runFirst.sl.H8_1 (F := Ideal)))) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg14.view.writes (Elt Ideal) arg14.view.junk (runFirst.sl.H12_1 (F := Ideal)))) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6))) (k1_t1_loop i).trips).2.1) := by
  have e0 : Scf.trips (k1_t2_loop i).lb (k1_t2_loop i).ub (k1_t2_loop i).st = 0 := b2_trips i
  unfold k1_t2_loop at e0
  dsimp only at e0
  unfold first8 runFirst
  dsimp only
  refine congrArg (arg10.view.read (Elt Ideal)) ?_
  rw [e0]
  refine (congrArg (arg10.view.writes (Elt Ideal) arg10.view.junk) (List.nil_append _)).trans ?_
  exact View.writes_append arg10.view arg10.view.junk (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runFirst.sl.v72 i) (harg2.unread x0) (harg5.unread x3) (harg8.unread x6) (harg9.unread x7) (arg15.view.writes (Elt Ideal) arg15.view.junk (runFirst.sl.HS0_1 (F := Ideal) c arg7 harg7 arg8 harg8 x5 x6)) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg10.view.writes (Elt Ideal) arg10.view.junk (runFirst.sl.H8_1 (F := Ideal)))) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg14.view.writes (Elt Ideal) arg14.view.junk (runFirst.sl.H12_1 (F := Ideal)))) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6))) (k1_t1_loop i).trips).2.1 _

theorem first12_eq (hc0 : taken i) : first12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = arg14.view.read (Elt Ideal) (arg14.view.writes (Elt Ideal) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg14.view.writes (Elt Ideal) arg14.view.junk (runFirst.sl.H12_1 (F := Ideal)))) (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runFirst.sl.v72 i) (harg2.unread x0) (harg5.unread x3) (harg8.unread x6) (harg9.unread x7) (arg15.view.writes (Elt Ideal) arg15.view.junk (runFirst.sl.HS0_1 (F := Ideal) c arg7 harg7 arg8 harg8 x5 x6)) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg10.view.writes (Elt Ideal) arg10.view.junk (runFirst.sl.H8_1 (F := Ideal)))) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg14.view.writes (Elt Ideal) arg14.view.junk (runFirst.sl.H12_1 (F := Ideal)))) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6))) (k1_t1_loop i).trips).2.2) := by
  have e0 : Scf.trips (k1_t2_loop i).lb (k1_t2_loop i).ub (k1_t2_loop i).st = 0 := b2_trips i
  unfold k1_t2_loop at e0
  dsimp only at e0
  unfold first12 runFirst
  dsimp only
  refine congrArg (arg14.view.read (Elt Ideal)) ?_
  rw [e0]
  refine (congrArg (arg14.view.writes (Elt Ideal) arg14.view.junk) (List.nil_append _)).trans ?_
  exact View.writes_append arg14.view arg14.view.junk (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runFirst.sl.v72 i) (harg2.unread x0) (harg5.unread x3) (harg8.unread x6) (harg9.unread x7) (arg15.view.writes (Elt Ideal) arg15.view.junk (runFirst.sl.HS0_1 (F := Ideal) c arg7 harg7 arg8 harg8 x5 x6)) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg10.view.writes (Elt Ideal) arg10.view.junk (runFirst.sl.H8_1 (F := Ideal)))) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg14.view.writes (Elt Ideal) arg14.view.junk (runFirst.sl.H12_1 (F := Ideal)))) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6))) (k1_t1_loop i).trips).2.2 _

theorem first9_eq (hc0 : taken i) : first9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k1_pay9 (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runFirst.sl.v72 i) (harg2.unread x0) (harg5.unread x3) (harg8.unread x6) (harg9.unread x7) (arg15.view.writes (Elt Ideal) arg15.view.junk (runFirst.sl.HS0_1 (F := Ideal) c arg7 harg7 arg8 harg8 x5 x6)) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg10.view.writes (Elt Ideal) arg10.view.junk (runFirst.sl.H8_1 (F := Ideal)))) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg14.view.writes (Elt Ideal) arg14.view.junk (runFirst.sl.H12_1 (F := Ideal)))) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6))) (k1_t1_loop i).trips).1.1 := by
  have e0 : Scf.trips (k1_t2_loop i).lb (k1_t2_loop i).ub (k1_t2_loop i).st = 0 := b2_trips i
  unfold k1_t2_loop at e0
  dsimp only at e0
  unfold first9 runFirst
  dsimp only
  refine (View.read_writes_full arg11.view arg11.view.junk _ _ []).trans ?_
  rw [e0]
  rfl

theorem first10_eq (hc0 : taken i) : first10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k1_pay10 (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runFirst.sl.v72 i) (harg2.unread x0) (harg5.unread x3) (harg8.unread x6) (harg9.unread x7) (arg15.view.writes (Elt Ideal) arg15.view.junk (runFirst.sl.HS0_1 (F := Ideal) c arg7 harg7 arg8 harg8 x5 x6)) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg10.view.writes (Elt Ideal) arg10.view.junk (runFirst.sl.H8_1 (F := Ideal)))) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg14.view.writes (Elt Ideal) arg14.view.junk (runFirst.sl.H12_1 (F := Ideal)))) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6))) (k1_t1_loop i).trips).1.2.1 := by
  have e0 : Scf.trips (k1_t2_loop i).lb (k1_t2_loop i).ub (k1_t2_loop i).st = 0 := b2_trips i
  unfold k1_t2_loop at e0
  dsimp only at e0
  unfold first10 runFirst
  dsimp only
  refine (View.read_writes_full arg12.view arg12.view.junk _ _ []).trans ?_
  rw [e0]
  rfl

theorem first11_eq (hc0 : taken i) : first11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k1_pay11 (st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (k1_pay25 (View.readAt (Elt Ideal) arg6.view (Rect.unit (s := S1x1x512) ![0, 0, 0] S1x1x512.size inb_S1x1x512_S1x1x512_0_0_0).toLoadRect (harg6.unread x4))) (runFirst.sl.v72 i) (harg2.unread x0) (harg5.unread x3) (harg8.unread x6) (harg9.unread x7) (arg15.view.writes (Elt Ideal) arg15.view.junk (runFirst.sl.HS0_1 (F := Ideal) c arg7 harg7 arg8 harg8 x5 x6)) (diag10 arg2 arg5 arg8 arg9 arg10 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg10.view.writes (Elt Ideal) arg10.view.junk (runFirst.sl.H8_1 (F := Ideal)))) (diag14 arg2 arg5 arg8 arg9 arg14 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6)) (arg14.view.writes (Elt Ideal) arg14.view.junk (runFirst.sl.H12_1 (F := Ideal)))) (diagAcc arg2 arg5 arg8 arg9 arg15 i (View.readAt (Elt Ideal) arg3.view (Rect.unit (s := S512x128) ![0, 0] S512x128.size inb_S512x128_S512x128_0_0).toLoadRect (harg3.unread x1)) (View.readAt (Elt Ideal) arg4.view (Rect.unit (s := S512x128) ![0, 0] S512x128.size inb_S512x128_S512x128_0_0).toLoadRect (harg4.unread x2)) (View.readAt (Elt Ideal) arg6.view (Rect.unit (s := S1x1x512) ![0, 0, 0] S1x1x512.size inb_S1x1x512_S1x1x512_0_0_0).toLoadRect (harg6.unread x4)) (harg2.unread x0) (harg5.unread x3) (harg8.unread x6) (harg9.unread x7) (arg15.view.writes (Elt Ideal) arg15.view.junk (runFirst.sl.HS0_1 (F := Ideal) c arg7 harg7 arg8 harg8 x5 x6))) (k1_t1_loop i).trips).1.2.2 := by
  have e0 : Scf.trips (k1_t2_loop i).lb (k1_t2_loop i).ub (k1_t2_loop i).st = 0 := b2_trips i
  unfold k1_t2_loop at e0
  dsimp only at e0
  unfold first11 runFirst
  dsimp only
  refine (View.read_writes_full arg13.view arg13.view.junk _ _ []).trans ?_
  rw [e0]
  rfl

/-- The first key block of a head. -/
theorem first_val (hc0 : taken i) (h0 : (i 1).val = 0) (hx : BwdIn H (i 1).val x0 x1 x2 x3 x4 x5 x6 x7) :
    BwdOut H (i 1).val (first8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (first9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (first10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (first11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (first12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) := by
  have h := bwd_block arg2 harg2 arg3 harg3 arg4 harg4 arg5 harg5 arg6 harg6 arg7 harg7 arg8 harg8 arg9 harg9 arg10 harg10 arg11 harg11 arg12 harg12 arg13 harg13 arg14 harg14 arg15 harg15 c i (runFirst.sl.v72 i) (hx.reads arg2 harg2 arg3 harg3 arg4 harg4 arg5 harg5 arg6 harg6 arg8 harg8 arg9 harg9 arg15 (X15 := (arg15.view.writes (Elt Ideal) arg15.view.junk (runFirst.sl.HS0_1 (F := Ideal) c arg7 harg7 arg8 harg8 x5 x6))) (fun r => first_sums arg7 harg7 arg8 harg8 arg15 c hx r)) (B10 := (arg10.view.writes (Elt Ideal) arg10.view.junk (runFirst.sl.H8_1 (F := Ideal)))) (fun r d => (congrFun (View.read_writes_full arg10.view arg10.view.junk _ _ []) _).trans ((zero_dq_raw r d).trans (by rw [h0, Head.dqTo, zero_mul, Finset.range_zero, Finset.sum_empty, zero_mul, EReal.coe_zero]))) (B14 := (arg14.view.writes (Elt Ideal) arg14.view.junk (runFirst.sl.H12_1 (F := Ideal)))) (fun r => (congrFun (View.read_writes_full arg14.view arg14.view.junk _ _ []) _).trans ((zero_cq_raw r).trans (by rw [h0, Head.cqTo, zero_mul, Finset.range_zero, Finset.sum_empty, EReal.coe_zero]))) rfl
  rw [first8_eq, first9_eq, first10_eq, first11_eq, first12_eq]
  exact Part.out h

end Body

end Cert.KernelIdeal.Fox

end

end
-- ==== Proof.KernelIdeal.FwdArrays.lean ====
module

public import proofs.«01_k».proof.Proof.Inputs
public import proofs.«01_k».proof.Proof.KernelIdeal.Run
public import proofs.«01_k».proof.Proof.KernelIdeal.BwdPoint
public import Idealize.ShloMosaic.Lib.Pipeline.ValueKit

@[expose] public section

set_option maxRecDepth 16384

noncomputable section

namespace Cert.KernelIdeal.Fox

open Cert.KernelIdeal Cert.KernelIdeal.Gen Cert.Fox
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The arguments of one device. -/
abbrev argsOf : Args where
  A := m ((c : Thread nD τ).loc main_arg0)
  C := m ((c : Thread nD τ).loc main_arg1)
  D := m ((c : Thread nD τ).loc main_arg2)

/-! # The whole arrays -/

/-- The attention's rows, head by head. -/
def outArr (a : Args) (i : S4096x1024.Idx) : EReal :=
  (((a.head ⟨(i 1).val / 128, Nat.div_lt_of_lt_mul (i 1).isLt⟩).out (i 0).val ⟨(i 1).val % 128, Nat.mod_lt _ (by decide)⟩ : ℝ) : EReal)
/-- Each row's logarithm. -/
def lseArr (a : Args) (i : S8x4096x1.Idx) : EReal := (((a.head (i 0)).lse (i 1).val : ℝ) : EReal)

/-! # The host's gate arrays -/

theorem gates_col (h : Fin 8) (r : Fin 4096) :
    (atFwd m ρ c (Proc.devRef .tc main_v1) : FVec Ideal S8x4096x1 .f32) (ix3 h r 0) = (m ((c : Thread nD τ).loc main_arg1) : FVec Ideal S4096x8 .f32) (ix2 r h) := by
  unfold atFwd; after_results; pointwise
theorem gates_row (h : Fin 8) (r : Fin 4096) :
    (atFwd m ρ c (Proc.devRef .tc main_v2) : FVec Ideal S8x1x4096 .f32) (ix3 h 0 r) = (m ((c : Thread nD τ).loc main_arg1) : FVec Ideal S4096x8 .f32) (ix2 r h) := by
  unfold atFwd; after_results; pointwise
theorem gates_blocks (h : Fin 8) (b : Fin 8) (r : Fin 512) :
    (atFwd m ρ c (Proc.devRef .tc main_v3) : FVec Ideal S8x8x1x512 .f32) (ix4 h b 0 r) = (m ((c : Thread nD τ).loc main_arg1) : FVec Ideal S4096x8 .f32) (ix2 ⟨b.val * 512 + r.val, by omega⟩ h) := by
  unfold atFwd; after_results; pointwise

/-! # The forward call's blocks -/

theorem idx0 : ∀ t : Fin cfg0.N, win0_0.index t = ![t.val % 8, t.val / 8] ∧ win0_1.index t = ![0, 8 + t.val / 8] ∧ win0_2.index t = ![0, 16 + t.val / 8]
    ∧ win0_3.index t = ![t.val / 8, t.val % 8, 0] ∧ win0_4.index t = ![t.val / 8, 0, 0, 0] ∧ win0_5.index t = ![t.val % 8, t.val / 8] ∧ win0_6.index t = ![t.val / 8, t.val % 8, 0] :=
  (by decide +kernel : ∀ t : Fin grid0.N, _)
theorem row0_coord : ∀ t : Fin cfg0.N, ((grid0.coords t) 1).val = t.val % 8 := (by decide +kernel : ∀ t : Fin grid0.N, _)

/-- The head grid point `t` works on. -/
abbrev headOf (n : ℕ) (h : n < 64) : Fin 8 := ⟨n / 8, Nat.div_lt_of_lt_mul h⟩
theorem points0 (t : Fin cfg0.N) : t.val < 64 := lt_of_lt_of_eq t.isLt (by decide +kernel)

/-- The buffers the forward call is entered with. -/
abbrev inFwd : (c : Dev nD) → (b : Ref sig .tc) → Buf (Elt Ideal) ((c : Thread nD τ).loc b) := fun c b => atFwd m ρ c b

theorem inFwd_arg0 : inFwd m ρ c main_arg0 = m ((c : Thread nD τ).loc main_arg0) := atFwd_args m ρ c main_arg0 (by decide)

theorem blk0_q (t : Fin cfg0.N) (r : Fin 512) (d : Fin 128) (h : (t.val % 8) * 512 + r.val < 4096) (h' : (t.val / 8) * 128 + d.val < 3072) :
    (blk0 (inFwd m ρ) c 0 t : FVec Ideal S512x128 .bf16) (ix2 r d) = (argsOf m c).A (ix2 ⟨t.val % 8 * 512 + r.val, h⟩ ⟨t.val / 8 * 128 + d.val, h'⟩) := by
  rw [show (argsOf m c).A = inFwd m ρ c main_arg0 from (inFwd_arg0 m ρ c).symm]
  blk_ext [blk0, (idx0 t).1]
theorem blk0_k (t : Fin cfg0.N) (r : Fin 4096) (d : Fin 128) (h' : 1024 + ((t.val / 8) * 128 + d.val) < 3072) :
    (blk0 (inFwd m ρ) c 1 t : FVec Ideal S4096x128 .bf16) (ix2 r d) = (argsOf m c).A (ix2 r ⟨1024 + (t.val / 8 * 128 + d.val), h'⟩) := by
  rw [show (argsOf m c).A = inFwd m ρ c main_arg0 from (inFwd_arg0 m ρ c).symm]
  blk_ext [blk0, (idx0 t).2.1]
theorem blk0_v (t : Fin cfg0.N) (r : Fin 4096) (d : Fin 128) (h' : 2048 + ((t.val / 8) * 128 + d.val) < 3072) :
    (blk0 (inFwd m ρ) c 2 t : FVec Ideal S4096x128 .bf16) (ix2 r d) = (argsOf m c).A (ix2 r ⟨2048 + (t.val / 8 * 128 + d.val), h'⟩) := by
  rw [show (argsOf m c).A = inFwd m ρ c main_arg0 from (inFwd_arg0 m ρ c).symm]
  blk_ext [blk0, (idx0 t).2.2.1]
theorem blk0_cq (t : Fin cfg0.N) (r : Fin 512) (h : (t.val % 8) * 512 + r.val < 4096) (h' : t.val / 8 < 8) :
    (blk0 (inFwd m ρ) c 3 t : FVec Ideal S1x512x1 .f32) (ix3 0 r 0) = (argsOf m c).C (ix2 ⟨t.val % 8 * 512 + r.val, h⟩ ⟨t.val / 8, h'⟩) := by
  rw [show (argsOf m c).C _ = _ from (gates_col m ρ c ⟨t.val / 8, h'⟩ ⟨t.val % 8 * 512 + r.val, h⟩).symm]
  blk_ext [blk0, (idx0 t).2.2.2.1]
theorem blk0_ck (t : Fin cfg0.N) (k : Fin 8) (r : Fin 512) (h' : t.val / 8 < 8) :
    (blk0 (inFwd m ρ) c 4 t : FVec Ideal S1x8x1x512 .f32) (ix4 0 k 0 r) = (argsOf m c).C (ix2 ⟨k.val * 512 + r.val, by omega⟩ ⟨t.val / 8, h'⟩) := by
  rw [show (argsOf m c).C _ = _ from (gates_blocks m ρ c ⟨t.val / 8, h'⟩ k r).symm]
  blk_ext [blk0, (idx0 t).2.2.2.2.1]

/-- Grid point `t` finds the blocks of its head. -/
theorem blk0_in (ha : (argsOf m c).Real) (t : Fin cfg0.N) :
    FwdIn ((argsOf m c).head (headOf t.val (points0 t))) ((grid0.coords t) 1).val (blk0 (inFwd m ρ) c 0 t) (blk0 (inFwd m ρ) c 1 t) (blk0 (inFwd m ρ) c 2 t) (blk0 (inFwd m ρ) c 3 t) (blk0 (inFwd m ρ) c 4 t) := by
  have ht := points0 t
  rw [row0_coord t]
  refine ⟨fun r d => ?_, fun r d => ?_, fun r d => ?_, fun r => ?_, fun k r => ?_⟩
  · exact (blk0_q m ρ c t r d (by omega) (by omega)).trans (Args.row_fin _ ha.hA _ _)
  · exact (blk0_k m ρ c t r d (by omega)).trans (Args.row_fin _ ha.hA _ _)
  · exact (blk0_v m ρ c t r d (by omega)).trans (Args.row_fin _ ha.hA _ _)
  · exact (blk0_cq m ρ c t r (by omega) (by omega)).trans (Args.row_fin _ ha.hC _ _)
  · exact (blk0_ck m ρ c t k r (by omega)).trans (Args.row_fin _ ha.hC _ _)

/-! # The forward call's results -/

theorem outAt_val (ha : (argsOf m c).Real) (t : Fin cfg0.N) (r : Fin 512) (d : Fin 128) :
    outAt (inFwd m ρ) c t (ix2 r d) = ((((argsOf m c).head (headOf t.val (points0 t))).out (t.val % 8 * 512 + r.val) d : ℝ) : EReal) := by
  rw [← row0_coord t]
  exact fwdOut_val c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (blk0_in m ρ c ha t) r d
theorem lseAt_val (ha : (argsOf m c).Real) (t : Fin cfg0.N) (r : Fin 512) :
    lseAt (inFwd m ρ) c t (ix3 0 r 0) = ((((argsOf m c).head (headOf t.val (points0 t))).lse (t.val % 8 * 512 + r.val) : ℝ) : EReal) := by
  rw [← row0_coord t]
  exact fwdLse_val c (grid0.coords t) (mem0_0 t) (whole0_0 t) (mem0_1 t) (whole0_1 t) (mem0_2 t) (whole0_2 t) (mem0_3 t) (whole0_3 t) (mem0_4 t) (whole0_4 t) (mem0_5 t) (whole0_5 t) (mem0_6 t) (whole0_6 t) (blk0_in m ρ c ha t) r

theorem outArr_at (a : Args) (h : Fin 8) (i : Fin 4096) (d : Fin 128) (hd : h.val * 128 + d.val < 1024) :
    outArr a (ix2 i ⟨h.val * 128 + d.val, hd⟩) = (((a.head h).out i.val d : ℝ) : EReal) := by
  have e1 : (⟨(h.val * 128 + d.val) / 128, by omega⟩ : Fin 8) = h := Fin.ext (by simp only; omega)
  have e2 : (⟨(h.val * 128 + d.val) % 128, by omega⟩ : Fin 128) = d := Fin.ext (by simp only; omega)
  exact congrArg₂ (fun h d => (((a.head h).out i.val d : ℝ) : EReal)) e1 e2
theorem lseArr_at (a : Args) (h : Fin 8) (i : Fin 4096) : lseArr a (ix3 h i 0) = (((a.head h).lse i.val : ℝ) : EReal) := rfl

theorem out_array (ha : (argsOf m c).Real) : (fwdDat (inFwd m ρ) c).arrAt 5 cfg0.N = outArr (argsOf m c) := by
  refine (fwdDat (inFwd m ρ) c).arrAt_eq_of_covers 5 _ (by decide +kernel) fun t hf y => ?_
  have ht := points0 t
  have h0 : (y 0).val < 512 := (y 0).isLt
  have h1 : (y 1).val < 128 := (y 1).isLt
  blk_simp [(idx0 t).2.2.2.2.2.1]
  rw [left0_5]
  refine (congrArg (outAt (inFwd m ρ) c t) (show y = ix2 (y 0) (y 1) from by ext a; fin_cases a <;> rfl)).trans ((outAt_val m ρ c ha t (y 0) (y 1)).trans ?_)
  refine (outArr_at (argsOf m c) (headOf t.val ht) ⟨t.val % 8 * 512 + (y 0).val, by omega⟩ ⟨(y 1).val, h1⟩ (by simp only; omega)).symm.trans ?_
  blk_ext [(idx0 t).2.2.2.2.2.1]
theorem lse_array (ha : (argsOf m c).Real) : (fwdDat (inFwd m ρ) c).arrAt 6 cfg0.N = lseArr (argsOf m c) := by
  refine (fwdDat (inFwd m ρ) c).arrAt_eq_of_covers 6 _ (by decide +kernel) fun t hf y => ?_
  have ht := points0 t
  have h1 : (y 1).val < 512 := (y 1).isLt
  blk_simp [(idx0 t).2.2.2.2.2.2]
  rw [left0_6]
  refine (congrArg (lseAt (inFwd m ρ) c t) (show y = ix3 0 (y 1) 0 from by ext a; fin_cases a <;> first | rfl | exact congrArg Fin.val (Subsingleton.elim (α := Fin 1) _ _))).trans ((lseAt_val m ρ c ha t (y 1)).trans ?_)
  refine (lseArr_at (argsOf m c) (headOf t.val ht) ⟨t.val % 8 * 512 + (y 1).val, by omega⟩).symm.trans ?_
  blk_ext [(idx0 t).2.2.2.2.2.2]

end Cert.KernelIdeal.Fox

end

end
-- ==== Proof.KernelIdeal.BwdArrays.lean ====
module

public import proofs.«01_k».proof.Proof.KernelIdeal.FwdArrays

@[expose] public section

set_option maxRecDepth 16384

noncomputable section

namespace Cert.KernelIdeal.Fox

open Cert.KernelIdeal Cert.KernelIdeal.Gen Cert.Fox
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! # The buffers the backward call is entered with -/

abbrev inBwd : (c : Dev nD) → (b : Ref sig .tc) → Buf (Elt Ideal) ((c : Thread nD τ).loc b) := fun c b => atBwd m ρ c b

theorem inBwd_arg0 : inBwd m ρ c main_arg0 = m ((c : Thread nD τ).loc main_arg0) := atBwd_args m ρ c main_arg0 (by decide)
theorem inBwd_arg2 : inBwd m ρ c main_arg2 = m ((c : Thread nD τ).loc main_arg2) := atBwd_args m ρ c main_arg2 (by decide)
theorem inBwd_out (ha : (argsOf m c).Real) : inBwd m ρ c main_v4_0 = outArr (argsOf m c) := (atBwd_arr m ρ c 5).trans (out_array m ρ c ha)
theorem inBwd_lse (ha : (argsOf m c).Real) : inBwd m ρ c main_v4_1 = lseArr (argsOf m c) := (atBwd_arr m ρ c 6).trans (lse_array m ρ c ha)
theorem gates_ins : ∀ a ∈ [main_v1, main_v2], ∀ w : Fin cfg0.W, Pipeline.arrRef spec0 w = a → (cfg0.win w).isOut = false :=
  ListAll.forall_mem_of_all_decide (by decide +kernel)
theorem inBwd_col (h : Fin 8) (r : Fin 4096) : (inBwd m ρ c main_v1 : FVec Ideal S8x4096x1 .f32) (ix3 h r 0) = (argsOf m c).C (ix2 r h) :=
  (congrFun (atBwd_keeps m ρ c main_v1 (gates_ins main_v1 (by decide))) (ix3 h r 0 : S8x4096x1.Idx)).trans (gates_col m ρ c h r)
theorem inBwd_row (h : Fin 8) (r : Fin 4096) : (inBwd m ρ c main_v2 : FVec Ideal S8x1x4096 .f32) (ix3 h 0 r) = (argsOf m c).C (ix2 r h) :=
  (congrFun (atBwd_keeps m ρ c main_v2 (gates_ins main_v2 (by decide))) (ix3 h 0 r : S8x1x4096.Idx)).trans (gates_row m ρ c h r)

/-! # The backward call's blocks -/

theorem idxq : ∀ t : Fin cfg1.N, win1_0.index t = ![0, t.val / 8] ∧ win1_1.index t = ![t.val % 8, 8 + t.val / 8] ∧ win1_2.index t = ![t.val % 8, 16 + t.val / 8] :=
  (by decide +kernel : ∀ t : Fin grid1.N, _)
theorem idxc : ∀ t : Fin cfg1.N, win1_3.index t = ![t.val / 8, 0, 0] ∧ win1_4.index t = ![t.val / 8, 0, t.val % 8] ∧ win1_7.index t = ![t.val / 8, 0, 0] :=
  (by decide +kernel : ∀ t : Fin grid1.N, _)
theorem idxo : ∀ t : Fin cfg1.N, win1_5.index t = ![0, t.val / 8] ∧ win1_6.index t = ![0, 8 + t.val / 8] :=
  (by decide +kernel : ∀ t : Fin grid1.N, _)
theorem idxr : ∀ t : Fin cfg1.N, win1_8.index t = ![0, t.val / 8] ∧ win1_9.index t = ![t.val % 8, t.val / 8] ∧ win1_10.index t = ![t.val % 8, t.val / 8]
    ∧ win1_11.index t = ![t.val / 8, 0, t.val % 8] ∧ win1_12.index t = ![t.val / 8, 0, 0] :=
  (by decide +kernel : ∀ t : Fin grid1.N, _)
theorem row1_coord : ∀ t : Fin cfg1.N, ((grid1.coords t) 1).val = t.val % 8 := (by decide +kernel : ∀ t : Fin grid1.N, _)
theorem points1 (t : Fin cfg1.N) : t.val < 64 := lt_of_lt_of_eq t.isLt (by decide +kernel)

theorem blk1_q (t : Fin cfg1.N) (r : Fin 4096) (d : Fin 128) (h' : (t.val / 8) * 128 + d.val < 3072) :
    (blk1 (inBwd m ρ) c 0 t : FVec Ideal S4096x128 .bf16) (ix2 r d) = (argsOf m c).A (ix2 r ⟨t.val / 8 * 128 + d.val, h'⟩) := by
  rw [show (argsOf m c).A = inBwd m ρ c main_arg0 from (inBwd_arg0 m ρ c).symm]
  blk_ext [blk1, (idxq t).1]
theorem blk1_k (t : Fin cfg1.N) (r : Fin 512) (d : Fin 128) (h : t.val % 8 * 512 + r.val < 4096) (h' : 1024 + ((t.val / 8) * 128 + d.val) < 3072) :
    (blk1 (inBwd m ρ) c 1 t : FVec Ideal S512x128 .bf16) (ix2 r d) = (argsOf m c).A (ix2 ⟨t.val % 8 * 512 + r.val, h⟩ ⟨1024 + (t.val / 8 * 128 + d.val), h'⟩) := by
  rw [show (argsOf m c).A = inBwd m ρ c main_arg0 from (inBwd_arg0 m ρ c).symm]
  blk_ext [blk1, (idxq t).2.1]
theorem blk1_v (t : Fin cfg1.N) (r : Fin 512) (d : Fin 128) (h : t.val % 8 * 512 + r.val < 4096) (h' : 2048 + ((t.val / 8) * 128 + d.val) < 3072) :
    (blk1 (inBwd m ρ) c 2 t : FVec Ideal S512x128 .bf16) (ix2 r d) = (argsOf m c).A (ix2 ⟨t.val % 8 * 512 + r.val, h⟩ ⟨2048 + (t.val / 8 * 128 + d.val), h'⟩) := by
  rw [show (argsOf m c).A = inBwd m ρ c main_arg0 from (inBwd_arg0 m ρ c).symm]
  blk_ext [blk1, (idxq t).2.2]
theorem blk1_cq (t : Fin cfg1.N) (r : Fin 4096) (h' : t.val / 8 < 8) :
    (blk1 (inBwd m ρ) c 3 t : FVec Ideal S1x4096x1 .f32) (ix3 0 r 0) = (argsOf m c).C (ix2 r ⟨t.val / 8, h'⟩) := by
  rw [show (argsOf m c).C _ = _ from (inBwd_col m ρ c ⟨t.val / 8, h'⟩ r).symm]
  blk_ext [blk1, (idxc t).1]
theorem blk1_ck (t : Fin cfg1.N) (r : Fin 512) (h : t.val % 8 * 512 + r.val < 4096) (h' : t.val / 8 < 8) :
    (blk1 (inBwd m ρ) c 4 t : FVec Ideal S1x1x512 .f32) (ix3 0 0 r) = (argsOf m c).C (ix2 ⟨t.val % 8 * 512 + r.val, h⟩ ⟨t.val / 8, h'⟩) := by
  rw [show (argsOf m c).C _ = _ from (inBwd_row m ρ c ⟨t.val / 8, h'⟩ ⟨t.val % 8 * 512 + r.val, h⟩).symm]
  blk_ext [blk1, (idxc t).2.1]
theorem blk1_o (ha : (argsOf m c).Real) (t : Fin cfg1.N) (r : Fin 4096) (d : Fin 128) (h' : (t.val / 8) * 128 + d.val < 1024) :
    (blk1 (inBwd m ρ) c 5 t : FVec Ideal S4096x128 .f32) (ix2 r d) = outArr (argsOf m c) (ix2 r ⟨t.val / 8 * 128 + d.val, h'⟩) := by
  rw [← inBwd_out m ρ c ha]
  blk_ext [blk1, (idxo t).1]
theorem blk1_g (t : Fin cfg1.N) (r : Fin 4096) (d : Fin 128) (h' : 1024 + ((t.val / 8) * 128 + d.val) < 2048) :
    (blk1 (inBwd m ρ) c 6 t : FVec Ideal S4096x128 .f32) (ix2 r d) = (argsOf m c).D (ix2 r ⟨1024 + (t.val / 8 * 128 + d.val), h'⟩) := by
  rw [show (argsOf m c).D = inBwd m ρ c main_arg2 from (inBwd_arg2 m ρ c).symm]
  blk_ext [blk1, (idxo t).2]
theorem blk1_lse (ha : (argsOf m c).Real) (t : Fin cfg1.N) (r : Fin 4096) (h' : t.val / 8 < 8) :
    (blk1 (inBwd m ρ) c 7 t : FVec Ideal S1x4096x1 .f32) (ix3 0 r 0) = lseArr (argsOf m c) (ix3 ⟨t.val / 8, h'⟩ r 0) := by
  rw [← inBwd_lse m ρ c ha]
  blk_ext [blk1, (idxc t).2.2]

/-- Grid point `t` finds the blocks of its head. -/
theorem blk1_in (ha : (argsOf m c).Real) (t : Fin cfg1.N) :
    BwdIn ((argsOf m c).head (headOf t.val (points1 t))) ((grid1.coords t) 1).val (blk1 (inBwd m ρ) c 0 t) (blk1 (inBwd m ρ) c 1 t) (blk1 (inBwd m ρ) c 2 t) (blk1 (inBwd m ρ) c 3 t)
      (blk1 (inBwd m ρ) c 4 t) (blk1 (inBwd m ρ) c 5 t) (blk1 (inBwd m ρ) c 6 t) (blk1 (inBwd m ρ) c 7 t) := by
  have ht := points1 t
  rw [row1_coord t]
  refine ⟨fun r d => ?_, fun r d => ?_, fun r d => ?_, fun r => ?_, fun r => ?_, fun r d => ?_, fun r d => ?_, fun r => ?_⟩
  · exact (blk1_q m ρ c t r d (by omega)).trans (Args.row_fin _ ha.hA _ _)
  · exact (blk1_k m ρ c t r d (by omega) (by omega)).trans (Args.row_fin _ ha.hA _ _)
  · exact (blk1_v m ρ c t r d (by omega) (by omega)).trans (Args.row_fin _ ha.hA _ _)
  · exact (blk1_cq m ρ c t r (by omega)).trans (Args.row_fin _ ha.hC _ _)
  · exact (blk1_ck m ρ c t r (by omega) (by omega)).trans (Args.row_fin _ ha.hC _ _)
  · exact (blk1_o m ρ c ha t r d (by omega)).trans (outArr_at _ (headOf t.val ht) r d (by simp only; omega))
  · exact (blk1_g m ρ c t r d (by omega)).trans (Args.row_fin _ ha.hD _ _)
  · exact (blk1_lse m ρ c ha t r (by omega)).trans (lseArr_at _ (headOf t.val ht) r)

/-! # What the grid points leave -/

/-- What is kept after grid point `n`: the queries' two sums up to this key block, and the row sums. -/
structure KeptVal (H : Head) (b : ℕ) (p : Kept Ideal) : Prop where
  dq : ∀ (r : Fin 4096) (d : Fin 128), p.1 (ix2 r d) = ((H.dqTo (b + 1) r.val d : ℝ) : EReal)
  cq : ∀ r : Fin 4096, p.2.1 (ix3 0 r 0) = ((H.cqTo (b + 1) r.val : ℝ) : EReal)
  dl : ∀ r : Fin 4096, p.2.2 (ix2 r 0) = ((H.dl r.val : ℝ) : EReal)

theorem KeptVal.of {H : Head} {b : ℕ} {y8 : Vec Ideal S4096x128 .f32} {y12 : Vec Ideal S1x4096x1 .f32} {ys : Vec Ideal S4096x1 .f32}
    (dq : ∀ (r : Fin 4096) (d : Fin 128), y8 (ix2 r d) = ((H.dqTo (b + 1) r.val d : ℝ) : EReal))
    (cq : ∀ r : Fin 4096, y12 (ix3 0 r 0) = ((H.cqTo (b + 1) r.val : ℝ) : EReal))
    (dl : ∀ r : Fin 4096, ys (ix2 r 0) = ((H.dl r.val : ℝ) : EReal)) : KeptVal H b (y8, y12, ys) := ⟨dq, cq, dl⟩

theorem keptFirst_val (ha : (argsOf m c).Real) (t : Fin cfg1.N) (h : t.val % 8 = 0) (ht : taken (grid1.coords t)) :
    KeptVal ((argsOf m c).head (headOf t.val (points1 t))) (t.val % 8) (keptFirst (inBwd m ρ) c t ht) := by
  have e := row1_coord t
  have hx := blk1_in m ρ c ha t
  have o := first_val (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole c (grid1.coords t) ht (e.trans h) hx
  have s := firsts_val (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole c (grid1.coords t) ht hx
  rw [e] at o
  unfold keptFirst
  exact KeptVal.of o.dq o.cq s

theorem keptLater_val (ha : (argsOf m c).Real) (t : Fin cfg1.N) (ht : ¬taken (grid1.coords t)) (p : Kept Ideal) (b : ℕ) (hb : t.val % 8 = b + 1)
    (hp : KeptVal ((argsOf m c).head (headOf t.val (points1 t))) b p) :
    KeptVal ((argsOf m c).head (headOf t.val (points1 t))) (t.val % 8) (keptLater (inBwd m ρ) c t ht p) := by
  have e := row1_coord t
  have hx := blk1_in m ρ c ha t
  have o := later_val (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole c (grid1.coords t) ht hx (by rw [e, hb]; exact hp.dq) (by rw [e, hb]; exact hp.cq) hp.dl
  rw [e] at o
  unfold keptLater
  exact KeptVal.of o.dq o.cq hp.dl

theorem kept_val (ha : (argsOf m c).Real) : ∀ (n : ℕ) (hn : n < cfg1.N),
    KeptVal ((argsOf m c).head (headOf n (points1 ⟨n, hn⟩))) (n % 8) (kept (inBwd m ρ) c n hn) := by
  intro n
  induction n with
  | zero => exact fun hn => (kept_first (inBwd m ρ) c ⟨0, hn⟩ rfl).symm ▸ keptFirst_val m ρ c ha ⟨0, hn⟩ rfl _
  | succ n ih =>
    intro hn
    by_cases h : (n + 1) % 8 = 0
    · rw [kept_first (inBwd m ρ) c ⟨n + 1, hn⟩ h]
      exact keptFirst_val m ρ c ha ⟨n + 1, hn⟩ h _
    · rw [kept_later (inBwd m ρ) c ⟨n + 1, hn⟩ h]
      have hb : (n + 1) % 8 = n % 8 + 1 := by omega
      refine keptLater_val m ρ c ha ⟨n + 1, hn⟩ _ _ (n % 8) hb ?_
      have hh : headOf (n + 1) (points1 ⟨n + 1, hn⟩) = headOf n (points1 ⟨n, Nat.lt_of_succ_lt hn⟩) := Fin.ext (by simp only; omega)
      rw [hh]
      exact ih (Nat.lt_of_succ_lt hn)

/-- The keys' three gradients at grid point `t`. -/
structure KeysVal (H : Head) (b : ℕ) (y9 y10 : Vec Ideal S512x128 .bf16) (y11 : Vec Ideal S1x1x512 .f32) : Prop where
  dk : ∀ (s : Fin 512) (d : Fin 128), y9 (ix2 s d) = ((H.dk (b * 512 + s.val) d : ℝ) : EReal)
  dv : ∀ (s : Fin 512) (d : Fin 128), y10 (ix2 s d) = ((H.dv (b * 512 + s.val) d : ℝ) : EReal)
  ck : ∀ s : Fin 512, y11 (ix3 0 0 s) = ((H.dck (b * 512 + s.val) : ℝ) : EReal)

theorem keys_val (ha : (argsOf m c).Real) (t : Fin cfg1.N) :
    KeysVal ((argsOf m c).head (headOf t.val (points1 t))) (t.val % 8) (grad9 (inBwd m ρ) c t) (grad10 (inBwd m ρ) c t) (grad11 (inBwd m ρ) c t) := by
  have e := row1_coord t
  have hx := blk1_in m ρ c ha t
  by_cases h : t.val % 8 = 0
  · have o := first_val (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole c (grid1.coords t) ((taken_iff t).mpr h) (e.trans h) hx
    rw [e] at o
    unfold grad9 grad10 grad11
    rw [dif_pos h, dif_pos h, dif_pos h]
    exact ⟨o.dk, o.dv, o.ck⟩
  · have hn : t.val - 1 < cfg1.N := Nat.lt_of_le_of_lt (Nat.sub_le _ _) t.isLt
    have hp := kept_val m ρ c ha (t.val - 1) hn
    have hb : t.val % 8 = (t.val - 1) % 8 + 1 := by omega
    have hh : headOf (t.val - 1) (points1 ⟨t.val - 1, hn⟩) = headOf t.val (points1 t) := Fin.ext (by simp only; omega)
    rw [hh] at hp
    have o := later_val (mem1_0 t) (whole1_0 t) (mem1_1 t) (whole1_1 t) (mem1_2 t) (whole1_2 t) (mem1_3 t) (whole1_3 t) (mem1_4 t) (whole1_4 t) (mem1_5 t) (whole1_5 t) (mem1_6 t) (whole1_6 t) (mem1_7 t) (whole1_7 t) (mem1_8 t) (whole1_8 t) (mem1_9 t) (whole1_9 t) (mem1_10 t) (whole1_10 t) (mem1_11 t) (whole1_11 t) (mem1_12 t) (whole1_12 t) scratch scratch_whole c (grid1.coords t) (fun h' => h ((taken_iff t).mp h')) hx (by rw [e, hb]; exact hp.dq) (by rw [e, hb]; exact hp.cq) hp.dl
    rw [e] at o
    unfold grad9 grad10 grad11
    rw [dif_neg h, dif_neg h, dif_neg h]
    exact ⟨o.dk, o.dv, o.ck⟩

/-! # The whole arrays -/

abbrev colHead (i : S4096x1024.Idx) : Fin 8 := ⟨(i 1).val / 128, Nat.div_lt_of_lt_mul (i 1).isLt⟩
abbrev colLane (i : S4096x1024.Idx) : Fin 128 := ⟨(i 1).val % 128, Nat.mod_lt _ (by decide)⟩
/-- The gradient of the queries. -/
def dqArr (a : Args) (i : S4096x1024.Idx) : EReal := (((a.head (colHead i)).dq (i 0).val (colLane i) : ℝ) : EReal)
/-- The gradient of the keys. -/
def dkArr (a : Args) (i : S4096x1024.Idx) : EReal := (((a.head (colHead i)).dk (i 0).val (colLane i) : ℝ) : EReal)
/-- The gradient of the values. -/
def dvArr (a : Args) (i : S4096x1024.Idx) : EReal := (((a.head (colHead i)).dv (i 0).val (colLane i) : ℝ) : EReal)
/-- The gradient of the gate sums as the keys meet them. -/
def dckArr (a : Args) (i : S8x1x4096.Idx) : EReal := (((a.head (i 0)).dck (i 2).val : ℝ) : EReal)
/-- The gradient of the gate sums as the queries meet them. -/
def dcqArr (a : Args) (i : S8x4096x1.Idx) : EReal := (((a.head (i 0)).dcq (i 1).val : ℝ) : EReal)

section At
variable (a : Args) (h : Fin 8) (i : Fin 4096) (d : Fin 128) (hd : h.val * 128 + d.val < 1024)
theorem colHead_at : colHead (ix2 i ⟨h.val * 128 + d.val, hd⟩) = h := Fin.ext (show (h.val * 128 + d.val) / 128 = h.val by omega)
theorem colLane_at : colLane (ix2 i ⟨h.val * 128 + d.val, hd⟩) = d := Fin.ext (show (h.val * 128 + d.val) % 128 = d.val by omega)
theorem dqArr_at : dqArr a (ix2 i ⟨h.val * 128 + d.val, hd⟩) = (((a.head h).dq i.val d : ℝ) : EReal) :=
  congrArg₂ (fun h d => (((a.head h).dq i.val d : ℝ) : EReal)) (colHead_at h i d hd) (colLane_at h i d hd)
theorem dkArr_at : dkArr a (ix2 i ⟨h.val * 128 + d.val, hd⟩) = (((a.head h).dk i.val d : ℝ) : EReal) :=
  congrArg₂ (fun h d => (((a.head h).dk i.val d : ℝ) : EReal)) (colHead_at h i d hd) (colLane_at h i d hd)
theorem dvArr_at : dvArr a (ix2 i ⟨h.val * 128 + d.val, hd⟩) = (((a.head h).dv i.val d : ℝ) : EReal) :=
  congrArg₂ (fun h d => (((a.head h).dv i.val d : ℝ) : EReal)) (colHead_at h i d hd) (colLane_at h i d hd)
theorem dckArr_at : dckArr a (ix3 h 0 i) = (((a.head h).dck i.val : ℝ) : EReal) := rfl
theorem dcqArr_at : dcqArr a (ix3 h i 0) = (((a.head h).dcq i.val : ℝ) : EReal) := rfl
end At

theorem flush1 : ∀ t : Fin cfg1.N, ((cfg1.win 8).flush t = true → t.val % 8 = 7) ∧ ((cfg1.win 12).flush t = true → t.val % 8 = 7) :=
  (by decide +kernel : ∀ t : Fin grid1.N, _)
theorem dqTo_all (H : Head) (i : ℕ) (d : Fin 128) : H.dqTo (7 + 1) i d = H.dq i d := rfl
theorem cqTo_all (H : Head) (i : ℕ) : H.cqTo (7 + 1) i = H.dcq i := rfl

theorem dq_array (ha : (argsOf m c).Real) : (bwdDat (inBwd m ρ) c).arrAt 8 cfg1.N = dqArr (argsOf m c) := by
  refine (bwdDat (inBwd m ρ) c).arrAt_eq_of_covers 8 _ (by decide +kernel) fun t hf y => ?_
  have ht := points1 t
  have h7 := (flush1 t).1 hf
  have h0 : (y 0).val < 4096 := (y 0).isLt
  have h1 : (y 1).val < 128 := (y 1).isLt
  blk_simp [(idxr t).1]
  rw [left1_8]
  have hk := (kept_val m ρ c ha t.val t.isLt).dq ⟨(y 0).val, h0⟩ ⟨(y 1).val, h1⟩
  rw [h7, dqTo_all] at hk
  refine (congrArg (kept (inBwd m ρ) c t.val t.isLt).1 (show y = ix2 ⟨(y 0).val, h0⟩ ⟨(y 1).val, h1⟩ from by ext a; fin_cases a <;> rfl)).trans (hk.trans ?_)
  refine (dqArr_at (argsOf m c) (headOf t.val ht) ⟨(y 0).val, h0⟩ ⟨(y 1).val, h1⟩ (by simp only; omega)).symm.trans ?_
  blk_ext [(idxr t).1]
theorem dcq_array (ha : (argsOf m c).Real) : (bwdDat (inBwd m ρ) c).arrAt 12 cfg1.N = dcqArr (argsOf m c) := by
  refine (bwdDat (inBwd m ρ) c).arrAt_eq_of_covers 12 _ (by decide +kernel) fun t hf y => ?_
  have ht := points1 t
  have h7 := (flush1 t).2 hf
  have h1 : (y 1).val < 4096 := (y 1).isLt
  blk_simp [(idxr t).2.2.2.2]
  rw [left1_12]
  have hk := (kept_val m ρ c ha t.val t.isLt).cq ⟨(y 1).val, h1⟩
  rw [h7, cqTo_all] at hk
  refine (congrArg (kept (inBwd m ρ) c t.val t.isLt).2.1 (show y = ix3 0 ⟨(y 1).val, h1⟩ 0 from by ext a; fin_cases a <;> first | rfl | exact congrArg Fin.val (Subsingleton.elim (α := Fin 1) _ _))).trans (hk.trans ?_)
  refine (dcqArr_at (argsOf m c) (headOf t.val ht) ⟨(y 1).val, h1⟩).symm.trans ?_
  blk_ext [(idxr t).2.2.2.2]
theorem dk_array (ha : (argsOf m c).Real) : (bwdDat (inBwd m ρ) c).arrAt 9 cfg1.N = dkArr (argsOf m c) := by
  refine (bwdDat (inBwd m ρ) c).arrAt_eq_of_covers 9 _ (by decide +kernel) fun t hf y => ?_
  have ht := points1 t
  have h0 : (y 0).val < 512 := (y 0).isLt
  have h1 : (y 1).val < 128 := (y 1).isLt
  blk_simp [(idxr t).2.1]
  rw [left1_9]
  refine (congrArg (grad9 (inBwd m ρ) c t) (show y = ix2 ⟨(y 0).val, h0⟩ ⟨(y 1).val, h1⟩ from by ext a; fin_cases a <;> rfl)).trans (((keys_val m ρ c ha t).dk ⟨(y 0).val, h0⟩ ⟨(y 1).val, h1⟩).trans ?_)
  refine (dkArr_at (argsOf m c) (headOf t.val ht) ⟨t.val % 8 * 512 + (y 0).val, by omega⟩ ⟨(y 1).val, h1⟩ (by simp only; omega)).symm.trans ?_
  blk_ext [(idxr t).2.1]
theorem dv_array (ha : (argsOf m c).Real) : (bwdDat (inBwd m ρ) c).arrAt 10 cfg1.N = dvArr (argsOf m c) := by
  refine (bwdDat (inBwd m ρ) c).arrAt_eq_of_covers 10 _ (by decide +kernel) fun t hf y => ?_
  have ht := points1 t
  have h0 : (y 0).val < 512 := (y 0).isLt
  have h1 : (y 1).val < 128 := (y 1).isLt
  blk_simp [(idxr t).2.2.1]
  rw [left1_10]
  refine (congrArg (grad10 (inBwd m ρ) c t) (show y = ix2 ⟨(y 0).val, h0⟩ ⟨(y 1).val, h1⟩ from by ext a; fin_cases a <;> rfl)).trans (((keys_val m ρ c ha t).dv ⟨(y 0).val, h0⟩ ⟨(y 1).val, h1⟩).trans ?_)
  refine (dvArr_at (argsOf m c) (headOf t.val ht) ⟨t.val % 8 * 512 + (y 0).val, by omega⟩ ⟨(y 1).val, h1⟩ (by simp only; omega)).symm.trans ?_
  blk_ext [(idxr t).2.2.1]
theorem dck_array (ha : (argsOf m c).Real) : (bwdDat (inBwd m ρ) c).arrAt 11 cfg1.N = dckArr (argsOf m c) := by
  refine (bwdDat (inBwd m ρ) c).arrAt_eq_of_covers 11 _ (by decide +kernel) fun t hf y => ?_
  have ht := points1 t
  have h2 : (y 2).val < 512 := (y 2).isLt
  blk_simp [(idxr t).2.2.2.1]
  rw [left1_11]
  refine (congrArg (grad11 (inBwd m ρ) c t) (show y = ix3 0 0 ⟨(y 2).val, h2⟩ from by ext a; fin_cases a <;> first | rfl | exact congrArg Fin.val (Subsingleton.elim (α := Fin 1) _ _))).trans (((keys_val m ρ c ha t).ck ⟨(y 2).val, h2⟩).trans ?_)
  refine (dckArr_at (argsOf m c) (headOf t.val ht) ⟨t.val % 8 * 512 + (y 2).val, by omega⟩).symm.trans ?_
  blk_ext [(idxr t).2.2.2.1]

/-! # The buffers at the end -/

theorem end_out (ha : (argsOf m c).Real) : atEnd m ρ c (Proc.devRef .tc main_v4_0) = outArr (argsOf m c) :=
  (atEnd_keeps m ρ c main_v4_0 (by decide +kernel)).trans (inBwd_out m ρ c ha)
theorem end_dq (ha : (argsOf m c).Real) : atEnd m ρ c (Proc.devRef .tc main_v5_0) = dqArr (argsOf m c) := (atEnd_arr m ρ c 8).trans (dq_array m ρ c ha)
theorem end_dk (ha : (argsOf m c).Real) : atEnd m ρ c (Proc.devRef .tc main_v5_1) = dkArr (argsOf m c) := (atEnd_arr m ρ c 9).trans (dk_array m ρ c ha)
theorem end_dv (ha : (argsOf m c).Real) : atEnd m ρ c (Proc.devRef .tc main_v5_2) = dvArr (argsOf m c) := (atEnd_arr m ρ c 10).trans (dv_array m ρ c ha)
theorem end_dck (ha : (argsOf m c).Real) : atEnd m ρ c (Proc.devRef .tc main_v5_3) = dckArr (argsOf m c) := (atEnd_arr m ρ c 11).trans (dck_array m ρ c ha)
theorem end_dcq (ha : (argsOf m c).Real) : atEnd m ρ c (Proc.devRef .tc main_v5_4) = dcqArr (argsOf m c) := (atEnd_arr m ρ c 12).trans (dcq_array m ρ c ha)

end Cert.KernelIdeal.Fox

end

end
-- ==== Proof.Value.lean ====
module

public import proofs.«01_k».proof.Defs
public import proofs.«01_k».proof.Proof.KernelIdeal.BwdArrays
public import proofs.«01_k».proof.Proof.ReferenceIdeal.Value
public import proofs.«01_k».proof.Proof.Gen.Pre_finite_inputs

@[expose] public section

set_option maxRecDepth 16384

noncomputable section

namespace Cert.Fox

open Idealize.ShloMosaic Idealize.ShloMosaic.TcCoe Idealize.SL.Sem

/-! # Finite arguments are real -/

/-- An extended real whose absolute value is below the infinity is a real number. -/
theorem real_of_lt (x : EReal) (h : max x (-x) < ⊤) : ((x.toReal : ℝ) : EReal) = x := by
  refine EReal.coe_toReal ?_ ?_
  · rintro rfl; simp at h
  · rintro rfl; simp at h

theorem real_of_word (x : EReal) (h : BitVec.ofBool (decide (max x (-x) < Ideal.ofBits FTy.f32 2139095040#32)) = 1#1) : ((x.toReal : ℝ) : EReal) = x := by
  refine real_of_lt x ?_
  rw [ofBits_inf] at h
  by_contra hn
  rw [decide_eq_false hn] at h
  exact absurd h (by decide)

theorem real_of_finite {m : (ℓ : Loc Cert.KernelIdeal.nD Cert.KernelIdeal.τ Cert.KernelIdeal.sig) → Buf (Elt Ideal) ℓ}
    (h : Cert.Pre_KernelIdeal_finite_inputs (hPre_finite_inputs := Cert.Pre_finite_inputs.Gen.facts) m) (c : Dev Cert.KernelIdeal.nD) :
    (Cert.KernelIdeal.Fox.argsOf m c).Real := by
  obtain ⟨h0, h1, h2⟩ := h c
  refine ⟨fun x => ?_, fun x => ?_, fun x => ?_⟩
  · have e := congrFun h0 x
    revert e
    pointwise [Cert.Pre_finite_inputs.fn]
    exact real_of_word _
  · have e := congrFun h1 x
    revert e
    pointwise [Cert.Pre_finite_inputs.fn]
    exact real_of_word _
  · have e := congrFun h2 x
    revert e
    pointwise [Cert.Pre_finite_inputs.fn]
    exact real_of_word _

/-! # The two programs' arrays -/

/-- An index of a row array is a row, a head and a lane. -/
theorem idx_split (x : Cert.KernelIdeal.S4096x1024.Idx) : ∃ (i : Fin 4096) (h : Fin 8) (d : Fin 128) (hd : h.val * 128 + d.val < 1024), x = ix2 i ⟨h.val * 128 + d.val, hd⟩ := by
  have h0 : (x 0).val < 4096 := (x 0).isLt
  have h1 : (x 1).val < 1024 := (x 1).isLt
  refine ⟨⟨(x 0).val, h0⟩, ⟨(x 1).val / 128, by omega⟩, ⟨(x 1).val % 128, by omega⟩, by simp only; omega, ?_⟩
  ext a
  fin_cases a
  · rfl
  · show (x 1).val = (x 1).val / 128 * 128 + (x 1).val % 128
    omega

section Same
variable (a : Args) (ha : a.Real)
include ha
theorem out_same : Cert.ReferenceIdeal.Fox.outOut a.A a.C = Cert.KernelIdeal.Fox.outArr a := funext fun x => by
  obtain ⟨i, h, d, hd, rfl⟩ := idx_split x
  exact (Cert.ReferenceIdeal.Fox.outOut_val ha i h d).trans (Cert.KernelIdeal.Fox.outArr_at a h i d hd).symm
theorem dq_same : Cert.ReferenceIdeal.Fox.outDq a.A a.C a.D = Cert.KernelIdeal.Fox.dqArr a := funext fun x => by
  obtain ⟨i, h, d, hd, rfl⟩ := idx_split x
  exact (Cert.ReferenceIdeal.Fox.outDq_val ha i h d).trans (Cert.KernelIdeal.Fox.dqArr_at a h i d hd).symm
theorem dk_same : Cert.ReferenceIdeal.Fox.outDk a.A a.C a.D = Cert.KernelIdeal.Fox.dkArr a := funext fun x => by
  obtain ⟨i, h, d, hd, rfl⟩ := idx_split x
  exact (Cert.ReferenceIdeal.Fox.outDk_val ha i h d).trans (Cert.KernelIdeal.Fox.dkArr_at a h i d hd).symm
theorem dv_same : Cert.ReferenceIdeal.Fox.outDv a.A a.C a.D = Cert.KernelIdeal.Fox.dvArr a := funext fun x => by
  obtain ⟨i, h, d, hd, rfl⟩ := idx_split x
  exact (Cert.ReferenceIdeal.Fox.outDv_val ha i h d).trans (Cert.KernelIdeal.Fox.dvArr_at a h i d hd).symm
theorem dck_same : Cert.ReferenceIdeal.Fox.outDck a.A a.C a.D = Cert.KernelIdeal.Fox.dckArr a := funext fun x => by
  have e : x = ix3 (x 0) 0 (x 2) := by ext a; fin_cases a <;> first | rfl | exact congrArg Fin.val (Subsingleton.elim (α := Fin 1) _ _)
  rw [e]
  exact (Cert.ReferenceIdeal.Fox.outDck_val ha (x 0) (x 2)).trans (Cert.KernelIdeal.Fox.dckArr_at a (x 0) (x 2)).symm
theorem dcq_same : Cert.ReferenceIdeal.Fox.outDcq a.A a.C a.D = Cert.KernelIdeal.Fox.dcqArr a := funext fun x => by
  have e : x = ix3 (x 0) (x 1) 0 := by ext a; fin_cases a <;> first | rfl | exact congrArg Fin.val (Subsingleton.elim (α := Fin 1) _ _)
  rw [e]
  exact (Cert.ReferenceIdeal.Fox.outDcq_val ha (x 0) (x 1)).trans (Cert.KernelIdeal.Fox.dcqArr_at a (x 0) (x 1)).symm
end Same

section Ref
variable (m' : (ℓ : Loc Cert.ReferenceIdeal.nD Cert.ReferenceIdeal.τ Cert.ReferenceIdeal.sig) → Buf (Elt Ideal) ℓ) (c : Dev Cert.ReferenceIdeal.nD) (a : Args) (ha : a.Real)
  (e0 : m' ((c.tc : Thread Cert.ReferenceIdeal.nD Cert.ReferenceIdeal.τ).loc Cert.ReferenceIdeal.main_arg0) = a.A)
  (e1 : m' ((c.tc : Thread Cert.ReferenceIdeal.nD Cert.ReferenceIdeal.τ).loc Cert.ReferenceIdeal.main_arg1) = a.C)
  (e2 : m' ((c.tc : Thread Cert.ReferenceIdeal.nD Cert.ReferenceIdeal.τ).loc Cert.ReferenceIdeal.main_arg2) = a.D)
include ha e0 e1
theorem ref_out : Cert.ReferenceIdeal.Value.res_main_v91 m' c = Cert.KernelIdeal.Fox.outArr a :=
  (Cert.ReferenceIdeal.Fox.res_out m' c).trans ((congrArg₂ Cert.ReferenceIdeal.Fox.outOut e0 e1).trans (out_same a ha))
include e2
theorem ref_dq : Cert.ReferenceIdeal.Value.res_main_v92 m' c = Cert.KernelIdeal.Fox.dqArr a :=
  (Cert.ReferenceIdeal.Fox.res_dq m' c).trans ((congr (congrArg₂ Cert.ReferenceIdeal.Fox.outDq e0 e1) e2).trans (dq_same a ha))
theorem ref_dk : Cert.ReferenceIdeal.Value.res_main_v94 m' c = Cert.KernelIdeal.Fox.dkArr a :=
  (Cert.ReferenceIdeal.Fox.res_dk m' c).trans ((congr (congrArg₂ Cert.ReferenceIdeal.Fox.outDk e0 e1) e2).trans (dk_same a ha))
theorem ref_dv : Cert.ReferenceIdeal.Value.res_main_v96 m' c = Cert.KernelIdeal.Fox.dvArr a :=
  (Cert.ReferenceIdeal.Fox.res_dv m' c).trans ((congr (congrArg₂ Cert.ReferenceIdeal.Fox.outDv e0 e1) e2).trans (dv_same a ha))
theorem ref_dck : Cert.ReferenceIdeal.Value.res_main_v98 m' c = Cert.KernelIdeal.Fox.dckArr a :=
  (Cert.ReferenceIdeal.Fox.res_dck m' c).trans ((congr (congrArg₂ Cert.ReferenceIdeal.Fox.outDck e0 e1) e2).trans (dck_same a ha))
theorem ref_dcq : Cert.ReferenceIdeal.Value.res_main_v100 m' c = Cert.KernelIdeal.Fox.dcqArr a :=
  (Cert.ReferenceIdeal.Fox.res_dcq m' c).trans ((congr (congrArg₂ Cert.ReferenceIdeal.Fox.outDcq e0 e1) e2).trans (dcq_same a ha))
end Ref

/-- The two programs' results, equal as extended reals. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  have ha := fun c => real_of_finite hpre c
  refine ⟨fun c => Cert.KernelIdeal.Fox.outArr (Cert.KernelIdeal.Fox.argsOf m c), fun c => Cert.KernelIdeal.Fox.dqArr (Cert.KernelIdeal.Fox.argsOf m c),
    fun c => Cert.KernelIdeal.Fox.dkArr (Cert.KernelIdeal.Fox.argsOf m c), fun c => Cert.KernelIdeal.Fox.dvArr (Cert.KernelIdeal.Fox.argsOf m c),
    fun c => Cert.KernelIdeal.Fox.dckArr (Cert.KernelIdeal.Fox.argsOf m c), fun c => Cert.KernelIdeal.Fox.dcqArr (Cert.KernelIdeal.Fox.argsOf m c), ?_, ?_⟩
  · refine (θ_run Cert.KernelIdeal.defs _ _).mono (fun r h c => ?_) (Cert.KernelIdeal.Fox.run (F := Ideal) m g)
    have hb := h.1 c
    exact ⟨(hb _ (Cert.KernelIdeal.Fox.mem_unscoped Cert.KernelIdeal.main_v4_0 (by decide))).trans (Cert.KernelIdeal.Fox.end_out m g c (ha c)),
      (hb _ (Cert.KernelIdeal.Fox.mem_unscoped Cert.KernelIdeal.main_v5_0 (by decide))).trans (Cert.KernelIdeal.Fox.end_dq m g c (ha c)),
      (hb _ (Cert.KernelIdeal.Fox.mem_unscoped Cert.KernelIdeal.main_v5_1 (by decide))).trans (Cert.KernelIdeal.Fox.end_dk m g c (ha c)),
      (hb _ (Cert.KernelIdeal.Fox.mem_unscoped Cert.KernelIdeal.main_v5_2 (by decide))).trans (Cert.KernelIdeal.Fox.end_dv m g c (ha c)),
      (hb _ (Cert.KernelIdeal.Fox.mem_unscoped Cert.KernelIdeal.main_v5_3 (by decide))).trans (Cert.KernelIdeal.Fox.end_dck m g c (ha c)),
      (hb _ (Cert.KernelIdeal.Fox.mem_unscoped Cert.KernelIdeal.main_v5_4 (by decide))).trans (Cert.KernelIdeal.Fox.end_dcq m g c (ha c)),
      (hb _ (Cert.KernelIdeal.Fox.mem_unscoped Cert.KernelIdeal.main_arg0 (by decide))).trans (Cert.KernelIdeal.Fox.atEnd_args m g c Cert.KernelIdeal.main_arg0 (by decide)),
      (hb _ (Cert.KernelIdeal.Fox.mem_unscoped Cert.KernelIdeal.main_arg1 (by decide))).trans (Cert.KernelIdeal.Fox.atEnd_args m g c Cert.KernelIdeal.main_arg1 (by decide)),
      (hb _ (Cert.KernelIdeal.Fox.mem_unscoped Cert.KernelIdeal.main_arg2 (by decide))).trans (Cert.KernelIdeal.Fox.atEnd_args m g c Cert.KernelIdeal.main_arg2 (by decide))⟩
  · refine (θ_run Cert.ReferenceIdeal.defs _ _).mono (fun r h c => ?_) (Cert.ReferenceIdeal.Value.run (F := Ideal) m' g')
    obtain ⟨e0, e1, e2⟩ := hargs c
    obtain ⟨r0, r1, r2, r3, r4, r5, rest⟩ := h c
    exact ⟨r0.trans (ref_out m' c _ (ha c) e0 e1), r1.trans (ref_dq m' c _ (ha c) e0 e1 e2), r2.trans (ref_dk m' c _ (ha c) e0 e1 e2), r3.trans (ref_dv m' c _ (ha c) e0 e1 e2),
      r4.trans (ref_dck m' c _ (ha c) e0 e1 e2), r5.trans (ref_dcq m' c _ (ha c) e0 e1 e2), rest⟩

end Cert.Fox

end

end
-- ==== Proof.Kernel2Ideal.MmBody.lean ====
module

public import proofs.«01_k».proof.Proof.Value
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import Idealize.ShloMosaic.Lib.Ring
public import Idealize.ShloMosaic.Lib.VecWindow
public import Idealize.ShloMosaic.Lib.WordCmp

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev starts2 (i : grid2.Coords) : Prop := (Scalar.cmpi .ne (Scalar.extui (Scalar.cmpi .eq (BitVec.ofNat 32 (i 3).val) 0#32)) 0#32) = 1#1

set_option maxHeartbeats 1000000 in
/-- The product body: it clears its result, adds the product and writes the rounded copy. -/
theorem body2 (c : Dev nD) (i : grid2.Coords) (arg4 : Memref sig .tc .vmem S1x688x4096 .bf16) (harg4 : arg4.IsWhole) (arg5 : Memref sig .tc .vmem S4096x1024 .bf16) (harg5 : arg5.IsWhole) (arg6 : Memref sig .tc .vmem S1x688x1024 .f32) (harg6 : arg6.IsWhole) (arg7 : Memref sig .tc .vmem S1x688x1024 .bf16) (harg7 : arg7.IsWhole) (h1 : starts2 i) (h2 : k2_cond2 i = 1#1) (x0 : Vec F S1x688x4096 .bf16) (x1 : Vec F S4096x1024 .bf16) (x2 : Vec F S1x688x1024 .f32) (x3 : Vec F S1x688x1024 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (iprop(owns (c : Thread nD τ) arg4 fullShare x0 ∗ owns (c : Thread nD τ) arg5 fullShare x1 ∗ owns (c : Thread nD τ) arg6 fullShare (k2_pay2 x0 x1 (k2_pay1 (F := F))) ∗ owns (c : Thread nD τ) arg7 fullShare (k2_pay3 (k2_pay2 x0 x1 (k2_pay1 (F := F))))) -∗ K ⟨⟩))
      ⊢ wp frame (wpE (defs₀ (F := F)) Variants.none c none) E (cc2_ffn2_dwin i arg4 harg4 arg5 harg5 arg6 harg6 arg7 harg7) K := by
  simp only [cc2_ffn2_dwin_eq_skeleton]; unfold cc2_ffn2_dwin_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | sl_exact h1 | sl_exact h2)
  sl_step
  iapply Hk
  isplitl [H0]
  · iexists _; isplitr
    swap; · iexact H0
    ipureintro; exact harg4.read_unread _
  isplitl [H1]
  · iexists _; isplitr
    swap; · iexact H1
    ipureintro; exact harg5.read_unread _
  isplitl [H2]
  · iexists _; isplitr
    swap; · iexact H2
    ipureintro; repeat first | rw [View.read_writes_full] | rw [View.readAt_full] | rw [View.readCov_full] | rw [Memref.IsWhole.read_unread] | unfold body2.sl.H2_2 | unfold body2.sl.v7 | unfold body2.sl.H2_1
  iexists _; isplitr
  swap; · iexact H3
  ipureintro; repeat first | rw [View.read_writes_full] | rw [View.readAt_full] | rw [View.readCov_full] | rw [Memref.IsWhole.read_unread] | unfold body2.sl.v17 | unfold body2.sl.H2_2 | unfold body2.sl.v7 | unfold body2.sl.H2_1

abbrev starts4 (i : grid4.Coords) : Prop := (Scalar.cmpi .ne (Scalar.extui (Scalar.cmpi .eq (BitVec.ofNat 32 (i 3).val) 0#32)) 0#32) = 1#1

set_option maxHeartbeats 1000000 in
/-- The product body: it clears its result, adds the product and writes the rounded copy. -/
theorem body4 (c : Dev nD) (i : grid4.Coords) (arg4 : Memref sig .tc .vmem S1x688x4096 .bf16) (harg4 : arg4.IsWhole) (arg5 : Memref sig .tc .vmem S4096x1024 .bf16) (harg5 : arg5.IsWhole) (arg6 : Memref sig .tc .vmem S1x688x1024 .f32) (harg6 : arg6.IsWhole) (arg7 : Memref sig .tc .vmem S1x688x1024 .bf16) (harg7 : arg7.IsWhole) (h1 : starts4 i) (h2 : k4_cond2 i = 1#1) (x0 : Vec F S1x688x4096 .bf16) (x1 : Vec F S4096x1024 .bf16) (x2 : Vec F S1x688x1024 .f32) (x3 : Vec F S1x688x1024 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (iprop(owns (c : Thread nD τ) arg4 fullShare x0 ∗ owns (c : Thread nD τ) arg5 fullShare x1 ∗ owns (c : Thread nD τ) arg6 fullShare (k4_pay2 x0 x1 (k4_pay1 (F := F))) ∗ owns (c : Thread nD τ) arg7 fullShare (k4_pay3 (k4_pay2 x0 x1 (k4_pay1 (F := F))))) -∗ K ⟨⟩))
      ⊢ wp frame (wpE (defs₀ (F := F)) Variants.none c none) E (cc4_ffn2_dwout i arg4 harg4 arg5 harg5 arg6 harg6 arg7 harg7) K := by
  simp only [cc4_ffn2_dwout_eq_skeleton]; unfold cc4_ffn2_dwout_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | sl_exact h1 | sl_exact h2)
  sl_step
  iapply Hk
  isplitl [H0]
  · iexists _; isplitr
    swap; · iexact H0
    ipureintro; exact harg4.read_unread _
  isplitl [H1]
  · iexists _; isplitr
    swap; · iexact H1
    ipureintro; exact harg5.read_unread _
  isplitl [H2]
  · iexists _; isplitr
    swap; · iexact H2
    ipureintro; repeat first | rw [View.read_writes_full] | rw [View.readAt_full] | rw [View.readCov_full] | rw [Memref.IsWhole.read_unread] | unfold body4.sl.H2_2 | unfold body4.sl.v7 | unfold body4.sl.H2_1
  iexists _; isplitr
  swap; · iexact H3
  ipureintro; repeat first | rw [View.read_writes_full] | rw [View.readAt_full] | rw [View.readCov_full] | rw [Memref.IsWhole.read_unread] | unfold body4.sl.v17 | unfold body4.sl.H2_2 | unfold body4.sl.v7 | unfold body4.sl.H2_1

end Cert.Kernel2Ideal.Ffn
-- ==== Proof.Kernel2Ideal.Mm.lean ====
module

public import proofs.«01_k».proof.Proof.Kernel2Ideal.MmBody
public import Idealize.ShloMosaic.Lib.Pipeline.TableIdle

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a body leaves in a window's buffer, as the pipeline states it: where the body does not touch the buffer, what it found there. -/
theorem settle {cfg : Cfg sig Λ₀} {c : Dev nD} (D : Dat τ (Elt F) Unit ℕ (UR sig nD τ) ℕ cfg c) (w : Fin cfg.W) (t : Fin cfg.N)
    (h : cfg.idle w (cfg.grid.coords t) = true → ∀ d, D.before w t d = D.after w t) :
    (owns (c : Thread nD τ) ((cfg.win w).stage (cfg.slots t w)) fullShare (D.after w t) : sProp 𝕄)
      ⊢ (match cfg.idle w (cfg.grid.coords t) with
          | true =>
            match (cfg.win w).flush t with
            | false => iprop(∃ d, owns (c : Thread nD τ) ((cfg.win w).stage (cfg.slots t w)) fullShare (D.before w t d))
            | true => owns (c : Thread nD τ) ((cfg.win w).stage (cfg.slots t w)) fullShare (D.after w t)
          | false => owns (c : Thread nD τ) ((cfg.win w).stage (cfg.slots t w)) fullShare (D.after w t) : sProp 𝕄) := by
  cases hi : cfg.idle w (cfg.grid.coords t)
  · exact .rfl
  · cases hf : (cfg.win w).flush t
    · dsimp only
      iintro H; iexists (D.after w t); rw [h hi]; iexact H
    · exact .rfl

section Data2

variable (V : (c : Dev nD) → (b : Ref sig .tc) → Buf (Elt F) ((c : Thread nD τ).loc b))

/-- The block of window `w`'s array that grid point `t` works on. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev mem2_0 (t : Fin cfg2.N) : Memref sig .tc .vmem S1x688x4096 .bf16 := win2_0.stage (cfg2.slots t 0)
abbrev whole2_0 (t : Fin cfg2.N) : (mem2_0 t).IsWhole := hstage2_0 ((cfg2.slots t 0).cast nbuf2_0)
abbrev mem2_1 (t : Fin cfg2.N) : Memref sig .tc .vmem S4096x1024 .bf16 := win2_1.stage (cfg2.slots t 1)
abbrev whole2_1 (t : Fin cfg2.N) : (mem2_1 t).IsWhole := hstage2_1 ((cfg2.slots t 1).cast nbuf2_1)
abbrev mem2_2 (t : Fin cfg2.N) : Memref sig .tc .vmem S1x688x1024 .f32 := win2_2.stage (cfg2.slots t 2)
abbrev whole2_2 (t : Fin cfg2.N) : (mem2_2 t).IsWhole := hstage2_2 ((cfg2.slots t 2).cast nbuf2_2)
abbrev mem2_3 (t : Fin cfg2.N) : Memref sig .tc .vmem S1x688x1024 .bf16 := win2_3.stage (cfg2.slots t 3)
abbrev whole2_3 (t : Fin cfg2.N) : (mem2_3 t).IsWhole := hstage2_3 ((cfg2.slots t 3).cast nbuf2_3)
theorem starts2_all : ∀ t : Fin cfg2.N, starts2 (grid2.coords t) := by
  have h : ∀ t : Fin grid2.N, starts2 (grid2.coords t) := by decide +kernel
  exact h
theorem live2_3 : ∀ t : Fin cfg2.N, cfg2.idle 3 (cfg2.grid.coords t) = false := by
  have h : ∀ t : Fin grid2.N, cfg2.idle 3 (cfg2.grid.coords t) = false := by decide +kernel
  exact h
theorem ends2_all : ∀ t : Fin cfg2.N, k2_cond2 (grid2.coords t) = 1#1 := by
  have h : ∀ t : Fin grid2.N, k2_cond2 (grid2.coords t) = 1#1 := by decide +kernel
  exact h

/-- The proof data of the call that computes the gradient of the input weights. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => k2_pay2 (blk2 V c 0 t) (blk2 V c 1 t) (k2_pay1 (F := F))
    | ⟨3, _⟩ => k2_pay3 (k2_pay2 (blk2 V c 0 t) (blk2 V c 1 t) (k2_pay1 (F := F)))
  Φ _ := Pipeline.ΦA spec2 c
  q w := Pipeline.shareOf spec2 w
  owed _ := 0

theorem arrays2 (c : Dev nD) (w : Fin cfg2.W) : (dat2 V c).A w = V c (Pipeline.arrRef spec2 w) := by
  dsimp only [dat2]
theorem left2_0 (c : Dev nD) (t : Fin cfg2.N) : (dat2 V c).after 0 t = blk2 V c 0 t := by dsimp only [dat2]
theorem left2_1 (c : Dev nD) (t : Fin cfg2.N) : (dat2 V c).after 1 t = blk2 V c 1 t := by dsimp only [dat2]
theorem left2_2 (c : Dev nD) (t : Fin cfg2.N) : (dat2 V c).after 2 t = k2_pay2 (blk2 V c 0 t) (blk2 V c 1 t) (k2_pay1 (F := F)) := by dsimp only [dat2]
theorem left2_3 (c : Dev nD) (t : Fin cfg2.N) : (dat2 V c).after 3 t = k2_pay3 (k2_pay2 (blk2 V c 0 t) (blk2 V c 1 t) (k2_pay1 (F := F))) := by dsimp only [dat2]
theorem found2_0 (c : Dev nD) (t : Fin cfg2.N) (d) : (dat2 V c).before 0 t d = blk2 V c 0 t :=
  ((dat2 V c).before_in_eq_fetched 0 rfl (fun _ => rfl) (fun _ _ _ => rfl)
    (fun t => by rw [left2_0]; unfold Dat.blockOf blk2; rw [arrays2]; try rfl) t d).trans
    (by unfold Dat.fetched Dat.blockOf blk2; rw [arrays2]; try rfl)
theorem found2_1 (c : Dev nD) (t : Fin cfg2.N) (d) : (dat2 V c).before 1 t d = blk2 V c 1 t :=
  ((dat2 V c).before_in_eq_fetched 1 rfl (fun _ => rfl) (fun _ _ _ => rfl)
    (fun t => by rw [left2_1]; unfold Dat.blockOf blk2; rw [arrays2]; try rfl) t d).trans
    (by unfold Dat.fetched Dat.blockOf blk2; rw [arrays2]; try rfl)

def pre2 (c : Dev nD) (t : Fin cfg2.N) : sProp 𝕄 :=
  iprop((dat2 V c).Φ t.castSucc ∗ (dat2 V c).owesAt () t.castSucc
    ∗ (∃ d, owns (c : Thread nD τ) (mem2_0 t) fullShare ((dat2 V c).before 0 t d)) ∗ (∃ d, owns (c : Thread nD τ) (mem2_1 t) fullShare ((dat2 V c).before 1 t d)) ∗ (∃ d, owns (c : Thread nD τ) (mem2_2 t) fullShare ((dat2 V c).before 2 t d)) ∗ (∃ d, owns (c : Thread nD τ) (mem2_3 t) fullShare ((dat2 V c).before 3 t d)))

def post2 (c : Dev nD) (t : Fin cfg2.N) : sProp 𝕄 :=
  iprop((dat2 V c).Φ t.succ ∗ (dat2 V c).owesAt () t.succ
    ∗ owns (c : Thread nD τ) (mem2_0 t) fullShare ((dat2 V c).after 0 t) ∗ owns (c : Thread nD τ) (mem2_1 t) fullShare ((dat2 V c).after 1 t) ∗ owns (c : Thread nD τ) (mem2_2 t) fullShare ((dat2 V c).after 2 t) ∗ owns (c : Thread nD τ) (mem2_3 t) fullShare ((dat2 V c).after 3 t))

/-- The body at any grid point. -/
theorem point2 (c : Dev nD) (t : Fin cfg2.N) :
    pre2 V c t ⊢ wp frame (wpE (defs₀ (F := F)) Variants.none c none) Set.univ (bodyAt2 t) (fun _ => post2 V c t) := by
  have hN : t.val < 32 := lt_of_lt_of_eq t.isLt (show cfg2.N = 32 from N_2)
  unfold pre2 post2 bodyAt2
  simp only [found2_0, found2_1]
  rw [show (dat2 V c).Φ t.succ = (dat2 V c).Φ t.castSucc from rfl,
    show (dat2 V c).owesAt () t.succ = (dat2 V c).owesAt () t.castSucc from rfl,
    left2_0, left2_1, left2_2, left2_3]
  iintro ⟨HΦ, Ho, ⟨%d0, H0⟩, ⟨%d1, H1⟩, ⟨%d2, H2⟩, ⟨%d3, H3⟩⟩
  iapply (body2 c (grid2.coords t) _ _ _ _ _ _ _ _ (starts2_all t) (ends2_all t) (blk2 V c 0 t) (blk2 V c 1 t) ((dat2 V c).before 2 t d2) ((dat2 V c).before 3 t d3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row2 (t : Fin cfg2.N) : defs₀ (F := F) .tc cfg2.body (cfg2.bodyArgs t (cfg2.slots t)) = bodyAt2 t := by
  unfold defs₀; rw [Defs.onTc_tc]

theorem obligation2 (c : Dev nD) : BodyObligation (dat2 (F := F) V c) (defs₀ (F := F)) Variants.none () Set.univ := fun t => by
  rw [bigSep_W2, bigSep_W2, row2]
  exact triple_restated (point2 V c t) rfl .rfl fun _ => (BIClass.sep_mono BIBase.Entails.rfl (BIClass.sep_mono BIBase.Entails.rfl (BIClass.sep_mono BIBase.Entails.rfl (BIClass.sep_mono BIBase.Entails.rfl (BIClass.sep_mono BIBase.Entails.rfl (settle (dat2 V c) 3 t fun h => absurd h (by rw [live2_3 t]; decide)))))))

end Data2

section Data4

variable (V : (c : Dev nD) → (b : Ref sig .tc) → Buf (Elt F) ((c : Thread nD τ).loc b))

/-- The block of window `w`'s array that grid point `t` works on. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev mem4_0 (t : Fin cfg4.N) : Memref sig .tc .vmem S1x688x4096 .bf16 := win4_0.stage (cfg4.slots t 0)
abbrev whole4_0 (t : Fin cfg4.N) : (mem4_0 t).IsWhole := hstage4_0 ((cfg4.slots t 0).cast nbuf4_0)
abbrev mem4_1 (t : Fin cfg4.N) : Memref sig .tc .vmem S4096x1024 .bf16 := win4_1.stage (cfg4.slots t 1)
abbrev whole4_1 (t : Fin cfg4.N) : (mem4_1 t).IsWhole := hstage4_1 ((cfg4.slots t 1).cast nbuf4_1)
abbrev mem4_2 (t : Fin cfg4.N) : Memref sig .tc .vmem S1x688x1024 .f32 := win4_2.stage (cfg4.slots t 2)
abbrev whole4_2 (t : Fin cfg4.N) : (mem4_2 t).IsWhole := hstage4_2 ((cfg4.slots t 2).cast nbuf4_2)
abbrev mem4_3 (t : Fin cfg4.N) : Memref sig .tc .vmem S1x688x1024 .bf16 := win4_3.stage (cfg4.slots t 3)
abbrev whole4_3 (t : Fin cfg4.N) : (mem4_3 t).IsWhole := hstage4_3 ((cfg4.slots t 3).cast nbuf4_3)
theorem starts4_all : ∀ t : Fin cfg4.N, starts4 (grid4.coords t) := by
  have h : ∀ t : Fin grid4.N, starts4 (grid4.coords t) := by decide +kernel
  exact h
theorem live4_3 : ∀ t : Fin cfg4.N, cfg4.idle 3 (cfg4.grid.coords t) = false := by
  have h : ∀ t : Fin grid4.N, cfg4.idle 3 (cfg4.grid.coords t) = false := by decide +kernel
  exact h
theorem ends4_all : ∀ t : Fin cfg4.N, k4_cond2 (grid4.coords t) = 1#1 := by
  have h : ∀ t : Fin grid4.N, k4_cond2 (grid4.coords t) = 1#1 := by decide +kernel
  exact h

/-- The proof data of the call that computes the gradient of the output weights. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => k4_pay2 (blk4 V c 0 t) (blk4 V c 1 t) (k4_pay1 (F := F))
    | ⟨3, _⟩ => k4_pay3 (k4_pay2 (blk4 V c 0 t) (blk4 V c 1 t) (k4_pay1 (F := F)))
  Φ _ := Pipeline.ΦA spec4 c
  q w := Pipeline.shareOf spec4 w
  owed _ := 0

theorem arrays4 (c : Dev nD) (w : Fin cfg4.W) : (dat4 V c).A w = V c (Pipeline.arrRef spec4 w) := by
  dsimp only [dat4]
theorem left4_0 (c : Dev nD) (t : Fin cfg4.N) : (dat4 V c).after 0 t = blk4 V c 0 t := by dsimp only [dat4]
theorem left4_1 (c : Dev nD) (t : Fin cfg4.N) : (dat4 V c).after 1 t = blk4 V c 1 t := by dsimp only [dat4]
theorem left4_2 (c : Dev nD) (t : Fin cfg4.N) : (dat4 V c).after 2 t = k4_pay2 (blk4 V c 0 t) (blk4 V c 1 t) (k4_pay1 (F := F)) := by dsimp only [dat4]
theorem left4_3 (c : Dev nD) (t : Fin cfg4.N) : (dat4 V c).after 3 t = k4_pay3 (k4_pay2 (blk4 V c 0 t) (blk4 V c 1 t) (k4_pay1 (F := F))) := by dsimp only [dat4]
theorem found4_0 (c : Dev nD) (t : Fin cfg4.N) (d) : (dat4 V c).before 0 t d = blk4 V c 0 t :=
  ((dat4 V c).before_in_eq_fetched 0 rfl (fun _ => rfl) (fun _ _ _ => rfl)
    (fun t => by rw [left4_0]; unfold Dat.blockOf blk4; rw [arrays4]; try rfl) t d).trans
    (by unfold Dat.fetched Dat.blockOf blk4; rw [arrays4]; try rfl)
theorem found4_1 (c : Dev nD) (t : Fin cfg4.N) (d) : (dat4 V c).before 1 t d = blk4 V c 1 t :=
  ((dat4 V c).before_in_eq_fetched 1 rfl (fun _ => rfl) (fun _ _ _ => rfl)
    (fun t => by rw [left4_1]; unfold Dat.blockOf blk4; rw [arrays4]; try rfl) t d).trans
    (by unfold Dat.fetched Dat.blockOf blk4; rw [arrays4]; try rfl)

def pre4 (c : Dev nD) (t : Fin cfg4.N) : sProp 𝕄 :=
  iprop((dat4 V c).Φ t.castSucc ∗ (dat4 V c).owesAt () t.castSucc
    ∗ (∃ d, owns (c : Thread nD τ) (mem4_0 t) fullShare ((dat4 V c).before 0 t d)) ∗ (∃ d, owns (c : Thread nD τ) (mem4_1 t) fullShare ((dat4 V c).before 1 t d)) ∗ (∃ d, owns (c : Thread nD τ) (mem4_2 t) fullShare ((dat4 V c).before 2 t d)) ∗ (∃ d, owns (c : Thread nD τ) (mem4_3 t) fullShare ((dat4 V c).before 3 t d)))

def post4 (c : Dev nD) (t : Fin cfg4.N) : sProp 𝕄 :=
  iprop((dat4 V c).Φ t.succ ∗ (dat4 V c).owesAt () t.succ
    ∗ owns (c : Thread nD τ) (mem4_0 t) fullShare ((dat4 V c).after 0 t) ∗ owns (c : Thread nD τ) (mem4_1 t) fullShare ((dat4 V c).after 1 t) ∗ owns (c : Thread nD τ) (mem4_2 t) fullShare ((dat4 V c).after 2 t) ∗ owns (c : Thread nD τ) (mem4_3 t) fullShare ((dat4 V c).after 3 t))

/-- The body at any grid point. -/
theorem point4 (c : Dev nD) (t : Fin cfg4.N) :
    pre4 V c t ⊢ wp frame (wpE (defs₀ (F := F)) Variants.none c none) Set.univ (bodyAt4 t) (fun _ => post4 V c t) := by
  have hN : t.val < 16 := lt_of_lt_of_eq t.isLt (show cfg4.N = 16 from N_4)
  unfold pre4 post4 bodyAt4
  simp only [found4_0, found4_1]
  rw [show (dat4 V c).Φ t.succ = (dat4 V c).Φ t.castSucc from rfl,
    show (dat4 V c).owesAt () t.succ = (dat4 V c).owesAt () t.castSucc from rfl,
    left4_0, left4_1, left4_2, left4_3]
  iintro ⟨HΦ, Ho, ⟨%d0, H0⟩, ⟨%d1, H1⟩, ⟨%d2, H2⟩, ⟨%d3, H3⟩⟩
  iapply (body4 c (grid4.coords t) _ _ _ _ _ _ _ _ (starts4_all t) (ends4_all t) (blk4 V c 0 t) (blk4 V c 1 t) ((dat4 V c).before 2 t d2) ((dat4 V c).before 3 t d3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row4 (t : Fin cfg4.N) : defs₀ (F := F) .tc cfg4.body (cfg4.bodyArgs t (cfg4.slots t)) = bodyAt4 t := by
  unfold defs₀; rw [Defs.onTc_tc]

theorem obligation4 (c : Dev nD) : BodyObligation (dat4 (F := F) V c) (defs₀ (F := F)) Variants.none () Set.univ := fun t => by
  rw [bigSep_W4, bigSep_W4, row4]
  exact triple_restated (point4 V c t) rfl .rfl fun _ => (BIClass.sep_mono BIBase.Entails.rfl (BIClass.sep_mono BIBase.Entails.rfl (BIClass.sep_mono BIBase.Entails.rfl (BIClass.sep_mono BIBase.Entails.rfl (BIClass.sep_mono BIBase.Entails.rfl (settle (dat4 V c) 3 t fun h => absurd h (by rw [live4_3 t]; decide)))))))

end Data4

end Cert.Kernel2Ideal.Ffn
-- ==== Proof.Kernel2Ideal.RmsBody.lean ====
module

public import proofs.«01_k».proof.Proof.Kernel2Ideal.Mm
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import Idealize.ShloMosaic.Lib.Ring
public import Idealize.ShloMosaic.Lib.VecWindow
public import Idealize.ShloMosaic.Lib.WordCmp

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev starts3 (i : grid3.Coords) : Prop := (Scalar.cmpi .ne (Scalar.extui (Scalar.cmpi .eq (BitVec.ofNat 32 (i 0).val) 0#32)) 0#32) = 1#1

set_option maxHeartbeats 1000000 in
/-- The normalisation's backward body at the first grid point. -/
theorem first3 (c : Dev nD) (i : grid3.Coords) (arg1 : Memref sig .tc .vmem S512x2048 .f32) (harg1 : arg1.IsWhole) (arg2 : Memref sig .tc .vmem S1x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (h1 : starts3 i) (x0 : Vec F S512x2048 .f32) (x1 : Vec F S1x2048 .f32) (x2 : Vec F S512x2048 .f32) (x3 : Vec F S512x2048 .f32) (x4 : Vec F S512x2048 .f32) (x5 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k3_pay6 x0 x2 x1 x3) ∗ owns (c : Thread nD τ) arg6 fullShare (k3_pay1 (k3_pay7 (k3_pay2 (F := F))) (k3_pay8 x0 x2))) -∗ K ⟨⟩))
      ⊢ wp frame (wpE (defs₀ (F := F)) Variants.none c none) E (cc3_ffn2_rms_bwd i arg1 harg1 arg2 harg2 arg3 harg3 arg4 harg4 arg5 harg5 arg6 harg6) K := by
  simp only [cc3_ffn2_rms_bwd_eq_skeleton]; unfold cc3_ffn2_rms_bwd_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h1)
  sl_step
  iapply Hk
  isplitl [H0]
  · iexists _; isplitr
    swap; · iexact H0
    ipureintro; exact harg1.read_unread _
  isplitl [H1]
  · iexists _; isplitr
    swap; · iexact H1
    ipureintro; exact harg2.read_unread _
  isplitl [H2]
  · iexists _; isplitr
    swap; · iexact H2
    ipureintro; exact harg3.read_unread _
  isplitl [H3]
  · iexists _; isplitr
    swap; · iexact H3
    ipureintro; exact harg4.read_unread _
  isplitl [H4]
  · iexists _; isplitr
    swap; · iexact H4
    ipureintro; repeat first | rw [View.read_writes_full] | rw [View.readAt_full] | rw [View.readCov_full] | rw [Memref.IsWhole.read_unread]
  iexists _; isplitr
  swap; · iexact H5
  ipureintro; repeat first | rw [View.read_writes_full] | rw [View.readAt_full] | rw [View.readCov_full] | rw [Memref.IsWhole.read_unread] | unfold first3.sl.H5_2 | unfold first3.sl.H5_1 | unfold first3.sl.v33 | unfold first3.sl.v34 | unfold first3.sl.v36

set_option maxHeartbeats 1000000 in
/-- The normalisation's backward body at a later grid point. -/
theorem later3 (c : Dev nD) (i : grid3.Coords) (arg1 : Memref sig .tc .vmem S512x2048 .f32) (harg1 : arg1.IsWhole) (arg2 : Memref sig .tc .vmem S1x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (h1 : ¬starts3 i) (x0 : Vec F S512x2048 .f32) (x1 : Vec F S1x2048 .f32) (x2 : Vec F S512x2048 .f32) (x3 : Vec F S512x2048 .f32) (x4 : Vec F S512x2048 .f32) (x5 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k3_pay6 x0 x2 x1 x3) ∗ owns (c : Thread nD τ) arg6 fullShare (k3_pay1 (k3_pay7 x5) (k3_pay8 x0 x2))) -∗ K ⟨⟩))
      ⊢ wp frame (wpE (defs₀ (F := F)) Variants.none c none) E (cc3_ffn2_rms_bwd i arg1 harg1 arg2 harg2 arg3 harg3 arg4 harg4 arg5 harg5 arg6 harg6) K := by
  simp only [cc3_ffn2_rms_bwd_eq_skeleton]; unfold cc3_ffn2_rms_bwd_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact h1)
  sl_step
  iapply Hk
  isplitl [H0]
  · iexists _; isplitr
    swap; · iexact H0
    ipureintro; exact harg1.read_unread _
  isplitl [H1]
  · iexists _; isplitr
    swap; · iexact H1
    ipureintro; exact harg2.read_unread _
  isplitl [H2]
  · iexists _; isplitr
    swap; · iexact H2
    ipureintro; exact harg3.read_unread _
  isplitl [H3]
  · iexists _; isplitr
    swap; · iexact H3
    ipureintro; exact harg4.read_unread _
  isplitl [H4]
  · iexists _; isplitr
    swap; · iexact H4
    ipureintro; repeat first | rw [View.read_writes_full] | rw [View.readAt_full] | rw [View.readCov_full] | rw [Memref.IsWhole.read_unread]
  iexists _; isplitr
  swap; · iexact H5
  ipureintro; repeat first | rw [View.read_writes_full] | rw [View.readAt_full] | rw [View.readCov_full] | rw [Memref.IsWhole.read_unread] | unfold later3.sl.H5_2 | unfold later3.sl.H5_1 | unfold later3.sl.v33 | unfold later3.sl.v34 | unfold later3.sl.v36

end Cert.Kernel2Ideal.Ffn
-- ==== Proof.Kernel2Ideal.Rms.lean ====
module

public import proofs.«01_k».proof.Proof.Kernel2Ideal.RmsBody

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data3

variable (V : (c : Dev nD) → (b : Ref sig .tc) → Buf (Elt F) ((c : Thread nD τ).loc b))

/-- The block of window `w`'s array that grid point `t` works on. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev mem3_0 (t : Fin cfg3.N) : Memref sig .tc .vmem S512x2048 .f32 := win3_0.stage (cfg3.slots t 0)
abbrev whole3_0 (t : Fin cfg3.N) : (mem3_0 t).IsWhole := hstage3_0 ((cfg3.slots t 0).cast nbuf3_0)
abbrev mem3_1 (t : Fin cfg3.N) : Memref sig .tc .vmem S1x2048 .f32 := win3_1.stage (cfg3.slots t 1)
abbrev whole3_1 (t : Fin cfg3.N) : (mem3_1 t).IsWhole := hstage3_1 ((cfg3.slots t 1).cast nbuf3_1)
abbrev mem3_2 (t : Fin cfg3.N) : Memref sig .tc .vmem S512x2048 .f32 := win3_2.stage (cfg3.slots t 2)
abbrev whole3_2 (t : Fin cfg3.N) : (mem3_2 t).IsWhole := hstage3_2 ((cfg3.slots t 2).cast nbuf3_2)
abbrev mem3_3 (t : Fin cfg3.N) : Memref sig .tc .vmem S512x2048 .f32 := win3_3.stage (cfg3.slots t 3)
abbrev whole3_3 (t : Fin cfg3.N) : (mem3_3 t).IsWhole := hstage3_3 ((cfg3.slots t 3).cast nbuf3_3)
abbrev mem3_4 (t : Fin cfg3.N) : Memref sig .tc .vmem S512x2048 .f32 := win3_4.stage (cfg3.slots t 4)
abbrev whole3_4 (t : Fin cfg3.N) : (mem3_4 t).IsWhole := hstage3_4 ((cfg3.slots t 4).cast nbuf3_4)
abbrev mem3_5 (t : Fin cfg3.N) : Memref sig .tc .vmem S1x2048 .f32 := win3_5.stage (cfg3.slots t 5)
abbrev whole3_5 (t : Fin cfg3.N) : (mem3_5 t).IsWhole := hstage3_5 ((cfg3.slots t 5).cast nbuf3_5)
theorem starts3_iff : ∀ t : Fin cfg3.N, starts3 (grid3.coords t) ↔ t.val = 0 := by
  have h : ∀ t : Fin grid3.N, starts3 (grid3.coords t) ↔ t.val = 0 := by decide +kernel
  exact h

/-- The sum so far of the gradient of the normalisation's scale. -/
def kept3 (c : Dev nD) : (n : ℕ) → n < cfg3.N → Vec F S1x2048 .f32
  | 0, hn => k3_pay1 (k3_pay7 (k3_pay2 (F := F))) (k3_pay8 (blk3 V c 0 ⟨0, hn⟩) (blk3 V c 2 ⟨0, hn⟩))
  | n + 1, hn => k3_pay1 (k3_pay7 (kept3 c n (Nat.lt_of_succ_lt hn))) (k3_pay8 (blk3 V c 0 ⟨n + 1, hn⟩) (blk3 V c 2 ⟨n + 1, hn⟩))

/-- What the grid point before `t` left. -/
abbrev prev3 (c : Dev nD) (t : Fin cfg3.N) : Vec F S1x2048 .f32 := kept3 V c (t.val - 1) (Nat.lt_of_le_of_lt (Nat.sub_le _ _) t.isLt)

theorem kept3_first (c : Dev nD) (t : Fin cfg3.N) (h : t.val = 0) :
    kept3 V c t.val t.isLt = k3_pay1 (k3_pay7 (k3_pay2 (F := F))) (k3_pay8 (blk3 V c 0 t) (blk3 V c 2 t)) := by
  obtain ⟨n, hn⟩ := t
  cases n with
  | zero => exact rfl
  | succ n => exact absurd h (Nat.succ_ne_zero n)
theorem kept3_later (c : Dev nD) (t : Fin cfg3.N) (h : ¬t.val = 0) :
    kept3 V c t.val t.isLt = k3_pay1 (k3_pay7 (prev3 V c t)) (k3_pay8 (blk3 V c 0 t) (blk3 V c 2 t)) := by
  obtain ⟨n, hn⟩ := t
  cases n with
  | zero => exact absurd rfl h
  | succ n => exact rfl

/-- The proof data of the call that goes back through the normalisation. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => k3_pay6 (blk3 V c 0 t) (blk3 V c 2 t) (blk3 V c 1 t) (blk3 V c 3 t)
    | ⟨5, _⟩ => kept3 V c t.val t.isLt
  Φ _ := Pipeline.ΦA spec3 c
  q w := Pipeline.shareOf spec3 w
  owed _ := 0

theorem arrays3 (c : Dev nD) (w : Fin cfg3.W) : (dat3 V c).A w = V c (Pipeline.arrRef spec3 w) := by
  dsimp only [dat3]
theorem left3_0 (c : Dev nD) (t : Fin cfg3.N) : (dat3 V c).after 0 t = blk3 V c 0 t := by dsimp only [dat3]
theorem left3_1 (c : Dev nD) (t : Fin cfg3.N) : (dat3 V c).after 1 t = blk3 V c 1 t := by dsimp only [dat3]
theorem left3_2 (c : Dev nD) (t : Fin cfg3.N) : (dat3 V c).after 2 t = blk3 V c 2 t := by dsimp only [dat3]
theorem left3_3 (c : Dev nD) (t : Fin cfg3.N) : (dat3 V c).after 3 t = blk3 V c 3 t := by dsimp only [dat3]
theorem left3_4 (c : Dev nD) (t : Fin cfg3.N) : (dat3 V c).after 4 t = k3_pay6 (blk3 V c 0 t) (blk3 V c 2 t) (blk3 V c 1 t) (blk3 V c 3 t) := by dsimp only [dat3]
theorem left3_5 (c : Dev nD) (t : Fin cfg3.N) : (dat3 V c).after 5 t = kept3 V c t.val t.isLt := by dsimp only [dat3]
theorem found3_0 (c : Dev nD) (t : Fin cfg3.N) (d) : (dat3 V c).before 0 t d = blk3 V c 0 t :=
  ((dat3 V c).before_in_eq_fetched 0 rfl (fun _ => rfl) (fun _ _ _ => rfl)
    (fun t => by rw [left3_0]; unfold Dat.blockOf blk3; rw [arrays3]; try rfl) t d).trans
    (by unfold Dat.fetched Dat.blockOf blk3; rw [arrays3]; try rfl)
theorem found3_1 (c : Dev nD) (t : Fin cfg3.N) (d) : (dat3 V c).before 1 t d = blk3 V c 1 t :=
  ((dat3 V c).before_in_eq_fetched 1 rfl (fun _ => rfl) (fun _ _ _ => rfl)
    (fun t => by rw [left3_1]; unfold Dat.blockOf blk3; rw [arrays3]; try rfl) t d).trans
    (by unfold Dat.fetched Dat.blockOf blk3; rw [arrays3]; try rfl)
theorem found3_2 (c : Dev nD) (t : Fin cfg3.N) (d) : (dat3 V c).before 2 t d = blk3 V c 2 t :=
  ((dat3 V c).before_in_eq_fetched 2 rfl (fun _ => rfl) (fun _ _ _ => rfl)
    (fun t => by rw [left3_2]; unfold Dat.blockOf blk3; rw [arrays3]; try rfl) t d).trans
    (by unfold Dat.fetched Dat.blockOf blk3; rw [arrays3]; try rfl)
theorem found3_3 (c : Dev nD) (t : Fin cfg3.N) (d) : (dat3 V c).before 3 t d = blk3 V c 3 t :=
  ((dat3 V c).before_in_eq_fetched 3 rfl (fun _ => rfl) (fun _ _ _ => rfl)
    (fun t => by rw [left3_3]; unfold Dat.blockOf blk3; rw [arrays3]; try rfl) t d).trans
    (by unfold Dat.fetched Dat.blockOf blk3; rw [arrays3]; try rfl)
theorem found3_5 (c : Dev nD) (t : Fin cfg3.N) (h : ¬t.val = 0) (d) : (dat3 V c).before 5 t d = prev3 V c t := by
  have hN : t.val < 8 := lt_of_lt_of_eq t.isLt (show cfg3.N = 8 from N_3)
  rw [Dat.before_out_kept _ 5 rfl t (by omega) (Bool.eq_false_iff.mpr fun h => by have := (flush3_5 _).mp h; dsimp only at this; omega)
    (fun _ => rfl) (fun _ _ => rfl)]
  dsimp only [dat3]

def pre3 (c : Dev nD) (t : Fin cfg3.N) : sProp 𝕄 :=
  iprop((dat3 V c).Φ t.castSucc ∗ (dat3 V c).owesAt () t.castSucc
    ∗ (∃ d, owns (c : Thread nD τ) (mem3_0 t) fullShare ((dat3 V c).before 0 t d)) ∗ (∃ d, owns (c : Thread nD τ) (mem3_1 t) fullShare ((dat3 V c).before 1 t d)) ∗ (∃ d, owns (c : Thread nD τ) (mem3_2 t) fullShare ((dat3 V c).before 2 t d)) ∗ (∃ d, owns (c : Thread nD τ) (mem3_3 t) fullShare ((dat3 V c).before 3 t d)) ∗ (∃ d, owns (c : Thread nD τ) (mem3_4 t) fullShare ((dat3 V c).before 4 t d)) ∗ (∃ d, owns (c : Thread nD τ) (mem3_5 t) fullShare ((dat3 V c).before 5 t d)))

def post3 (c : Dev nD) (t : Fin cfg3.N) : sProp 𝕄 :=
  iprop((dat3 V c).Φ t.succ ∗ (dat3 V c).owesAt () t.succ
    ∗ owns (c : Thread nD τ) (mem3_0 t) fullShare ((dat3 V c).after 0 t) ∗ owns (c : Thread nD τ) (mem3_1 t) fullShare ((dat3 V c).after 1 t) ∗ owns (c : Thread nD τ) (mem3_2 t) fullShare ((dat3 V c).after 2 t) ∗ owns (c : Thread nD τ) (mem3_3 t) fullShare ((dat3 V c).after 3 t) ∗ owns (c : Thread nD τ) (mem3_4 t) fullShare ((dat3 V c).after 4 t) ∗ owns (c : Thread nD τ) (mem3_5 t) fullShare ((dat3 V c).after 5 t))

/-- The body at any grid point. -/
theorem point3 (c : Dev nD) (t : Fin cfg3.N) :
    pre3 V c t ⊢ wp frame (wpE (defs₀ (F := F)) Variants.none c none) Set.univ (bodyAt3 t) (fun _ => post3 V c t) := by
  have hN : t.val < 8 := lt_of_lt_of_eq t.isLt (show cfg3.N = 8 from N_3)
  unfold pre3 post3 bodyAt3
  simp only [found3_0, found3_1, found3_2, found3_3]
  rw [show (dat3 V c).Φ t.succ = (dat3 V c).Φ t.castSucc from rfl,
    show (dat3 V c).owesAt () t.succ = (dat3 V c).owesAt () t.castSucc from rfl,
    left3_0, left3_1, left3_2, left3_3, left3_4, left3_5]
  by_cases h : t.val = 0
  · rw [kept3_first V c t h]
    iintro ⟨HΦ, Ho, ⟨%d0, H0⟩, ⟨%d1, H1⟩, ⟨%d2, H2⟩, ⟨%d3, H3⟩, ⟨%d4, H4⟩, ⟨%d5, H5⟩⟩
    iapply (first3 c (grid3.coords t) _ _ _ _ _ _ _ _ _ _ _ _ ((starts3_iff t).mpr h) (blk3 V c 0 t) (blk3 V c 1 t) (blk3 V c 2 t) (blk3 V c 3 t) ((dat3 V c).before 4 t d4) ((dat3 V c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [found3_5 V c t h]
    rw [kept3_later V c t h]
    iintro ⟨HΦ, Ho, ⟨%d0, H0⟩, ⟨%d1, H1⟩, ⟨%d2, H2⟩, ⟨%d3, H3⟩, ⟨%d4, H4⟩, ⟨%d5, H5⟩⟩
    iapply (later3 c (grid3.coords t) _ _ _ _ _ _ _ _ _ _ _ _ (fun h' => h ((starts3_iff t).mp h')) (blk3 V c 0 t) (blk3 V c 1 t) (blk3 V c 2 t) (blk3 V c 3 t) ((dat3 V c).before 4 t d4) (prev3 V c t) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem row3 (t : Fin cfg3.N) : defs₀ (F := F) .tc cfg3.body (cfg3.bodyArgs t (cfg3.slots t)) = bodyAt3 t := by
  unfold defs₀; rw [Defs.onTc_tc]

theorem obligation3 (c : Dev nD) : BodyObligation (dat3 (F := F) V c) (defs₀ (F := F)) Variants.none () Set.univ := fun t => by
  rw [bigSep_W3, bigSep_W3, row3]
  exact triple_restated (point3 V c t) rfl .rfl fun _ => (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono BIBase.Entails.rfl BIBase.Entails.rfl)))))))

end Data3

end Cert.Kernel2Ideal.Ffn
-- ==== Proof.Kernel2Ideal.FwdBody.lean ====
module

public import proofs.«01_k».proof.Proof.Kernel2Ideal.Rms
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import Idealize.ShloMosaic.Lib.Ring
public import Idealize.ShloMosaic.Lib.VecWindow
public import Idealize.ShloMosaic.Lib.WordCmp
public import Idealize.ShloMosaic.Lib.Pointwise.Index

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two halves of a block of the feed-forward's input weights, of its gate and up values. -/
def w0 (x : Vec F S2x1x688x2048 .bf16) : Vec F S1x1x688x2048 .bf16 := VecWindow.window x ![0, 0, 0, 0] S1x1x688x2048.size inb_S2x1x688x2048_S1x1x688x2048_0_0_0_0
def w1 (x : Vec F S2x1x688x2048 .bf16) : Vec F S1x1x688x2048 .bf16 := VecWindow.window x ![1, 0, 0, 0] S1x1x688x2048.size inb_S2x1x688x2048_S1x1x688x2048_1_0_0_0
def u0 (x : Vec F S2x1x688x512 .bf16) : Vec F S1x1x688x512 .bf16 := VecWindow.window x ![0, 0, 0, 0] S1x1x688x512.size inb_S2x1x688x512_S1x1x688x512_0_0_0_0
def u1 (x : Vec F S2x1x688x512 .bf16) : Vec F S1x1x688x512 .bf16 := VecWindow.window x ![1, 0, 0, 0] S1x1x688x512.size inb_S2x1x688x512_S1x1x688x512_1_0_0_0

/-- A block made of two halves. -/
def halves (p q : Vec F S1x1x688x512 .bf16) : Vec F S2x1x688x512 .bf16 :=
  fun y => if (y 0).val = 0 then p (ix4 (⟨0, by decide⟩ : Fin 1) (⟨0, by decide⟩ : Fin 1) ⟨(y 2).val, (y 2).isLt⟩ ⟨(y 3).val, (y 3).isLt⟩)
    else q (ix4 (⟨0, by decide⟩ : Fin 1) (⟨0, by decide⟩ : Fin 1) ⟨(y 2).val, (y 2).isLt⟩ ⟨(y 3).val, (y 3).isLt⟩)

theorem read_halves (v : View sig .tc .vmem S2x1x688x512 .bf16) (f : v.ty.Contents (Elt F)) (p q : Vec F S1x1x688x512 .bf16) :
    v.read (Elt F) (v.writes (Elt F) f [⟨Rect.unit (s := S2x1x688x512) ![1, 0, 0, 0] S1x1x688x512.size inb_S2x1x688x512_S1x1x688x512_1_0_0_0, q⟩,
      ⟨Rect.unit (s := S2x1x688x512) ![0, 0, 0, 0] S1x1x688x512.size inb_S2x1x688x512_S1x1x688x512_0_0_0_0, p⟩]) = halves p q := by
  rw [View.read_writes_cons_put _ _ _ _ _ rfl, View.read_writes_cons_put _ _ _ _ _ rfl]
  funext y
  have h0 : (y 0).val < 2 := (y 0).isLt
  have h1 : (y 1).val < 1 := (y 1).isLt
  have h2 : (y 2).val < 688 := (y 2).isLt
  have h3 : (y 3).val < 512 := (y 3).isLt
  unfold VecWindow.put halves
  by_cases h : (y 0).val = 0
  · rw [dif_neg (by intro H; have : 1 ≤ (y 0).val := (H 0).1; omega), dif_pos (by intro a; fin_cases a <;> (refine ⟨Nat.zero_le _, ?_⟩; first | (show (y 0).val < 0 + 1; omega) | (show (y 1).val < 0 + 1; omega) | (show (y 2).val < 0 + 688; omega) | (show (y 3).val < 0 + 512; omega))), if_pos h]
    refine congrArg p (funext fun a => Fin.ext ?_)
    fin_cases a
    · show (y 0).val - 0 = 0; omega
    · show (y 1).val - 0 = 0; omega
    · show (y 2).val - 0 = (y 2).val; omega
    · show (y 3).val - 0 = (y 3).val; omega
  · rw [dif_pos (by
      intro a; fin_cases a
      exacts [⟨by show 1 ≤ (y 0).val; omega, by show (y 0).val < 1 + 1; omega⟩, ⟨Nat.zero_le _, by show (y 1).val < 0 + 1; omega⟩,
        ⟨Nat.zero_le _, by show (y 2).val < 0 + 688; omega⟩, ⟨Nat.zero_le _, by show (y 3).val < 0 + 512; omega⟩]), if_neg h]
    refine congrArg q (funext fun a => Fin.ext ?_)
    fin_cases a
    · show (y 0).val - 1 = 0; omega
    · show (y 1).val - 0 = 0; omega
    · show (y 2).val - 0 = (y 2).val; omega
    · show (y 3).val - 0 = (y 3).val; omega

/-- One grid point's values: the normalised rows' products with the two halves, the gated activation, and the sum over the chunks so far. -/
def guOf (h : Vec F S512x2048 .bf16) (w : Vec F S2x1x688x2048 .bf16) : Vec F S2x1x688x512 .bf16 := halves (k0_pay12 h (w0 w)) (k0_pay13 h (w1 w))
def actOf (h : Vec F S512x2048 .bf16) (w : Vec F S2x1x688x2048 .bf16) : Vec F S1x688x512 .bf16 := k0_pay1 (k0_pay14 h (w0 w) (w1 w))
def sumOf (y : Vec F S512x2048 .f32) (h : Vec F S512x2048 .bf16) (w : Vec F S2x1x688x2048 .bf16) (o : Vec F S1x688x2048 .bf16) : Vec F S512x2048 .f32 :=
  k0_pay2 (k0_pay14 h (w0 w) (w1 w)) y o

set_option maxHeartbeats 1000000 in
/-- The forward body at the first grid point. -/
theorem start0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1x688x2048 .bf16) (harg4 : arg4.IsWhole) (arg5 : Memref sig .tc .vmem S1x688x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S2x1x688x512 .bf16) (harg9 : arg9.IsWhole) (arg10 : Memref sig .tc .vmem S1x688x512 .bf16) (harg10 : arg10.IsWhole) (arg11 : Memref sig .tc .vmem S1x128 .f32) (harg11 : arg11.IsWhole) (h1 : k0_cond1 i = 1#1) (h2 : k0_cond2 i = 1#1) (h3 : ¬k0_cond3 i = 1#1) (x0 : Vec F S512x2048 .f32) (x1 : Vec F S1x2048 .f32) (x2 : Vec F S2x1x688x2048 .bf16) (x3 : Vec F S1x688x2048 .bf16) (x4 : Vec F S512x2048 .f32) (x5 : Vec F S512x2048 .f32) (x6 : Vec F S512x2048 .bf16) (x7 : Vec F S2x1x688x512 .bf16) (x8 : Vec F S1x688x512 .bf16) (x9 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare ((sumOf (k0_pay7 (F := F)) (k0_pay6 x0 x1) x2 x3)) ∗ owns (c : Thread nD τ) arg8 fullShare ((k0_pay6 x0 x1)) ∗ owns (c : Thread nD τ) arg9 fullShare (guOf (k0_pay6 x0 x1) x2) ∗ owns (c : Thread nD τ) arg10 fullShare (actOf (k0_pay6 x0 x1) x2) ∗ owns (c : Thread nD τ) arg11 fullShare (k0_pay8 (F := F))) -∗ K ⟨⟩))
      ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11) K := by
  simp only [cc0_ffn2_fwd_eq_skeleton]; unfold cc0_ffn2_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact h1 | sl_exact h2 | sl_exact h3)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; unfold sumOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold start0.sl.H5_2 | unfold start0.sl.H5_1 | unfold start0.sl.H6_1 | unfold start0.sl.H9_1 | unfold start0.sl.H5_3 | unfold start0.sl.v8 | unfold start0.sl.v10 | unfold start0.sl.v13 | unfold start0.sl.v31 | unfold start0.sl.v33 | unfold start0.sl.v42 | unfold start0.sl.v27 | unfold start0.sl.v62
  isplitl [H6]
  · iexists _; isplitr
    swap; · iexact H6
    ipureintro; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold start0.sl.H5_2 | unfold start0.sl.H5_1 | unfold start0.sl.H6_1 | unfold start0.sl.H9_1 | unfold start0.sl.H5_3 | unfold start0.sl.v8 | unfold start0.sl.v10 | unfold start0.sl.v13 | unfold start0.sl.v31 | unfold start0.sl.v33 | unfold start0.sl.v42 | unfold start0.sl.v27 | unfold start0.sl.v62
  isplitl [H7]
  · iexists _; isplitr
    swap; · iexact H7
    ipureintro; unfold guOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold start0.sl.H5_2 | unfold start0.sl.H5_1 | unfold start0.sl.H6_1 | unfold start0.sl.H9_1 | unfold start0.sl.H5_3 | unfold start0.sl.v8 | unfold start0.sl.v10 | unfold start0.sl.v13 | unfold start0.sl.v31 | unfold start0.sl.v33 | unfold start0.sl.v42 | unfold start0.sl.v27 | unfold start0.sl.v62
  isplitl [H8]
  · iexists _; isplitr
    swap; · iexact H8
    ipureintro; unfold actOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold start0.sl.H5_2 | unfold start0.sl.H5_1 | unfold start0.sl.H6_1 | unfold start0.sl.H9_1 | unfold start0.sl.H5_3 | unfold start0.sl.v8 | unfold start0.sl.v10 | unfold start0.sl.v13 | unfold start0.sl.v31 | unfold start0.sl.v33 | unfold start0.sl.v42 | unfold start0.sl.v27 | unfold start0.sl.v62
  iexists _; isplitr
  swap; · iexact H9
  ipureintro; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold start0.sl.H5_2 | unfold start0.sl.H5_1 | unfold start0.sl.H6_1 | unfold start0.sl.H9_1 | unfold start0.sl.H5_3 | unfold start0.sl.v8 | unfold start0.sl.v10 | unfold start0.sl.v13 | unfold start0.sl.v31 | unfold start0.sl.v33 | unfold start0.sl.v42 | unfold start0.sl.v27 | unfold start0.sl.v62

set_option maxHeartbeats 1000000 in
/-- The forward body at a block's first chunk. -/
theorem first0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1x688x2048 .bf16) (harg4 : arg4.IsWhole) (arg5 : Memref sig .tc .vmem S1x688x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S2x1x688x512 .bf16) (harg9 : arg9.IsWhole) (arg10 : Memref sig .tc .vmem S1x688x512 .bf16) (harg10 : arg10.IsWhole) (arg11 : Memref sig .tc .vmem S1x128 .f32) (harg11 : arg11.IsWhole) (h1 : k0_cond1 i = 1#1) (h2 : ¬k0_cond2 i = 1#1) (h3 : ¬k0_cond3 i = 1#1) (x0 : Vec F S512x2048 .f32) (x1 : Vec F S1x2048 .f32) (x2 : Vec F S2x1x688x2048 .bf16) (x3 : Vec F S1x688x2048 .bf16) (x4 : Vec F S512x2048 .f32) (x5 : Vec F S512x2048 .f32) (x6 : Vec F S512x2048 .bf16) (x7 : Vec F S2x1x688x512 .bf16) (x8 : Vec F S1x688x512 .bf16) (x9 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare ((sumOf (k0_pay7 (F := F)) (k0_pay6 x0 x1) x2 x3)) ∗ owns (c : Thread nD τ) arg8 fullShare ((k0_pay6 x0 x1)) ∗ owns (c : Thread nD τ) arg9 fullShare (guOf (k0_pay6 x0 x1) x2) ∗ owns (c : Thread nD τ) arg10 fullShare (actOf (k0_pay6 x0 x1) x2) ∗ owns (c : Thread nD τ) arg11 fullShare x9) -∗ K ⟨⟩))
      ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11) K := by
  simp only [cc0_ffn2_fwd_eq_skeleton]; unfold cc0_ffn2_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact h1 | sl_exact h2 | sl_exact h3)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; unfold sumOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold first0.sl.H5_2 | unfold first0.sl.H5_1 | unfold first0.sl.H6_1 | unfold first0.sl.H9_1 | unfold first0.sl.H5_3 | unfold first0.sl.v8 | unfold first0.sl.v10 | unfold first0.sl.v13 | unfold first0.sl.v31 | unfold first0.sl.v33 | unfold first0.sl.v42 | unfold first0.sl.v27 | unfold first0.sl.v62
  isplitl [H6]
  · iexists _; isplitr
    swap; · iexact H6
    ipureintro; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold first0.sl.H5_2 | unfold first0.sl.H5_1 | unfold first0.sl.H6_1 | unfold first0.sl.H9_1 | unfold first0.sl.H5_3 | unfold first0.sl.v8 | unfold first0.sl.v10 | unfold first0.sl.v13 | unfold first0.sl.v31 | unfold first0.sl.v33 | unfold first0.sl.v42 | unfold first0.sl.v27 | unfold first0.sl.v62
  isplitl [H7]
  · iexists _; isplitr
    swap; · iexact H7
    ipureintro; unfold guOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold first0.sl.H5_2 | unfold first0.sl.H5_1 | unfold first0.sl.H6_1 | unfold first0.sl.H9_1 | unfold first0.sl.H5_3 | unfold first0.sl.v8 | unfold first0.sl.v10 | unfold first0.sl.v13 | unfold first0.sl.v31 | unfold first0.sl.v33 | unfold first0.sl.v42 | unfold first0.sl.v27 | unfold first0.sl.v62
  isplitl [H8]
  · iexists _; isplitr
    swap; · iexact H8
    ipureintro; unfold actOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold first0.sl.H5_2 | unfold first0.sl.H5_1 | unfold first0.sl.H6_1 | unfold first0.sl.H9_1 | unfold first0.sl.H5_3 | unfold first0.sl.v8 | unfold first0.sl.v10 | unfold first0.sl.v13 | unfold first0.sl.v31 | unfold first0.sl.v33 | unfold first0.sl.v42 | unfold first0.sl.v27 | unfold first0.sl.v62
  iexists _; isplitr
  swap; · iexact H9
  ipureintro; exact harg11.read_unread _

set_option maxHeartbeats 1000000 in
/-- The forward body at a chunk that is neither the first nor the last. -/
theorem later0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1x688x2048 .bf16) (harg4 : arg4.IsWhole) (arg5 : Memref sig .tc .vmem S1x688x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S2x1x688x512 .bf16) (harg9 : arg9.IsWhole) (arg10 : Memref sig .tc .vmem S1x688x512 .bf16) (harg10 : arg10.IsWhole) (arg11 : Memref sig .tc .vmem S1x128 .f32) (harg11 : arg11.IsWhole) (h1 : ¬k0_cond1 i = 1#1) (h2 : ¬k0_cond2 i = 1#1) (h3 : ¬k0_cond3 i = 1#1) (x0 : Vec F S512x2048 .f32) (x1 : Vec F S1x2048 .f32) (x2 : Vec F S2x1x688x2048 .bf16) (x3 : Vec F S1x688x2048 .bf16) (x4 : Vec F S512x2048 .f32) (x5 : Vec F S512x2048 .f32) (x6 : Vec F S512x2048 .bf16) (x7 : Vec F S2x1x688x512 .bf16) (x8 : Vec F S1x688x512 .bf16) (x9 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare ((sumOf x5 x6 x2 x3)) ∗ owns (c : Thread nD τ) arg8 fullShare x6 ∗ owns (c : Thread nD τ) arg9 fullShare (guOf x6 x2) ∗ owns (c : Thread nD τ) arg10 fullShare (actOf x6 x2) ∗ owns (c : Thread nD τ) arg11 fullShare x9) -∗ K ⟨⟩))
      ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11) K := by
  simp only [cc0_ffn2_fwd_eq_skeleton]; unfold cc0_ffn2_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact h1 | sl_exact h2 | sl_exact h3)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; unfold sumOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold later0.sl.H5_2 | unfold later0.sl.H5_1 | unfold later0.sl.H6_1 | unfold later0.sl.H9_1 | unfold later0.sl.H5_3 | unfold later0.sl.v8 | unfold later0.sl.v10 | unfold later0.sl.v13 | unfold later0.sl.v31 | unfold later0.sl.v33 | unfold later0.sl.v42 | unfold later0.sl.v27 | unfold later0.sl.v62
  isplitl [H6]
  · iexists _; isplitr
    swap; · iexact H6
    ipureintro; exact harg8.read_unread _
  isplitl [H7]
  · iexists _; isplitr
    swap; · iexact H7
    ipureintro; unfold guOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold later0.sl.H5_2 | unfold later0.sl.H5_1 | unfold later0.sl.H6_1 | unfold later0.sl.H9_1 | unfold later0.sl.H5_3 | unfold later0.sl.v8 | unfold later0.sl.v10 | unfold later0.sl.v13 | unfold later0.sl.v31 | unfold later0.sl.v33 | unfold later0.sl.v42 | unfold later0.sl.v27 | unfold later0.sl.v62
  isplitl [H8]
  · iexists _; isplitr
    swap; · iexact H8
    ipureintro; unfold actOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold later0.sl.H5_2 | unfold later0.sl.H5_1 | unfold later0.sl.H6_1 | unfold later0.sl.H9_1 | unfold later0.sl.H5_3 | unfold later0.sl.v8 | unfold later0.sl.v10 | unfold later0.sl.v13 | unfold later0.sl.v31 | unfold later0.sl.v33 | unfold later0.sl.v42 | unfold later0.sl.v27 | unfold later0.sl.v62
  iexists _; isplitr
  swap; · iexact H9
  ipureintro; exact harg11.read_unread _

set_option maxHeartbeats 1000000 in
/-- The forward body at a block's last chunk. -/
theorem last0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1x688x2048 .bf16) (harg4 : arg4.IsWhole) (arg5 : Memref sig .tc .vmem S1x688x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S2x1x688x512 .bf16) (harg9 : arg9.IsWhole) (arg10 : Memref sig .tc .vmem S1x688x512 .bf16) (harg10 : arg10.IsWhole) (arg11 : Memref sig .tc .vmem S1x128 .f32) (harg11 : arg11.IsWhole) (h1 : ¬k0_cond1 i = 1#1) (h2 : ¬k0_cond2 i = 1#1) (h3 : k0_cond3 i = 1#1) (x0 : Vec F S512x2048 .f32) (x1 : Vec F S1x2048 .f32) (x2 : Vec F S2x1x688x2048 .bf16) (x3 : Vec F S1x688x2048 .bf16) (x4 : Vec F S512x2048 .f32) (x5 : Vec F S512x2048 .f32) (x6 : Vec F S512x2048 .bf16) (x7 : Vec F S2x1x688x512 .bf16) (x8 : Vec F S1x688x512 .bf16) (x9 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x0 (sumOf x5 x6 x2 x3) x4) ∗ owns (c : Thread nD τ) arg8 fullShare x6 ∗ owns (c : Thread nD τ) arg9 fullShare (guOf x6 x2) ∗ owns (c : Thread nD τ) arg10 fullShare (actOf x6 x2) ∗ owns (c : Thread nD τ) arg11 fullShare (k0_pay5 x0 (sumOf x5 x6 x2 x3) x4 x9)) -∗ K ⟨⟩))
      ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11) K := by
  simp only [cc0_ffn2_fwd_eq_skeleton]; unfold cc0_ffn2_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact h1 | sl_exact h2 | sl_exact h3)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; unfold sumOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold last0.sl.H5_2 | unfold last0.sl.H5_1 | unfold last0.sl.H6_1 | unfold last0.sl.H9_1 | unfold last0.sl.H5_3 | unfold last0.sl.v8 | unfold last0.sl.v10 | unfold last0.sl.v13 | unfold last0.sl.v31 | unfold last0.sl.v33 | unfold last0.sl.v42 | unfold last0.sl.v27 | unfold last0.sl.v62
  isplitl [H6]
  · iexists _; isplitr
    swap; · iexact H6
    ipureintro; exact harg8.read_unread _
  isplitl [H7]
  · iexists _; isplitr
    swap; · iexact H7
    ipureintro; unfold guOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold last0.sl.H5_2 | unfold last0.sl.H5_1 | unfold last0.sl.H6_1 | unfold last0.sl.H9_1 | unfold last0.sl.H5_3 | unfold last0.sl.v8 | unfold last0.sl.v10 | unfold last0.sl.v13 | unfold last0.sl.v31 | unfold last0.sl.v33 | unfold last0.sl.v42 | unfold last0.sl.v27 | unfold last0.sl.v62
  isplitl [H8]
  · iexists _; isplitr
    swap; · iexact H8
    ipureintro; unfold actOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold last0.sl.H5_2 | unfold last0.sl.H5_1 | unfold last0.sl.H6_1 | unfold last0.sl.H9_1 | unfold last0.sl.H5_3 | unfold last0.sl.v8 | unfold last0.sl.v10 | unfold last0.sl.v13 | unfold last0.sl.v31 | unfold last0.sl.v33 | unfold last0.sl.v42 | unfold last0.sl.v27 | unfold last0.sl.v62
  iexists _; isplitr
  swap; · iexact H9
  ipureintro; unfold sumOf w0 w1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold last0.sl.H5_2 | unfold last0.sl.H5_1 | unfold last0.sl.H6_1 | unfold last0.sl.H9_1 | unfold last0.sl.H5_3 | unfold last0.sl.v8 | unfold last0.sl.v10 | unfold last0.sl.v13 | unfold last0.sl.v31 | unfold last0.sl.v33 | unfold last0.sl.v42 | unfold last0.sl.v27 | unfold last0.sl.v62

end Cert.Kernel2Ideal.Ffn
-- ==== Proof.Kernel2Ideal.Fwd.lean ====
module

public import proofs.«01_k».proof.Proof.Kernel2Ideal.FwdBody
public import proofs.«01_k».proof.Proof.Kernel2Ideal.Mm

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data0

variable (V : (c : Dev nD) → (b : Ref sig .tc) → Buf (Elt F) ((c : Thread nD τ).loc b))

/-- The block of window `w`'s array that grid point `t` works on. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev mem0_0 (t : Fin cfg0.N) : Memref sig .tc .vmem S512x2048 .f32 := win0_0.stage (cfg0.slots t 0)
abbrev whole0_0 (t : Fin cfg0.N) : (mem0_0 t).IsWhole := hstage0_0 ((cfg0.slots t 0).cast nbuf0_0)
abbrev mem0_1 (t : Fin cfg0.N) : Memref sig .tc .vmem S1x2048 .f32 := win0_1.stage (cfg0.slots t 1)
abbrev whole0_1 (t : Fin cfg0.N) : (mem0_1 t).IsWhole := hstage0_1 ((cfg0.slots t 1).cast nbuf0_1)
abbrev mem0_2 (t : Fin cfg0.N) : Memref sig .tc .vmem S2x1x688x2048 .bf16 := win0_2.stage (cfg0.slots t 2)
abbrev whole0_2 (t : Fin cfg0.N) : (mem0_2 t).IsWhole := hstage0_2 ((cfg0.slots t 2).cast nbuf0_2)
abbrev mem0_3 (t : Fin cfg0.N) : Memref sig .tc .vmem S1x688x2048 .bf16 := win0_3.stage (cfg0.slots t 3)
abbrev whole0_3 (t : Fin cfg0.N) : (mem0_3 t).IsWhole := hstage0_3 ((cfg0.slots t 3).cast nbuf0_3)
abbrev mem0_4 (t : Fin cfg0.N) : Memref sig .tc .vmem S512x2048 .f32 := win0_4.stage (cfg0.slots t 4)
abbrev whole0_4 (t : Fin cfg0.N) : (mem0_4 t).IsWhole := hstage0_4 ((cfg0.slots t 4).cast nbuf0_4)
abbrev mem0_5 (t : Fin cfg0.N) : Memref sig .tc .vmem S512x2048 .f32 := win0_5.stage (cfg0.slots t 5)
abbrev whole0_5 (t : Fin cfg0.N) : (mem0_5 t).IsWhole := hstage0_5 ((cfg0.slots t 5).cast nbuf0_5)
abbrev mem0_6 (t : Fin cfg0.N) : Memref sig .tc .vmem S512x2048 .bf16 := win0_6.stage (cfg0.slots t 6)
abbrev whole0_6 (t : Fin cfg0.N) : (mem0_6 t).IsWhole := hstage0_6 ((cfg0.slots t 6).cast nbuf0_6)
abbrev mem0_7 (t : Fin cfg0.N) : Memref sig .tc .vmem S2x1x688x512 .bf16 := win0_7.stage (cfg0.slots t 7)
abbrev whole0_7 (t : Fin cfg0.N) : (mem0_7 t).IsWhole := hstage0_7 ((cfg0.slots t 7).cast nbuf0_7)
abbrev mem0_8 (t : Fin cfg0.N) : Memref sig .tc .vmem S1x688x512 .bf16 := win0_8.stage (cfg0.slots t 8)
abbrev whole0_8 (t : Fin cfg0.N) : (mem0_8 t).IsWhole := hstage0_8 ((cfg0.slots t 8).cast nbuf0_8)
abbrev mem0_9 (t : Fin cfg0.N) : Memref sig .tc .vmem S1x128 .f32 := win0_9.stage (cfg0.slots t 9)
abbrev whole0_9 (t : Fin cfg0.N) : (mem0_9 t).IsWhole := hstage0_9 ((cfg0.slots t 9).cast nbuf0_9)
theorem cond0_1 : ∀ t : Fin cfg0.N, k0_cond1 (grid0.coords t) = 1#1 ↔ t.val % 8 = 0 := by
  have h : ∀ t : Fin grid0.N, k0_cond1 (grid0.coords t) = 1#1 ↔ t.val % 8 = 0 := by decide +kernel
  exact h
theorem cond0_2 : ∀ t : Fin cfg0.N, k0_cond2 (grid0.coords t) = 1#1 ↔ t.val = 0 := by
  have h : ∀ t : Fin grid0.N, k0_cond2 (grid0.coords t) = 1#1 ↔ t.val = 0 := by decide +kernel
  exact h
theorem cond0_3 : ∀ t : Fin cfg0.N, k0_cond3 (grid0.coords t) = 1#1 ↔ t.val % 8 = 7 := by
  have h : ∀ t : Fin grid0.N, k0_cond3 (grid0.coords t) = 1#1 ↔ t.val % 8 = 7 := by decide +kernel
  exact h

/-- What a grid point leaves for the next: the sum so far (in the end the gradient of the output), the normalised rows, and the loss so far. -/
abbrev Kept0 (F : FTy → Type) : Type := Vec F S512x2048 .f32 × Vec F S512x2048 .bf16 × Vec F S1x128 .f32
abbrev rows0 (c : Dev nD) (t : Fin cfg0.N) : Vec F S512x2048 .bf16 := k0_pay6 (blk0 V c 0 t) (blk0 V c 1 t)
def first0At (c : Dev nD) (t : Fin cfg0.N) (l : Vec F S1x128 .f32) : Kept0 F :=
  (sumOf (k0_pay7 (F := F)) (rows0 V c t) (blk0 V c 2 t) (blk0 V c 3 t), rows0 V c t, l)
def later0At (c : Dev nD) (t : Fin cfg0.N) (p : Kept0 F) : Kept0 F :=
  (sumOf p.1 p.2.1 (blk0 V c 2 t) (blk0 V c 3 t), p.2.1, p.2.2)
def last0At (c : Dev nD) (t : Fin cfg0.N) (p : Kept0 F) : Kept0 F :=
  (k0_pay4 (blk0 V c 0 t) (sumOf p.1 p.2.1 (blk0 V c 2 t) (blk0 V c 3 t)) (blk0 V c 4 t), p.2.1,
   k0_pay5 (blk0 V c 0 t) (sumOf p.1 p.2.1 (blk0 V c 2 t) (blk0 V c 3 t)) (blk0 V c 4 t) p.2.2)
def kept0 (c : Dev nD) : (n : ℕ) → n < cfg0.N → Kept0 F
  | 0, hn => first0At V c ⟨0, hn⟩ (k0_pay8 (F := F))
  | n + 1, hn => if (n + 1) % 8 = 0 then first0At V c ⟨n + 1, hn⟩ (kept0 c n (Nat.lt_of_succ_lt hn)).2.2
      else if (n + 1) % 8 = 7 then last0At V c ⟨n + 1, hn⟩ (kept0 c n (Nat.lt_of_succ_lt hn))
      else later0At V c ⟨n + 1, hn⟩ (kept0 c n (Nat.lt_of_succ_lt hn))

/-- What the grid point before `t` left. -/
abbrev prev0 (c : Dev nD) (t : Fin cfg0.N) : Kept0 F := kept0 V c (t.val - 1) (Nat.lt_of_le_of_lt (Nat.sub_le _ _) t.isLt)

theorem kept0_start (c : Dev nD) (t : Fin cfg0.N) (h : t.val = 0) : kept0 V c t.val t.isLt = first0At V c t (k0_pay8 (F := F)) := by
  obtain ⟨n, hn⟩ := t
  cases n with
  | zero => exact rfl
  | succ n => exact absurd h (Nat.succ_ne_zero n)
theorem kept0_first (c : Dev nD) (t : Fin cfg0.N) (hz : ¬t.val = 0) (h : t.val % 8 = 0) : kept0 V c t.val t.isLt = first0At V c t (prev0 V c t).2.2 := by
  obtain ⟨n, hn⟩ := t
  cases n with
  | zero => exact absurd rfl hz
  | succ n => exact (if_pos h).trans rfl
theorem kept0_last (c : Dev nD) (t : Fin cfg0.N) (h : ¬t.val % 8 = 0) (h7 : t.val % 8 = 7) : kept0 V c t.val t.isLt = last0At V c t (prev0 V c t) := by
  obtain ⟨n, hn⟩ := t
  cases n with
  | zero => exact absurd (Nat.zero_mod _) h
  | succ n => exact ((if_neg h).trans (if_pos h7)).trans rfl
theorem kept0_later (c : Dev nD) (t : Fin cfg0.N) (h : ¬t.val % 8 = 0) (h7 : ¬t.val % 8 = 7) : kept0 V c t.val t.isLt = later0At V c t (prev0 V c t) := by
  obtain ⟨n, hn⟩ := t
  cases n with
  | zero => exact absurd (Nat.zero_mod _) h
  | succ n => exact ((if_neg h).trans (if_neg h7)).trans rfl

/-- The proof data of the forward call. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => (kept0 V c t.val t.isLt).1
    | ⟨6, _⟩ => (kept0 V c t.val t.isLt).2.1
    | ⟨7, _⟩ => guOf (kept0 V c t.val t.isLt).2.1 (blk0 V c 2 t)
    | ⟨8, _⟩ => actOf (kept0 V c t.val t.isLt).2.1 (blk0 V c 2 t)
    | ⟨9, _⟩ => (kept0 V c t.val t.isLt).2.2
  Φ _ := Pipeline.ΦA spec0 c
  q w := Pipeline.shareOf spec0 w
  owed _ := 0

theorem arrays0 (c : Dev nD) (w : Fin cfg0.W) : (dat0 V c).A w = V c (Pipeline.arrRef spec0 w) := by
  dsimp only [dat0]
theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = blk0 V c 2 t := by dsimp only [dat0]
theorem left0_3 (c : Dev nD) (t : Fin cfg0.N) : (dat0 V c).after 3 t = blk0 V c 3 t := by dsimp only [dat0]
theorem left0_4 (c : Dev nD) (t : Fin cfg0.N) : (dat0 V c).after 4 t = blk0 V c 4 t := by dsimp only [dat0]
theorem left0_5 (c : Dev nD) (t : Fin cfg0.N) : (dat0 V c).after 5 t = (kept0 V c t.val t.isLt).1 := by dsimp only [dat0]
theorem left0_6 (c : Dev nD) (t : Fin cfg0.N) : (dat0 V c).after 6 t = (kept0 V c t.val t.isLt).2.1 := by dsimp only [dat0]
theorem left0_7 (c : Dev nD) (t : Fin cfg0.N) : (dat0 V c).after 7 t = guOf (kept0 V c t.val t.isLt).2.1 (blk0 V c 2 t) := by dsimp only [dat0]
theorem left0_8 (c : Dev nD) (t : Fin cfg0.N) : (dat0 V c).after 8 t = actOf (kept0 V c t.val t.isLt).2.1 (blk0 V c 2 t) := by dsimp only [dat0]
theorem left0_9 (c : Dev nD) (t : Fin cfg0.N) : (dat0 V c).after 9 t = (kept0 V c t.val t.isLt).2.2 := by dsimp only [dat0]
theorem found0_0 (c : Dev nD) (t : Fin cfg0.N) (d) : (dat0 V c).before 0 t d = blk0 V c 0 t :=
  ((dat0 V c).before_in_eq_fetched 0 rfl (fun _ => rfl) (fun _ _ _ => rfl)
    (fun t => by rw [left0_0]; unfold Dat.blockOf blk0; rw [arrays0]; try rfl) t d).trans
    (by unfold Dat.fetched Dat.blockOf blk0; rw [arrays0]; try rfl)
theorem found0_1 (c : Dev nD) (t : Fin cfg0.N) (d) : (dat0 V c).before 1 t d = blk0 V c 1 t :=
  ((dat0 V c).before_in_eq_fetched 1 rfl (fun _ => rfl) (fun _ _ _ => rfl)
    (fun t => by rw [left0_1]; unfold Dat.blockOf blk0; rw [arrays0]; try rfl) t d).trans
    (by unfold Dat.fetched Dat.blockOf blk0; rw [arrays0]; try rfl)
theorem found0_2 (c : Dev nD) (t : Fin cfg0.N) (d) : (dat0 V c).before 2 t d = blk0 V c 2 t :=
  ((dat0 V c).before_in_eq_fetched 2 rfl (fun _ => rfl) (fun _ _ _ => rfl)
    (fun t => by rw [left0_2]; unfold Dat.blockOf blk0; rw [arrays0]; try rfl) t d).trans
    (by unfold Dat.fetched Dat.blockOf blk0; rw [arrays0]; try rfl)
theorem found0_3 (c : Dev nD) (t : Fin cfg0.N) (d) : (dat0 V c).before 3 t d = blk0 V c 3 t :=
  ((dat0 V c).before_in_eq_fetched 3 rfl (fun _ => rfl) (fun _ _ _ => rfl)
    (fun t => by rw [left0_3]; unfold Dat.blockOf blk0; rw [arrays0]; try rfl) t d).trans
    (by unfold Dat.fetched Dat.blockOf blk0; rw [arrays0]; try rfl)
theorem found0_4 (c : Dev nD) (t : Fin cfg0.N) (d) : (dat0 V c).before 4 t d = blk0 V c 4 t :=
  ((dat0 V c).before_in_eq_fetched 4 rfl (fun _ => rfl) (fun _ _ _ => rfl)
    (fun t => by rw [left0_4]; unfold Dat.blockOf blk0; rw [arrays0]; try rfl) t d).trans
    (by unfold Dat.fetched Dat.blockOf blk0; rw [arrays0]; try rfl)
theorem found0_5 (c : Dev nD) (t : Fin cfg0.N) (h : ¬t.val % 8 = 0) (d) : (dat0 V c).before 5 t d = (prev0 V c t).1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dat0]
theorem idle0_6 : ∀ t : Fin cfg0.N, cfg0.idle 6 (cfg0.grid.coords t) = true → ¬t.val % 8 = 0 := by
  have h : ∀ t : Fin grid0.N, cfg0.idle 6 (cfg0.grid.coords t) = true → ¬t.val % 8 = 0 := by decide +kernel
  exact h
theorem filled0_6 : ∀ t : Fin cfg0.N, ¬t.val % 8 = 0 → cfg0.fresh 6 t.val = false := by
  have h : ∀ t : Fin grid0.N, ¬t.val % 8 = 0 → cfg0.fresh 6 t.val = false := by decide +kernel
  exact h
theorem carry0_6 (c : Dev nD) (t : Fin cfg0.N) (hi : cfg0.idle 6 (cfg0.grid.coords t) = true) :
    (dat0 V c).after 6 t = (dat0 V c).after 6 ⟨t.val - 1, by omega⟩ := by
  have hi := idle0_6 t hi
  rw [left0_6, left0_6]
  by_cases h7 : t.val % 8 = 7
  · rw [kept0_last V c t hi h7]; rfl
  · rw [kept0_later V c t hi h7]; rfl
theorem found0_6 (c : Dev nD) (t : Fin cfg0.N) (h : ¬t.val % 8 = 0) (d) : (dat0 V c).before 6 t d = (prev0 V c t).2.1 := by
  rw [(dat0 V c).before_out_traj 6 rfl (fun _ _ => rfl) (fun t _ hi _ => carry0_6 V c t hi) t.val t rfl d, filled0_6 t h, if_neg Bool.false_ne_true]
  dsimp only [dat0]
theorem idle0_9 : ∀ t : Fin cfg0.N, cfg0.idle 9 (cfg0.grid.coords t) = true → ¬t.val = 0 ∧ ¬t.val % 8 = 7 := by
  have h : ∀ t : Fin grid0.N, cfg0.idle 9 (cfg0.grid.coords t) = true → ¬t.val = 0 ∧ ¬t.val % 8 = 7 := by decide +kernel
  exact h
theorem filled0_9 : ∀ t : Fin cfg0.N, ¬t.val = 0 → cfg0.fresh 9 t.val = false := by
  have h : ∀ t : Fin grid0.N, ¬t.val = 0 → cfg0.fresh 9 t.val = false := by decide +kernel
  exact h
theorem carry0_9 (c : Dev nD) (t : Fin cfg0.N) (hi : cfg0.idle 9 (cfg0.grid.coords t) = true) :
    (dat0 V c).after 9 t = (dat0 V c).after 9 ⟨t.val - 1, by omega⟩ := by
  have hi := idle0_9 t hi
  rw [left0_9, left0_9]
  by_cases h : t.val % 8 = 0
  · rw [kept0_first V c t hi.1 h]; rfl
  · rw [kept0_later V c t h hi.2]; rfl
theorem found0_9 (c : Dev nD) (t : Fin cfg0.N) (h : ¬t.val = 0) (d) : (dat0 V c).before 9 t d = (prev0 V c t).2.2 := by
  rw [(dat0 V c).before_out_traj 9 rfl (fun _ _ => rfl) (fun t _ hi _ => carry0_9 V c t hi) t.val t rfl d, filled0_9 t h, if_neg Bool.false_ne_true]
  dsimp only [dat0]

def pre0 (c : Dev nD) (t : Fin cfg0.N) : sProp 𝕄 :=
  iprop((dat0 V c).Φ t.castSucc ∗ (dat0 V c).owesAt () t.castSucc
    ∗ (∃ d, owns (c : Thread nD τ) (mem0_0 t) fullShare ((dat0 V c).before 0 t d)) ∗ (∃ d, owns (c : Thread nD τ) (mem0_1 t) fullShare ((dat0 V c).before 1 t d)) ∗ (∃ d, owns (c : Thread nD τ) (mem0_2 t) fullShare ((dat0 V c).before 2 t d)) ∗ (∃ d, owns (c : Thread nD τ) (mem0_3 t) fullShare ((dat0 V c).before 3 t d)) ∗ (∃ d, owns (c : Thread nD τ) (mem0_4 t) fullShare ((dat0 V c).before 4 t d)) ∗ (∃ d, owns (c : Thread nD τ) (mem0_5 t) fullShare ((dat0 V c).before 5 t d)) ∗ (∃ d, owns (c : Thread nD τ) (mem0_6 t) fullShare ((dat0 V c).before 6 t d)) ∗ (∃ d, owns (c : Thread nD τ) (mem0_7 t) fullShare ((dat0 V c).before 7 t d)) ∗ (∃ d, owns (c : Thread nD τ) (mem0_8 t) fullShare ((dat0 V c).before 8 t d)) ∗ (∃ d, owns (c : Thread nD τ) (mem0_9 t) fullShare ((dat0 V c).before 9 t d)))

def post0 (c : Dev nD) (t : Fin cfg0.N) : sProp 𝕄 :=
  iprop((dat0 V c).Φ t.succ ∗ (dat0 V c).owesAt () t.succ
    ∗ owns (c : Thread nD τ) (mem0_0 t) fullShare ((dat0 V c).after 0 t) ∗ owns (c : Thread nD τ) (mem0_1 t) fullShare ((dat0 V c).after 1 t) ∗ owns (c : Thread nD τ) (mem0_2 t) fullShare ((dat0 V c).after 2 t) ∗ owns (c : Thread nD τ) (mem0_3 t) fullShare ((dat0 V c).after 3 t) ∗ owns (c : Thread nD τ) (mem0_4 t) fullShare ((dat0 V c).after 4 t) ∗ owns (c : Thread nD τ) (mem0_5 t) fullShare ((dat0 V c).after 5 t) ∗ owns (c : Thread nD τ) (mem0_6 t) fullShare ((dat0 V c).after 6 t) ∗ owns (c : Thread nD τ) (mem0_7 t) fullShare ((dat0 V c).after 7 t) ∗ owns (c : Thread nD τ) (mem0_8 t) fullShare ((dat0 V c).after 8 t) ∗ owns (c : Thread nD τ) (mem0_9 t) fullShare ((dat0 V c).after 9 t))

/-- The body at any grid point. -/
theorem point0 (c : Dev nD) (t : Fin cfg0.N) :
    pre0 V c t ⊢ wp frame (wpE (defs₀ (F := F)) Variants.none c none) Set.univ (bodyAt0 t) (fun _ => post0 V c t) := by
  have hN : t.val < 64 := lt_of_lt_of_eq t.isLt (show cfg0.N = 64 from N_0)
  unfold pre0 post0 bodyAt0
  simp only [found0_0, found0_1, found0_2, found0_3, found0_4]
  rw [show (dat0 V c).Φ t.succ = (dat0 V c).Φ t.castSucc from rfl,
    show (dat0 V c).owesAt () t.succ = (dat0 V c).owesAt () t.castSucc from rfl,
    left0_0, left0_1, left0_2, left0_3, left0_4, left0_5, left0_6, left0_7, left0_8, left0_9]
  by_cases hz : t.val = 0
  · have h : t.val % 8 = 0 := by omega
    have h7 : ¬t.val % 8 = 7 := by omega
    rw [kept0_start V c t hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (start0 c (grid0.coords t) _ _ _ _ _ _ _ _ _ _ _ _ _ _ _ _ _ _ _ _ ((cond0_1 t).mpr h) ((cond0_2 t).mpr hz) (fun h' => h7 ((cond0_3 t).mp h')) (blk0 V c 0 t) (blk0 V c 1 t) (blk0 V c 2 t) (blk0 V c 3 t) (blk0 V c 4 t) ((dat0 V c).before 5 t d5) ((dat0 V c).before 6 t d6) ((dat0 V c).before 7 t d7) ((dat0 V c).before 8 t d8) ((dat0 V c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases h : t.val % 8 = 0
  · have h7 : ¬t.val % 8 = 7 := by omega
    simp only [found0_9 V c t hz]
    rw [kept0_first V c t hz h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (first0 c (grid0.coords t) _ _ _ _ _ _ _ _ _ _ _ _ _ _ _ _ _ _ _ _ ((cond0_1 t).mpr h) (fun h' => hz ((cond0_2 t).mp h')) (fun h' => h7 ((cond0_3 t).mp h')) (blk0 V c 0 t) (blk0 V c 1 t) (blk0 V c 2 t) (blk0 V c 3 t) (blk0 V c 4 t) ((dat0 V c).before 5 t d5) ((dat0 V c).before 6 t d6) ((dat0 V c).before 7 t d7) ((dat0 V c).before 8 t d8) (prev0 V c t).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases h7 : t.val % 8 = 7
  · simp only [found0_5 V c t h, found0_6 V c t h, found0_9 V c t hz]
    rw [kept0_last V c t h h7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (last0 c (grid0.coords t) _ _ _ _ _ _ _ _ _ _ _ _ _ _ _ _ _ _ _ _ (fun h' => h ((cond0_1 t).mp h')) (fun h' => hz ((cond0_2 t).mp h')) ((cond0_3 t).mpr h7) (blk0 V c 0 t) (blk0 V c 1 t) (blk0 V c 2 t) (blk0 V c 3 t) (blk0 V c 4 t) (prev0 V c t).1 (prev0 V c t).2.1 ((dat0 V c).before 7 t d7) ((dat0 V c).before 8 t d8) (prev0 V c t).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [found0_5 V c t h, found0_6 V c t h, found0_9 V c t hz]
    rw [kept0_later V c t h h7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (later0 c (grid0.coords t) _ _ _ _ _ _ _ _ _ _ _ _ _ _ _ _ _ _ _ _ (fun h' => h ((cond0_1 t).mp h')) (fun h' => hz ((cond0_2 t).mp h')) (fun h' => h7 ((cond0_3 t).mp h')) (blk0 V c 0 t) (blk0 V c 1 t) (blk0 V c 2 t) (blk0 V c 3 t) (blk0 V c 4 t) (prev0 V c t).1 (prev0 V c t).2.1 ((dat0 V c).before 7 t d7) ((dat0 V c).before 8 t d8) (prev0 V c t).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem settled0_6 (c : Dev nD) (t : Fin cfg0.N) (h : cfg0.idle 6 (cfg0.grid.coords t) = true) (d) : (dat0 V c).before 6 t d = (dat0 V c).after 6 t := by
  have hi := idle0_6 t h
  rw [found0_6 V c t hi d, left0_6]
  by_cases h7 : t.val % 8 = 7
  · rw [kept0_last V c t hi h7]; rfl
  · rw [kept0_later V c t hi h7]; rfl

theorem settled0_9 (c : Dev nD) (t : Fin cfg0.N) (h : cfg0.idle 9 (cfg0.grid.coords t) = true) (d) : (dat0 V c).before 9 t d = (dat0 V c).after 9 t := by
  have hi := idle0_9 t h
  rw [found0_9 V c t hi.1 d, left0_9]
  by_cases h : t.val % 8 = 0
  · rw [kept0_first V c t hi.1 h]; rfl
  · rw [kept0_later V c t h hi.2]; rfl

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, row0]
  exact triple_restated (point0 V c t) rfl .rfl fun _ => (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono (settle (dat0 V c) 6 t fun h => settled0_6 V c t h) (BIClass.sep_mono BIBase.Entails.rfl (BIClass.sep_mono BIBase.Entails.rfl (settle (dat0 V c) 9 t fun h => settled0_9 V c t h))))))))))))

end Data0

end Cert.Kernel2Ideal.Ffn
-- ==== Proof.Kernel2Ideal.BwdBody.lean ====
module

public import proofs.«01_k».proof.Proof.Kernel2Ideal.FwdBody

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One grid point's values: the gradients of the gate and up values, and the sum over the chunks so far of the gradient of the normalised rows. -/
def dguOf (b : Vec F S512x2048 .bf16) (u : Vec F S2x1x688x512 .bf16) (o : Vec F S1x688x2048 .bf16) : Vec F S2x1x688x512 .bf16 :=
  halves (k1_pay10 o b (u0 u) (u1 u)) (k1_pay1 (k1_pay9 o b (u0 u)))
def dsumOf (y : Vec F S512x2048 .f32) (b : Vec F S512x2048 .bf16) (u : Vec F S2x1x688x512 .bf16) (w : Vec F S2x1x688x2048 .bf16) (o : Vec F S1x688x2048 .bf16) :
    Vec F S512x2048 .f32 := k1_pay2 (k1_pay8 o b (u0 u) (u1 u)) (k1_pay9 o b (u0 u)) y (w0 w) (w1 w)

set_option maxHeartbeats 1000000 in
/-- The backward body at a block's first chunk. -/
theorem first1 (c : Dev nD) (i : grid1.Coords) (arg2 : Memref sig .tc .vmem S512x2048 .f32) (harg2 : arg2.IsWhole) (arg3 : Memref sig .tc .vmem S2x1x688x512 .bf16) (harg3 : arg3.IsWhole) (arg4 : Memref sig .tc .vmem S2x1x688x2048 .bf16) (harg4 : arg4.IsWhole) (arg5 : Memref sig .tc .vmem S1x688x2048 .bf16) (harg5 : arg5.IsWhole) (arg6 : Memref sig .tc .vmem S512x2048 .f32) (harg6 : arg6.IsWhole) (arg7 : Memref sig .tc .vmem S2x1x688x512 .bf16) (harg7 : arg7.IsWhole) (arg8 : Memref sig .tc .vmem S512x2048 .bf16) (harg8 : arg8.IsWhole) (h1 : k1_cond1 i = 1#1) (x0 : Vec F S512x2048 .f32) (x1 : Vec F S2x1x688x512 .bf16) (x2 : Vec F S2x1x688x2048 .bf16) (x3 : Vec F S1x688x2048 .bf16) (x4 : Vec F S512x2048 .f32) (x5 : Vec F S2x1x688x512 .bf16) (x6 : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dsumOf (k1_pay3 (F := F)) (k1_pay4 x0) x1 x2 x3) ∗ owns (c : Thread nD τ) arg7 fullShare (dguOf (k1_pay4 x0) x1 x3) ∗ owns (c : Thread nD τ) arg8 fullShare (k1_pay4 x0)) -∗ K ⟨⟩))
      ⊢ wp frame (wpE (defs₀ (F := F)) Variants.none c none) E (cc1_ffn2_bwd i arg2 harg2 arg3 harg3 arg4 harg4 arg5 harg5 arg6 harg6 arg7 harg7 arg8 harg8) K := by
  simp only [cc1_ffn2_bwd_eq_skeleton]; unfold cc1_ffn2_bwd_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact h1)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; unfold dsumOf w0 w1 u0 u1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold first1.sl.H4_2 | unfold first1.sl.H4_1 | unfold first1.sl.H6_1 | unfold first1.sl.H5_2 | unfold first1.sl.H5_1 | unfold first1.sl.v3 | unfold first1.sl.v5 | unfold first1.sl.v8 | unfold first1.sl.v11 | unfold first1.sl.v33 | unfold first1.sl.v35 | unfold first1.sl.v38 | unfold first1.sl.v23 | unfold first1.sl.v26
  isplitl [H5]
  · iexists _; isplitr
    swap; · iexact H5
    ipureintro; unfold dguOf u0 u1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold first1.sl.H4_2 | unfold first1.sl.H4_1 | unfold first1.sl.H6_1 | unfold first1.sl.H5_2 | unfold first1.sl.H5_1 | unfold first1.sl.v3 | unfold first1.sl.v5 | unfold first1.sl.v8 | unfold first1.sl.v11 | unfold first1.sl.v33 | unfold first1.sl.v35 | unfold first1.sl.v38 | unfold first1.sl.v23 | unfold first1.sl.v26
  iexists _; isplitr
  swap; · iexact H6
  ipureintro; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold first1.sl.H4_2 | unfold first1.sl.H4_1 | unfold first1.sl.H6_1 | unfold first1.sl.H5_2 | unfold first1.sl.H5_1 | unfold first1.sl.v3 | unfold first1.sl.v5 | unfold first1.sl.v8 | unfold first1.sl.v11 | unfold first1.sl.v33 | unfold first1.sl.v35 | unfold first1.sl.v38 | unfold first1.sl.v23 | unfold first1.sl.v26

set_option maxHeartbeats 1000000 in
/-- The backward body at a later chunk. -/
theorem later1 (c : Dev nD) (i : grid1.Coords) (arg2 : Memref sig .tc .vmem S512x2048 .f32) (harg2 : arg2.IsWhole) (arg3 : Memref sig .tc .vmem S2x1x688x512 .bf16) (harg3 : arg3.IsWhole) (arg4 : Memref sig .tc .vmem S2x1x688x2048 .bf16) (harg4 : arg4.IsWhole) (arg5 : Memref sig .tc .vmem S1x688x2048 .bf16) (harg5 : arg5.IsWhole) (arg6 : Memref sig .tc .vmem S512x2048 .f32) (harg6 : arg6.IsWhole) (arg7 : Memref sig .tc .vmem S2x1x688x512 .bf16) (harg7 : arg7.IsWhole) (arg8 : Memref sig .tc .vmem S512x2048 .bf16) (harg8 : arg8.IsWhole) (h1 : ¬k1_cond1 i = 1#1) (x0 : Vec F S512x2048 .f32) (x1 : Vec F S2x1x688x512 .bf16) (x2 : Vec F S2x1x688x2048 .bf16) (x3 : Vec F S1x688x2048 .bf16) (x4 : Vec F S512x2048 .f32) (x5 : Vec F S2x1x688x512 .bf16) (x6 : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dsumOf x4 x6 x1 x2 x3) ∗ owns (c : Thread nD τ) arg7 fullShare (dguOf x6 x1 x3) ∗ owns (c : Thread nD τ) arg8 fullShare x6) -∗ K ⟨⟩))
      ⊢ wp frame (wpE (defs₀ (F := F)) Variants.none c none) E (cc1_ffn2_bwd i arg2 harg2 arg3 harg3 arg4 harg4 arg5 harg5 arg6 harg6 arg7 harg7 arg8 harg8) K := by
  simp only [cc1_ffn2_bwd_eq_skeleton]; unfold cc1_ffn2_bwd_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact h1)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; unfold dsumOf w0 w1 u0 u1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold later1.sl.H4_2 | unfold later1.sl.H4_1 | unfold later1.sl.H6_1 | unfold later1.sl.H5_2 | unfold later1.sl.H5_1 | unfold later1.sl.v3 | unfold later1.sl.v5 | unfold later1.sl.v8 | unfold later1.sl.v11 | unfold later1.sl.v33 | unfold later1.sl.v35 | unfold later1.sl.v38 | unfold later1.sl.v23 | unfold later1.sl.v26
  isplitl [H5]
  · iexists _; isplitr
    swap; · iexact H5
    ipureintro; unfold dguOf u0 u1; repeat first | rw [View.read_writes_full] | rw [View.readAt_full] | rw [View.readCov_full] | rw [Memref.IsWhole.read_unread] | rw [View.readAt_unit _ _ _ rfl inb_S2x1x688x2048_S1x1x688x2048_0_0_0_0] | rw [View.readAt_unit _ _ _ rfl inb_S2x1x688x2048_S1x1x688x2048_1_0_0_0] | rw [View.readAt_unit _ _ _ rfl inb_S2x1x688x512_S1x1x688x512_0_0_0_0] | rw [View.readAt_unit _ _ _ rfl inb_S2x1x688x512_S1x1x688x512_1_0_0_0] | rw [read_halves] | unfold later1.sl.H4_2 | unfold later1.sl.H4_1 | unfold later1.sl.H6_1 | unfold later1.sl.H5_2 | unfold later1.sl.H5_1 | unfold later1.sl.v3 | unfold later1.sl.v5 | unfold later1.sl.v8 | unfold later1.sl.v11 | unfold later1.sl.v33 | unfold later1.sl.v35 | unfold later1.sl.v38 | unfold later1.sl.v23 | unfold later1.sl.v26
  iexists _; isplitr
  swap; · iexact H6
  ipureintro; exact harg8.read_unread _

end Cert.Kernel2Ideal.Ffn
-- ==== Proof.Kernel2Ideal.Bwd.lean ====
module

public import proofs.«01_k».proof.Proof.Kernel2Ideal.Fwd
public import proofs.«01_k».proof.Proof.Kernel2Ideal.BwdBody
public import proofs.«01_k».proof.Proof.Kernel2Ideal.Mm

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data1

variable (V : (c : Dev nD) → (b : Ref sig .tc) → Buf (Elt F) ((c : Thread nD τ).loc b))

/-- The block of window `w`'s array that grid point `t` works on. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev mem1_0 (t : Fin cfg1.N) : Memref sig .tc .vmem S512x2048 .f32 := win1_0.stage (cfg1.slots t 0)
abbrev whole1_0 (t : Fin cfg1.N) : (mem1_0 t).IsWhole := hstage1_0 ((cfg1.slots t 0).cast nbuf1_0)
abbrev mem1_1 (t : Fin cfg1.N) : Memref sig .tc .vmem S2x1x688x512 .bf16 := win1_1.stage (cfg1.slots t 1)
abbrev whole1_1 (t : Fin cfg1.N) : (mem1_1 t).IsWhole := hstage1_1 ((cfg1.slots t 1).cast nbuf1_1)
abbrev mem1_2 (t : Fin cfg1.N) : Memref sig .tc .vmem S2x1x688x2048 .bf16 := win1_2.stage (cfg1.slots t 2)
abbrev whole1_2 (t : Fin cfg1.N) : (mem1_2 t).IsWhole := hstage1_2 ((cfg1.slots t 2).cast nbuf1_2)
abbrev mem1_3 (t : Fin cfg1.N) : Memref sig .tc .vmem S1x688x2048 .bf16 := win1_3.stage (cfg1.slots t 3)
abbrev whole1_3 (t : Fin cfg1.N) : (mem1_3 t).IsWhole := hstage1_3 ((cfg1.slots t 3).cast nbuf1_3)
abbrev mem1_4 (t : Fin cfg1.N) : Memref sig .tc .vmem S512x2048 .f32 := win1_4.stage (cfg1.slots t 4)
abbrev whole1_4 (t : Fin cfg1.N) : (mem1_4 t).IsWhole := hstage1_4 ((cfg1.slots t 4).cast nbuf1_4)
abbrev mem1_5 (t : Fin cfg1.N) : Memref sig .tc .vmem S2x1x688x512 .bf16 := win1_5.stage (cfg1.slots t 5)
abbrev whole1_5 (t : Fin cfg1.N) : (mem1_5 t).IsWhole := hstage1_5 ((cfg1.slots t 5).cast nbuf1_5)
abbrev mem1_6 (t : Fin cfg1.N) : Memref sig .tc .vmem S512x2048 .bf16 := win1_6.stage (cfg1.slots t 6)
abbrev whole1_6 (t : Fin cfg1.N) : (mem1_6 t).IsWhole := hstage1_6 ((cfg1.slots t 6).cast nbuf1_6)
theorem starts1_iff : ∀ t : Fin cfg1.N, k1_cond1 (grid1.coords t) = 1#1 ↔ t.val % 8 = 0 := by
  have h : ∀ t : Fin grid1.N, k1_cond1 (grid1.coords t) = 1#1 ↔ t.val % 8 = 0 := by decide +kernel
  exact h

/-- What a grid point leaves for the next: the sum so far of the gradient of the normalised rows, and the rounded half gradient of the output. -/
abbrev Kept1 (F : FTy → Type) : Type := Vec F S512x2048 .f32 × Vec F S512x2048 .bf16
def first1At (c : Dev nD) (t : Fin cfg1.N) : Kept1 F :=
  (dsumOf (k1_pay3 (F := F)) (k1_pay4 (blk1 V c 0 t)) (blk1 V c 1 t) (blk1 V c 2 t) (blk1 V c 3 t), k1_pay4 (blk1 V c 0 t))
def later1At (c : Dev nD) (t : Fin cfg1.N) (p : Kept1 F) : Kept1 F :=
  (dsumOf p.1 p.2 (blk1 V c 1 t) (blk1 V c 2 t) (blk1 V c 3 t), p.2)
def kept1 (c : Dev nD) : (n : ℕ) → n < cfg1.N → Kept1 F
  | 0, hn => first1At V c ⟨0, hn⟩
  | n + 1, hn => if (n + 1) % 8 = 0 then first1At V c ⟨n + 1, hn⟩ else later1At V c ⟨n + 1, hn⟩ (kept1 c n (Nat.lt_of_succ_lt hn))

/-- What the grid point before `t` left. -/
abbrev prev1 (c : Dev nD) (t : Fin cfg1.N) : Kept1 F := kept1 V c (t.val - 1) (Nat.lt_of_le_of_lt (Nat.sub_le _ _) t.isLt)

theorem kept1_first (c : Dev nD) (t : Fin cfg1.N) (h : t.val % 8 = 0) : kept1 V c t.val t.isLt = first1At V c t := by
  obtain ⟨n, hn⟩ := t
  cases n with
  | zero => exact rfl
  | succ n => exact (if_pos h).trans rfl
theorem kept1_later (c : Dev nD) (t : Fin cfg1.N) (h : ¬t.val % 8 = 0) : kept1 V c t.val t.isLt = later1At V c t (prev1 V c t) := by
  obtain ⟨n, hn⟩ := t
  cases n with
  | zero => exact absurd (Nat.zero_mod _) h
  | succ n => exact (if_neg h).trans rfl

/-- The proof data of the backward call. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (kept1 V c t.val t.isLt).1
    | ⟨5, _⟩ => dguOf (kept1 V c t.val t.isLt).2 (blk1 V c 1 t) (blk1 V c 3 t)
    | ⟨6, _⟩ => (kept1 V c t.val t.isLt).2
  Φ _ := Pipeline.ΦA spec1 c
  q w := Pipeline.shareOf spec1 w
  owed _ := 0

theorem arrays1 (c : Dev nD) (w : Fin cfg1.W) : (dat1 V c).A w = V c (Pipeline.arrRef spec1 w) := by
  dsimp only [dat1]
theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = blk1 V c 3 t := by dsimp only [dat1]
theorem left1_4 (c : Dev nD) (t : Fin cfg1.N) : (dat1 V c).after 4 t = (kept1 V c t.val t.isLt).1 := by dsimp only [dat1]
theorem left1_5 (c : Dev nD) (t : Fin cfg1.N) : (dat1 V c).after 5 t = dguOf (kept1 V c t.val t.isLt).2 (blk1 V c 1 t) (blk1 V c 3 t) := by dsimp only [dat1]
theorem left1_6 (c : Dev nD) (t : Fin cfg1.N) : (dat1 V c).after 6 t = (kept1 V c t.val t.isLt).2 := by dsimp only [dat1]
theorem found1_0 (c : Dev nD) (t : Fin cfg1.N) (d) : (dat1 V c).before 0 t d = blk1 V c 0 t :=
  ((dat1 V c).before_in_eq_fetched 0 rfl (fun _ => rfl) (fun _ _ _ => rfl)
    (fun t => by rw [left1_0]; unfold Dat.blockOf blk1; rw [arrays1]; try rfl) t d).trans
    (by unfold Dat.fetched Dat.blockOf blk1; rw [arrays1]; try rfl)
theorem found1_1 (c : Dev nD) (t : Fin cfg1.N) (d) : (dat1 V c).before 1 t d = blk1 V c 1 t :=
  ((dat1 V c).before_in_eq_fetched 1 rfl (fun _ => rfl) (fun _ _ _ => rfl)
    (fun t => by rw [left1_1]; unfold Dat.blockOf blk1; rw [arrays1]; try rfl) t d).trans
    (by unfold Dat.fetched Dat.blockOf blk1; rw [arrays1]; try rfl)
theorem found1_2 (c : Dev nD) (t : Fin cfg1.N) (d) : (dat1 V c).before 2 t d = blk1 V c 2 t :=
  ((dat1 V c).before_in_eq_fetched 2 rfl (fun _ => rfl) (fun _ _ _ => rfl)
    (fun t => by rw [left1_2]; unfold Dat.blockOf blk1; rw [arrays1]; try rfl) t d).trans
    (by unfold Dat.fetched Dat.blockOf blk1; rw [arrays1]; try rfl)
theorem found1_3 (c : Dev nD) (t : Fin cfg1.N) (d) : (dat1 V c).before 3 t d = blk1 V c 3 t :=
  ((dat1 V c).before_in_eq_fetched 3 rfl (fun _ => rfl) (fun _ _ _ => rfl)
    (fun t => by rw [left1_3]; unfold Dat.blockOf blk1; rw [arrays1]; try rfl) t d).trans
    (by unfold Dat.fetched Dat.blockOf blk1; rw [arrays1]; try rfl)
theorem found1_4 (c : Dev nD) (t : Fin cfg1.N) (h : ¬t.val % 8 = 0) (d) : (dat1 V c).before 4 t d = (prev1 V c t).1 := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]
theorem idle1_6 : ∀ t : Fin cfg1.N, cfg1.idle 6 (cfg1.grid.coords t) = true → ¬t.val % 8 = 0 := by
  have h : ∀ t : Fin grid1.N, cfg1.idle 6 (cfg1.grid.coords t) = true → ¬t.val % 8 = 0 := by decide +kernel
  exact h
theorem filled1_6 : ∀ t : Fin cfg1.N, ¬t.val % 8 = 0 → cfg1.fresh 6 t.val = false := by
  have h : ∀ t : Fin grid1.N, ¬t.val % 8 = 0 → cfg1.fresh 6 t.val = false := by decide +kernel
  exact h
theorem carry1_6 (c : Dev nD) (t : Fin cfg1.N) (hi : cfg1.idle 6 (cfg1.grid.coords t) = true) :
    (dat1 V c).after 6 t = (dat1 V c).after 6 ⟨t.val - 1, by omega⟩ := by
  have hi := idle1_6 t hi
  rw [left1_6, left1_6]
  rw [kept1_later V c t hi]; rfl
theorem found1_6 (c : Dev nD) (t : Fin cfg1.N) (h : ¬t.val % 8 = 0) (d) : (dat1 V c).before 6 t d = (prev1 V c t).2 := by
  rw [(dat1 V c).before_out_traj 6 rfl (fun _ _ => rfl) (fun t _ hi _ => carry1_6 V c t hi) t.val t rfl d, filled1_6 t h, if_neg Bool.false_ne_true]
  dsimp only [dat1]

def pre1 (c : Dev nD) (t : Fin cfg1.N) : sProp 𝕄 :=
  iprop((dat1 V c).Φ t.castSucc ∗ (dat1 V c).owesAt () t.castSucc
    ∗ (∃ d, owns (c : Thread nD τ) (mem1_0 t) fullShare ((dat1 V c).before 0 t d)) ∗ (∃ d, owns (c : Thread nD τ) (mem1_1 t) fullShare ((dat1 V c).before 1 t d)) ∗ (∃ d, owns (c : Thread nD τ) (mem1_2 t) fullShare ((dat1 V c).before 2 t d)) ∗ (∃ d, owns (c : Thread nD τ) (mem1_3 t) fullShare ((dat1 V c).before 3 t d)) ∗ (∃ d, owns (c : Thread nD τ) (mem1_4 t) fullShare ((dat1 V c).before 4 t d)) ∗ (∃ d, owns (c : Thread nD τ) (mem1_5 t) fullShare ((dat1 V c).before 5 t d)) ∗ (∃ d, owns (c : Thread nD τ) (mem1_6 t) fullShare ((dat1 V c).before 6 t d)))

def post1 (c : Dev nD) (t : Fin cfg1.N) : sProp 𝕄 :=
  iprop((dat1 V c).Φ t.succ ∗ (dat1 V c).owesAt () t.succ
    ∗ owns (c : Thread nD τ) (mem1_0 t) fullShare ((dat1 V c).after 0 t) ∗ owns (c : Thread nD τ) (mem1_1 t) fullShare ((dat1 V c).after 1 t) ∗ owns (c : Thread nD τ) (mem1_2 t) fullShare ((dat1 V c).after 2 t) ∗ owns (c : Thread nD τ) (mem1_3 t) fullShare ((dat1 V c).after 3 t) ∗ owns (c : Thread nD τ) (mem1_4 t) fullShare ((dat1 V c).after 4 t) ∗ owns (c : Thread nD τ) (mem1_5 t) fullShare ((dat1 V c).after 5 t) ∗ owns (c : Thread nD τ) (mem1_6 t) fullShare ((dat1 V c).after 6 t))

/-- The body at any grid point. -/
theorem point1 (c : Dev nD) (t : Fin cfg1.N) :
    pre1 V c t ⊢ wp frame (wpE (defs₀ (F := F)) Variants.none c none) Set.univ (bodyAt1 t) (fun _ => post1 V c t) := by
  have hN : t.val < 64 := lt_of_lt_of_eq t.isLt (show cfg1.N = 64 from N_1)
  unfold pre1 post1 bodyAt1
  simp only [found1_0, found1_1, found1_2, found1_3]
  rw [show (dat1 V c).Φ t.succ = (dat1 V c).Φ t.castSucc from rfl,
    show (dat1 V c).owesAt () t.succ = (dat1 V c).owesAt () t.castSucc from rfl,
    left1_0, left1_1, left1_2, left1_3, left1_4, left1_5, left1_6]
  by_cases h : t.val % 8 = 0
  · rw [kept1_first V c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (first1 c (grid1.coords t) _ _ _ _ _ _ _ _ _ _ _ _ _ _ ((starts1_iff t).mpr h) (blk1 V c 0 t) (blk1 V c 1 t) (blk1 V c 2 t) (blk1 V c 3 t) ((dat1 V c).before 4 t d4) ((dat1 V c).before 5 t d5) ((dat1 V c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [found1_4 V c t h, found1_6 V c t h]
    rw [kept1_later V c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (later1 c (grid1.coords t) _ _ _ _ _ _ _ _ _ _ _ _ _ _ (fun h' => h ((starts1_iff t).mp h')) (blk1 V c 0 t) (blk1 V c 1 t) (blk1 V c 2 t) (blk1 V c 3 t) (prev1 V c t).1 ((dat1 V c).before 5 t d5) (prev1 V c t).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem settled1_6 (c : Dev nD) (t : Fin cfg1.N) (h : cfg1.idle 6 (cfg1.grid.coords t) = true) (d) : (dat1 V c).before 6 t d = (dat1 V c).after 6 t := by
  have hi := idle1_6 t h
  rw [found1_6 V c t hi d, left1_6]
  rw [kept1_later V c t hi]; rfl

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, row1]
  exact triple_restated (point1 V c t) rfl .rfl fun _ => (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono BIBase.Entails.rfl (settle (dat1 V c) 6 t fun h => settled1_6 V c t h)))))))))

end Data1

end Cert.Kernel2Ideal.Ffn
-- ==== Proof.Kernel2Ideal.Run.lean ====
module

public import proofs.«01_k».proof.Proof.Kernel2Ideal.Fwd
public import proofs.«01_k».proof.Proof.Kernel2Ideal.Bwd
public import proofs.«01_k».proof.Proof.Kernel2Ideal.Rms
public import proofs.«01_k».proof.Proof.Kernel2Ideal.Mm
public import proofs.«01_k».proof.Proof.Gen.Kernel2Ideal.Regions
public import Idealize.ShloMosaic.Lib.Pipeline.RegionsLoop
public import Idealize.ShloMosaic.Lib.Pipeline.FrameSuffix

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4]

/-! # The buffers along the run -/

/-- The buffers at the launch, which the forward call is entered with. -/
abbrev at0 : Dev nD → Valuation τ sig (Elt F) := fun c b => (s₀ m ρ).mem ((c : Dev nD), b)
theorem at0_args (c : Dev nD) : ∀ a ∈ argRefs, at0 m ρ c (Proc.devRef .tc a) = m ((c : Thread nD τ).loc a) := fun _ _ => rfl

/-- The buffers after the forward call: its arrays at what its grid leaves, every other buffer untouched. -/
def at1 (c : Dev nD) : Valuation τ sig (Elt F) :=
  Pipeline.withArrays spec0 c (at0 m ρ c) fun w => (dat0 (fun c b => at0 m ρ c b) c).arrAt w cfg0.N
theorem at1_arr (c : Dev nD) (w : Fin cfg0.W) :
    at1 m ρ c (Proc.devRef .tc (Pipeline.arrRef spec0 w)) = (dat0 (fun c b => at0 m ρ c b) c).arrAt w cfg0.N := by
  unfold at1; exact Pipeline.withArrays_arr spec0 launch0.win.arr_inj c _ _ w
theorem at1_other (c : Dev nD) (b : Ref sig .tc) (hb : ∀ w, Pipeline.arrRef spec0 w ≠ b) :
    at1 m ρ c (Proc.devRef .tc b) = at0 m ρ c (Proc.devRef .tc b) := by
  unfold at1; exact Pipeline.withArrays_of_ne spec0 c _ _ b hb
/-- A buffer that is no result of the forward call is as before it. -/
theorem at1_keeps (c : Dev nD) (r : Ref sig .tc) (h : ∀ w : Fin cfg0.W, Pipeline.arrRef spec0 w = r → (cfg0.win w).isOut = false) :
    at1 m ρ c (Proc.devRef .tc r) = at0 m ρ c (Proc.devRef .tc r) := by
  by_cases hw : ∃ w : Fin cfg0.W, Pipeline.arrRef spec0 w = r
  · obtain ⟨w, rfl⟩ := hw
    exact (at1_arr m ρ c w).trans (((dat0 (fun c b => at0 m ρ c b) c).arrAt_in w (h w rfl) _).trans (arrays0 (fun c b => at0 m ρ c b) c w))
  · exact at1_other m ρ c r fun w e => hw ⟨w, e⟩
theorem at1_ins : ∀ a ∈ argRefs, ∀ w : Fin cfg0.W, Pipeline.arrRef spec0 w = a → (cfg0.win w).isOut = false :=
  ListAll.forall_mem_of_all_decide (by decide +kernel)
theorem at1_args (c : Dev nD) : ∀ a ∈ argRefs, at1 m ρ c (Proc.devRef .tc a) = m ((c : Thread nD τ).loc a) :=
  fun a ha => (at1_keeps m ρ c a (at1_ins a ha)).trans (at0_args m ρ c a ha)
theorem at1_exit (c : Dev nD) (w : Fin cfg0.W) :
    (dat0 (fun c b => at0 m ρ c b) c).arrAt w cfg0.N = (fun b : Ref sig .tc => at1 m ρ c b) (Pipeline.arrRef spec0 w) :=
  (at1_arr m ρ c w).symm
theorem at1_rest (c : Dev nD) : ∀ b, b ∉ Finset.univ.image (Pipeline.arrRef spec0) → at1 m ρ c (Proc.devRef .tc b) = at0 m ρ c (Proc.devRef .tc b) :=
  fun b hb => at1_other m ρ c b fun w e => hb (Finset.mem_image.mpr ⟨w, Finset.mem_univ _, e⟩)

/-- The buffers after the backward call: its arrays at what its grid leaves, every other buffer untouched. -/
def at2 (c : Dev nD) : Valuation τ sig (Elt F) :=
  Pipeline.withArrays spec1 c (at1 m ρ c) fun w => (dat1 (fun c b => at1 m ρ c b) c).arrAt w cfg1.N
theorem at2_arr (c : Dev nD) (w : Fin cfg1.W) :
    at2 m ρ c (Proc.devRef .tc (Pipeline.arrRef spec1 w)) = (dat1 (fun c b => at1 m ρ c b) c).arrAt w cfg1.N := by
  unfold at2; exact Pipeline.withArrays_arr spec1 launch1.win.arr_inj c _ _ w
theorem at2_other (c : Dev nD) (b : Ref sig .tc) (hb : ∀ w, Pipeline.arrRef spec1 w ≠ b) :
    at2 m ρ c (Proc.devRef .tc b) = at1 m ρ c (Proc.devRef .tc b) := by
  unfold at2; exact Pipeline.withArrays_of_ne spec1 c _ _ b hb
/-- A buffer that is no result of the backward call is as before it. -/
theorem at2_keeps (c : Dev nD) (r : Ref sig .tc) (h : ∀ w : Fin cfg1.W, Pipeline.arrRef spec1 w = r → (cfg1.win w).isOut = false) :
    at2 m ρ c (Proc.devRef .tc r) = at1 m ρ c (Proc.devRef .tc r) := by
  by_cases hw : ∃ w : Fin cfg1.W, Pipeline.arrRef spec1 w = r
  · obtain ⟨w, rfl⟩ := hw
    exact (at2_arr m ρ c w).trans (((dat1 (fun c b => at1 m ρ c b) c).arrAt_in w (h w rfl) _).trans (arrays1 (fun c b => at1 m ρ c b) c w))
  · exact at2_other m ρ c r fun w e => hw ⟨w, e⟩
theorem at2_ins : ∀ a ∈ argRefs, ∀ w : Fin cfg1.W, Pipeline.arrRef spec1 w = a → (cfg1.win w).isOut = false :=
  ListAll.forall_mem_of_all_decide (by decide +kernel)
theorem at2_args (c : Dev nD) : ∀ a ∈ argRefs, at2 m ρ c (Proc.devRef .tc a) = m ((c : Thread nD τ).loc a) :=
  fun a ha => (at2_keeps m ρ c a (at2_ins a ha)).trans (at1_args m ρ c a ha)
theorem at2_exit (c : Dev nD) (w : Fin cfg1.W) :
    (dat1 (fun c b => at1 m ρ c b) c).arrAt w cfg1.N = (fun b : Ref sig .tc => at2 m ρ c b) (Pipeline.arrRef spec1 w) :=
  (at2_arr m ρ c w).symm
theorem at2_rest (c : Dev nD) : ∀ b, b ∉ Finset.univ.image (Pipeline.arrRef spec1) → at2 m ρ c (Proc.devRef .tc b) = at1 m ρ c (Proc.devRef .tc b) :=
  fun b hb => at2_other m ρ c b fun w e => hb (Finset.mem_image.mpr ⟨w, Finset.mem_univ _, e⟩)

/-- The buffers the gate-and-up weight gradient is entered with: the host's regrouped gradient written. -/
abbrev at3 : Dev nD → Valuation τ sig (Elt F) := fun c => StableHlo.after hostOps2 (at2 m ρ c)
theorem at3_keeps (c : Dev nD) (r : Ref sig .tc) (h : r ∉ hostOps2_W) : at3 m ρ c (Proc.devRef .tc r) = at2 m ρ c (Proc.devRef .tc r) :=
  StableHlo.after_of_writes_sub hostOps2 _ hostOps2_writes h
theorem args_unwritten : ∀ a ∈ argRefs, a ∉ hostOps2_W := ListAll.forall_mem_of_all_decide (by decide +kernel)
theorem at3_args (c : Dev nD) : ∀ a ∈ argRefs, at3 m ρ c (Proc.devRef .tc a) = m ((c : Thread nD τ).loc a) :=
  fun a ha => (at3_keeps m ρ c a (args_unwritten a ha)).trans (at2_args m ρ c a ha)

/-- The buffers after the gate-and-up weight gradient: its arrays at what its grid leaves, every other buffer untouched. -/
def at4 (c : Dev nD) : Valuation τ sig (Elt F) :=
  Pipeline.withArrays spec2 c (at3 m ρ c) fun w => (dat2 (fun c b => at3 m ρ c b) c).arrAt w cfg2.N
theorem at4_arr (c : Dev nD) (w : Fin cfg2.W) :
    at4 m ρ c (Proc.devRef .tc (Pipeline.arrRef spec2 w)) = (dat2 (fun c b => at3 m ρ c b) c).arrAt w cfg2.N := by
  unfold at4; exact Pipeline.withArrays_arr spec2 launch2.win.arr_inj c _ _ w
theorem at4_other (c : Dev nD) (b : Ref sig .tc) (hb : ∀ w, Pipeline.arrRef spec2 w ≠ b) :
    at4 m ρ c (Proc.devRef .tc b) = at3 m ρ c (Proc.devRef .tc b) := by
  unfold at4; exact Pipeline.withArrays_of_ne spec2 c _ _ b hb
/-- A buffer that is no result of the gate-and-up weight gradient is as before it. -/
theorem at4_keeps (c : Dev nD) (r : Ref sig .tc) (h : ∀ w : Fin cfg2.W, Pipeline.arrRef spec2 w = r → (cfg2.win w).isOut = false) :
    at4 m ρ c (Proc.devRef .tc r) = at3 m ρ c (Proc.devRef .tc r) := by
  by_cases hw : ∃ w : Fin cfg2.W, Pipeline.arrRef spec2 w = r
  · obtain ⟨w, rfl⟩ := hw
    exact (at4_arr m ρ c w).trans (((dat2 (fun c b => at3 m ρ c b) c).arrAt_in w (h w rfl) _).trans (arrays2 (fun c b => at3 m ρ c b) c w))
  · exact at4_other m ρ c r fun w e => hw ⟨w, e⟩
theorem at4_ins : ∀ a ∈ argRefs, ∀ w : Fin cfg2.W, Pipeline.arrRef spec2 w = a → (cfg2.win w).isOut = false :=
  ListAll.forall_mem_of_all_decide (by decide +kernel)
theorem at4_args (c : Dev nD) : ∀ a ∈ argRefs, at4 m ρ c (Proc.devRef .tc a) = m ((c : Thread nD τ).loc a) :=
  fun a ha => (at4_keeps m ρ c a (at4_ins a ha)).trans (at3_args m ρ c a ha)
theorem at4_exit (c : Dev nD) (w : Fin cfg2.W) :
    (dat2 (fun c b => at3 m ρ c b) c).arrAt w cfg2.N = (fun b : Ref sig .tc => at4 m ρ c b) (Pipeline.arrRef spec2 w) :=
  (at4_arr m ρ c w).symm
theorem at4_rest (c : Dev nD) : ∀ b, b ∉ Finset.univ.image (Pipeline.arrRef spec2) → at4 m ρ c (Proc.devRef .tc b) = at3 m ρ c (Proc.devRef .tc b) :=
  fun b hb => at4_other m ρ c b fun w e => hb (Finset.mem_image.mpr ⟨w, Finset.mem_univ _, e⟩)

/-- The buffers after the norm's backward call: its arrays at what its grid leaves, every other buffer untouched. -/
def at5 (c : Dev nD) : Valuation τ sig (Elt F) :=
  Pipeline.withArrays spec3 c (at4 m ρ c) fun w => (dat3 (fun c b => at4 m ρ c b) c).arrAt w cfg3.N
theorem at5_arr (c : Dev nD) (w : Fin cfg3.W) :
    at5 m ρ c (Proc.devRef .tc (Pipeline.arrRef spec3 w)) = (dat3 (fun c b => at4 m ρ c b) c).arrAt w cfg3.N := by
  unfold at5; exact Pipeline.withArrays_arr spec3 launch3.win.arr_inj c _ _ w
theorem at5_other (c : Dev nD) (b : Ref sig .tc) (hb : ∀ w, Pipeline.arrRef spec3 w ≠ b) :
    at5 m ρ c (Proc.devRef .tc b) = at4 m ρ c (Proc.devRef .tc b) := by
  unfold at5; exact Pipeline.withArrays_of_ne spec3 c _ _ b hb
/-- A buffer that is no result of the norm's backward call is as before it. -/
theorem at5_keeps (c : Dev nD) (r : Ref sig .tc) (h : ∀ w : Fin cfg3.W, Pipeline.arrRef spec3 w = r → (cfg3.win w).isOut = false) :
    at5 m ρ c (Proc.devRef .tc r) = at4 m ρ c (Proc.devRef .tc r) := by
  by_cases hw : ∃ w : Fin cfg3.W, Pipeline.arrRef spec3 w = r
  · obtain ⟨w, rfl⟩ := hw
    exact (at5_arr m ρ c w).trans (((dat3 (fun c b => at4 m ρ c b) c).arrAt_in w (h w rfl) _).trans (arrays3 (fun c b => at4 m ρ c b) c w))
  · exact at5_other m ρ c r fun w e => hw ⟨w, e⟩
theorem at5_ins : ∀ a ∈ argRefs, ∀ w : Fin cfg3.W, Pipeline.arrRef spec3 w = a → (cfg3.win w).isOut = false :=
  ListAll.forall_mem_of_all_decide (by decide +kernel)
theorem at5_args (c : Dev nD) : ∀ a ∈ argRefs, at5 m ρ c (Proc.devRef .tc a) = m ((c : Thread nD τ).loc a) :=
  fun a ha => (at5_keeps m ρ c a (at5_ins a ha)).trans (at4_args m ρ c a ha)
theorem at5_exit (c : Dev nD) (w : Fin cfg3.W) :
    (dat3 (fun c b => at4 m ρ c b) c).arrAt w cfg3.N = (fun b : Ref sig .tc => at5 m ρ c b) (Pipeline.arrRef spec3 w) :=
  (at5_arr m ρ c w).symm
theorem at5_rest (c : Dev nD) : ∀ b, b ∉ Finset.univ.image (Pipeline.arrRef spec3) → at5 m ρ c (Proc.devRef .tc b) = at4 m ρ c (Proc.devRef .tc b) :=
  fun b hb => at5_other m ρ c b fun w e => hb (Finset.mem_image.mpr ⟨w, Finset.mem_univ _, e⟩)

/-- The buffers after the down weight gradient: its arrays at what its grid leaves, every other buffer untouched. -/
def at6 (c : Dev nD) : Valuation τ sig (Elt F) :=
  Pipeline.withArrays spec4 c (at5 m ρ c) fun w => (dat4 (fun c b => at5 m ρ c b) c).arrAt w cfg4.N
theorem at6_arr (c : Dev nD) (w : Fin cfg4.W) :
    at6 m ρ c (Proc.devRef .tc (Pipeline.arrRef spec4 w)) = (dat4 (fun c b => at5 m ρ c b) c).arrAt w cfg4.N := by
  unfold at6; exact Pipeline.withArrays_arr spec4 launch4.win.arr_inj c _ _ w
theorem at6_other (c : Dev nD) (b : Ref sig .tc) (hb : ∀ w, Pipeline.arrRef spec4 w ≠ b) :
    at6 m ρ c (Proc.devRef .tc b) = at5 m ρ c (Proc.devRef .tc b) := by
  unfold at6; exact Pipeline.withArrays_of_ne spec4 c _ _ b hb
/-- A buffer that is no result of the down weight gradient is as before it. -/
theorem at6_keeps (c : Dev nD) (r : Ref sig .tc) (h : ∀ w : Fin cfg4.W, Pipeline.arrRef spec4 w = r → (cfg4.win w).isOut = false) :
    at6 m ρ c (Proc.devRef .tc r) = at5 m ρ c (Proc.devRef .tc r) := by
  by_cases hw : ∃ w : Fin cfg4.W, Pipeline.arrRef spec4 w = r
  · obtain ⟨w, rfl⟩ := hw
    exact (at6_arr m ρ c w).trans (((dat4 (fun c b => at5 m ρ c b) c).arrAt_in w (h w rfl) _).trans (arrays4 (fun c b => at5 m ρ c b) c w))
  · exact at6_other m ρ c r fun w e => hw ⟨w, e⟩
theorem at6_ins : ∀ a ∈ argRefs, ∀ w : Fin cfg4.W, Pipeline.arrRef spec4 w = a → (cfg4.win w).isOut = false :=
  ListAll.forall_mem_of_all_decide (by decide +kernel)
theorem at6_args (c : Dev nD) : ∀ a ∈ argRefs, at6 m ρ c (Proc.devRef .tc a) = m ((c : Thread nD τ).loc a) :=
  fun a ha => (at6_keeps m ρ c a (at6_ins a ha)).trans (at5_args m ρ c a ha)
theorem at6_exit (c : Dev nD) (w : Fin cfg4.W) :
    (dat4 (fun c b => at5 m ρ c b) c).arrAt w cfg4.N = (fun b : Ref sig .tc => at6 m ρ c b) (Pipeline.arrRef spec4 w) :=
  (at6_arr m ρ c w).symm
theorem at6_rest (c : Dev nD) : ∀ b, b ∉ Finset.univ.image (Pipeline.arrRef spec4) → at6 m ρ c (Proc.devRef .tc b) = at5 m ρ c (Proc.devRef .tc b) :=
  fun b hb => at6_other m ρ c b fun w e => hb (Finset.mem_image.mpr ⟨w, Finset.mem_univ _, e⟩)

/-! # The segments -/

abbrev admits : (p : Fin 5) → (pcfgs (F := F) p).Adm := fun p => (cfgs p).toPCfg_adm
/-- Each call's proof data, at the buffers it is entered with. -/
def dats : (p : Fin 5) → (c : Dev nD) → Dat τ (Elt F) Unit ℕ (UR sig nD τ) ℕ (Pipeline.pin (pcfgs (F := F)) admits p) c
  | ⟨0, _⟩ => fun c => dat0 (fun c b => at0 m ρ c b) c
  | ⟨1, _⟩ => fun c => dat1 (fun c b => at1 m ρ c b) c
  | ⟨2, _⟩ => fun c => dat2 (fun c b => at3 m ρ c b) c
  | ⟨3, _⟩ => fun c => dat3 (fun c b => at4 m ρ c b) c
  | ⟨4, _⟩ => fun c => dat4 (fun c b => at5 m ρ c b) c
abbrev noLevels : GSem nD τ sig → Finset Unit := fun _ => ∅
abbrev zeroLevel : GSem nD τ sig → Unit → ℕ := fun _ _ => 0
/-- What rides along beside the buffers. -/
abbrev ride (c : Dev nD) : sProp 𝕄 := iprop((∃ r, prngReg c r) ∗ ∃ W, owes (c : Thread nD τ) (0 : CellTallies nD τ sig Unit) W)
abbrev hostSeg : Pipeline.HostSeg (Name := ℕ) (U := UR sig nD τ) (pcfgs (F := F)) defs₀ Variants.none noLevels zeroLevel :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (at2 m ρ) ride

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the run ends in. -/
abbrev final (c : Dev nD) : sProp 𝕄 := iprop(StableHlo.held (c : Thread nD τ) (Pipeline.ucRefs τ sig) (at6 m ρ c) ∗ ∃ r, prngReg c r)

set_option backward.isDefEq.respectTransparency.types false in
/-- The forward call as a segment of the run, from the buffers `at0` to the buffers `at1`. -/
def region0 : Pipeline.RegionSeg (pcfgs (F := F)) admits (dats m ρ) () defs₀ Variants.none noLevels zeroLevel 0 where
  win := launch0.win.to₀
  block_pos := launch0.block_pos
  stage_whole := launch0.stage_whole
  K := PEmpty
  osem k := k.elim
  ho := Pipeline.OwnSemFacts.none _
  hbody c := (obligation0 (fun c b => at0 m ρ c b) c).loose
  hwaits := Pipeline.hwaits_of_owed_zero _ _ _ _ noLevels zeroLevel 0 fun _ _ => rfl
  pre c := iprop(StableHlo.held (c : Thread nD τ) (Pipeline.ucRefs τ sig) (at0 m ρ c) ∗ ride c)
  post c := iprop(StableHlo.held (c : Thread nD τ) (Pipeline.ucRefs τ sig) (at1 m ρ c) ∗ ride c)
  X c := iprop(∃ r, prngReg c r)
  Y c := iprop(∃ r, prngReg c r)
  Z c := Pipeline.unscopedRest (Ix := Unit) (Name := ℕ) (U := UR sig nD τ) (Lvl := ℕ) spec0 c (fun b => at0 m ρ c b)
  hentry c := by
    rw [Pipeline.ownSems0_none]
    have hsplit := Pipeline.arrays_of_unscopedBufs_shared (p := 0) (pcfgs (F := F)) admits (dats m ρ) launch0.to₀.win launch0.to₀.sharedIn launch0.arr_whole c
      (fun _ _ => rfl) (fun b => at0 m ρ c b) (arrays0 (fun c b => at0 m ρ c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) admits (Ix := Unit) (Name := ℕ) (U := UR sig nD τ) (Lvl := ℕ)
      launch0.to₀.win launch0.to₀.sharedIn launch0.arr_whole c (dats m ρ) (fun _ _ => rfl)
      (fun b => at0 m ρ c b) (fun b => at1 m ρ c b) ((dats m ρ 0 c).arrAt · cfg0.N) (at1_exit m ρ c) (at1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment of the run, from the buffers `at1` to the buffers `at2`. -/
def region1 : Pipeline.RegionSeg (pcfgs (F := F)) admits (dats m ρ) () defs₀ Variants.none noLevels zeroLevel 1 where
  win := launch1.win.to₀
  block_pos := launch1.block_pos
  stage_whole := launch1.stage_whole
  K := PEmpty
  osem k := k.elim
  ho := Pipeline.OwnSemFacts.none _
  hbody c := (obligation1 (fun c b => at1 m ρ c b) c).loose
  hwaits := Pipeline.hwaits_of_owed_zero _ _ _ _ noLevels zeroLevel 1 fun _ _ => rfl
  pre c := iprop(StableHlo.held (c : Thread nD τ) (Pipeline.ucRefs τ sig) (at1 m ρ c) ∗ ride c)
  post c := iprop(StableHlo.held (c : Thread nD τ) (Pipeline.ucRefs τ sig) (at2 m ρ c) ∗ ride c)
  X c := iprop(∃ r, prngReg c r)
  Y c := iprop(∃ r, prngReg c r)
  Z c := Pipeline.unscopedRest (Ix := Unit) (Name := ℕ) (U := UR sig nD τ) (Lvl := ℕ) spec1 c (fun b => at1 m ρ c b)
  hentry c := by
    rw [Pipeline.ownSems0_none]
    have hsplit := Pipeline.arrays_of_unscopedBufs_shared (p := 1) (pcfgs (F := F)) admits (dats m ρ) launch1.to₀.win launch1.to₀.sharedIn launch1.arr_whole c
      (fun _ _ => rfl) (fun b => at1 m ρ c b) (arrays1 (fun c b => at1 m ρ c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (dats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) admits (Ix := Unit) (Name := ℕ) (U := UR sig nD τ) (Lvl := ℕ)
      launch1.to₀.win launch1.to₀.sharedIn launch1.arr_whole c (dats m ρ) (fun _ _ => rfl)
      (fun b => at1 m ρ c b) (fun b => at2 m ρ c b) ((dats m ρ 1 c).arrAt · cfg1.N) (at2_exit m ρ c) (at2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gate-and-up weight gradient as a segment of the run, from the buffers `at3` to the buffers `at4`. -/
def region2 : Pipeline.RegionSeg (pcfgs (F := F)) admits (dats m ρ) () defs₀ Variants.none noLevels zeroLevel 2 where
  win := launch2.win.to₀
  block_pos := launch2.block_pos
  stage_whole := launch2.stage_whole
  K := PEmpty
  osem k := k.elim
  ho := Pipeline.OwnSemFacts.none _
  hbody c := (obligation2 (fun c b => at3 m ρ c b) c).loose
  hwaits := Pipeline.hwaits_of_owed_zero _ _ _ _ noLevels zeroLevel 2 fun _ _ => rfl
  pre c := iprop(StableHlo.held (c : Thread nD τ) (Pipeline.ucRefs τ sig) (at3 m ρ c) ∗ ride c)
  post c := iprop(StableHlo.held (c : Thread nD τ) (Pipeline.ucRefs τ sig) (at4 m ρ c) ∗ ride c)
  X c := iprop(∃ r, prngReg c r)
  Y c := iprop(∃ r, prngReg c r)
  Z c := Pipeline.unscopedRest (Ix := Unit) (Name := ℕ) (U := UR sig nD τ) (Lvl := ℕ) spec2 c (fun b => at3 m ρ c b)
  hentry c := by
    rw [Pipeline.ownSems0_none]
    have hsplit := Pipeline.arrays_of_unscopedBufs_shared (p := 2) (pcfgs (F := F)) admits (dats m ρ) launch2.to₀.win launch2.to₀.sharedIn launch2.arr_whole c
      (fun _ _ => rfl) (fun b => at3 m ρ c b) (arrays2 (fun c b => at3 m ρ c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (dats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) admits (Ix := Unit) (Name := ℕ) (U := UR sig nD τ) (Lvl := ℕ)
      launch2.to₀.win launch2.to₀.sharedIn launch2.arr_whole c (dats m ρ) (fun _ _ => rfl)
      (fun b => at3 m ρ c b) (fun b => at4 m ρ c b) ((dats m ρ 2 c).arrAt · cfg2.N) (at4_exit m ρ c) (at4_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The norm's backward call as a segment of the run, from the buffers `at4` to the buffers `at5`. -/
def region3 : Pipeline.RegionSeg (pcfgs (F := F)) admits (dats m ρ) () defs₀ Variants.none noLevels zeroLevel 3 where
  win := launch3.win.to₀
  block_pos := launch3.block_pos
  stage_whole := launch3.stage_whole
  K := PEmpty
  osem k := k.elim
  ho := Pipeline.OwnSemFacts.none _
  hbody c := (obligation3 (fun c b => at4 m ρ c b) c).loose
  hwaits := Pipeline.hwaits_of_owed_zero _ _ _ _ noLevels zeroLevel 3 fun _ _ => rfl
  pre c := iprop(StableHlo.held (c : Thread nD τ) (Pipeline.ucRefs τ sig) (at4 m ρ c) ∗ ride c)
  post c := iprop(StableHlo.held (c : Thread nD τ) (Pipeline.ucRefs τ sig) (at5 m ρ c) ∗ ride c)
  X c := iprop(∃ r, prngReg c r)
  Y c := iprop(∃ r, prngReg c r)
  Z c := Pipeline.unscopedRest (Ix := Unit) (Name := ℕ) (U := UR sig nD τ) (Lvl := ℕ) spec3 c (fun b => at4 m ρ c b)
  hentry c := by
    rw [Pipeline.ownSems0_none]
    have hsplit := Pipeline.arrays_of_unscopedBufs_shared (p := 3) (pcfgs (F := F)) admits (dats m ρ) launch3.to₀.win launch3.to₀.sharedIn launch3.arr_whole c
      (fun _ _ => rfl) (fun b => at4 m ρ c b) (arrays3 (fun c b => at4 m ρ c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (dats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) admits (Ix := Unit) (Name := ℕ) (U := UR sig nD τ) (Lvl := ℕ)
      launch3.to₀.win launch3.to₀.sharedIn launch3.arr_whole c (dats m ρ) (fun _ _ => rfl)
      (fun b => at4 m ρ c b) (fun b => at5 m ρ c b) ((dats m ρ 3 c).arrAt · cfg3.N) (at5_exit m ρ c) (at5_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down weight gradient as a segment of the run, from the buffers `at5` to the buffers `at6`. -/
def region4 : Pipeline.RegionSeg (pcfgs (F := F)) admits (dats m ρ) () defs₀ Variants.none noLevels zeroLevel 4 where
  win := launch4.win.to₀
  block_pos := launch4.block_pos
  stage_whole := launch4.stage_whole
  K := PEmpty
  osem k := k.elim
  ho := Pipeline.OwnSemFacts.none _
  hbody c := (obligation4 (fun c b => at5 m ρ c b) c).loose
  hwaits := Pipeline.hwaits_of_owed_zero _ _ _ _ noLevels zeroLevel 4 fun _ _ => rfl
  pre c := iprop(StableHlo.held (c : Thread nD τ) (Pipeline.ucRefs τ sig) (at5 m ρ c) ∗ ride c)
  post c := iprop(final m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (fun b => at5 m ρ c b)
  hentry c := by
    rw [Pipeline.ownSems0_none]
    have hsplit := Pipeline.arrays_of_unscopedBufs_shared (p := 4) (pcfgs (F := F)) admits (dats m ρ) launch4.to₀.win launch4.to₀.sharedIn launch4.arr_whole c
      (fun _ _ => rfl) (fun b => at5 m ρ c b) (arrays4 (fun c b => at5 m ρ c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (dats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays_shared (p := 4) (pcfgs (F := F)) admits (Ix := Unit) (Name := ℕ) (U := UR sig nD τ) (Lvl := ℕ)
      launch4.to₀.win launch4.to₀.sharedIn launch4.arr_whole c (dats m ρ) (fun _ _ => rfl)
      (fun b => at5 m ρ c b) (fun b => at6 m ρ c b) ((dats m ρ 4 c).arrAt · cfg4.N) (at6_exit m ρ c) (at6_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The run -/

abbrev segments : List (Pipeline.Seg (pcfgs (F := F)) admits (dats m ρ) () defs₀ Variants.none noLevels zeroLevel) :=
  [.region (region0 m ρ), .region (region1 m ρ), .host (hostSeg m ρ), .region (region2 m ρ), .region (region3 m ρ), .region (region4 m ρ)]

theorem main_eq (c : Dev nD) : main (F := F) c = Pipeline.Seg.run (segments m ρ) := (main_chain c).trans (by chain_rfl)

theorem all_scoped : ∀ sm : SemLoc sig, sm.isScoped .tc = true := by decide

set_option backward.isDefEq.respectTransparency.types false in
/-- Every run from memory `m` ends, with every buffer the calls do not own at `at6` and every semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = at6 m ρ c b) ∧ r.2.sem = fun _ => 0) :=
  Pipeline.θ_run_regions_kit_sems (pcfgs (F := F)) admits (dats m ρ) () cellOf_inj emb₁ defs₀ Variants.none noLevels zeroLevel m ρ main (segments m ρ)
    (fun c Q => by rw [main_eq m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ ride c)) (Tₙ := final m ρ)
    (hch := ⟨fun _ => .rfl, fun _ => .rfl, fun _ => .rfl, fun _ => .rfl, fun _ => .rfl, fun _ => .rfl, fun _ => .rfl⟩)
    (hinit := by
      refine Pipeline.initEach noLevels zeroLevel fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at6 m ρ c b)
    (hfin := fun c s' => by
      iintro ⟨⟨Hh, -⟩, HSI⟩
      unfold StableHlo.held
      imodintro
      iapply (pointsTo_read_all (Pipeline.ucRefs τ sig) (fun b => (((c : Thread nD τ)).1, b)) (at6 m ρ c) s')
      isplitl [Hh] <;> iassumption)
    (hQ := fun s h hz => ⟨h, funext fun g => hz g (.inr (all_scoped g.2))⟩)

/-- The arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_unscoped main_arg0 (by decide))).trans (at6_args m ρ c main_arg0 (by decide)),
     (h.1 c _ (mem_unscoped main_arg1 (by decide))).trans (at6_args m ρ c main_arg1 (by decide)),
     (h.1 c _ (mem_unscoped main_arg2 (by decide))).trans (at6_args m ρ c main_arg2 (by decide)),
     (h.1 c _ (mem_unscoped main_arg3 (by decide))).trans (at6_args m ρ c main_arg3 (by decide)),
     (h.1 c _ (mem_unscoped main_arg4 (by decide))).trans (at6_args m ρ c main_arg4 (by decide))⟩, h.2⟩) (run m ρ)

end Cert.Kernel2Ideal.Ffn
-- ==== Proof.Frames.lean ====
module

public import proofs.«01_k».proof.Defs
public import proofs.«01_k».proof.Proof.Gen.Kernel
public import proofs.«01_k».proof.Proof.Gen.Kernel2
public import proofs.«01_k».proof.Proof.KernelIdeal.Run
public import proofs.«01_k».proof.Proof.Kernel2Ideal.Run

/-! # The frames of the two kernels

The idealized text of each kernel is its own text, but for the attention's mask, which has a name there. Where the name reads as the literal it replaced,
the two programs are one, and what was proved of the idealized text over any floats is the kernel's frame. -/

@[expose] public section

set_option maxRecDepth 16384

noncomputable section

namespace Cert.Proof

open Idealize.ShloMosaic Idealize.SL.Sem

/-- Every name reads as the literal it stands for. -/
local instance literals : Named Bits where
  named _ _ {_} bits := Scalar.ofBits _ bits

set_option maxHeartbeats 4000000 in
theorem bodies : Cert.Kernel.defs₀ (F := Bits) = Cert.KernelIdeal.defs₀ (F := Bits) := by
  funext pr l a
  cases pr
  · match l, a with
    | 0, (t, s) => rfl
    | 1, (t, s) => rfl
  all_goals rfl
set_option maxHeartbeats 4000000 in
theorem table : Cert.Kernel.defs (F := Bits) = Cert.KernelIdeal.defs (F := Bits) := congrArg (Pipeline.defs (Cert.Kernel.pcfgs (F := Bits))) bodies
set_option maxHeartbeats 4000000 in
theorem frame : Cert.quiescent_Kernel (hKernel := Cert.Kernel.Gen.facts) := fun m ρ _ =>
  (congrArg (fun D => θ_run D (onTc (Cert.Kernel.main (F := Bits))) ⟨m, fun _ => 0, ρ⟩ _) table).mpr (Cert.KernelIdeal.Fox.frame (F := Bits) m ρ)

set_option maxHeartbeats 4000000 in
theorem bodies2 : Cert.Kernel2.defs₀ (F := Bits) = Cert.Kernel2Ideal.defs₀ (F := Bits) := by
  funext pr l a
  cases pr
  · match l, a with
    | 0, (t, s) => rfl
    | 1, (t, s) => rfl
    | 2, (t, s) => rfl
    | 3, (t, s) => rfl
    | 4, (t, s) => rfl
  all_goals rfl
set_option maxHeartbeats 4000000 in
theorem table2 : Cert.Kernel2.defs (F := Bits) = Cert.Kernel2Ideal.defs (F := Bits) := congrArg (Pipeline.defs (Cert.Kernel2.pcfgs (F := Bits))) bodies2
set_option maxHeartbeats 4000000 in
theorem frame2 : Cert.quiescent_Kernel2 (hKernel2 := Cert.Kernel2.Gen.facts) := fun m ρ _ =>
  (congrArg (fun D => θ_run D (onTc (Cert.Kernel2.main (F := Bits))) ⟨m, fun _ => 0, ρ⟩ _) table2).mpr (Cert.Kernel2Ideal.Ffn.frame (F := Bits) m ρ)

end Cert.Proof

end

end
-- ==== Proof.FfnSpec.lean ====
module

public import proofs.«01_k».proof.Proof.Spec

@[expose] public section

noncomputable section

namespace Cert.Ffn

open Idealize.ShloMosaic

/-! ## The feed-forward half-step, its loss and their gradients over the reals -/

/-- The inputs: the rows, the scale of their normalisation, the gate, up and down weights by hidden unit, and the rows aimed at. -/
structure Ffn where
  x : ℕ → Fin 2048 → ℝ
  g : Fin 2048 → ℝ
  wg : ℕ → Fin 2048 → ℝ
  wu : ℕ → Fin 2048 → ℝ
  wo : ℕ → Fin 2048 → ℝ
  y : ℕ → Fin 2048 → ℝ

/-- The normalisation's small number: the literal both programs carry. -/
def eps : ℝ := (Ideal.ofBits .f32 0x358637BD#32 : EReal).toReal

theorem ofBits_eps : Ideal.ofBits .f32 0x358637BD#32 = (eps : EReal) := by
  unfold eps
  refine (EReal.coe_toReal ?_ ?_).symm <;> simp [Ideal.ofBits, Ideal.ieee] <;> norm_cast
theorem eps_pos : 0 < eps := by
  unfold eps
  simp [Ideal.ofBits, Ideal.ieee]
  norm_cast
  rw [EReal.toReal_coe]
  positivity
theorem ofBits_half : Ideal.ofBits .f32 0x3F000000#32 = ((1 / 2 : ℝ) : EReal) := by
  simp [Ideal.ofBits, Ideal.ieee]; norm_cast; norm_num
theorem ofBits_neg_half : Ideal.ofBits .f32 0xBF000000#32 = ((-(1 / 2) : ℝ) : EReal) := by
  simp [Ideal.ofBits, Ideal.ieee]; norm_cast; norm_num
theorem ofBits_two : Ideal.ofBits .f32 0x40000000#32 = ((2 : ℝ) : EReal) := by
  simp [Ideal.ofBits, Ideal.ieee]; norm_cast; norm_num
theorem ofBits_lanes : Ideal.ofBits .f32 0x45000000#32 = ((2048 : ℝ) : EReal) := by
  simp [Ideal.ofBits, Ideal.ieee]; norm_cast; norm_num
theorem ofBits_lane : Ideal.ofBits .f32 0x3A000000#32 = ((1 / 2048 : ℝ) : EReal) := by
  simp [Ideal.ofBits, Ideal.ieee]; norm_cast; norm_num

theorem rsqrt_coe' {r : ℝ} (h : 0 < r) : Ideal.rsqrt (r : EReal) = (((Real.sqrt r)⁻¹ : ℝ) : EReal) := by
  rw [Ideal.rsqrt_coe, if_neg h.not_gt, if_neg h.ne']

/-- The logistic function. -/
def sg (r : ℝ) : ℝ := (1 + Real.exp (-r))⁻¹
theorem logistic_coe' (r : ℝ) : Ideal.logistic (r : EReal) = ((sg r : ℝ) : EReal) := Ideal.logistic_coe r

namespace Ffn

variable (P : Ffn)

/-- Each row's mean square, and the small number. -/
def ms (t : ℕ) : ℝ := (∑ d, P.x t d * P.x t d) / 2048 + eps
def rs (t : ℕ) : ℝ := (Real.sqrt (P.ms t))⁻¹
def xh (t : ℕ) (d : Fin 2048) : ℝ := P.x t d * P.rs t
def h (t : ℕ) (d : Fin 2048) : ℝ := P.xh t d * P.g d
def gt (t k : ℕ) : ℝ := ∑ d, P.wg k d * P.h t d
def up (t k : ℕ) : ℝ := ∑ d, P.wu k d * P.h t d
def act (t k : ℕ) : ℝ := P.gt t k * sg (P.gt t k) * P.up t k
/-- The sum over the first `n` hidden units. -/
def part (n t : ℕ) (d : Fin 2048) : ℝ := ∑ k ∈ Finset.range n, P.act t k * P.wo k d
/-- Output less target. -/
def er (t : ℕ) (d : Fin 2048) : ℝ := P.x t d + 1 / 2 * P.part 5504 t d - P.y t d
def dy (t : ℕ) (d : Fin 2048) : ℝ := P.er t d * (1 / 2048)
def rowLoss (t : ℕ) : ℝ := (∑ d, P.er t d * P.er t d) / 2048
/-- The loss of the first `n` rows. -/
def loss (n : ℕ) : ℝ := 1 / 2 * ∑ t ∈ Finset.range n, P.rowLoss t
def db (t : ℕ) (d : Fin 2048) : ℝ := 1 / 2 * P.dy t d
def da (t k : ℕ) : ℝ := ∑ d, P.wo k d * P.db t d
def dgt (t k : ℕ) : ℝ := P.da t k * P.up t k * (sg (P.gt t k) * (1 + P.gt t k * (1 - sg (P.gt t k))))
def dup (t k : ℕ) : ℝ := P.da t k * (P.gt t k * sg (P.gt t k))
/-- The sum over the first `n` hidden units of the gradient of the normalised rows. -/
def dpart (n t : ℕ) (d : Fin 2048) : ℝ := ∑ k ∈ Finset.range n, (P.dgt t k * P.wg k d + P.dup t k * P.wu k d)
def dh (t : ℕ) (d : Fin 2048) : ℝ := P.dpart 5504 t d
def dx (t : ℕ) (d : Fin 2048) : ℝ :=
  P.dy t d + P.rs t * (P.dh t d * P.g d - P.xh t d * ((∑ e, P.dh t e * P.g e * P.xh t e) / 2048))
/-- The gradient of the scale, of the first `n` rows. -/
def dg (n : ℕ) (d : Fin 2048) : ℝ := ∑ t ∈ Finset.range n, P.dh t d * P.xh t d
def dwg (k : ℕ) (d : Fin 2048) : ℝ := ∑ t : Fin 4096, P.dgt t.val k * P.h t.val d
def dwu (k : ℕ) (d : Fin 2048) : ℝ := ∑ t : Fin 4096, P.dup t.val k * P.h t.val d
def dwo (k : ℕ) (d : Fin 2048) : ℝ := ∑ t : Fin 4096, P.act t.val k * P.db t.val d

theorem ms_pos (t : ℕ) : 0 < P.ms t :=
  add_pos_of_nonneg_of_pos (div_nonneg (Finset.sum_nonneg fun d _ => mul_self_nonneg _) (by norm_num)) eps_pos

end Ffn

/-- A sum over the first blocks and one more. -/
theorem sum_range_chunk (n m : ℕ) (f : ℕ → ℝ) : (∑ k ∈ Finset.range (n + m), f k) = (∑ k ∈ Finset.range n, f k) + ∑ k : Fin m, f (n + k.val) := by
  rw [Finset.sum_range_add, Finset.sum_range fun k => f (n + k)]

end Cert.Ffn

end

end
-- ==== Proof.FfnInputs.lean ====
module

public import proofs.«01_k».proof.Proof.FfnSpec
public import Idealize.ShloMosaic.Lib.Pointwise

@[expose] public section

set_option maxRecDepth 16384

noncomputable section

namespace Cert.Ffn

open Idealize.ShloMosaic Idealize.ShloMosaic.TcCoe Idealize.SL.Sem

/-- The five arguments as arrays of extended reals: the rows, the scale, the gate and up weights, the down weights, the rows aimed at. -/
structure Args where
  X : FVec Ideal (⟨2, ![4096, 2048]⟩ : Shape) .f32
  G : FVec Ideal (⟨2, ![1, 2048]⟩ : Shape) .f32
  W : FVec Ideal (⟨4, ![2, 8, 688, 2048]⟩ : Shape) .bf16
  O : FVec Ideal (⟨3, ![8, 688, 2048]⟩ : Shape) .bf16
  Y : FVec Ideal (⟨2, ![4096, 2048]⟩ : Shape) .f32

/-- Every entry is a real number. -/
structure Args.Real (a : Args) : Prop where
  hX : ∀ i, ((a.X i : EReal).toReal : EReal) = a.X i
  hG : ∀ i, ((a.G i : EReal).toReal : EReal) = a.G i
  hW : ∀ i, ((a.W i : EReal).toReal : EReal) = a.W i
  hO : ∀ i, ((a.O i : EReal).toReal : EReal) = a.O i
  hY : ∀ i, ((a.Y i : EReal).toReal : EReal) = a.Y i

namespace Args

variable (a : Args)

/-- The half-step's inputs over the reals: hidden unit `k` is unit `k % 688` of chunk `k / 688`. -/
def ffn : Ffn where
  x i d := if hi : i < 4096 then (a.X (ix2 (⟨i, hi⟩ : Fin 4096) d) : EReal).toReal else 0
  g d := (a.G (ix2 (0 : Fin 1) d) : EReal).toReal
  wg k d := if hk : k / 688 < 8 then (a.W (ix4 (0 : Fin 2) (⟨k / 688, hk⟩ : Fin 8) (⟨k % 688, Nat.mod_lt _ (by decide)⟩ : Fin 688) d) : EReal).toReal else 0
  wu k d := if hk : k / 688 < 8 then (a.W (ix4 (1 : Fin 2) (⟨k / 688, hk⟩ : Fin 8) (⟨k % 688, Nat.mod_lt _ (by decide)⟩ : Fin 688) d) : EReal).toReal else 0
  wo k d := if hk : k / 688 < 8 then (a.O (ix3 (⟨k / 688, hk⟩ : Fin 8) (⟨k % 688, Nat.mod_lt _ (by decide)⟩ : Fin 688) d) : EReal).toReal else 0
  y i d := if hi : i < 4096 then (a.Y (ix2 (⟨i, hi⟩ : Fin 4096) d) : EReal).toReal else 0

variable {a}

theorem Real.x_at (h : a.Real) (i : Fin 4096) (d : Fin 2048) : a.X (ix2 i d) = ((a.ffn.x i.val d : ℝ) : EReal) := by
  unfold ffn; dsimp only; rw [dif_pos i.isLt]; exact (h.hX _).symm
theorem Real.g_at (h : a.Real) (d : Fin 2048) : a.G (ix2 0 d) = ((a.ffn.g d : ℝ) : EReal) := (h.hG _).symm
theorem Real.y_at (h : a.Real) (i : Fin 4096) (d : Fin 2048) : a.Y (ix2 i d) = ((a.ffn.y i.val d : ℝ) : EReal) := by
  unfold ffn; dsimp only; rw [dif_pos i.isLt]; exact (h.hY _).symm

theorem chunk_div (j : Fin 8) (f : Fin 688) : (j.val * 688 + f.val) / 688 = j.val := by omega
theorem chunk_mod (j : Fin 8) (f : Fin 688) : (j.val * 688 + f.val) % 688 = f.val := by omega

theorem Real.wg_at (h : a.Real) (j : Fin 8) (f : Fin 688) (d : Fin 2048) : a.W (ix4 0 j f d) = ((a.ffn.wg (j.val * 688 + f.val) d : ℝ) : EReal) := by
  unfold ffn; dsimp only
  rw [dif_pos (lt_of_eq_of_lt (chunk_div j f) j.isLt), h.hW]
  exact congrArg₂ (fun j f => a.W (ix4 0 j f d)) (Fin.ext (chunk_div j f).symm) (Fin.ext (chunk_mod j f).symm)
theorem Real.wu_at (h : a.Real) (j : Fin 8) (f : Fin 688) (d : Fin 2048) : a.W (ix4 1 j f d) = ((a.ffn.wu (j.val * 688 + f.val) d : ℝ) : EReal) := by
  unfold ffn; dsimp only
  rw [dif_pos (lt_of_eq_of_lt (chunk_div j f) j.isLt), h.hW]
  exact congrArg₂ (fun j f => a.W (ix4 1 j f d)) (Fin.ext (chunk_div j f).symm) (Fin.ext (chunk_mod j f).symm)
theorem Real.wo_at (h : a.Real) (j : Fin 8) (f : Fin 688) (d : Fin 2048) : a.O (ix3 j f d) = ((a.ffn.wo (j.val * 688 + f.val) d : ℝ) : EReal) := by
  unfold ffn; dsimp only
  rw [dif_pos (lt_of_eq_of_lt (chunk_div j f) j.isLt), h.hO]
  exact congrArg₂ (fun j f => a.O (ix3 j f d)) (Fin.ext (chunk_div j f).symm) (Fin.ext (chunk_mod j f).symm)

end Args

/-! ## The results as whole arrays -/

namespace Ffn

variable (P : Ffn)

def rowsArr (f : ℕ → Fin 2048 → ℝ) (i : (⟨2, ![4096, 2048]⟩ : Shape).Idx) : EReal := ((f (i 0).val (i 1) : ℝ) : EReal)
def lossArr (i : (⟨2, ![1, 128]⟩ : Shape).Idx) : EReal := (((if (i 1).val = 0 then P.loss 4096 else 0) : ℝ) : EReal)
def scaleArr (i : (⟨2, ![1, 2048]⟩ : Shape).Idx) : EReal := ((P.dg 4096 (i 1) : ℝ) : EReal)
/-- Two halves of arrays of hidden units by rows. -/
def halvesArr (f g : ℕ → ℕ → ℝ) (i : (⟨4, ![2, 8, 688, 4096]⟩ : Shape).Idx) : EReal :=
  (((if (i 0).val = 0 then f (i 3).val ((i 1).val * 688 + (i 2).val) else g (i 3).val ((i 1).val * 688 + (i 2).val)) : ℝ) : EReal)
def unitsArr (f : ℕ → ℕ → ℝ) (i : (⟨3, ![8, 688, 4096]⟩ : Shape).Idx) : EReal := ((f (i 2).val ((i 0).val * 688 + (i 1).val) : ℝ) : EReal)
/-- The gradient of the gate and up weights: the gate's chunks first. -/
def dwinArr (i : (⟨3, ![16, 688, 2048]⟩ : Shape).Idx) : EReal :=
  (((if (i 0).val < 8 then P.dwg ((i 0).val * 688 + (i 1).val) (i 2) else P.dwu (((i 0).val - 8) * 688 + (i 1).val) (i 2)) : ℝ) : EReal)
def dwoutArr (i : (⟨3, ![8, 688, 2048]⟩ : Shape).Idx) : EReal := ((P.dwo ((i 0).val * 688 + (i 1).val) (i 2) : ℝ) : EReal)

theorem rowsArr_at (f : ℕ → Fin 2048 → ℝ) (i : Fin 4096) (d : Fin 2048) : rowsArr f (ix2 i d) = ((f i.val d : ℝ) : EReal) := rfl
theorem lossArr_at (j : Fin 128) : P.lossArr (ix2 0 j) = (((if j.val = 0 then P.loss 4096 else 0) : ℝ) : EReal) := rfl
theorem scaleArr_at (d : Fin 2048) : P.scaleArr (ix2 0 d) = ((P.dg 4096 d : ℝ) : EReal) := rfl
theorem halvesArr_zero (f g : ℕ → ℕ → ℝ) (j : Fin 8) (k : Fin 688) (t : Fin 4096) : halvesArr f g (ix4 0 j k t) = ((f t.val (j.val * 688 + k.val) : ℝ) : EReal) := rfl
theorem halvesArr_one (f g : ℕ → ℕ → ℝ) (j : Fin 8) (k : Fin 688) (t : Fin 4096) : halvesArr f g (ix4 1 j k t) = ((g t.val (j.val * 688 + k.val) : ℝ) : EReal) := rfl
theorem unitsArr_at (f : ℕ → ℕ → ℝ) (j : Fin 8) (k : Fin 688) (t : Fin 4096) : unitsArr f (ix3 j k t) = ((f t.val (j.val * 688 + k.val) : ℝ) : EReal) := rfl

end Ffn

end Cert.Ffn

end

end
-- ==== Proof.Kernel2Ideal.Points.lean ====
module

public import proofs.«01_k».proof.Proof.Kernel2Ideal.Run
public import proofs.«01_k».proof.Proof.FfnSpec
public import Idealize.ShloMosaic.Lib.VecWindow
public import Idealize.ShloMosaic.Lib.Pointwise

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem

/-! # The bodies' values, entry by entry -/

section Raw

variable (x y z : Vec Ideal S512x2048 .f32) (g : Vec Ideal S1x2048 .f32) (h b : Vec Ideal S512x2048 .bf16) (w : Vec Ideal S2x1x688x2048 .bf16)
variable (o : Vec Ideal S1x688x2048 .bf16) (u : Vec Ideal S2x1x688x512 .bf16) (l : Vec Ideal S1x128 .f32)

theorem w0_raw (f : Fin 688) (d : Fin 2048) : w0 w (ix4 0 0 f d) = w (ix4 0 0 f d) :=
  congrArg w (by ext a; fin_cases a <;> simp [ix4, VecWindow.window, Rect.unit, Rect.emb])
theorem w1_raw (f : Fin 688) (d : Fin 2048) : w1 w (ix4 0 0 f d) = w (ix4 1 0 f d) :=
  congrArg w (by ext a; fin_cases a <;> simp [ix4, VecWindow.window, Rect.unit, Rect.emb])
theorem u0_raw (f : Fin 688) (r : Fin 512) : u0 u (ix4 0 0 f r) = u (ix4 0 0 f r) :=
  congrArg u (by ext a; fin_cases a <;> simp [ix4, VecWindow.window, Rect.unit, Rect.emb])
theorem u1_raw (f : Fin 688) (r : Fin 512) : u1 u (ix4 0 0 f r) = u (ix4 1 0 f r) :=
  congrArg u (by ext a; fin_cases a <;> simp [ix4, VecWindow.window, Rect.unit, Rect.emb])
theorem halves0_raw (p q : Vec Ideal S1x1x688x512 .bf16) (f : Fin 688) (r : Fin 512) : halves p q (ix4 0 0 f r) = p (ix4 0 0 f r) := rfl
theorem halves1_raw (p q : Vec Ideal S1x1x688x512 .bf16) (f : Fin 688) (r : Fin 512) : halves p q (ix4 1 0 f r) = q (ix4 0 0 f r) := rfl

theorem rows_raw (r : Fin 512) (d : Fin 2048) : k0_pay6 x g (ix2 r d) =
    (x (ix2 r d) * Ideal.rsqrt (Ideal.div (∑ e, x (ix2 r e) * x (ix2 r e)) (Ideal.ofBits FTy.f32 0x45000000#32) + Ideal.ofBits FTy.f32 0x358637BD#32) * g (ix2 0 d) : EReal) := by
  pointwise [k0_pay6]
theorem zero_raw (r : Fin 512) (d : Fin 2048) : k0_pay7 (F := Ideal) (ix2 r d) = (0 : EReal) := by
  pointwise [k0_pay7]
theorem zeroLoss_raw (j : Fin 128) : k0_pay8 (F := Ideal) (ix2 0 j) = (0 : EReal) := by
  pointwise [k0_pay8]
theorem gate_raw (f : Fin 688) (r : Fin 512) : k0_pay10 h (w0 w) (ix2 f r) = (∑ d, w (ix4 0 0 f d) * h (ix2 r d) : EReal) := by
  pointwise [k0_pay10, k0_pay9]
  simp only [w0_raw]
theorem up_raw (f : Fin 688) (r : Fin 512) : k0_pay11 h (w1 w) (ix2 f r) = (∑ d, w (ix4 1 0 f d) * h (ix2 r d) : EReal) := by
  pointwise [k0_pay11, k0_pay9]
  simp only [w1_raw]
theorem gu0_raw (f : Fin 688) (r : Fin 512) : guOf h w (ix4 0 0 f r) = (∑ d, w (ix4 0 0 f d) * h (ix2 r d) : EReal) := by
  rw [guOf, halves0_raw, ← gate_raw]
  pointwise [k0_pay12]
theorem gu1_raw (f : Fin 688) (r : Fin 512) : guOf h w (ix4 1 0 f r) = (∑ d, w (ix4 1 0 f d) * h (ix2 r d) : EReal) := by
  rw [guOf, halves1_raw, ← up_raw]
  pointwise [k0_pay13]
theorem gated_raw (f : Fin 688) (r : Fin 512) : k0_pay14 h (w0 w) (w1 w) (ix2 f r) =
    (k0_pay10 h (w0 w) (ix2 f r) * Ideal.logistic (k0_pay10 h (w0 w) (ix2 f r)) * k0_pay11 h (w1 w) (ix2 f r) : EReal) := by
  pointwise [k0_pay14]
theorem act_raw (f : Fin 688) (r : Fin 512) : actOf h w (ix3 0 f r) = k0_pay14 h (w0 w) (w1 w) (ix2 f r) := by
  pointwise [actOf, k0_pay1]
theorem sum_raw (r : Fin 512) (d : Fin 2048) : sumOf y h w o (ix2 r d) =
    (y (ix2 r d) + ∑ f, k0_pay14 h (w0 w) (w1 w) (ix2 f r) * o (ix3 0 f d) : EReal) := by
  pointwise [sumOf, k0_pay2]
theorem er_raw (r : Fin 512) (d : Fin 2048) : k0_pay3 x y z (ix2 r d) =
    (x (ix2 r d) + Ideal.ofBits FTy.f32 0x3F000000#32 * y (ix2 r d) - z (ix2 r d) : EReal) := by
  pointwise [k0_pay3]
theorem dy_raw (r : Fin 512) (d : Fin 2048) : k0_pay4 x y z (ix2 r d) = (k0_pay3 x y z (ix2 r d) * Ideal.ofBits FTy.f32 0x3A000000#32 : EReal) := by
  pointwise [k0_pay4]
theorem loss_raw (j : Fin 128) : k0_pay5 x y z l (ix2 0 j) =
    (l (ix2 0 j) + Scalar.select (IntOp.cmpi .eq (BitVec.ofNat 32 j.val) 0#32) (Ideal.ofBits FTy.f32 0x3F000000#32 *
      ∑ r, Ideal.div (∑ d, k0_pay3 x y z (ix2 r d) * k0_pay3 x y z (ix2 r d)) (Ideal.ofBits FTy.f32 0x45000000#32)) (0 : EReal) : EReal) := by
  pointwise [k0_pay5]

theorem db_raw (r : Fin 512) (d : Fin 2048) : k1_pay4 x (ix2 r d) = (Ideal.ofBits FTy.f32 0x3F000000#32 * x (ix2 r d) : EReal) := by
  pointwise [k1_pay4]
theorem zero1_raw (r : Fin 512) (d : Fin 2048) : k1_pay3 (F := Ideal) (ix2 r d) = (0 : EReal) := by
  pointwise [k1_pay3]
theorem da_raw (f : Fin 688) (r : Fin 512) : k1_pay5 o b (ix2 f r) = (∑ d, o (ix3 0 f d) * b (ix2 r d) : EReal) := by
  pointwise [k1_pay5]
theorem dgt_raw (f : Fin 688) (r : Fin 512) : k1_pay8 o b (u0 u) (u1 u) (ix2 f r) =
    (k1_pay5 o b (ix2 f r) * u (ix4 1 0 f r) * (Ideal.logistic (u (ix4 0 0 f r)) * (1 + u (ix4 0 0 f r) * (1 - Ideal.logistic (u (ix4 0 0 f r))))) : EReal) := by
  pointwise [k1_pay8, k1_pay6, k1_pay7]
  simp only [u0_raw, u1_raw]
theorem dup_raw (f : Fin 688) (r : Fin 512) : k1_pay9 o b (u0 u) (ix2 f r) =
    (k1_pay5 o b (ix2 f r) * (u (ix4 0 0 f r) * Ideal.logistic (u (ix4 0 0 f r))) : EReal) := by
  pointwise [k1_pay9, k1_pay6, k1_pay7]
  simp only [u0_raw]
theorem dgu0_raw (f : Fin 688) (r : Fin 512) : dguOf b u o (ix4 0 0 f r) = k1_pay8 o b (u0 u) (u1 u) (ix2 f r) := by
  rw [dguOf, halves0_raw]
  pointwise [k1_pay10]
theorem dgu1_raw (f : Fin 688) (r : Fin 512) : dguOf b u o (ix4 1 0 f r) = k1_pay9 o b (u0 u) (ix2 f r) := by
  rw [dguOf, halves1_raw]
  pointwise [k1_pay1]
theorem dsum_raw (r : Fin 512) (d : Fin 2048) : dsumOf y b u w o (ix2 r d) =
    (y (ix2 r d) + ((∑ f, k1_pay8 o b (u0 u) (u1 u) (ix2 f r) * w (ix4 0 0 f d)) + ∑ f, k1_pay9 o b (u0 u) (ix2 f r) * w (ix4 1 0 f d)) : EReal) := by
  pointwise [dsumOf, k1_pay2]
  simp only [w0_raw, w1_raw]

theorem mm2_raw (p : Vec Ideal S1x688x4096 .bf16) (q : Vec Ideal S4096x1024 .bf16) (f : Fin 688) (e : Fin 1024) :
    k2_pay2 p q (k2_pay1 (F := Ideal)) (ix3 0 f e) = (∑ t, p (ix3 0 f t) * q (ix2 t e) : EReal) := by
  pointwise [k2_pay2, k2_pay1]
theorem twin2_raw (p : Vec Ideal S1x688x1024 .f32) (f : Fin 688) (e : Fin 1024) : k2_pay3 p (ix3 0 f e) = p (ix3 0 f e) := by
  pointwise [k2_pay3]
theorem mm4_raw (p : Vec Ideal S1x688x4096 .bf16) (q : Vec Ideal S4096x1024 .bf16) (f : Fin 688) (e : Fin 1024) :
    k4_pay2 p q (k4_pay1 (F := Ideal)) (ix3 0 f e) = (∑ t, p (ix3 0 f t) * q (ix2 t e) : EReal) := by
  pointwise [k4_pay2, k4_pay1]
theorem twin4_raw (p : Vec Ideal S1x688x1024 .f32) (f : Fin 688) (e : Fin 1024) : k4_pay3 p (ix3 0 f e) = p (ix3 0 f e) := by
  pointwise [k4_pay3]

theorem scale_raw (r : Fin 512) : k3_pay3 x (ix2 r 0) =
    (Ideal.rsqrt (Ideal.div (∑ e, x (ix2 r e) * x (ix2 r e)) (Ideal.ofBits FTy.f32 0x45000000#32) + Ideal.ofBits FTy.f32 0x358637BD#32) : EReal) := by
  pointwise [k3_pay3]
theorem unit_raw (r : Fin 512) (d : Fin 2048) : k3_pay4 x (ix2 r d) = (x (ix2 r d) * k3_pay3 x (ix2 r 0) : EReal) := by
  pointwise [k3_pay4]
theorem dx_raw (r : Fin 512) (d : Fin 2048) : k3_pay6 x y g z (ix2 r d) =
    (z (ix2 r d) + k3_pay3 x (ix2 r 0) * (y (ix2 r d) * g (ix2 0 d) -
      k3_pay4 x (ix2 r d) * Ideal.div (∑ e, y (ix2 r e) * g (ix2 0 e) * k3_pay4 x (ix2 r e)) (Ideal.ofBits FTy.f32 0x45000000#32)) : EReal) := by
  pointwise [k3_pay6, k3_pay5]
theorem dg_raw (d : Fin 2048) : k3_pay1 (k3_pay7 g) (k3_pay8 x y) (ix2 0 d) = (g (ix2 0 d) + ∑ r, y (ix2 r d) * k3_pay4 x (ix2 r d) : EReal) := by
  pointwise [k3_pay1, k3_pay7, k3_pay8, k3_pay5]
theorem zero3_raw (d : Fin 2048) : k3_pay2 (F := Ideal) (ix2 0 d) = (0 : EReal) := by
  pointwise [k3_pay2]

end Raw

end Cert.Kernel2Ideal.Ffn

end

end
-- ==== Proof.Kernel2Ideal.Values.lean ====
module

public import proofs.«01_k».proof.Proof.Kernel2Ideal.Points

@[expose] public section

set_option maxRecDepth 16384

noncomputable section

namespace Cert.Kernel2Ideal.Ffn

open Cert.Kernel2Ideal Cert.Kernel2Ideal.Gen Cert.Ffn
open Cert.Fox hiding Args
open Idealize.ShloMosaic Idealize.ShloMosaic.TcCoe Idealize.SL.Sem

/-! # The bodies' values over the reals

A row block starts at row `q`, a block of hidden units at unit `p`. -/

variable (P : Ffn) {q p : ℕ}

/-- A block of rows. -/
def RowsAt (q : ℕ) (x : S512x2048.Idx → EReal) (f : ℕ → Fin 2048 → ℝ) : Prop := ∀ (r : Fin 512) (d : Fin 2048), x (ix2 r d) = ((f (q + r.val) d : ℝ) : EReal)
/-- A block of weights: the gate's, the up's, the down's. -/
structure Weights (p : ℕ) (w : Vec Ideal S2x1x688x2048 .bf16) (o : Vec Ideal S1x688x2048 .bf16) : Prop where
  gate : ∀ (f : Fin 688) (d : Fin 2048), w (ix4 0 0 f d) = ((P.wg (p + f.val) d : ℝ) : EReal)
  up : ∀ (f : Fin 688) (d : Fin 2048), w (ix4 1 0 f d) = ((P.wu (p + f.val) d : ℝ) : EReal)
  down : ∀ (f : Fin 688) (d : Fin 2048), o (ix3 0 f d) = ((P.wo (p + f.val) d : ℝ) : EReal)
/-- A block of gate and up products. -/
structure Halves (q p : ℕ) (u : Vec Ideal S2x1x688x512 .bf16) : Prop where
  gate : ∀ (f : Fin 688) (r : Fin 512), u (ix4 0 0 f r) = ((P.gt (q + r.val) (p + f.val) : ℝ) : EReal)
  up : ∀ (f : Fin 688) (r : Fin 512), u (ix4 1 0 f r) = ((P.up (q + r.val) (p + f.val) : ℝ) : EReal)

section

variable {x y z : Vec Ideal S512x2048 .f32} {g : Vec Ideal S1x2048 .f32} {h b : Vec Ideal S512x2048 .bf16} {w : Vec Ideal S2x1x688x2048 .bf16}
variable {o : Vec Ideal S1x688x2048 .bf16} {u : Vec Ideal S2x1x688x512 .bf16} {l : Vec Ideal S1x128 .f32}

theorem rows_val (hx : RowsAt q x P.x) (hg : ∀ d, g (ix2 0 d) = ((P.g d : ℝ) : EReal)) : RowsAt q (k0_pay6 x g) P.h := fun r d => by
  rw [rows_raw]
  simp only [hx _ _, hg, ofBits_lanes, ofBits_eps, ← EReal.coe_mul, sum_coe]
  rw [div_coe' _ (by norm_num), ← EReal.coe_add, ← Ffn.ms, rsqrt_coe' (P.ms_pos _), ← EReal.coe_mul, ← EReal.coe_mul]
  rfl

theorem gate_val (hh : RowsAt q h P.h) (hw : Weights P p w o) (f : Fin 688) (r : Fin 512) :
    k0_pay10 h (w0 w) (ix2 f r) = ((P.gt (q + r.val) (p + f.val) : ℝ) : EReal) := by
  rw [gate_raw]; simp only [hh _ _, hw.gate, ← EReal.coe_mul, sum_coe]; rfl
theorem up_val (hh : RowsAt q h P.h) (hw : Weights P p w o) (f : Fin 688) (r : Fin 512) :
    k0_pay11 h (w1 w) (ix2 f r) = ((P.up (q + r.val) (p + f.val) : ℝ) : EReal) := by
  rw [up_raw]; simp only [hh _ _, hw.up, ← EReal.coe_mul, sum_coe]; rfl
theorem gu_val (hh : RowsAt q h P.h) (hw : Weights P p w o) : Halves P q p (guOf h w) where
  gate f r := by rw [gu0_raw, ← gate_raw]; exact gate_val P hh hw f r
  up f r := by rw [gu1_raw, ← up_raw]; exact up_val P hh hw f r
theorem gated_val (hh : RowsAt q h P.h) (hw : Weights P p w o) (f : Fin 688) (r : Fin 512) :
    k0_pay14 h (w0 w) (w1 w) (ix2 f r) = ((P.act (q + r.val) (p + f.val) : ℝ) : EReal) := by
  rw [gated_raw, gate_val P hh hw, up_val P hh hw, logistic_coe', ← EReal.coe_mul, ← EReal.coe_mul]; rfl
theorem act_val (hh : RowsAt q h P.h) (hw : Weights P p w o) (f : Fin 688) (r : Fin 512) :
    actOf h w (ix3 0 f r) = ((P.act (q + r.val) (p + f.val) : ℝ) : EReal) := by rw [act_raw]; exact gated_val P hh hw f r
theorem sum_val (hy : RowsAt q y (P.part p)) (hh : RowsAt q h P.h) (hw : Weights P p w o) : RowsAt q (sumOf y h w o) (P.part (p + 688)) := fun r d => by
  rw [sum_raw]
  simp only [hy _ _, gated_val P hh hw, hw.down, ← EReal.coe_mul, sum_coe]
  rw [← EReal.coe_add]
  exact congrArg _ (sum_range_chunk p 688 fun k => P.act (q + r.val) k * P.wo k d).symm
theorem zero_val : RowsAt q (k0_pay7 (F := Ideal)) (P.part 0) := fun r d => by
  rw [zero_raw]; exact (congrArg Real.toEReal (Finset.sum_range_zero _)).symm

theorem er_val (hx : RowsAt q x P.x) (hy : RowsAt q y (P.part 5504)) (hz : RowsAt q z P.y) : RowsAt q (k0_pay3 x y z) P.er := fun r d => by
  rw [er_raw, hx, hy, hz, ofBits_half, ← EReal.coe_mul, ← EReal.coe_add, ← EReal.coe_sub]; rfl
theorem dy_val (hx : RowsAt q x P.x) (hy : RowsAt q y (P.part 5504)) (hz : RowsAt q z P.y) : RowsAt q (k0_pay4 x y z) P.dy := fun r d => by
  rw [dy_raw, er_val P hx hy hz, ofBits_lane, ← EReal.coe_mul]; rfl
/-- The loss row: the loss of the first `n` rows in its first lane, zero in the others. -/
def LossAt (n : ℕ) (l : Vec Ideal S1x128 .f32) : Prop := ∀ j : Fin 128, l (ix2 0 j) = (((if j.val = 0 then P.loss n else 0) : ℝ) : EReal)
theorem lossBlock (hx : RowsAt q x P.x) (hy : RowsAt q y (P.part 5504)) (hz : RowsAt q z P.y) :
    (Ideal.ofBits FTy.f32 0x3F000000#32 *
      ∑ r, Ideal.div (∑ d, k0_pay3 x y z (ix2 r d) * k0_pay3 x y z (ix2 r d)) (Ideal.ofBits FTy.f32 0x45000000#32) : EReal) = ((1 / 2 * ∑ r : Fin 512, P.rowLoss (q + r.val) : ℝ) : EReal) := by
  simp only [er_val P hx hy hz _ _, ofBits_half, ofBits_lanes, ← EReal.coe_mul, sum_coe]
  simp only [div_coe' _ (show (2048 : ℝ) ≠ 0 by norm_num), sum_coe, ← EReal.coe_mul]
  rfl
theorem lane_word : ∀ j : Fin 128, IntOp.cmpi .eq (BitVec.ofNat 32 j.val) 0#32 = if j.val = 0 then 1#1 else 0#1 := by decide +kernel
theorem loss_val (hl : LossAt P q l) (hx : RowsAt q x P.x) (hy : RowsAt q y (P.part 5504)) (hz : RowsAt q z P.y) : LossAt P (q + 512) (k0_pay5 x y z l) := fun j => by
  rw [loss_raw, lossBlock P hx hy hz, hl, lane_word]
  by_cases h : j.val = 0
  · rw [if_pos h, if_pos h, if_pos h]
    refine (EReal.coe_add _ _).symm.trans (congrArg Real.toEReal ?_)
    rw [Ffn.loss, Ffn.loss, sum_range_chunk, mul_add]
  · rw [if_neg h, if_neg h, if_neg h]
    exact add_zero _
theorem zeroLoss_val : LossAt P 0 (k0_pay8 (F := Ideal)) := fun j => by
  rw [zeroLoss_raw]
  simp [Ffn.loss]

theorem db_val (hx : RowsAt q x P.dy) : RowsAt q (k1_pay4 x) P.db := fun r d => by
  rw [db_raw, hx, ofBits_half, ← EReal.coe_mul]; rfl
theorem zero1_val : RowsAt q (k1_pay3 (F := Ideal)) (P.dpart 0) := fun r d => by
  rw [zero1_raw]; exact (congrArg Real.toEReal (Finset.sum_range_zero _)).symm
theorem da_val (hb : RowsAt q b P.db) (hw : Weights P p w o) (f : Fin 688) (r : Fin 512) :
    k1_pay5 o b (ix2 f r) = ((P.da (q + r.val) (p + f.val) : ℝ) : EReal) := by
  rw [da_raw]; simp only [hb _ _, hw.down, ← EReal.coe_mul, sum_coe]; rfl
theorem dgt_val (hb : RowsAt q b P.db) (hw : Weights P p w o) (hu : Halves P q p u) (f : Fin 688) (r : Fin 512) :
    k1_pay8 o b (u0 u) (u1 u) (ix2 f r) = ((P.dgt (q + r.val) (p + f.val) : ℝ) : EReal) := by
  rw [dgt_raw, da_val P hb hw, hu.gate, hu.up, logistic_coe', ← EReal.coe_one, ← EReal.coe_sub, ← EReal.coe_mul, ← EReal.coe_mul, ← EReal.coe_add, ← EReal.coe_mul, ← EReal.coe_mul]; rfl
theorem dup_val (hb : RowsAt q b P.db) (hw : Weights P p w o) (hu : Halves P q p u) (f : Fin 688) (r : Fin 512) :
    k1_pay9 o b (u0 u) (ix2 f r) = ((P.dup (q + r.val) (p + f.val) : ℝ) : EReal) := by
  rw [dup_raw, da_val P hb hw, hu.gate, logistic_coe', ← EReal.coe_mul, ← EReal.coe_mul]; rfl
theorem dsum_val (hy : RowsAt q y (P.dpart p)) (hb : RowsAt q b P.db) (hw : Weights P p w o) (hu : Halves P q p u) :
    RowsAt q (dsumOf y b u w o) (P.dpart (p + 688)) := fun r d => by
  rw [dsum_raw]
  simp only [hy _ _, dgt_val P hb hw hu, dup_val P hb hw hu, hw.gate, hw.up, ← EReal.coe_mul, sum_coe]
  rw [← EReal.coe_add, ← EReal.coe_add, ← Finset.sum_add_distrib]
  exact congrArg _ (sum_range_chunk p 688 fun k => P.dgt (q + r.val) k * P.wg k d + P.dup (q + r.val) k * P.wu k d).symm

theorem scale_val (hx : RowsAt q x P.x) (r : Fin 512) : k3_pay3 x (ix2 r 0) = ((P.rs (q + r.val) : ℝ) : EReal) := by
  rw [scale_raw]
  simp only [hx _ _, ofBits_lanes, ofBits_eps, ← EReal.coe_mul, sum_coe]
  rw [div_coe' _ (by norm_num), ← EReal.coe_add, ← Ffn.ms, rsqrt_coe' (P.ms_pos _)]
  rfl
theorem unit_val (hx : RowsAt q x P.x) : RowsAt q (k3_pay4 x) P.xh := fun r d => by
  rw [unit_raw, hx, scale_val P hx, ← EReal.coe_mul]; rfl
theorem dx_val (hx : RowsAt q x P.x) (hy : RowsAt q y P.dh) (hg : ∀ d, g (ix2 0 d) = ((P.g d : ℝ) : EReal)) (hz : RowsAt q z P.dy) :
    RowsAt q (k3_pay6 x y g z) P.dx := fun r d => by
  rw [dx_raw]
  simp only [hy _ _, hz _ _, hg, scale_val P hx, unit_val P hx _ _, ofBits_lanes, ← EReal.coe_mul, sum_coe]
  rw [div_coe' _ (by norm_num), ← EReal.coe_mul, ← EReal.coe_sub, ← EReal.coe_mul, ← EReal.coe_add]
  rfl
theorem dg_val (hg : ∀ d, g (ix2 0 d) = ((P.dg q d : ℝ) : EReal)) (hx : RowsAt q x P.x) (hy : RowsAt q y P.dh) (d : Fin 2048) :
    k3_pay1 (k3_pay7 g) (k3_pay8 x y) (ix2 0 d) = ((P.dg (q + 512) d : ℝ) : EReal) := by
  rw [dg_raw]
  simp only [hg, hy _ _, unit_val P hx _ _, ← EReal.coe_mul, sum_coe]
  rw [← EReal.coe_add]
  exact congrArg _ (sum_range_chunk q 512 fun t => P.dh t d * P.xh t d).symm

end

end Cert.Kernel2Ideal.Ffn

end

end
-- ==== Proof.Kernel2Ideal.FwdArrays.lean ====
module

public import proofs.«01_k».proof.Proof.FfnInputs
public import proofs.«01_k».proof.Proof.Kernel2Ideal.Values
public import Idealize.ShloMosaic.Lib.Pipeline.ValueKit

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD) (a : Args)

/-- The buffers hold the arguments. -/
structure Holds : Prop where
  x : V c main_arg0 = a.X
  g : V c main_arg1 = a.G
  w : V c main_arg2 = a.W
  o : V c main_arg3 = a.O
  y : V c main_arg4 = a.Y

/-! # The forward call's blocks -/

theorem idx0 : ∀ t : Fin cfg0.N, win0_0.index t = ![t.val / 8, 0] ∧ win0_1.index t = ![0, 0] ∧ win0_2.index t = ![0, t.val % 8, 0, 0]
    ∧ win0_3.index t = ![t.val % 8, 0, 0] ∧ win0_4.index t = ![t.val / 8, 0] ∧ win0_5.index t = ![t.val / 8, 0] ∧ win0_6.index t = ![t.val / 8, 0]
    ∧ win0_7.index t = ![0, t.val % 8, 0, t.val / 8] ∧ win0_8.index t = ![t.val % 8, 0, t.val / 8] ∧ win0_9.index t = ![0, 0] :=
  (by decide +kernel : ∀ t : Fin grid0.N, _)
theorem points0 (t : Fin cfg0.N) : t.val < 64 := lt_of_lt_of_eq t.isLt (by decide +kernel)

variable {V c a}

theorem x0_val (h : Holds V c a) (ha : a.Real) (t : Fin cfg0.N) : RowsAt (t.val / 8 * 512) (blk0 V c 0 t) a.ffn.x := fun r d => by
  have ht := points0 t
  refine Eq.trans ?_ (ha.x_at ⟨t.val / 8 * 512 + r.val, by omega⟩ d)
  rw [← h.x]
  blk_ext [blk0, (idx0 t).1]
theorem g0_val (h : Holds V c a) (ha : a.Real) (t : Fin cfg0.N) (d : Fin 2048) : (blk0 V c 1 t : FVec Ideal S1x2048 .f32) (ix2 0 d) = ((a.ffn.g d : ℝ) : EReal) := by
  refine Eq.trans ?_ (ha.g_at d)
  rw [← h.g]
  blk_ext [blk0, (idx0 t).2.1]
theorem w0_val (h : Holds V c a) (ha : a.Real) (t : Fin cfg0.N) : Weights a.ffn (t.val % 8 * 688) (blk0 V c 2 t) (blk0 V c 3 t) where
  gate f d := by
    refine Eq.trans ?_ (ha.wg_at ⟨t.val % 8, Nat.mod_lt _ (by decide)⟩ f d)
    rw [← h.w]
    blk_ext [blk0, (idx0 t).2.2.1]
  up f d := by
    refine Eq.trans ?_ (ha.wu_at ⟨t.val % 8, Nat.mod_lt _ (by decide)⟩ f d)
    rw [← h.w]
    blk_ext [blk0, (idx0 t).2.2.1]
  down f d := by
    refine Eq.trans ?_ (ha.wo_at ⟨t.val % 8, Nat.mod_lt _ (by decide)⟩ f d)
    rw [← h.o]
    blk_ext [blk0, (idx0 t).2.2.2.1]
theorem y0_val (h : Holds V c a) (ha : a.Real) (t : Fin cfg0.N) : RowsAt (t.val / 8 * 512) (blk0 V c 4 t) a.ffn.y := fun r d => by
  have ht := points0 t
  refine Eq.trans ?_ (ha.y_at ⟨t.val / 8 * 512 + r.val, by omega⟩ d)
  rw [← h.y]
  blk_ext [blk0, (idx0 t).2.2.2.2.1]

/-! # What the forward call's grid points keep -/

/-- What grid point `n` leaves for the next. -/
structure Sums0 (P : Ffn) (n : ℕ) (p : Kept0 Ideal) : Prop where
  sum : n % 8 ≠ 7 → RowsAt (n / 8 * 512) p.1 (P.part (n % 8 * 688 + 688))
  dy : n % 8 = 7 → RowsAt (n / 8 * 512) p.1 P.dy
  rows : RowsAt (n / 8 * 512) p.2.1 P.h
  loss : LossAt P ((n + 1) / 8 * 512) p.2.2

theorem first0_val (h : Holds V c a) (ha : a.Real) (t : Fin cfg0.N) (ht : t.val % 8 = 0) (l : Vec Ideal S1x128 .f32) (hl : LossAt a.ffn (t.val / 8 * 512) l) :
    Sums0 a.ffn t.val (first0At V c t l) where
  sum _ := sum_val a.ffn (p := t.val % 8 * 688) (by rw [ht]; exact zero_val a.ffn) (rows_val a.ffn (x0_val h ha t) (g0_val h ha t)) (w0_val h ha t)
  dy h7 := absurd h7 (by omega)
  rows := rows_val a.ffn (x0_val h ha t) (g0_val h ha t)
  loss := by rw [show (t.val + 1) / 8 = t.val / 8 by omega]; exact hl
theorem later0_val (h : Holds V c a) (ha : a.Real) (t : Fin cfg0.N) (ht : ¬t.val % 8 = 0) (h7 : ¬t.val % 8 = 7) (p : Kept0 Ideal) (hp : Sums0 a.ffn (t.val - 1) p) :
    Sums0 a.ffn t.val (later0At V c t p) := by
  obtain ⟨h1, -, h2, h3⟩ := hp
  rw [show (t.val - 1) / 8 = t.val / 8 by omega] at h1 h2
  rw [show (t.val - 1) % 8 * 688 + 688 = t.val % 8 * 688 by omega] at h1
  rw [show (t.val - 1 + 1) / 8 = (t.val + 1) / 8 by omega] at h3
  exact ⟨fun _ => sum_val a.ffn (h1 (by omega)) h2 (w0_val h ha t), fun h => absurd h h7, h2, h3⟩
theorem last0_val (h : Holds V c a) (ha : a.Real) (t : Fin cfg0.N) (h7 : t.val % 8 = 7) (p : Kept0 Ideal) (hp : Sums0 a.ffn (t.val - 1) p) :
    Sums0 a.ffn t.val (last0At V c t p) := by
  obtain ⟨h1, -, h2, h3⟩ := hp
  rw [show (t.val - 1) / 8 = t.val / 8 by omega] at h1 h2
  rw [show (t.val - 1) % 8 * 688 + 688 = t.val % 8 * 688 by omega] at h1
  rw [show (t.val - 1 + 1) / 8 = t.val / 8 by omega] at h3
  have hs := sum_val a.ffn (h1 (by omega)) h2 (w0_val h ha t)
  rw [show t.val % 8 * 688 + 688 = 5504 by omega] at hs
  refine ⟨fun h => absurd h7 h, fun _ => dy_val a.ffn (x0_val h ha t) hs (y0_val h ha t), h2, ?_⟩
  rw [show (t.val + 1) / 8 * 512 = t.val / 8 * 512 + 512 by omega]
  exact loss_val a.ffn h3 (x0_val h ha t) hs (y0_val h ha t)

theorem kept0_val (h : Holds V c a) (ha : a.Real) : ∀ (n : ℕ) (hn : n < cfg0.N), Sums0 a.ffn n (kept0 V c n hn)
  | 0, hn => by
    rw [kept0_start V c ⟨0, hn⟩ rfl]
    exact first0_val h ha ⟨0, hn⟩ rfl _ (by simpa using zeroLoss_val a.ffn)
  | n + 1, hn => by
    have ih := kept0_val h ha n (Nat.lt_of_succ_lt hn)
    by_cases h0 : (n + 1) % 8 = 0
    · rw [kept0_first V c ⟨n + 1, hn⟩ (Nat.succ_ne_zero n) h0]
      exact first0_val h ha ⟨n + 1, hn⟩ h0 _ ih.loss
    · by_cases h7 : (n + 1) % 8 = 7
      · rw [kept0_last V c ⟨n + 1, hn⟩ h0 h7]
        exact last0_val h ha ⟨n + 1, hn⟩ h7 _ ih
      · rw [kept0_later V c ⟨n + 1, hn⟩ h0 h7]
        exact later0_val h ha ⟨n + 1, hn⟩ h0 h7 _ ih

/-! # The forward call's results -/

theorem dy_array (h : Holds V c a) (ha : a.Real) : (dat0 V c).arrAt 5 cfg0.N = Ffn.rowsArr a.ffn.dy := by
  refine (dat0 V c).arrAt_eq_of_covers 5 _ (by decide +kernel) fun t hf y => ?_
  have ht := points0 t
  have h0 : (y 0).val < 512 := (y 0).isLt
  blk_simp [(idx0 t).2.2.2.2.2.1]
  rw [left0_5]
  refine (congrArg (kept0 V c t.val t.isLt).1 (show y = ix2 (y 0) (y 1) from by ext a; fin_cases a <;> rfl)).trans (((kept0_val h ha t.val t.isLt).dy ((flush0_5 t).mp hf) (y 0) (y 1)).trans ?_)
  refine (Ffn.rowsArr_at a.ffn.dy ⟨t.val / 8 * 512 + (y 0).val, by omega⟩ (y 1)).symm.trans ?_
  blk_ext [(idx0 t).2.2.2.2.2.1]
theorem h_array (h : Holds V c a) (ha : a.Real) : (dat0 V c).arrAt 6 cfg0.N = Ffn.rowsArr a.ffn.h := by
  refine (dat0 V c).arrAt_eq_of_covers 6 _ (by decide +kernel) fun t hf y => ?_
  have ht := points0 t
  have h0 : (y 0).val < 512 := (y 0).isLt
  blk_simp [(idx0 t).2.2.2.2.2.2.1]
  rw [left0_6]
  refine (congrArg (kept0 V c t.val t.isLt).2.1 (show y = ix2 (y 0) (y 1) from by ext a; fin_cases a <;> rfl)).trans (((kept0_val h ha t.val t.isLt).rows (y 0) (y 1)).trans ?_)
  refine (Ffn.rowsArr_at a.ffn.h ⟨t.val / 8 * 512 + (y 0).val, by omega⟩ (y 1)).symm.trans ?_
  blk_ext [(idx0 t).2.2.2.2.2.2.1]
theorem gu_at (h : Holds V c a) (ha : a.Real) (t : Fin cfg0.N) : Halves a.ffn (t.val / 8 * 512) (t.val % 8 * 688) (guOf (kept0 V c t.val t.isLt).2.1 (blk0 V c 2 t)) :=
  gu_val a.ffn (kept0_val h ha t.val t.isLt).rows (w0_val h ha t)
theorem gu_array (h : Holds V c a) (ha : a.Real) : (dat0 V c).arrAt 7 cfg0.N = Ffn.halvesArr a.ffn.gt a.ffn.up := by
  refine (dat0 V c).arrAt_eq_of_covers 7 _ (by decide +kernel) fun t hf y => ?_
  have ht := points0 t
  have h3 : (y 3).val < 512 := (y 3).isLt
  have h0 : (y 0).val < 2 := (y 0).isLt
  blk_simp [(idx0 t).2.2.2.2.2.2.2.1]
  rw [left0_7]
  obtain hz | hz : (y 0).val = 0 ∨ (y 0).val = 1 := by omega
  · refine (congrArg (guOf _ _) (show y = ix4 0 0 (y 2) (y 3) from by ext a; fin_cases a <;> first | rfl | exact hz | exact congrArg Fin.val (Subsingleton.elim (α := Fin 1) _ _))).trans (((gu_at h ha t).gate (y 2) (y 3)).trans ?_)
    refine (Ffn.halvesArr_zero a.ffn.gt a.ffn.up ⟨t.val % 8, Nat.mod_lt _ (by decide)⟩ (y 2) ⟨t.val / 8 * 512 + (y 3).val, by omega⟩).symm.trans ?_
    blk_ext [(idx0 t).2.2.2.2.2.2.2.1, hz]
  · refine (congrArg (guOf _ _) (show y = ix4 1 0 (y 2) (y 3) from by ext a; fin_cases a <;> first | rfl | exact hz | exact congrArg Fin.val (Subsingleton.elim (α := Fin 1) _ _))).trans (((gu_at h ha t).up (y 2) (y 3)).trans ?_)
    refine (Ffn.halvesArr_one a.ffn.gt a.ffn.up ⟨t.val % 8, Nat.mod_lt _ (by decide)⟩ (y 2) ⟨t.val / 8 * 512 + (y 3).val, by omega⟩).symm.trans ?_
    blk_ext [(idx0 t).2.2.2.2.2.2.2.1, hz]
theorem act_array (h : Holds V c a) (ha : a.Real) : (dat0 V c).arrAt 8 cfg0.N = Ffn.unitsArr a.ffn.act := by
  refine (dat0 V c).arrAt_eq_of_covers 8 _ (by decide +kernel) fun t hf y => ?_
  have ht := points0 t
  have h2 : (y 2).val < 512 := (y 2).isLt
  blk_simp [(idx0 t).2.2.2.2.2.2.2.2.1]
  rw [left0_8]
  refine (congrArg (actOf _ _) (show y = ix3 0 (y 1) (y 2) from by ext a; fin_cases a <;> first | rfl | exact congrArg Fin.val (Subsingleton.elim (α := Fin 1) _ _))).trans ((act_val a.ffn (kept0_val h ha t.val t.isLt).rows (w0_val h ha t) (y 1) (y 2)).trans ?_)
  refine (Ffn.unitsArr_at a.ffn.act ⟨t.val % 8, Nat.mod_lt _ (by decide)⟩ (y 1) ⟨t.val / 8 * 512 + (y 2).val, by omega⟩).symm.trans ?_
  blk_ext [(idx0 t).2.2.2.2.2.2.2.2.1]
theorem loss_array (h : Holds V c a) (ha : a.Real) : (dat0 V c).arrAt 9 cfg0.N = a.ffn.lossArr := by
  refine (dat0 V c).arrAt_eq_of_covers 9 _ (by decide +kernel) fun t hf y => ?_
  have ht := points0 t
  have hl := (flush0_9 t).mp hf
  blk_simp [(idx0 t).2.2.2.2.2.2.2.2.2]
  rw [left0_9]
  refine (congrArg (kept0 V c t.val t.isLt).2.2 (show y = ix2 0 (y 1) from by ext a; fin_cases a <;> first | rfl | exact congrArg Fin.val (Subsingleton.elim (α := Fin 1) _ _))).trans (((kept0_val h ha t.val t.isLt).loss (y 1)).trans ?_)
  rw [show (t.val + 1) / 8 * 512 = 4096 by omega]
  refine (Ffn.lossArr_at a.ffn (y 1)).symm.trans ?_
  blk_ext [(idx0 t).2.2.2.2.2.2.2.2.2]

end Cert.Kernel2Ideal.Ffn

end

end
-- ==== Proof.Kernel2Ideal.BwdArrays.lean ====
module

public import proofs.«01_k».proof.Proof.Kernel2Ideal.FwdArrays

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD) (a : Args)

/-- The backward call finds the arguments, and what the forward call left. -/
structure Found1 : Prop extends Holds V c a where
  dy : V c main_v0_0 = Ffn.rowsArr a.ffn.dy
  gu : V c main_v0_2 = Ffn.halvesArr a.ffn.gt a.ffn.up

/-! # The backward call's blocks -/

theorem idx1 : ∀ t : Fin cfg1.N, win1_0.index t = ![t.val / 8, 0] ∧ win1_1.index t = ![0, t.val % 8, 0, t.val / 8] ∧ win1_2.index t = ![0, t.val % 8, 0, 0]
    ∧ win1_3.index t = ![t.val % 8, 0, 0] ∧ win1_4.index t = ![t.val / 8, 0] ∧ win1_5.index t = ![0, t.val % 8, 0, t.val / 8] ∧ win1_6.index t = ![t.val / 8, 0] :=
  (by decide +kernel : ∀ t : Fin grid1.N, _)
theorem points1 (t : Fin cfg1.N) : t.val < 64 := lt_of_lt_of_eq t.isLt (by decide +kernel)

variable {V c a}

theorem dy1_val (h : Found1 V c a) (t : Fin cfg1.N) : RowsAt (t.val / 8 * 512) (blk1 V c 0 t) a.ffn.dy := fun r d => by
  have ht := points1 t
  refine Eq.trans ?_ (Ffn.rowsArr_at a.ffn.dy ⟨t.val / 8 * 512 + r.val, by omega⟩ d)
  rw [← h.dy]
  blk_ext [blk1, (idx1 t).1]
theorem gu1_val (h : Found1 V c a) (t : Fin cfg1.N) : Halves a.ffn (t.val / 8 * 512) (t.val % 8 * 688) (blk1 V c 1 t) where
  gate f r := by
    have ht := points1 t
    refine Eq.trans ?_ (Ffn.halvesArr_zero a.ffn.gt a.ffn.up ⟨t.val % 8, Nat.mod_lt _ (by decide)⟩ f ⟨t.val / 8 * 512 + r.val, by omega⟩)
    rw [← h.gu]
    blk_ext [blk1, (idx1 t).2.1]
  up f r := by
    have ht := points1 t
    refine Eq.trans ?_ (Ffn.halvesArr_one a.ffn.gt a.ffn.up ⟨t.val % 8, Nat.mod_lt _ (by decide)⟩ f ⟨t.val / 8 * 512 + r.val, by omega⟩)
    rw [← h.gu]
    blk_ext [blk1, (idx1 t).2.1]
theorem w1_val (h : Found1 V c a) (ha : a.Real) (t : Fin cfg1.N) : Weights a.ffn (t.val % 8 * 688) (blk1 V c 2 t) (blk1 V c 3 t) where
  gate f d := by
    refine Eq.trans ?_ (ha.wg_at ⟨t.val % 8, Nat.mod_lt _ (by decide)⟩ f d)
    rw [← h.w]
    blk_ext [blk1, (idx1 t).2.2.1]
  up f d := by
    refine Eq.trans ?_ (ha.wu_at ⟨t.val % 8, Nat.mod_lt _ (by decide)⟩ f d)
    rw [← h.w]
    blk_ext [blk1, (idx1 t).2.2.1]
  down f d := by
    refine Eq.trans ?_ (ha.wo_at ⟨t.val % 8, Nat.mod_lt _ (by decide)⟩ f d)
    rw [← h.o]
    blk_ext [blk1, (idx1 t).2.2.2.1]

/-! # What the backward call's grid points keep -/

/-- What grid point `n` leaves for the next. -/
structure Sums1 (P : Ffn) (n : ℕ) (p : Kept1 Ideal) : Prop where
  sum : RowsAt (n / 8 * 512) p.1 (P.dpart (n % 8 * 688 + 688))
  db : RowsAt (n / 8 * 512) p.2 P.db

theorem first1_val (h : Found1 V c a) (ha : a.Real) (t : Fin cfg1.N) (ht : t.val % 8 = 0) : Sums1 a.ffn t.val (first1At V c t) where
  sum := dsum_val a.ffn (p := t.val % 8 * 688) (by rw [ht]; exact zero1_val a.ffn) (db_val a.ffn (dy1_val h t)) (w1_val h ha t) (gu1_val h t)
  db := db_val a.ffn (dy1_val h t)
theorem later1_val (h : Found1 V c a) (ha : a.Real) (t : Fin cfg1.N) (ht : ¬t.val % 8 = 0) (p : Kept1 Ideal) (hp : Sums1 a.ffn (t.val - 1) p) :
    Sums1 a.ffn t.val (later1At V c t p) := by
  obtain ⟨h1, h2⟩ := hp
  rw [show (t.val - 1) / 8 = t.val / 8 by omega] at h1 h2
  rw [show (t.val - 1) % 8 * 688 + 688 = t.val % 8 * 688 by omega] at h1
  exact ⟨dsum_val a.ffn h1 h2 (w1_val h ha t) (gu1_val h t), h2⟩

theorem kept1_val (h : Found1 V c a) (ha : a.Real) : ∀ (n : ℕ) (hn : n < cfg1.N), Sums1 a.ffn n (kept1 V c n hn)
  | 0, hn => by
    rw [kept1_first V c ⟨0, hn⟩ rfl]
    exact first1_val h ha ⟨0, hn⟩ rfl
  | n + 1, hn => by
    have ih := kept1_val h ha n (Nat.lt_of_succ_lt hn)
    by_cases h0 : (n + 1) % 8 = 0
    · rw [kept1_first V c ⟨n + 1, hn⟩ h0]
      exact first1_val h ha ⟨n + 1, hn⟩ h0
    · rw [kept1_later V c ⟨n + 1, hn⟩ h0]
      exact later1_val h ha ⟨n + 1, hn⟩ h0 _ ih
theorem dh_val (h : Found1 V c a) (ha : a.Real) (t : Fin cfg1.N) (h7 : t.val % 8 = 7) : RowsAt (t.val / 8 * 512) (kept1 V c t.val t.isLt).1 a.ffn.dh := by
  have hs := (kept1_val h ha t.val t.isLt).sum
  rw [show t.val % 8 * 688 + 688 = 5504 by omega] at hs
  exact hs

/-! # The backward call's results -/

theorem dh_array (h : Found1 V c a) (ha : a.Real) : (dat1 V c).arrAt 4 cfg1.N = Ffn.rowsArr a.ffn.dh := by
  refine (dat1 V c).arrAt_eq_of_covers 4 _ (by decide +kernel) fun t hf y => ?_
  have ht := points1 t
  have h0 : (y 0).val < 512 := (y 0).isLt
  blk_simp [(idx1 t).2.2.2.2.1]
  rw [left1_4]
  refine (congrArg (kept1 V c t.val t.isLt).1 (show y = ix2 (y 0) (y 1) from by ext a; fin_cases a <;> rfl)).trans (((dh_val h ha t ((flush1_4 t).mp hf)) (y 0) (y 1)).trans ?_)
  refine (Ffn.rowsArr_at a.ffn.dh ⟨t.val / 8 * 512 + (y 0).val, by omega⟩ (y 1)).symm.trans ?_
  blk_ext [(idx1 t).2.2.2.2.1]
theorem db_array (h : Found1 V c a) (ha : a.Real) : (dat1 V c).arrAt 6 cfg1.N = Ffn.rowsArr a.ffn.db := by
  refine (dat1 V c).arrAt_eq_of_covers 6 _ (by decide +kernel) fun t hf y => ?_
  have ht := points1 t
  have h0 : (y 0).val < 512 := (y 0).isLt
  blk_simp [(idx1 t).2.2.2.2.2.2]
  rw [left1_6]
  refine (congrArg (kept1 V c t.val t.isLt).2 (show y = ix2 (y 0) (y 1) from by ext a; fin_cases a <;> rfl)).trans ((((kept1_val h ha t.val t.isLt).db) (y 0) (y 1)).trans ?_)
  refine (Ffn.rowsArr_at a.ffn.db ⟨t.val / 8 * 512 + (y 0).val, by omega⟩ (y 1)).symm.trans ?_
  blk_ext [(idx1 t).2.2.2.2.2.2]
theorem dgu_array (h : Found1 V c a) (ha : a.Real) : (dat1 V c).arrAt 5 cfg1.N = Ffn.halvesArr a.ffn.dgt a.ffn.dup := by
  refine (dat1 V c).arrAt_eq_of_covers 5 _ (by decide +kernel) fun t hf y => ?_
  have ht := points1 t
  have h3 : (y 3).val < 512 := (y 3).isLt
  have h0 : (y 0).val < 2 := (y 0).isLt
  blk_simp [(idx1 t).2.2.2.2.2.1]
  rw [left1_5]
  have hb := (kept1_val h ha t.val t.isLt).db
  obtain hz | hz : (y 0).val = 0 ∨ (y 0).val = 1 := by omega
  · refine (congrArg (dguOf _ _ _) (show y = ix4 0 0 (y 2) (y 3) from by ext a; fin_cases a <;> first | rfl | exact hz | exact congrArg Fin.val (Subsingleton.elim (α := Fin 1) _ _))).trans ((dgu0_raw _ _ _ (y 2) (y 3)).trans ((dgt_val a.ffn hb (w1_val h ha t) (gu1_val h t) (y 2) (y 3)).trans ?_))
    refine (Ffn.halvesArr_zero a.ffn.dgt a.ffn.dup ⟨t.val % 8, Nat.mod_lt _ (by decide)⟩ (y 2) ⟨t.val / 8 * 512 + (y 3).val, by omega⟩).symm.trans ?_
    blk_ext [(idx1 t).2.2.2.2.2.1, hz]
  · refine (congrArg (dguOf _ _ _) (show y = ix4 1 0 (y 2) (y 3) from by ext a; fin_cases a <;> first | rfl | exact hz | exact congrArg Fin.val (Subsingleton.elim (α := Fin 1) _ _))).trans ((dgu1_raw _ _ _ (y 2) (y 3)).trans ((dup_val a.ffn hb (w1_val h ha t) (gu1_val h t) (y 2) (y 3)).trans ?_))
    refine (Ffn.halvesArr_one a.ffn.dgt a.ffn.dup ⟨t.val % 8, Nat.mod_lt _ (by decide)⟩ (y 2) ⟨t.val / 8 * 512 + (y 3).val, by omega⟩).symm.trans ?_
    blk_ext [(idx1 t).2.2.2.2.2.1, hz]

/-! # The call that goes back through the normalisation -/

theorem idx3 : ∀ t : Fin cfg3.N, win3_0.index t = ![t.val, 0] ∧ win3_1.index t = ![0, 0] ∧ win3_2.index t = ![t.val, 0]
    ∧ win3_3.index t = ![t.val, 0] ∧ win3_4.index t = ![t.val, 0] ∧ win3_5.index t = ![0, 0] :=
  (by decide +kernel : ∀ t : Fin grid3.N, _)
theorem points3 (t : Fin cfg3.N) : t.val < 8 := lt_of_lt_of_eq t.isLt (by decide +kernel)

variable (V c a) in
/-- The call finds the arguments, and what the calls before it left. -/
structure Found3 : Prop extends Holds V c a where
  dy : V c main_v0_0 = Ffn.rowsArr a.ffn.dy
  dh : V c main_v1_0 = Ffn.rowsArr a.ffn.dh

theorem x3_val (h : Found3 V c a) (ha : a.Real) (t : Fin cfg3.N) : RowsAt (t.val * 512) (blk3 V c 0 t) a.ffn.x := fun r d => by
  have ht := points3 t
  refine Eq.trans ?_ (ha.x_at ⟨t.val * 512 + r.val, by omega⟩ d)
  rw [← h.x]
  blk_ext [blk3, (idx3 t).1]
theorem g3_val (h : Found3 V c a) (ha : a.Real) (t : Fin cfg3.N) (d : Fin 2048) : (blk3 V c 1 t : FVec Ideal S1x2048 .f32) (ix2 0 d) = ((a.ffn.g d : ℝ) : EReal) := by
  refine Eq.trans ?_ (ha.g_at d)
  rw [← h.g]
  blk_ext [blk3, (idx3 t).2.1]
theorem dh3_val (h : Found3 V c a) (t : Fin cfg3.N) : RowsAt (t.val * 512) (blk3 V c 2 t) a.ffn.dh := fun r d => by
  have ht := points3 t
  refine Eq.trans ?_ (Ffn.rowsArr_at a.ffn.dh ⟨t.val * 512 + r.val, by omega⟩ d)
  rw [← h.dh]
  blk_ext [blk3, (idx3 t).2.2.1]
theorem dy3_val (h : Found3 V c a) (t : Fin cfg3.N) : RowsAt (t.val * 512) (blk3 V c 3 t) a.ffn.dy := fun r d => by
  have ht := points3 t
  refine Eq.trans ?_ (Ffn.rowsArr_at a.ffn.dy ⟨t.val * 512 + r.val, by omega⟩ d)
  rw [← h.dy]
  blk_ext [blk3, (idx3 t).2.2.2.1]

theorem kept3_val (h : Found3 V c a) (ha : a.Real) : ∀ (n : ℕ) (hn : n < cfg3.N) (d : Fin 2048), kept3 V c n hn (ix2 0 d) = ((a.ffn.dg ((n + 1) * 512) d : ℝ) : EReal)
  | 0, hn, d => by
    rw [kept3_first V c ⟨0, hn⟩ rfl]
    refine (dg_val a.ffn (q := (⟨0, hn⟩ : Fin cfg3.N).val * 512) (fun d => ?_) (x3_val h ha ⟨0, hn⟩) (dh3_val h ⟨0, hn⟩) d).trans (by simp)
    rw [zero3_raw]
    simp [Ffn.dg]
  | n + 1, hn, d => by
    have ih := kept3_val h ha n (Nat.lt_of_succ_lt hn)
    rw [kept3_later V c ⟨n + 1, hn⟩ (Nat.succ_ne_zero n), show (n + 1 + 1) * 512 = (n + 1) * 512 + 512 by omega]
    exact dg_val a.ffn (q := (n + 1) * 512) ih (x3_val h ha ⟨n + 1, hn⟩) (dh3_val h ⟨n + 1, hn⟩) d

theorem dx_array (h : Found3 V c a) (ha : a.Real) : (dat3 V c).arrAt 4 cfg3.N = Ffn.rowsArr a.ffn.dx := by
  refine (dat3 V c).arrAt_eq_of_covers 4 _ (by decide +kernel) fun t hf y => ?_
  have ht := points3 t
  have h0 : (y 0).val < 512 := (y 0).isLt
  blk_simp [(idx3 t).2.2.2.2.1]
  rw [left3_4]
  refine (congrArg (k3_pay6 _ _ _ _) (show y = ix2 (y 0) (y 1) from by ext a; fin_cases a <;> rfl)).trans ((dx_val a.ffn (x3_val h ha t) (dh3_val h t) (g3_val h ha t) (dy3_val h t) (y 0) (y 1)).trans ?_)
  refine (Ffn.rowsArr_at a.ffn.dx ⟨t.val * 512 + (y 0).val, by omega⟩ (y 1)).symm.trans ?_
  blk_ext [(idx3 t).2.2.2.2.1]
theorem dg_array (h : Found3 V c a) (ha : a.Real) : (dat3 V c).arrAt 5 cfg3.N = a.ffn.scaleArr := by
  refine (dat3 V c).arrAt_eq_of_covers 5 _ (by decide +kernel) fun t hf y => ?_
  have ht := points3 t
  have hl := (flush3_5 t).mp hf
  blk_simp [(idx3 t).2.2.2.2.2]
  rw [left3_5]
  refine (congrArg (kept3 V c t.val t.isLt) (show y = ix2 0 (y 1) from by ext a; fin_cases a <;> first | rfl | exact congrArg Fin.val (Subsingleton.elim (α := Fin 1) _ _))).trans ((kept3_val h ha t.val t.isLt (y 1)).trans ?_)
  rw [show (t.val + 1) * 512 = 4096 by omega]
  refine (Ffn.scaleArr_at a.ffn (y 1)).symm.trans ?_
  blk_ext [(idx3 t).2.2.2.2.2]

/-! # The two products over the rows -/

theorem idx2 : ∀ t : Fin cfg2.N, win2_0.index t = ![t.val % 16, 0, 0] ∧ win2_1.index t = ![0, t.val / 16]
    ∧ win2_2.index t = ![t.val % 16, 0, t.val / 16] ∧ win2_3.index t = ![t.val % 16, 0, t.val / 16] :=
  (by decide +kernel : ∀ t : Fin grid2.N, _)
theorem points2 (t : Fin cfg2.N) : t.val < 32 := lt_of_lt_of_eq t.isLt (by decide +kernel)

/-- Each hidden unit's products summed over the rows. -/
def prod2 (A : FVec Ideal S16x688x4096 .bf16) (B : FVec Ideal S4096x2048 .bf16) (i : S16x688x2048.Idx) : EReal := (∑ t : Fin 4096, A (ix3 (i 0) (i 1) t) * B (ix2 t (i 2)) : EReal)
theorem prod2_at (A : FVec Ideal S16x688x4096 .bf16) (B : FVec Ideal S4096x2048 .bf16) (j : Fin 16) (f : Fin 688) (d : Fin 2048) :
    prod2 A B (ix3 j f d) = (∑ t : Fin 4096, A (ix3 j f t) * B (ix2 t d) : EReal) := rfl

theorem left2_val (t : Fin cfg2.N) (f : Fin 688) (e : Fin 1024) (h0 : t.val % 16 < 16) (h1 : t.val / 16 * 1024 + e.val < 2048) :
    k2_pay2 (blk2 V c 0 t) (blk2 V c 1 t) (k2_pay1 (F := Ideal)) (ix3 0 f e) = prod2 (V c main_v2) (V c main_v0_1) (ix3 ⟨t.val % 16, h0⟩ f ⟨t.val / 16 * 1024 + e.val, h1⟩) := by
  rw [mm2_raw, prod2_at]
  refine Finset.sum_congr rfl fun s _ => congrArg₂ (· * ·) ?_ ?_
  · blk_ext [blk2, (idx2 t).1]
  · blk_ext [blk2, (idx2 t).2.1]
theorem mm2_array : (dat2 V c).arrAt 2 cfg2.N = prod2 (V c main_v2) (V c main_v0_1) := by
  refine (dat2 V c).arrAt_eq_of_covers 2 _ (by decide +kernel) fun t hf y => ?_
  have ht := points2 t
  have h2 : (y 2).val < 1024 := (y 2).isLt
  blk_simp [(idx2 t).2.2.1]
  rw [left2_2]
  refine (congrArg (k2_pay2 _ _ _) (show y = ix3 0 (y 1) (y 2) from by ext a; fin_cases a <;> first | rfl | exact congrArg Fin.val (Subsingleton.elim (α := Fin 1) _ _))).trans ((left2_val t (y 1) (y 2) (by omega) (by omega)).trans ?_)
  blk_ext [(idx2 t).2.2.1]
theorem twin2_array : (dat2 V c).arrAt 3 cfg2.N = prod2 (V c main_v2) (V c main_v0_1) := by
  refine (dat2 V c).arrAt_eq_of_covers 3 _ (by decide +kernel) fun t hf y => ?_
  have ht := points2 t
  have h2 : (y 2).val < 1024 := (y 2).isLt
  blk_simp [(idx2 t).2.2.2]
  rw [left2_3]
  refine (congrArg (k2_pay3 _) (show y = ix3 0 (y 1) (y 2) from by ext a; fin_cases a <;> first | rfl | exact congrArg Fin.val (Subsingleton.elim (α := Fin 1) _ _))).trans ((twin2_raw _ (y 1) (y 2)).trans ((left2_val t (y 1) (y 2) (by omega) (by omega)).trans ?_))
  blk_ext [(idx2 t).2.2.2]

theorem idx4 : ∀ t : Fin cfg4.N, win4_0.index t = ![t.val % 8, 0, 0] ∧ win4_1.index t = ![0, t.val / 8]
    ∧ win4_2.index t = ![t.val % 8, 0, t.val / 8] ∧ win4_3.index t = ![t.val % 8, 0, t.val / 8] :=
  (by decide +kernel : ∀ t : Fin grid4.N, _)
theorem points4 (t : Fin cfg4.N) : t.val < 16 := lt_of_lt_of_eq t.isLt (by decide +kernel)

/-- Each hidden unit's products summed over the rows. -/
def prod4 (A : FVec Ideal S8x688x4096 .bf16) (B : FVec Ideal S4096x2048 .bf16) (i : S8x688x2048.Idx) : EReal := (∑ t : Fin 4096, A (ix3 (i 0) (i 1) t) * B (ix2 t (i 2)) : EReal)
theorem prod4_at (A : FVec Ideal S8x688x4096 .bf16) (B : FVec Ideal S4096x2048 .bf16) (j : Fin 8) (f : Fin 688) (d : Fin 2048) :
    prod4 A B (ix3 j f d) = (∑ t : Fin 4096, A (ix3 j f t) * B (ix2 t d) : EReal) := rfl

theorem left4_val (t : Fin cfg4.N) (f : Fin 688) (e : Fin 1024) (h0 : t.val % 8 < 8) (h1 : t.val / 8 * 1024 + e.val < 2048) :
    k4_pay2 (blk4 V c 0 t) (blk4 V c 1 t) (k4_pay1 (F := Ideal)) (ix3 0 f e) = prod4 (V c main_v0_3) (V c main_v1_2) (ix3 ⟨t.val % 8, h0⟩ f ⟨t.val / 8 * 1024 + e.val, h1⟩) := by
  rw [mm4_raw, prod4_at]
  refine Finset.sum_congr rfl fun s _ => congrArg₂ (· * ·) ?_ ?_
  · blk_ext [blk4, (idx4 t).1]
  · blk_ext [blk4, (idx4 t).2.1]
theorem mm4_array : (dat4 V c).arrAt 2 cfg4.N = prod4 (V c main_v0_3) (V c main_v1_2) := by
  refine (dat4 V c).arrAt_eq_of_covers 2 _ (by decide +kernel) fun t hf y => ?_
  have ht := points4 t
  have h2 : (y 2).val < 1024 := (y 2).isLt
  blk_simp [(idx4 t).2.2.1]
  rw [left4_2]
  refine (congrArg (k4_pay2 _ _ _) (show y = ix3 0 (y 1) (y 2) from by ext a; fin_cases a <;> first | rfl | exact congrArg Fin.val (Subsingleton.elim (α := Fin 1) _ _))).trans ((left4_val t (y 1) (y 2) (by omega) (by omega)).trans ?_)
  blk_ext [(idx4 t).2.2.1]
theorem twin4_array : (dat4 V c).arrAt 3 cfg4.N = prod4 (V c main_v0_3) (V c main_v1_2) := by
  refine (dat4 V c).arrAt_eq_of_covers 3 _ (by decide +kernel) fun t hf y => ?_
  have ht := points4 t
  have h2 : (y 2).val < 1024 := (y 2).isLt
  blk_simp [(idx4 t).2.2.2]
  rw [left4_3]
  refine (congrArg (k4_pay3 _) (show y = ix3 0 (y 1) (y 2) from by ext a; fin_cases a <;> first | rfl | exact congrArg Fin.val (Subsingleton.elim (α := Fin 1) _ _))).trans ((twin4_raw _ (y 1) (y 2)).trans ((left4_val t (y 1) (y 2) (by omega) (by omega)).trans ?_))
  blk_ext [(idx4 t).2.2.2]

end Cert.Kernel2Ideal.Ffn

end

end
-- ==== Proof.Kernel2Ideal.Results.lean ====
module

public import proofs.«01_k».proof.Proof.Kernel2Ideal.BwdArrays

@[expose] public section

set_option maxRecDepth 16384

noncomputable section

namespace Cert.Kernel2Ideal.Ffn

open Cert.Kernel2Ideal Cert.Kernel2Ideal.Gen Cert.Ffn
open Cert.Fox hiding Args
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The arguments of one device. -/
abbrev argsOf : Args where
  X := m ((c : Thread nD τ).loc main_arg0)
  G := m ((c : Thread nD τ).loc main_arg1)
  W := m ((c : Thread nD τ).loc main_arg2)
  O := m ((c : Thread nD τ).loc main_arg3)
  Y := m ((c : Thread nD τ).loc main_arg4)

theorem holds0 : Holds (fun c b => at0 m ρ c b) c (argsOf m c) :=
  ⟨at0_args m ρ c _ (by decide), at0_args m ρ c _ (by decide), at0_args m ρ c _ (by decide), at0_args m ρ c _ (by decide), at0_args m ρ c _ (by decide)⟩
theorem holds1 : Holds (fun c b => at1 m ρ c b) c (argsOf m c) :=
  ⟨at1_args m ρ c _ (by decide), at1_args m ρ c _ (by decide), at1_args m ρ c _ (by decide), at1_args m ρ c _ (by decide), at1_args m ρ c _ (by decide)⟩
theorem holds4 : Holds (fun c b => at4 m ρ c b) c (argsOf m c) :=
  ⟨at4_args m ρ c _ (by decide), at4_args m ρ c _ (by decide), at4_args m ρ c _ (by decide), at4_args m ρ c _ (by decide), at4_args m ρ c _ (by decide)⟩

variable {m c}

/-! # After the forward call -/

theorem dy_at1 (ha : (argsOf m c).Real) : at1 m ρ c (Proc.devRef .tc main_v0_0) = Ffn.rowsArr (argsOf m c).ffn.dy := (at1_arr m ρ c 5).trans (dy_array (holds0 m ρ c) ha)
theorem h_at1 (ha : (argsOf m c).Real) : at1 m ρ c (Proc.devRef .tc main_v0_1) = Ffn.rowsArr (argsOf m c).ffn.h := (at1_arr m ρ c 6).trans (h_array (holds0 m ρ c) ha)
theorem gu_at1 (ha : (argsOf m c).Real) : at1 m ρ c (Proc.devRef .tc main_v0_2) = Ffn.halvesArr (argsOf m c).ffn.gt (argsOf m c).ffn.up := (at1_arr m ρ c 7).trans (gu_array (holds0 m ρ c) ha)
theorem act_at1 (ha : (argsOf m c).Real) : at1 m ρ c (Proc.devRef .tc main_v0_3) = Ffn.unitsArr (argsOf m c).ffn.act := (at1_arr m ρ c 8).trans (act_array (holds0 m ρ c) ha)
theorem loss_at1 (ha : (argsOf m c).Real) : at1 m ρ c (Proc.devRef .tc main_v0_4) = (argsOf m c).ffn.lossArr := (at1_arr m ρ c 9).trans (loss_array (holds0 m ρ c) ha)

/-! # After the backward call -/

theorem found1 (ha : (argsOf m c).Real) : Found1 (fun c b => at1 m ρ c b) c (argsOf m c) := ⟨holds1 m ρ c, dy_at1 ρ ha, gu_at1 ρ ha⟩
theorem dh_at2 (ha : (argsOf m c).Real) : at2 m ρ c (Proc.devRef .tc main_v1_0) = Ffn.rowsArr (argsOf m c).ffn.dh := (at2_arr m ρ c 4).trans (dh_array (found1 ρ ha) ha)
theorem dgu_at2 (ha : (argsOf m c).Real) : at2 m ρ c (Proc.devRef .tc main_v1_1) = Ffn.halvesArr (argsOf m c).ffn.dgt (argsOf m c).ffn.dup := (at2_arr m ρ c 5).trans (dgu_array (found1 ρ ha) ha)
theorem db_at2 (ha : (argsOf m c).Real) : at2 m ρ c (Proc.devRef .tc main_v1_2) = Ffn.rowsArr (argsOf m c).ffn.db := (at2_arr m ρ c 6).trans (db_array (found1 ρ ha) ha)

theorem keeps3 (r : Ref sig .tc) (h2 : ∀ w : Fin cfg1.W, Pipeline.arrRef spec1 w = r → (cfg1.win w).isOut = false) (h3 : r ∉ hostOps2_W) :
    at3 m ρ c (Proc.devRef .tc r) = at1 m ρ c (Proc.devRef .tc r) := (at3_keeps m ρ c r h3).trans (at2_keeps m ρ c r h2)

/-- The gate's and the up's gradients side by side. -/
theorem stack_at3 (s : Fin 2) (j : Fin 8) (f : Fin 688) (t : Fin 4096) :
    (at3 m ρ c (Proc.devRef .tc main_v2) : FVec Ideal S16x688x4096 .bf16) (ix3 ⟨s.val * 8 + j.val, by omega⟩ f t) =
      (at2 m ρ c (Proc.devRef .tc main_v1_1) : FVec Ideal S2x8x688x4096 .bf16) (ix4 s j f t) := by
  unfold at3; after_results; pointwise
theorem h_at3 (ha : (argsOf m c).Real) : at3 m ρ c (Proc.devRef .tc main_v0_1) = Ffn.rowsArr (argsOf m c).ffn.h :=
  (keeps3 ρ main_v0_1 (by decide +kernel) (by decide +kernel)).trans (h_at1 ρ ha)

/-! # The weights' gradients -/

theorem prod_coe {A B : Fin 4096 → EReal} (p q : Fin 4096 → ℝ) (hA : ∀ t, A t = ((p t : ℝ) : EReal)) (hB : ∀ t, B t = ((q t : ℝ) : EReal)) :
    (∑ t, A t * B t) = ((∑ t, p t * q t : ℝ) : EReal) := by
  simp only [hA, hB, ← EReal.coe_mul, sum_coe]
theorem stack_gate (ha : (argsOf m c).Real) (i : Fin 16) (h : i.val < 8) (f : Fin 688) (t : Fin 4096) :
    (at3 m ρ c (Proc.devRef .tc main_v2) : FVec Ideal S16x688x4096 .bf16) (ix3 i f t) = (((argsOf m c).ffn.dgt t.val (i.val * 688 + f.val) : ℝ) : EReal) := by
  have e : i = ⟨(0 : Fin 2).val * 8 + (⟨i.val, h⟩ : Fin 8).val, by simp⟩ := Fin.ext (by simp)
  refine (congrArg (fun j : Fin 16 => (at3 m ρ c (Proc.devRef .tc main_v2) : FVec Ideal S16x688x4096 .bf16) (ix3 j f t)) e).trans ((stack_at3 ρ 0 ⟨i.val, h⟩ f t).trans ?_)
  exact (congrFun (dgu_at2 ρ ha) _).trans (Ffn.halvesArr_zero _ _ _ _ _)
theorem stack_up (ha : (argsOf m c).Real) (i : Fin 16) (h : ¬i.val < 8) (f : Fin 688) (t : Fin 4096) :
    (at3 m ρ c (Proc.devRef .tc main_v2) : FVec Ideal S16x688x4096 .bf16) (ix3 i f t) = (((argsOf m c).ffn.dup t.val ((i.val - 8) * 688 + f.val) : ℝ) : EReal) := by
  have e : i = ⟨(1 : Fin 2).val * 8 + (⟨i.val - 8, by omega⟩ : Fin 8).val, by simp; omega⟩ := Fin.ext (by simp; omega)
  refine (congrArg (fun j : Fin 16 => (at3 m ρ c (Proc.devRef .tc main_v2) : FVec Ideal S16x688x4096 .bf16) (ix3 j f t)) e).trans ((stack_at3 ρ 1 ⟨i.val - 8, by omega⟩ f t).trans ?_)
  exact (congrFun (dgu_at2 ρ ha) _).trans (Ffn.halvesArr_one _ _ _ _ _)
theorem prod2_val (ha : (argsOf m c).Real) : prod2 (at3 m ρ c (Proc.devRef .tc main_v2)) (at3 m ρ c (Proc.devRef .tc main_v0_1)) = (argsOf m c).ffn.dwinArr := by
  funext i
  unfold prod2 Ffn.dwinArr
  by_cases h : (i 0).val < 8
  · rw [if_pos h]
    unfold Ffn.dwg
    exact prod_coe (fun t => (argsOf m c).ffn.dgt t.val ((i 0).val * 688 + (i 1).val)) (fun t => (argsOf m c).ffn.h t.val (i 2)) (fun t => stack_gate ρ ha (i 0) h (i 1) t) (fun t => congrFun (h_at3 ρ ha) (ix2 t (i 2)))
  · rw [if_neg h]
    unfold Ffn.dwu
    exact prod_coe (fun t => (argsOf m c).ffn.dup t.val (((i 0).val - 8) * 688 + (i 1).val)) (fun t => (argsOf m c).ffn.h t.val (i 2)) (fun t => stack_up ρ ha (i 0) h (i 1) t) (fun t => congrFun (h_at3 ρ ha) (ix2 t (i 2)))
theorem dwin_at4 (ha : (argsOf m c).Real) : at4 m ρ c (Proc.devRef .tc main_v3_0) = (argsOf m c).ffn.dwinArr := ((at4_arr m ρ c 2).trans mm2_array).trans (prod2_val ρ ha)
theorem twin_at4 (ha : (argsOf m c).Real) : at4 m ρ c (Proc.devRef .tc main_v3_1) = (argsOf m c).ffn.dwinArr := ((at4_arr m ρ c 3).trans twin2_array).trans (prod2_val ρ ha)

/-! # The gradients of the rows and of the scale -/

theorem found3 (ha : (argsOf m c).Real) : Found3 (fun c b => at4 m ρ c b) c (argsOf m c) :=
  ⟨holds4 m ρ c, ((at4_keeps m ρ c main_v0_0 (by decide +kernel)).trans (keeps3 ρ main_v0_0 (by decide +kernel) (by decide +kernel))).trans (dy_at1 ρ ha),
    ((at4_keeps m ρ c main_v1_0 (by decide +kernel)).trans (at3_keeps m ρ c main_v1_0 (by decide +kernel))).trans (dh_at2 ρ ha)⟩
theorem dx_at5 (ha : (argsOf m c).Real) : at5 m ρ c (Proc.devRef .tc main_v4_0) = Ffn.rowsArr (argsOf m c).ffn.dx := (at5_arr m ρ c 4).trans (dx_array (found3 ρ ha) ha)
theorem dg_at5 (ha : (argsOf m c).Real) : at5 m ρ c (Proc.devRef .tc main_v4_1) = (argsOf m c).ffn.scaleArr := (at5_arr m ρ c 5).trans (dg_array (found3 ρ ha) ha)

theorem act_at5 (ha : (argsOf m c).Real) : at5 m ρ c (Proc.devRef .tc main_v0_3) = Ffn.unitsArr (argsOf m c).ffn.act :=
  (((at5_keeps m ρ c main_v0_3 (by decide +kernel)).trans (at4_keeps m ρ c main_v0_3 (by decide +kernel))).trans (keeps3 ρ main_v0_3 (by decide +kernel) (by decide +kernel))).trans (act_at1 ρ ha)
theorem db_at5 (ha : (argsOf m c).Real) : at5 m ρ c (Proc.devRef .tc main_v1_2) = Ffn.rowsArr (argsOf m c).ffn.db :=
  (((at5_keeps m ρ c main_v1_2 (by decide +kernel)).trans (at4_keeps m ρ c main_v1_2 (by decide +kernel))).trans (at3_keeps m ρ c main_v1_2 (by decide +kernel))).trans (db_at2 ρ ha)
theorem prod4_val (ha : (argsOf m c).Real) : prod4 (at5 m ρ c (Proc.devRef .tc main_v0_3)) (at5 m ρ c (Proc.devRef .tc main_v1_2)) = (argsOf m c).ffn.dwoutArr := by
  funext i
  unfold prod4 Ffn.dwoutArr Ffn.dwo
  exact prod_coe (fun t => (argsOf m c).ffn.act t.val ((i 0).val * 688 + (i 1).val)) (fun t => (argsOf m c).ffn.db t.val (i 2)) (fun t => congrFun (act_at5 ρ ha) (ix3 (i 0) (i 1) t)) (fun t => congrFun (db_at5 ρ ha) (ix2 t (i 2)))

/-! # The results -/

theorem loss_end (ha : (argsOf m c).Real) : at6 m ρ c (Proc.devRef .tc main_v0_4) = (argsOf m c).ffn.lossArr :=
  ((((at6_keeps m ρ c main_v0_4 (by decide +kernel)).trans (at5_keeps m ρ c main_v0_4 (by decide +kernel))).trans (at4_keeps m ρ c main_v0_4 (by decide +kernel))).trans (keeps3 ρ main_v0_4 (by decide +kernel) (by decide +kernel))).trans (loss_at1 ρ ha)
theorem dx_end (ha : (argsOf m c).Real) : at6 m ρ c (Proc.devRef .tc main_v4_0) = Ffn.rowsArr (argsOf m c).ffn.dx :=
  (at6_keeps m ρ c main_v4_0 (by decide +kernel)).trans (dx_at5 ρ ha)
theorem dg_end (ha : (argsOf m c).Real) : at6 m ρ c (Proc.devRef .tc main_v4_1) = (argsOf m c).ffn.scaleArr :=
  (at6_keeps m ρ c main_v4_1 (by decide +kernel)).trans (dg_at5 ρ ha)
theorem dwin_end (ha : (argsOf m c).Real) : at6 m ρ c (Proc.devRef .tc main_v3_0) = (argsOf m c).ffn.dwinArr :=
  ((at6_keeps m ρ c main_v3_0 (by decide +kernel)).trans (at5_keeps m ρ c main_v3_0 (by decide +kernel))).trans (dwin_at4 ρ ha)
theorem twin_end (ha : (argsOf m c).Real) : at6 m ρ c (Proc.devRef .tc main_v3_1) = (argsOf m c).ffn.dwinArr :=
  ((at6_keeps m ρ c main_v3_1 (by decide +kernel)).trans (at5_keeps m ρ c main_v3_1 (by decide +kernel))).trans (twin_at4 ρ ha)
theorem dwout_end (ha : (argsOf m c).Real) : at6 m ρ c (Proc.devRef .tc main_v5_0) = (argsOf m c).ffn.dwoutArr := ((at6_arr m ρ c 2).trans mm4_array).trans (prod4_val ρ ha)
theorem dwoutTwin_end (ha : (argsOf m c).Real) : at6 m ρ c (Proc.devRef .tc main_v5_1) = (argsOf m c).ffn.dwoutArr := ((at6_arr m ρ c 3).trans twin4_array).trans (prod4_val ρ ha)

end Cert.Kernel2Ideal.Ffn

end

end
-- ==== Proof.Reference2Ideal.Arrays.lean ====
module

public import proofs.«01_k».proof.Proof.Kernel2Ideal.Results
public import proofs.«01_k».proof.Proof.Gen.Reference2Ideal.Run

@[expose] public section

set_option maxRecDepth 16384

noncomputable section

namespace Cert.Reference2Ideal.Ffn

open Cert.Reference2Ideal Cert.Reference2Ideal.Gen Cert.Ffn
open Idealize.ShloMosaic Idealize.ShloMosaic.TcCoe Idealize.SL.Sem

/-! ## The reference's arrays, named -/

section Arrays

variable (X : FVec Ideal S4096x2048 .f32) (G : FVec Ideal S1x2048 .f32) (W : FVec Ideal S2x8x688x2048 .bf16) (O : FVec Ideal S8x688x2048 .bf16) (Y : FVec Ideal S4096x2048 .f32)

def win : FVec Ideal S2048x11008 .f32 := transpose S2048x11008 [1, 0] (shapeCast _ (extf .f32 W bitsLt_bf16_f32) shapeCasts_S2x8x688x2048_S11008x2048) transposes_S11008x2048_S2048x11008_1_0
def wout : FVec Ideal S5504x2048 .f32 := shapeCast _ (extf .f32 O bitsLt_bf16_f32) shapeCasts_S8x688x2048_S5504x2048

/-- Each row's mean square and the small number, its reciprocal root, and the root's slope. -/
def mean : FVec Ideal S4096x1 .f32 :=
  addf (Host.divf (broadcastInDim S4096x1 ![0] bcast_S4096_S4096x1_0 (Host.reduceAdd (mulf X X) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
def root : FVec Ideal S4096x1 .f32 := Host.rsqrt (mean X)
def slope : FVec Ideal S4096x1 .f32 := mulf (broadcastInDim S4096x1 ![] bcast_S_S4096x1 (constant S_ .f32 0xBF000000#32)) (Host.divf (root X) (mean X))

def xhat : FVec Ideal S4096x2048 .f32 := mulf X (broadcastInDim S4096x2048 ![0, 1] bcast_S4096x1_S4096x2048_0_1 (root X))
def hid : FVec Ideal S4096x2048 .f32 := mulf (xhat X) (broadcastInDim S4096x2048 ![0, 1] bcast_S1x2048_S4096x2048_0_1 G)
def both : FVec Ideal S4096x11008 .f32 := Host.dotGeneral dot_S4096x2048_S2048x11008_S4096x11008_1_0_0_1_n_n none (hid X G) (win W)
def gate : FVec Ideal S4096x5504 .f32 := extractStridedSlice S4096x5504 ![0, 0] (both X G W) slices_S4096x11008_S4096x5504_0_0
def up : FVec Ideal S4096x5504 .f32 := extractStridedSlice S4096x5504 ![0, 5504] (both X G W) slices_S4096x11008_S4096x5504_0_5504
def lgs : FVec Ideal S4096x5504 .f32 :=
  Host.divf (broadcastInDim S4096x5504 ![] bcast_S_S4096x5504 (constant S_ .f32 0x3F800000#32)) (addf (broadcastInDim S4096x5504 ![] bcast_S_S4096x5504 (constant S_ .f32 0x3F800000#32)) (Host.exp (Host.negf (gate X G W))))
def lgsSlope : FVec Ideal S4096x5504 .f32 :=
  mulf (lgs X G W) (subf (broadcastInDim S4096x5504 ![] bcast_S_S4096x5504 (constant S_ .f32 0x3F800000#32)) (lgs X G W))
def silu : FVec Ideal S4096x5504 .f32 := mulf (gate X G W) (lgs X G W)
def act : FVec Ideal S4096x5504 .f32 := mulf (silu X G W) (up X G W)

/-- Output less target. -/
def err : FVec Ideal S4096x2048 .f32 :=
  subf (addf X (mulf (broadcastInDim S4096x2048 ![] bcast_S_S4096x2048 (constant S_ .f32 0x3F000000#32)) (Host.dotGeneral dot_S4096x5504_S5504x2048_S4096x2048_1_0_0_1_n_n none (act X G W) (wout O)))) Y
def outLoss : FVec Ideal S1x128 .f32 :=
  pad S1x128 ![0, 0] ![0, 127] ![0, 0] (shapeCast _ (mulf (constant S_ .f32 0x3F000000#32) (Host.reduceAdd (Host.divf (Host.reduceAdd (mulf (err X G W O Y) (err X G W O Y)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_)) shapeCasts_S_S1x1) (sitofp .f32 (constantI S_ 32 0#32)) pads_S1x1_S1x128_000_01270 h_S_

/-- The gradients of the output, of the hidden half-step's sum, of the activations. -/
def dy : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (err X G W O Y))
def db : FVec Ideal S4096x2048 .f32 := mulf (broadcastInDim S4096x2048 ![] bcast_S_S4096x2048 (constant S_ .f32 0x3F000000#32)) (dy X G W O Y)
def da : FVec Ideal S4096x5504 .f32 := Host.dotGeneral dot_S4096x2048_S5504x2048_S4096x5504_1_1_0_0_n_n none (db X G W O Y) (wout O)
def dup : FVec Ideal S4096x5504 .f32 := mulf (silu X G W) (da X G W O Y)
def dgt : FVec Ideal S4096x5504 .f32 :=
  addf (mulf (mulf (da X G W O Y) (up X G W)) (lgs X G W)) (mulf (mulf (gate X G W) (mulf (da X G W O Y) (up X G W))) (lgsSlope X G W))
def dboth : FVec Ideal S4096x11008 .f32 := Value.fn_main_v52 (F := Ideal) (dgt X G W O Y) (dup X G W O Y)
def dh : FVec Ideal S4096x2048 .f32 := Host.dotGeneral dot_S4096x11008_S2048x11008_S4096x2048_1_1_0_0_n_n none (dboth X G W O Y) (win W)

def outDwout : FVec Ideal S8x688x2048 .f32 :=
  shapeCast _ (transpose S5504x2048 [1, 0] (Host.dotGeneral dot_S4096x2048_S4096x5504_S2048x5504_0_0_1_1_n_n none (db X G W O Y) (act X G W)) transposes_S2048x5504_S5504x2048_1_0) shapeCasts_S5504x2048_S8x688x2048
def outDwin : FVec Ideal S16x688x2048 .f32 :=
  shapeCast _ (transpose S11008x2048 [1, 0] (transpose S2048x11008 [1, 0] (Host.dotGeneral dot_S4096x11008_S4096x2048_S11008x2048_0_0_1_1_n_n none (dboth X G W O Y) (hid X G)) transposes_S11008x2048_S2048x11008_1_0) transposes_S2048x11008_S11008x2048_1_0) shapeCasts_S11008x2048_S16x688x2048
def outDg : FVec Ideal S1x2048 .f32 :=
  shapeCast _ (Host.reduceAdd (mulf (xhat X) (dh X G W O Y)) (constant S_ .f32 0x00000000#32) reducesTo_S4096x2048_S2048_d0 h_S_) shapeCasts_S2048_S1x2048

/-- The gradient of the normalised rows before their scale, and its pull through the root. -/
def dxh : FVec Ideal S4096x2048 .f32 := mulf (dh X G W O Y) (broadcastInDim S4096x2048 ![0, 1] bcast_S1x2048_S4096x2048_0_1 G)
def pull : FVec Ideal S4096 .f32 :=
  Host.reduceAdd (Host.divf (mulf (shapeCast S4096x1 (Host.reduceAdd (mulf X (dxh X G W O Y)) (constant S_ .f32 0x00000000#32) reducesTo_S4096x2048_S4096_d1 h_S_) shapeCasts_S4096_S4096x1) (slope X)) (broadcastInDim S4096x1 ![] bcast_S_S4096x1 (constant S_ .f32 0x45000000#32))) (constant S_ .f32 0x00000000#32) reducesTo_S4096x1_S4096_d1 h_S_
def outDx : FVec Ideal S4096x2048 .f32 :=
  addf (addf (addf (dy X G W O Y) (mulf (dxh X G W O Y) (broadcastInDim S4096x2048 ![0, 1] bcast_S4096x1_S4096x2048_0_1 (root X)))) (mulf X (broadcastInDim S4096x2048 ![0] bcast_S4096_S4096x2048_0 (pull X G W O Y)))) (mulf (broadcastInDim S4096x2048 ![0] bcast_S4096_S4096x2048_0 (pull X G W O Y)) X)

end Arrays

section Run

open Cert.Reference2Ideal.Value

variable (m : (ℓ : Loc nD τ sig) → Buf (Elt Ideal) ℓ) (c : Dev nD)

theorem res_loss : res_main_v80 m c = outLoss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_dx : res_main_v75 m c = outDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_dg : res_main_v58 m c = outDg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_dwin : res_main_v77 m c = outDwin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_twin : res_main_v81 m c = truncf .bf16 (outDwin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) bitsLt_bf16_f32 := rfl
theorem res_dwout : res_main_v78 m c = outDwout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_dwoutTwin : res_main_v82 m c = truncf .bf16 (outDwout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) bitsLt_bf16_f32 := rfl

end Run

end Cert.Reference2Ideal.Ffn

end

end
-- ==== Proof.Reference2Ideal.Points.lean ====
module

public import proofs.«01_k».proof.Proof.Reference2Ideal.Arrays

@[expose] public section

set_option maxRecDepth 16384

noncomputable section

namespace Cert.Reference2Ideal.Ffn

open Cert.Reference2Ideal Cert.Reference2Ideal.Gen Cert.Ffn
open Idealize.ShloMosaic Idealize.ShloMosaic.TcCoe Idealize.SL.Sem

/-! ## The reference's arrays, entry by entry -/

section Raw

variable (X : FVec Ideal S4096x2048 .f32) (G : FVec Ideal S1x2048 .f32) (W : FVec Ideal S2x8x688x2048 .bf16) (O : FVec Ideal S8x688x2048 .bf16) (Y : FVec Ideal S4096x2048 .f32)

theorem win_raw (i : Fin 2) (j : Fin 8) (f : Fin 688) (d : Fin 2048) : win W (ix2 d ⟨(i.val * 8 + j.val) * 688 + f.val, by omega⟩) = W (ix4 i j f d) := by
  pointwise [win]
theorem wout_raw (j : Fin 8) (f : Fin 688) (d : Fin 2048) : wout O (ix2 ⟨j.val * 688 + f.val, by omega⟩ d) = O (ix3 j f d) := by
  pointwise [wout]
theorem mean_raw (t : Fin 4096) : mean X (ix2 t 0) =
    Ideal.div (∑ d, X (ix2 t d) * X (ix2 t d)) (Ideal.ofBits FTy.f32 0x45000000#32) + Ideal.ofBits FTy.f32 0x358637BD#32 := by
  pointwise [mean]
theorem root_raw (t : Fin 4096) : root X (ix2 t 0) = Ideal.rsqrt (mean X (ix2 t 0)) := by
  pointwise [root]
theorem slope_raw (t : Fin 4096) : slope X (ix2 t 0) = Ideal.ofBits FTy.f32 0xBF000000#32 * Ideal.div (root X (ix2 t 0)) (mean X (ix2 t 0)) := by
  pointwise [slope]
theorem xhat_raw (t : Fin 4096) (d : Fin 2048) : xhat X (ix2 t d) = X (ix2 t d) * root X (ix2 t 0) := by
  pointwise [xhat]
theorem hid_raw (t : Fin 4096) (d : Fin 2048) : hid X G (ix2 t d) = xhat X (ix2 t d) * G (ix2 0 d) := by
  pointwise [hid]
theorem both_raw (t : Fin 4096) (k : Fin 11008) : both X G W (ix2 t k) = ∑ d, hid X G (ix2 t d) * win W (ix2 d k) := by
  pointwise [both]
theorem gate_raw (t : Fin 4096) (k : Fin 5504) : gate X G W (ix2 t k) = both X G W (ix2 t ⟨k.val, by omega⟩) := by
  pointwise [gate]
theorem up_raw (t : Fin 4096) (k : Fin 5504) : up X G W (ix2 t k) = both X G W (ix2 t ⟨5504 + k.val, by omega⟩) := by
  pointwise [up]
theorem lgs_raw (t : Fin 4096) (k : Fin 5504) : lgs X G W (ix2 t k) = Ideal.div 1 (1 + Ideal.exp (-gate X G W (ix2 t k))) := by
  pointwise [lgs]
theorem lgsSlope_raw (t : Fin 4096) (k : Fin 5504) : lgsSlope X G W (ix2 t k) = lgs X G W (ix2 t k) * (1 - lgs X G W (ix2 t k)) := by
  pointwise [lgsSlope]
theorem silu_raw (t : Fin 4096) (k : Fin 5504) : silu X G W (ix2 t k) = gate X G W (ix2 t k) * lgs X G W (ix2 t k) := by
  pointwise [silu]
theorem act_raw (t : Fin 4096) (k : Fin 5504) : act X G W (ix2 t k) = silu X G W (ix2 t k) * up X G W (ix2 t k) := by
  pointwise [act]
theorem err_raw (t : Fin 4096) (d : Fin 2048) : err X G W O Y (ix2 t d) =
    X (ix2 t d) + Ideal.ofBits FTy.f32 0x3F000000#32 * (∑ k, act X G W (ix2 t k) * wout O (ix2 k d)) - Y (ix2 t d) := by
  pointwise [err]
theorem outLoss_raw (j : Fin 128) : outLoss X G W O Y (ix2 0 j) =
    if j.val = 0 then Ideal.ofBits FTy.f32 0x3F000000#32 * ∑ t, Ideal.div (∑ d, err X G W O Y (ix2 t d) * err X G W O Y (ix2 t d)) (Ideal.ofBits FTy.f32 0x45000000#32) else (0 : EReal) := by
  pointwise [outLoss]
  by_cases h : j.val = 0
  · rw [if_pos h, dif_pos (by omega)]
  · rw [if_neg h, dif_neg (by omega)]
    exact (congrArg (fun n : ℤ => ((n : ℝ) : EReal)) (show (0#32).toInt = 0 from rfl)).trans (by simp)
theorem dy_raw (t : Fin 4096) (d : Fin 2048) : dy X G W O Y (ix2 t d) =
    Ideal.div (Ideal.ofBits FTy.f32 0x3F000000#32 * 1) (Ideal.ofBits FTy.f32 0x45000000#32) * (Ideal.ofBits FTy.f32 0x40000000#32 * err X G W O Y (ix2 t d)) := by
  pointwise [dy]
theorem db_raw (t : Fin 4096) (d : Fin 2048) : db X G W O Y (ix2 t d) = Ideal.ofBits FTy.f32 0x3F000000#32 * dy X G W O Y (ix2 t d) := by
  pointwise [db]
theorem da_raw (t : Fin 4096) (k : Fin 5504) : da X G W O Y (ix2 t k) = ∑ d, db X G W O Y (ix2 t d) * wout O (ix2 k d) := by
  pointwise [da]
theorem dup_raw (t : Fin 4096) (k : Fin 5504) : dup X G W O Y (ix2 t k) = silu X G W (ix2 t k) * da X G W O Y (ix2 t k) := by
  pointwise [dup]
theorem dgt_raw (t : Fin 4096) (k : Fin 5504) : dgt X G W O Y (ix2 t k) =
    da X G W O Y (ix2 t k) * up X G W (ix2 t k) * lgs X G W (ix2 t k) + gate X G W (ix2 t k) * (da X G W O Y (ix2 t k) * up X G W (ix2 t k)) * lgsSlope X G W (ix2 t k) := by
  pointwise [dgt]
theorem dboth_gate (t : Fin 4096) (k : Fin 5504) : dboth X G W O Y (ix2 t ⟨k.val, by omega⟩) = dgt X G W O Y (ix2 t k) := by
  pointwise [dboth, Value.fn_main_v52]
theorem dboth_up (t : Fin 4096) (k : Fin 5504) : dboth X G W O Y (ix2 t ⟨5504 + k.val, by omega⟩) = dup X G W O Y (ix2 t k) := by
  pointwise [dboth, Value.fn_main_v52]
theorem dh_raw (t : Fin 4096) (d : Fin 2048) : dh X G W O Y (ix2 t d) = ∑ k, dboth X G W O Y (ix2 t k) * win W (ix2 d k) := by
  pointwise [dh]
theorem outDwout_raw (j : Fin 8) (f : Fin 688) (d : Fin 2048) : outDwout X G W O Y (ix3 j f d) =
    ∑ t, db X G W O Y (ix2 t d) * act X G W (ix2 t ⟨j.val * 688 + f.val, by omega⟩) := by
  pointwise [outDwout]
theorem outDwin_raw (j : Fin 16) (f : Fin 688) (d : Fin 2048) : outDwin X G W O Y (ix3 j f d) =
    ∑ t, dboth X G W O Y (ix2 t ⟨j.val * 688 + f.val, by omega⟩) * hid X G (ix2 t d) := by
  pointwise [outDwin]
theorem outDg_raw (d : Fin 2048) : outDg X G W O Y (ix2 0 d) = ∑ t, xhat X (ix2 t d) * dh X G W O Y (ix2 t d) := by
  pointwise [outDg]
theorem dxh_raw (t : Fin 4096) (d : Fin 2048) : dxh X G W O Y (ix2 t d) = dh X G W O Y (ix2 t d) * G (ix2 0 d) := by
  pointwise [dxh]
theorem pull_raw (t : Fin 4096) : pull X G W O Y (ix1 t) =
    Ideal.div ((∑ d, X (ix2 t d) * dxh X G W O Y (ix2 t d)) * slope X (ix2 t 0)) (Ideal.ofBits FTy.f32 0x45000000#32) := by
  pointwise [pull]
  exact Fin.sum_univ_one _
theorem outDx_raw (t : Fin 4096) (d : Fin 2048) : outDx X G W O Y (ix2 t d) =
    dy X G W O Y (ix2 t d) + dxh X G W O Y (ix2 t d) * root X (ix2 t 0) + X (ix2 t d) * pull X G W O Y (ix1 t) + pull X G W O Y (ix1 t) * X (ix2 t d) := by
  pointwise [outDx]

end Raw

end Cert.Reference2Ideal.Ffn

end

end
-- ==== Proof.Reference2Ideal.Values.lean ====
module

public import proofs.«01_k».proof.Proof.Reference2Ideal.Points

@[expose] public section

set_option maxRecDepth 16384

noncomputable section

namespace Cert.Ffn

/-- The gate's quantity at the first 5504 hidden units, the up one at the next. -/
def cat (p q : ℕ → ℝ) (k : ℕ) : ℝ := if k < 5504 then p k else q (k - 5504)
theorem cat_gate (p q : ℕ → ℝ) (k : Fin 5504) : cat p q k.val = p k.val := if_pos k.isLt
theorem cat_up (p q : ℕ → ℝ) (k : Fin 5504) : cat p q (5504 + k.val) = q k.val := by
  unfold cat; rw [if_neg (by omega), Nat.add_sub_cancel_left]
/-- A sum over both halves is a sum of their sum. -/
theorem sum_cat (p q u v : ℕ → ℝ) : (∑ k : Fin 11008, cat p q k.val * cat u v k.val) = ∑ k ∈ Finset.range 5504, (p k * u k + q k * v k) := by
  rw [← Finset.sum_range fun k => cat p q k * cat u v k, show (11008 : ℕ) = 5504 + 5504 from rfl, sum_range_chunk, Finset.sum_add_distrib]
  refine congrArg₂ (fun a b : ℝ => a + b) ?_ ?_
  · refine Finset.sum_congr rfl fun k hk => ?_
    unfold cat; rw [if_pos (Finset.mem_range.mp hk), if_pos (Finset.mem_range.mp hk)]
  · rw [Finset.sum_range]
    exact Finset.sum_congr rfl fun k _ => by rw [cat_up, cat_up]

/-- Every index below 11008 lies in one of the halves. -/
theorem half_cases (k : Fin 11008) : (∃ j : Fin 5504, k = ⟨j.val, by omega⟩) ∨ ∃ j : Fin 5504, k = ⟨5504 + j.val, by omega⟩ := by
  by_cases h : k.val < 5504
  · exact .inl ⟨⟨k.val, h⟩, rfl⟩
  · exact .inr ⟨⟨k.val - 5504, by omega⟩, Fin.ext (by simp; omega)⟩
theorem chunk_cases (k : Fin 5504) : ∃ (j : Fin 8) (f : Fin 688), k = ⟨j.val * 688 + f.val, by omega⟩ :=
  ⟨⟨k.val / 688, by omega⟩, ⟨k.val % 688, by omega⟩, Fin.ext (by simp; omega)⟩

theorem sums_coe {n : ℕ} {A B : Fin n → EReal} (p q : Fin n → ℝ) (hA : ∀ t, A t = ((p t : ℝ) : EReal)) (hB : ∀ t, B t = ((q t : ℝ) : EReal)) :
    (∑ t, A t * B t) = ((∑ t, p t * q t : ℝ) : EReal) := by
  simp only [hA, hB, ← EReal.coe_mul, Cert.Fox.sum_coe]

theorem Ffn.rs_pos (P : Ffn) (t : ℕ) : 0 < P.rs t := inv_pos.mpr (Real.sqrt_pos.mpr (P.ms_pos t))
theorem Ffn.rs_div (P : Ffn) (t : ℕ) : P.rs t / P.ms t = P.rs t * (P.rs t * P.rs t) := by
  have h := P.ms_pos t
  have e : P.rs t * P.rs t = (P.ms t)⁻¹ := by
    unfold Ffn.rs; rw [← mul_inv, Real.mul_self_sqrt h.le]
  rw [e, div_eq_mul_inv]

end Cert.Ffn

namespace Cert.Reference2Ideal.Ffn

open Cert.Reference2Ideal Cert.Reference2Ideal.Gen Cert.Ffn
open Cert.Fox (sum_coe div_coe' exp_coe')
open Idealize.ShloMosaic Idealize.ShloMosaic.TcCoe Idealize.SL.Sem

/-! ## The reference's arrays over the reals -/

section Real

variable {a : Args} (ha : a.Real)
include ha

theorem wout_val (k : Fin 5504) (d : Fin 2048) : wout a.O (ix2 k d) = ((a.ffn.wo k.val d : ℝ) : EReal) := by
  obtain ⟨j, f, rfl⟩ := chunk_cases k
  rw [wout_raw]; exact ha.wo_at j f d
theorem win_val (k : Fin 11008) (d : Fin 2048) : win a.W (ix2 d k) = ((cat (fun k => a.ffn.wg k d) (fun k => a.ffn.wu k d) k.val : ℝ) : EReal) := by
  rcases half_cases k with ⟨k, rfl⟩ | ⟨k, rfl⟩ <;> obtain ⟨j, f, rfl⟩ := chunk_cases k
  · refine (congrArg (fun k => win a.W (ix2 d k)) (Fin.ext (by simp) : _ = (⟨((0 : Fin 2).val * 8 + j.val) * 688 + f.val, by simp; omega⟩ : Fin 11008))).trans ((win_raw a.W 0 j f d).trans ((ha.wg_at j f d).trans ?_))
    exact congrArg Real.toEReal (cat_gate (fun k => a.ffn.wg k d) (fun k => a.ffn.wu k d) ⟨j.val * 688 + f.val, by omega⟩).symm
  · refine (congrArg (fun k => win a.W (ix2 d k)) (Fin.ext (by simp; omega) : _ = (⟨((1 : Fin 2).val * 8 + j.val) * 688 + f.val, by simp; omega⟩ : Fin 11008))).trans ((win_raw a.W 1 j f d).trans ((ha.wu_at j f d).trans ?_))
    exact congrArg Real.toEReal (cat_up (fun k => a.ffn.wg k d) (fun k => a.ffn.wu k d) ⟨j.val * 688 + f.val, by omega⟩).symm
theorem mean_val (t : Fin 4096) : mean a.X (ix2 t 0) = ((a.ffn.ms t.val : ℝ) : EReal) := by
  rw [mean_raw, sums_coe (fun d => a.ffn.x t.val d) (fun d => a.ffn.x t.val d) (ha.x_at t) (ha.x_at t), ofBits_lanes, ofBits_eps, div_coe' _ (by norm_num), ← EReal.coe_add]
  rfl
theorem root_val (t : Fin 4096) : root a.X (ix2 t 0) = ((a.ffn.rs t.val : ℝ) : EReal) := by
  rw [root_raw, mean_val ha, rsqrt_coe' (a.ffn.ms_pos _)]; rfl
theorem slope_val (t : Fin 4096) : slope a.X (ix2 t 0) = ((-(1 / 2) * (a.ffn.rs t.val * (a.ffn.rs t.val * a.ffn.rs t.val)) : ℝ) : EReal) := by
  rw [slope_raw, root_val ha, mean_val ha, ofBits_neg_half, div_coe' _ (a.ffn.ms_pos _).ne', ← EReal.coe_mul, a.ffn.rs_div]
theorem xhat_val (t : Fin 4096) (d : Fin 2048) : xhat a.X (ix2 t d) = ((a.ffn.xh t.val d : ℝ) : EReal) := by
  rw [xhat_raw, root_val ha, ha.x_at, ← EReal.coe_mul]; rfl
theorem hid_val (t : Fin 4096) (d : Fin 2048) : hid a.X a.G (ix2 t d) = ((a.ffn.h t.val d : ℝ) : EReal) := by
  rw [hid_raw, xhat_val ha, ha.g_at, ← EReal.coe_mul]; rfl
theorem both_val (t : Fin 4096) (k : Fin 11008) : both a.X a.G a.W (ix2 t k) = ((cat (a.ffn.gt t.val) (a.ffn.up t.val) k.val : ℝ) : EReal) := by
  rw [both_raw, sums_coe _ _ (fun d => hid_val ha t d) (fun d => win_val ha k d)]
  refine congrArg Real.toEReal ?_
  unfold cat Cert.Ffn.Ffn.gt Cert.Ffn.Ffn.up
  split <;> exact Finset.sum_congr rfl fun d _ => mul_comm _ _
theorem gate_val (t : Fin 4096) (k : Fin 5504) : gate a.X a.G a.W (ix2 t k) = ((a.ffn.gt t.val k.val : ℝ) : EReal) := by
  rw [gate_raw, both_val ha]; exact congrArg Real.toEReal (cat_gate _ _ k)
theorem up_val (t : Fin 4096) (k : Fin 5504) : up a.X a.G a.W (ix2 t k) = ((a.ffn.up t.val k.val : ℝ) : EReal) := by
  rw [up_raw, both_val ha]; exact congrArg Real.toEReal (cat_up _ _ k)
theorem lgs_val (t : Fin 4096) (k : Fin 5504) : lgs a.X a.G a.W (ix2 t k) = ((sg (a.ffn.gt t.val k.val) : ℝ) : EReal) := by
  have hp := Real.exp_pos (-a.ffn.gt t.val k.val)
  rw [lgs_raw, gate_val ha, ← EReal.coe_neg, exp_coe', ← EReal.coe_one, ← EReal.coe_add, div_coe' _ (by positivity)]
  exact congrArg Real.toEReal (one_div _)
theorem lgsSlope_val (t : Fin 4096) (k : Fin 5504) : lgsSlope a.X a.G a.W (ix2 t k) = ((sg (a.ffn.gt t.val k.val) * (1 - sg (a.ffn.gt t.val k.val)) : ℝ) : EReal) := by
  rw [lgsSlope_raw, lgs_val ha, ← EReal.coe_one, ← EReal.coe_sub, ← EReal.coe_mul]
theorem silu_val (t : Fin 4096) (k : Fin 5504) : silu a.X a.G a.W (ix2 t k) = ((a.ffn.gt t.val k.val * sg (a.ffn.gt t.val k.val) : ℝ) : EReal) := by
  rw [silu_raw, gate_val ha, lgs_val ha, ← EReal.coe_mul]
theorem act_val (t : Fin 4096) (k : Fin 5504) : act a.X a.G a.W (ix2 t k) = ((a.ffn.act t.val k.val : ℝ) : EReal) := by
  rw [act_raw, silu_val ha, up_val ha, ← EReal.coe_mul]; rfl
theorem err_val (t : Fin 4096) (d : Fin 2048) : err a.X a.G a.W a.O a.Y (ix2 t d) = ((a.ffn.er t.val d : ℝ) : EReal) := by
  rw [err_raw, sums_coe _ _ (fun k => act_val ha t k) (fun k => wout_val ha k d), ha.x_at, ha.y_at, ofBits_half, ← EReal.coe_mul, ← EReal.coe_add, ← EReal.coe_sub]
  refine congrArg Real.toEReal ?_
  unfold Cert.Ffn.Ffn.er Cert.Ffn.Ffn.part
  rw [Finset.sum_range]
theorem outLoss_val (j : Fin 128) : outLoss a.X a.G a.W a.O a.Y (ix2 0 j) = (((if j.val = 0 then a.ffn.loss 4096 else 0) : ℝ) : EReal) := by
  rw [outLoss_raw]
  by_cases h : j.val = 0
  · rw [if_pos h, if_pos h]
    have row : ∀ t : Fin 4096, Ideal.div (∑ d, err a.X a.G a.W a.O a.Y (ix2 t d) * err a.X a.G a.W a.O a.Y (ix2 t d)) (Ideal.ofBits FTy.f32 0x45000000#32) = ((a.ffn.rowLoss t.val : ℝ) : EReal) := fun t => by
      rw [sums_coe _ _ (fun d => err_val ha t d) (fun d => err_val ha t d), ofBits_lanes, div_coe' _ (by norm_num)]; rfl
    rw [Finset.sum_congr rfl fun t _ => row t, sum_coe, ofBits_half, ← EReal.coe_mul]
    refine congrArg Real.toEReal ?_
    unfold Cert.Ffn.Ffn.loss
    rw [Finset.sum_range]
  · rw [if_neg h, if_neg h]; rfl
theorem dy_val (t : Fin 4096) (d : Fin 2048) : dy a.X a.G a.W a.O a.Y (ix2 t d) = ((a.ffn.dy t.val d : ℝ) : EReal) := by
  rw [dy_raw, err_val ha, ofBits_half, ofBits_two, ofBits_lanes, ← EReal.coe_one, ← EReal.coe_mul, ← EReal.coe_mul, div_coe' _ (by norm_num), ← EReal.coe_mul]
  refine congrArg Real.toEReal ?_
  unfold Cert.Ffn.Ffn.dy; ring
theorem db_val (t : Fin 4096) (d : Fin 2048) : db a.X a.G a.W a.O a.Y (ix2 t d) = ((a.ffn.db t.val d : ℝ) : EReal) := by
  rw [db_raw, dy_val ha, ofBits_half, ← EReal.coe_mul]; rfl
theorem da_val (t : Fin 4096) (k : Fin 5504) : da a.X a.G a.W a.O a.Y (ix2 t k) = ((a.ffn.da t.val k.val : ℝ) : EReal) := by
  rw [da_raw, sums_coe _ _ (fun d => db_val ha t d) (fun d => wout_val ha k d)]
  refine congrArg Real.toEReal ?_
  unfold Cert.Ffn.Ffn.da
  exact Finset.sum_congr rfl fun d _ => mul_comm _ _
theorem dup_val (t : Fin 4096) (k : Fin 5504) : dup a.X a.G a.W a.O a.Y (ix2 t k) = ((a.ffn.dup t.val k.val : ℝ) : EReal) := by
  rw [dup_raw, silu_val ha, da_val ha, ← EReal.coe_mul]
  refine congrArg Real.toEReal ?_
  unfold Cert.Ffn.Ffn.dup; ring
theorem dgt_val (t : Fin 4096) (k : Fin 5504) : dgt a.X a.G a.W a.O a.Y (ix2 t k) = ((a.ffn.dgt t.val k.val : ℝ) : EReal) := by
  rw [dgt_raw, da_val ha, up_val ha, lgs_val ha, gate_val ha, lgsSlope_val ha]
  simp only [← EReal.coe_mul, ← EReal.coe_add]
  refine congrArg Real.toEReal ?_
  unfold Cert.Ffn.Ffn.dgt; ring
theorem dboth_val (t : Fin 4096) (k : Fin 11008) : dboth a.X a.G a.W a.O a.Y (ix2 t k) = ((cat (a.ffn.dgt t.val) (a.ffn.dup t.val) k.val : ℝ) : EReal) := by
  rcases half_cases k with ⟨k, rfl⟩ | ⟨k, rfl⟩
  · rw [dboth_gate, dgt_val ha]; exact congrArg Real.toEReal (cat_gate _ _ k).symm
  · rw [dboth_up, dup_val ha]; exact congrArg Real.toEReal (cat_up _ _ k).symm
theorem dh_val (t : Fin 4096) (d : Fin 2048) : dh a.X a.G a.W a.O a.Y (ix2 t d) = ((a.ffn.dh t.val d : ℝ) : EReal) := by
  rw [dh_raw, sums_coe _ _ (fun k => dboth_val ha t k) (fun k => win_val ha k d), sum_cat]; rfl
theorem outDwout_val (j : Fin 8) (f : Fin 688) (d : Fin 2048) : outDwout a.X a.G a.W a.O a.Y (ix3 j f d) = ((a.ffn.dwo (j.val * 688 + f.val) d : ℝ) : EReal) := by
  rw [outDwout_raw, sums_coe _ _ (fun t => db_val ha t d) (fun t => act_val ha t _)]
  refine congrArg Real.toEReal ?_
  unfold Cert.Ffn.Ffn.dwo
  exact Finset.sum_congr rfl fun t _ => mul_comm _ _
theorem outDwin_val (j : Fin 16) (f : Fin 688) (d : Fin 2048) : outDwin a.X a.G a.W a.O a.Y (ix3 j f d) =
    (((if j.val < 8 then a.ffn.dwg (j.val * 688 + f.val) d else a.ffn.dwu ((j.val - 8) * 688 + f.val) d) : ℝ) : EReal) := by
  rw [outDwin_raw, sums_coe _ _ (fun t => dboth_val ha t _) (fun t => hid_val ha t d)]
  refine congrArg Real.toEReal ?_
  have hf := f.isLt
  by_cases h : j.val < 8
  · rw [if_pos h]
    unfold Cert.Ffn.Ffn.dwg
    refine Finset.sum_congr rfl fun t _ => congrArg (fun r : ℝ => r * _) ?_
    exact if_pos (show j.val * 688 + f.val < 5504 by omega)
  · rw [if_neg h]
    unfold Cert.Ffn.Ffn.dwu
    refine Finset.sum_congr rfl fun t _ => congrArg (fun r : ℝ => r * _) ((if_neg (show ¬j.val * 688 + f.val < 5504 by omega)).trans ?_)
    exact congrArg (a.ffn.dup t.val) (by dsimp only; omega)
theorem outDg_val (d : Fin 2048) : outDg a.X a.G a.W a.O a.Y (ix2 0 d) = ((a.ffn.dg 4096 d : ℝ) : EReal) := by
  rw [outDg_raw, sums_coe _ _ (fun t => xhat_val ha t d) (fun t => dh_val ha t d)]
  refine congrArg Real.toEReal ?_
  unfold Cert.Ffn.Ffn.dg
  rw [Finset.sum_range]
  exact Finset.sum_congr rfl fun t _ => mul_comm _ _
theorem dxh_val (t : Fin 4096) (d : Fin 2048) : dxh a.X a.G a.W a.O a.Y (ix2 t d) = ((a.ffn.dh t.val d * a.ffn.g d : ℝ) : EReal) := by
  rw [dxh_raw, dh_val ha, ha.g_at, ← EReal.coe_mul]
theorem pull_val (t : Fin 4096) : pull a.X a.G a.W a.O a.Y (ix1 t) =
    (((∑ d, a.ffn.x t.val d * (a.ffn.dh t.val d * a.ffn.g d)) * (-(1 / 2) * (a.ffn.rs t.val * (a.ffn.rs t.val * a.ffn.rs t.val))) / 2048 : ℝ) : EReal) := by
  rw [pull_raw, sums_coe _ _ (ha.x_at t) (fun d => dxh_val ha t d), slope_val ha, ofBits_lanes, ← EReal.coe_mul, div_coe' _ (by norm_num)]
theorem outDx_val (t : Fin 4096) (d : Fin 2048) : outDx a.X a.G a.W a.O a.Y (ix2 t d) = ((a.ffn.dx t.val d : ℝ) : EReal) := by
  rw [outDx_raw, dy_val ha, dxh_val ha, root_val ha, pull_val ha, ha.x_at]
  simp only [← EReal.coe_mul, ← EReal.coe_add]
  refine congrArg Real.toEReal ?_
  have e : (∑ e, a.ffn.dh t.val e * a.ffn.g e * a.ffn.xh t.val e) = (∑ d, a.ffn.x t.val d * (a.ffn.dh t.val d * a.ffn.g d)) * a.ffn.rs t.val := by
    rw [Finset.sum_mul]
    exact Finset.sum_congr rfl fun d _ => by unfold Cert.Ffn.Ffn.xh; ring
  unfold Cert.Ffn.Ffn.dx
  rw [e]
  unfold Cert.Ffn.Ffn.xh
  ring

end Real

end Cert.Reference2Ideal.Ffn

end

end
-- ==== Proof.Value2.lean ====
module

public import proofs.«01_k».proof.Defs
public import proofs.«01_k».proof.Proof.Value
public import proofs.«01_k».proof.Proof.Reference2Ideal.Values
public import proofs.«01_k».proof.Proof.Gen.Pre_finite_inputs2

@[expose] public section

set_option maxRecDepth 16384

noncomputable section

namespace Cert.Ffn

open Idealize.ShloMosaic Idealize.ShloMosaic.TcCoe Idealize.SL.Sem

/-! # Finite arguments are real -/

theorem real_of_finite {m : (ℓ : Loc Cert.Kernel2Ideal.nD Cert.Kernel2Ideal.τ Cert.Kernel2Ideal.sig) → Buf (Elt Ideal) ℓ}
    (h : Cert.Pre_Kernel2Ideal_finite_inputs2 (hPre_finite_inputs2 := Cert.Pre_finite_inputs2.Gen.facts) m) (c : Dev Cert.Kernel2Ideal.nD) :
    (Cert.Kernel2Ideal.Ffn.argsOf m c).Real := by
  obtain ⟨h0, h1, h2, h3, h4⟩ := h c
  refine ⟨fun x => ?_, fun x => ?_, fun x => ?_, fun x => ?_, fun x => ?_⟩
  · have e := congrFun h0 x
    revert e
    pointwise [Cert.Pre_finite_inputs2.fn]
    exact Cert.Fox.real_of_word _
  · have e := congrFun h1 x
    revert e
    pointwise [Cert.Pre_finite_inputs2.fn]
    exact Cert.Fox.real_of_word _
  · have e := congrFun h2 x
    revert e
    pointwise [Cert.Pre_finite_inputs2.fn]
    exact Cert.Fox.real_of_word _
  · have e := congrFun h3 x
    revert e
    pointwise [Cert.Pre_finite_inputs2.fn]
    exact Cert.Fox.real_of_word _
  · have e := congrFun h4 x
    revert e
    pointwise [Cert.Pre_finite_inputs2.fn]
    exact Cert.Fox.real_of_word _

/-! # The two programs' arrays -/

section
open Cert.Reference2Ideal.Ffn
variable (a : Args) (ha : a.Real)
include ha
theorem loss_same : outLoss a.X a.G a.W a.O a.Y = a.ffn.lossArr := funext fun x => by
  have e : x = ix2 0 (x 1) := by ext i; fin_cases i <;> first | rfl | exact congrArg Fin.val (Subsingleton.elim (α := Fin 1) _ _)
  rw [e]
  exact outLoss_val ha (x 1)
theorem dx_same : outDx a.X a.G a.W a.O a.Y = Ffn.rowsArr a.ffn.dx := funext fun x => by
  have e : x = ix2 (x 0) (x 1) := by ext i; fin_cases i <;> rfl
  rw [e]
  exact outDx_val ha (x 0) (x 1)
theorem dg_same : outDg a.X a.G a.W a.O a.Y = a.ffn.scaleArr := funext fun x => by
  have e : x = ix2 0 (x 1) := by ext i; fin_cases i <;> first | rfl | exact congrArg Fin.val (Subsingleton.elim (α := Fin 1) _ _)
  rw [e]
  exact outDg_val ha (x 1)
theorem dwin_same : outDwin a.X a.G a.W a.O a.Y = a.ffn.dwinArr := funext fun x => by
  have e : x = ix3 (x 0) (x 1) (x 2) := by ext i; fin_cases i <;> rfl
  rw [e]
  exact outDwin_val ha (x 0) (x 1) (x 2)
theorem dwout_same : outDwout a.X a.G a.W a.O a.Y = a.ffn.dwoutArr := funext fun x => by
  have e : x = ix3 (x 0) (x 1) (x 2) := by ext i; fin_cases i <;> rfl
  rw [e]
  exact outDwout_val ha (x 0) (x 1) (x 2)
end

section Ref
variable (m' : (ℓ : Loc Cert.Reference2Ideal.nD Cert.Reference2Ideal.τ Cert.Reference2Ideal.sig) → Buf (Elt Ideal) ℓ) (c : Dev Cert.Reference2Ideal.nD) (a : Args) (ha : a.Real)
  (e0 : m' ((c.tc : Thread Cert.Reference2Ideal.nD Cert.Reference2Ideal.τ).loc Cert.Reference2Ideal.main_arg0) = a.X)
  (e1 : m' ((c.tc : Thread Cert.Reference2Ideal.nD Cert.Reference2Ideal.τ).loc Cert.Reference2Ideal.main_arg1) = a.G)
  (e2 : m' ((c.tc : Thread Cert.Reference2Ideal.nD Cert.Reference2Ideal.τ).loc Cert.Reference2Ideal.main_arg2) = a.W)
  (e3 : m' ((c.tc : Thread Cert.Reference2Ideal.nD Cert.Reference2Ideal.τ).loc Cert.Reference2Ideal.main_arg3) = a.O)
  (e4 : m' ((c.tc : Thread Cert.Reference2Ideal.nD Cert.Reference2Ideal.τ).loc Cert.Reference2Ideal.main_arg4) = a.Y)
include ha e0 e1 e2 e3 e4
theorem ref_loss : Cert.Reference2Ideal.Value.res_main_v80 m' c = a.ffn.lossArr :=
  (Cert.Reference2Ideal.Ffn.res_loss m' c).trans ((congr (congr (congr (congrArg₂ Cert.Reference2Ideal.Ffn.outLoss e0 e1) e2) e3) e4).trans (loss_same a ha))
theorem ref_dx : Cert.Reference2Ideal.Value.res_main_v75 m' c = Ffn.rowsArr a.ffn.dx :=
  (Cert.Reference2Ideal.Ffn.res_dx m' c).trans ((congr (congr (congr (congrArg₂ Cert.Reference2Ideal.Ffn.outDx e0 e1) e2) e3) e4).trans (dx_same a ha))
theorem ref_dg : Cert.Reference2Ideal.Value.res_main_v58 m' c = a.ffn.scaleArr :=
  (Cert.Reference2Ideal.Ffn.res_dg m' c).trans ((congr (congr (congr (congrArg₂ Cert.Reference2Ideal.Ffn.outDg e0 e1) e2) e3) e4).trans (dg_same a ha))
theorem ref_dwin : Cert.Reference2Ideal.Value.res_main_v77 m' c = a.ffn.dwinArr :=
  (Cert.Reference2Ideal.Ffn.res_dwin m' c).trans ((congr (congr (congr (congrArg₂ Cert.Reference2Ideal.Ffn.outDwin e0 e1) e2) e3) e4).trans (dwin_same a ha))
theorem ref_twin : Cert.Reference2Ideal.Value.res_main_v81 m' c = a.ffn.dwinArr :=
  (Cert.Reference2Ideal.Ffn.res_twin m' c).trans ((congr (congr (congr (congrArg₂ Cert.Reference2Ideal.Ffn.outDwin e0 e1) e2) e3) e4).trans (dwin_same a ha))
theorem ref_dwout : Cert.Reference2Ideal.Value.res_main_v78 m' c = a.ffn.dwoutArr :=
  (Cert.Reference2Ideal.Ffn.res_dwout m' c).trans ((congr (congr (congr (congrArg₂ Cert.Reference2Ideal.Ffn.outDwout e0 e1) e2) e3) e4).trans (dwout_same a ha))
theorem ref_dwoutTwin : Cert.Reference2Ideal.Value.res_main_v82 m' c = a.ffn.dwoutArr :=
  (Cert.Reference2Ideal.Ffn.res_dwoutTwin m' c).trans ((congr (congr (congr (congrArg₂ Cert.Reference2Ideal.Ffn.outDwout e0 e1) e2) e3) e4).trans (dwout_same a ha))
end Ref

/-- The two programs' results, equal as extended reals. -/
theorem algebraic : Cert.algebraic_Kernel2Ideal_Reference2Ideal_pre_finite_inputs2 (hKernel2Ideal := Cert.Kernel2Ideal.Gen.facts)
    (hReference2Ideal := Cert.Reference2Ideal.Gen.facts) (hPre_finite_inputs2 := Cert.Pre_finite_inputs2.Gen.facts) := by
  intro m g m' g' hpre hargs
  have ha := fun c => real_of_finite hpre c
  refine ⟨fun c => (Cert.Kernel2Ideal.Ffn.argsOf m c).ffn.lossArr, fun c => Ffn.rowsArr (Cert.Kernel2Ideal.Ffn.argsOf m c).ffn.dx,
    fun c => (Cert.Kernel2Ideal.Ffn.argsOf m c).ffn.scaleArr, fun c => (Cert.Kernel2Ideal.Ffn.argsOf m c).ffn.dwinArr, fun c => (Cert.Kernel2Ideal.Ffn.argsOf m c).ffn.dwinArr,
    fun c => (Cert.Kernel2Ideal.Ffn.argsOf m c).ffn.dwoutArr, fun c => (Cert.Kernel2Ideal.Ffn.argsOf m c).ffn.dwoutArr, ?_, ?_⟩
  · refine (θ_run Cert.Kernel2Ideal.defs _ _).mono (fun r h c => ?_) (Cert.Kernel2Ideal.Ffn.run (F := Ideal) m g)
    have hb := h.1 c
    exact ⟨(hb _ (Cert.Kernel2Ideal.Ffn.mem_unscoped Cert.Kernel2Ideal.main_v0_4 (by decide))).trans (Cert.Kernel2Ideal.Ffn.loss_end g (ha c)),
      (hb _ (Cert.Kernel2Ideal.Ffn.mem_unscoped Cert.Kernel2Ideal.main_v4_0 (by decide))).trans (Cert.Kernel2Ideal.Ffn.dx_end g (ha c)),
      (hb _ (Cert.Kernel2Ideal.Ffn.mem_unscoped Cert.Kernel2Ideal.main_v4_1 (by decide))).trans (Cert.Kernel2Ideal.Ffn.dg_end g (ha c)),
      (hb _ (Cert.Kernel2Ideal.Ffn.mem_unscoped Cert.Kernel2Ideal.main_v3_0 (by decide))).trans (Cert.Kernel2Ideal.Ffn.dwin_end g (ha c)),
      (hb _ (Cert.Kernel2Ideal.Ffn.mem_unscoped Cert.Kernel2Ideal.main_v3_1 (by decide))).trans (Cert.Kernel2Ideal.Ffn.twin_end g (ha c)),
      (hb _ (Cert.Kernel2Ideal.Ffn.mem_unscoped Cert.Kernel2Ideal.main_v5_0 (by decide))).trans (Cert.Kernel2Ideal.Ffn.dwout_end g (ha c)),
      (hb _ (Cert.Kernel2Ideal.Ffn.mem_unscoped Cert.Kernel2Ideal.main_v5_1 (by decide))).trans (Cert.Kernel2Ideal.Ffn.dwoutTwin_end g (ha c)),
      (hb _ (Cert.Kernel2Ideal.Ffn.mem_unscoped Cert.Kernel2Ideal.main_arg0 (by decide))).trans (Cert.Kernel2Ideal.Ffn.at6_args m g c Cert.Kernel2Ideal.main_arg0 (by decide)),
      (hb _ (Cert.Kernel2Ideal.Ffn.mem_unscoped Cert.Kernel2Ideal.main_arg1 (by decide))).trans (Cert.Kernel2Ideal.Ffn.at6_args m g c Cert.Kernel2Ideal.main_arg1 (by decide)),
      (hb _ (Cert.Kernel2Ideal.Ffn.mem_unscoped Cert.Kernel2Ideal.main_arg2 (by decide))).trans (Cert.Kernel2Ideal.Ffn.at6_args m g c Cert.Kernel2Ideal.main_arg2 (by decide)),
      (hb _ (Cert.Kernel2Ideal.Ffn.mem_unscoped Cert.Kernel2Ideal.main_arg3 (by decide))).trans (Cert.Kernel2Ideal.Ffn.at6_args m g c Cert.Kernel2Ideal.main_arg3 (by decide)),
      (hb _ (Cert.Kernel2Ideal.Ffn.mem_unscoped Cert.Kernel2Ideal.main_arg4 (by decide))).trans (Cert.Kernel2Ideal.Ffn.at6_args m g c Cert.Kernel2Ideal.main_arg4 (by decide))⟩
  · refine (θ_run Cert.Reference2Ideal.defs _ _).mono (fun r h c => ?_) (Cert.Reference2Ideal.Value.run (F := Ideal) m' g')
    obtain ⟨e0, e1, e2, e3, e4⟩ := hargs c
    obtain ⟨r0, r1, r2, r3, r4, r5, r6, rest⟩ := h c
    exact ⟨r0.trans (ref_loss m' c _ (ha c) e0 e1 e2 e3 e4), r1.trans (ref_dx m' c _ (ha c) e0 e1 e2 e3 e4), r2.trans (ref_dg m' c _ (ha c) e0 e1 e2 e3 e4),
      r3.trans (ref_dwin m' c _ (ha c) e0 e1 e2 e3 e4), r4.trans (ref_twin m' c _ (ha c) e0 e1 e2 e3 e4), r5.trans (ref_dwout m' c _ (ha c) e0 e1 e2 e3 e4),
      r6.trans (ref_dwoutTwin m' c _ (ha c) e0 e1 e2 e3 e4), rest⟩

end Cert.Ffn

end

end
-- ==== Proof.Product3.lean ====
module

public import proofs.«01_k».proof.Proof.Value2
public import proofs.«01_k».proof.Proof.Gen.Kernel3Ideal.Value
public import proofs.«01_k».proof.Proof.Gen.Reference3Ideal.Run
public import proofs.«01_k».proof.Defs
public import Idealize.ShloMosaic.Lib.Pipeline.ValueKit

/-! The gradient of the first half-step's input weights: the blocks of the product over the rows, and its twin, as sums. -/

@[expose] public section

set_option maxRecDepth 16384

noncomputable section

namespace Cert.Reference3Ideal.Mm

open Cert.Reference3Ideal Cert.Reference3Ideal.Gen
open Idealize.ShloMosaic

/-- The reference's product of its two arguments. -/
def refProd (A : FVec Ideal S2x8x688x4096 .bf16) (B : FVec Ideal S4096x2048 .bf16) : FVec Ideal S16x688x2048 .f32 :=
  shapeCast _ (transpose S11008x2048 [1, 0] (transpose S2048x11008 [1, 0] (Host.dotGeneral dot_S4096x11008_S4096x2048_S11008x2048_0_0_1_1_n_n none (transpose S4096x11008 [1, 0] (shapeCast _ (extf .f32 A bitsLt_bf16_f32) shapeCasts_S2x8x688x4096_S11008x4096) transposes_S11008x4096_S4096x11008_1_0) (extf .f32 B bitsLt_bf16_f32)) transposes_S11008x2048_S2048x11008_1_0) transposes_S2048x11008_S11008x2048_1_0) shapeCasts_S11008x2048_S16x688x2048

end Cert.Reference3Ideal.Mm

namespace Cert.Kernel3Ideal.Mm

open Cert.Kernel3Ideal Cert.Kernel3Ideal.Gen
open Cert.Reference3Ideal.Mm (refProd)
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val % 16, 0, 0] ∧ win0_1.index t = ![0, t.val / 16]
    ∧ win0_2.index t = ![t.val % 16, 0, t.val / 16] ∧ win0_3.index t = ![t.val % 16, 0, t.val / 16] :=
  (by decide +kernel : ∀ t : Fin grid0.N, _)
theorem points (t : Fin cfg0.N) : t.val < 32 := lt_of_lt_of_eq t.isLt (by decide +kernel)

/-- Each hidden unit's products summed over the rows. -/
def prod (A : FVec Ideal S16x688x4096 .bf16) (B : FVec Ideal S4096x2048 .bf16) (i : S16x688x2048.Idx) : EReal := (∑ t : Fin 4096, A (ix3 (i 0) (i 1) t) * B (ix2 t (i 2)) : EReal)
theorem prod_at (A : FVec Ideal S16x688x4096 .bf16) (B : FVec Ideal S4096x2048 .bf16) (j : Fin 16) (f : Fin 688) (d : Fin 2048) :
    prod A B (ix3 j f d) = (∑ t : Fin 4096, A (ix3 j f t) * B (ix2 t d) : EReal) := rfl

theorem mm_raw (p : Vec Ideal S1x688x4096 .bf16) (q : Vec Ideal S4096x1024 .bf16) (f : Fin 688) (e : Fin 1024) :
    k0_pay2 p q (k0_pay1 (F := Ideal)) (ix3 0 f e) = (∑ t, p (ix3 0 f t) * q (ix2 t e) : EReal) := by
  pointwise [k0_pay2, k0_pay1]
theorem twin_raw (p : Vec Ideal S1x688x1024 .f32) (f : Fin 688) (e : Fin 1024) : k0_pay3 p (ix3 0 f e) = p (ix3 0 f e) := by
  pointwise [k0_pay3]

/-- What a point leaves in the product's block and in its twin's. -/
theorem left_2 (t : Fin cfg0.N) : (dats m 0 c).after 2 t = k0_pay2 (iblk m c 0 t) (iblk m c 1 t) (k0_pay1 (F := Ideal)) := by
  rw [after0_2]; unfold outsAt0; frame_out
theorem left_3 (t : Fin cfg0.N) : (dats m 0 c).after 3 t = k0_pay3 (k0_pay2 (iblk m c 0 t) (iblk m c 1 t) (k0_pay1 (F := Ideal))) := by
  rw [after0_3]; unfold outsAt0; frame_out

theorem left_val (t : Fin cfg0.N) (f : Fin 688) (e : Fin 1024) (h0 : t.val % 16 < 16) (h1 : t.val / 16 * 1024 + e.val < 2048) :
    k0_pay2 (iblk m c 0 t) (iblk m c 1 t) (k0_pay1 (F := Ideal)) (ix3 0 f e) = prod (V m c main_v0) (V m c main_arg1) (ix3 ⟨t.val % 16, h0⟩ f ⟨t.val / 16 * 1024 + e.val, h1⟩) := by
  rw [mm_raw, prod_at]
  refine Finset.sum_congr rfl fun s _ => congrArg₂ (fun x y : EReal => x * y) ?_ ?_
  · blk_ext [iblk, (idx t).1]
  · blk_ext [iblk, (idx t).2.1]
theorem mm_array : (dats m 0 c).arrAt 2 cfg0.N = prod (V m c main_v0) (V m c main_arg1) := by
  refine (dats m 0 c).arrAt_eq_of_covers 2 _ (by decide +kernel) fun t hf y => ?_
  have ht := points t
  have h2 : (y 2).val < 1024 := (y 2).isLt
  blk_simp [(idx t).2.2.1]
  rw [left_2]
  refine (congrArg (k0_pay2 _ _ _) (show y = ix3 0 (y 1) (y 2) from by ext a; fin_cases a <;> first | rfl | exact congrArg Fin.val (Subsingleton.elim (α := Fin 1) _ _))).trans ((left_val m c t (y 1) (y 2) (by omega) (by omega)).trans ?_)
  blk_ext [(idx t).2.2.1]
theorem twin_array : (dats m 0 c).arrAt 3 cfg0.N = prod (V m c main_v0) (V m c main_arg1) := by
  refine (dats m 0 c).arrAt_eq_of_covers 3 _ (by decide +kernel) fun t hf y => ?_
  have ht := points t
  have h2 : (y 2).val < 1024 := (y 2).isLt
  blk_simp [(idx t).2.2.2]
  rw [left_3]
  refine (congrArg (k0_pay3 _) (show y = ix3 0 (y 1) (y 2) from by ext a; fin_cases a <;> first | rfl | exact congrArg Fin.val (Subsingleton.elim (α := Fin 1) _ _))).trans ((twin_raw _ (y 1) (y 2)).trans ((left_val m c t (y 1) (y 2) (by omega) (by omega)).trans ?_))
  blk_ext [(idx t).2.2.2]

/-- The two halves side by side, as the host's reshape hands them to the call. -/
def stack (A : FVec Ideal S2x8x688x4096 .bf16) : FVec Ideal S16x688x4096 .bf16 := shapeCast S16x688x4096 A shapeCasts_S2x8x688x4096_S16x688x4096
theorem stack_raw (A : FVec Ideal S2x8x688x4096 .bf16) (s : Fin 2) (j : Fin 8) (f : Fin 688) (t : Fin 4096) :
    stack A (ix3 ⟨s.val * 8 + j.val, by omega⟩ f t) = A (ix4 s j f t) := by
  pointwise [stack]
theorem V_stack : V m c main_v0 = stack (m ((c : Thread nD τ).loc main_arg0)) := by
  unfold stack
  dsimp only [V, hostOps0]
  after_results
  rfl

theorem ref_raw (A : FVec Ideal S2x8x688x4096 .bf16) (B : FVec Ideal S4096x2048 .bf16) (s : Fin 2) (j : Fin 8) (f : Fin 688) (d : Fin 2048) :
    refProd A B (ix3 ⟨s.val * 8 + j.val, by omega⟩ f d) = (∑ t : Fin 4096, A (ix4 s j f t) * B (ix2 t d) : EReal) := by
  pointwise [refProd]
theorem same (A : FVec Ideal S2x8x688x4096 .bf16) (B : FVec Ideal S4096x2048 .bf16) : refProd A B = prod (stack A) B := funext fun x => by
  have h0 : (x 0).val < 16 := (x 0).isLt
  have e : x = ix3 (⟨(⟨(x 0).val / 8, by omega⟩ : Fin 2).val * 8 + (⟨(x 0).val % 8, by omega⟩ : Fin 8).val, by dsimp only; omega⟩ : Fin 16) (x 1) (x 2) := by
    ext i; fin_cases i
    · show (x 0).val = (x 0).val / 8 * 8 + (x 0).val % 8
      omega
    · rfl
    · rfl
  refine (congrArg (refProd A B) e).trans ((ref_raw A B _ _ (x 1) (x 2)).trans ?_)
  refine Eq.symm ((congrArg (prod (stack A) B) e).trans ((prod_at _ _ _ (x 1) (x 2)).trans ?_))
  exact Finset.sum_congr rfl fun t _ => congrArg (fun y : EReal => y * B (ix2 t (x 2))) (stack_raw A _ _ _ _)

/-- The two programs' results, equal as extended reals. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => prod (V m c main_v0) (V m c main_arg1), fun c => prod (V m c main_v0) (V m c main_arg1), ?_, ?_⟩
  · refine (θ_run Cert.Kernel3Ideal.defs _ _).mono (fun r h c => ?_) (Cert.Kernel3Ideal.Value.run_blocks (F := Ideal) m g)
    obtain ⟨h0, h1, rest⟩ := h c
    exact ⟨h0.trans (mm_array m c), h1.trans (twin_array m c), rest⟩
  · refine (θ_run Cert.Reference3Ideal.defs _ _).mono (fun r h c => ?_) (Cert.Reference3Ideal.Value.run (F := Ideal) m' g')
    obtain ⟨e0, e1⟩ := hargs c
    obtain ⟨h0, h1, rest⟩ := h c
    have hp : refProd (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = prod (V m c main_v0) (V m c main_arg1) :=
      (congrArg₂ refProd e0 e1).trans ((same _ _).trans (congrArg₂ prod (V_stack m c).symm (V_main_arg1 m c).symm))
    exact ⟨h0.trans hp, h1.trans hp, rest⟩

/-- The reference's frame: the run of its operations leaves the arguments, and it declares no semaphore. -/
theorem frameReference : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

end Cert.Kernel3Ideal.Mm

end
-- ==== Proof.Product4.lean ====
module

public import proofs.«01_k».proof.Proof.Product3
public import proofs.«01_k».proof.Proof.Gen.Kernel4Ideal.Value
public import proofs.«01_k».proof.Proof.Gen.Reference4Ideal.Run
public import proofs.«01_k».proof.Defs
public import Idealize.ShloMosaic.Lib.Pipeline.ValueKit

/-! The gradient of the first half-step's output weights: the blocks of the product over the rows, and its twin, as sums. -/

@[expose] public section

set_option maxRecDepth 16384

noncomputable section

namespace Cert.Reference4Ideal.Mm

open Cert.Reference4Ideal Cert.Reference4Ideal.Gen
open Idealize.ShloMosaic

/-- The reference's product of its two arguments. -/
def refProd (A : FVec Ideal S8x688x4096 .bf16) (B : FVec Ideal S4096x2048 .bf16) : FVec Ideal S8x688x2048 .f32 :=
  shapeCast _ (transpose S5504x2048 [1, 0] (Host.dotGeneral dot_S4096x2048_S4096x5504_S2048x5504_0_0_1_1_n_n none (extf .f32 B bitsLt_bf16_f32) (transpose S4096x5504 [1, 0] (shapeCast _ (extf .f32 A bitsLt_bf16_f32) shapeCasts_S8x688x4096_S5504x4096) transposes_S5504x4096_S4096x5504_1_0)) transposes_S2048x5504_S5504x2048_1_0) shapeCasts_S5504x2048_S8x688x2048

end Cert.Reference4Ideal.Mm

namespace Cert.Kernel4Ideal.Mm

open Cert.Kernel4Ideal Cert.Kernel4Ideal.Gen
open Cert.Reference4Ideal.Mm (refProd)
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val % 8, 0, 0] ∧ win0_1.index t = ![0, t.val / 8]
    ∧ win0_2.index t = ![t.val % 8, 0, t.val / 8] ∧ win0_3.index t = ![t.val % 8, 0, t.val / 8] :=
  (by decide +kernel : ∀ t : Fin grid0.N, _)
theorem points (t : Fin cfg0.N) : t.val < 16 := lt_of_lt_of_eq t.isLt (by decide +kernel)

/-- Each hidden unit's products summed over the rows. -/
def prod (A : FVec Ideal S8x688x4096 .bf16) (B : FVec Ideal S4096x2048 .bf16) (i : S8x688x2048.Idx) : EReal := (∑ t : Fin 4096, A (ix3 (i 0) (i 1) t) * B (ix2 t (i 2)) : EReal)
theorem prod_at (A : FVec Ideal S8x688x4096 .bf16) (B : FVec Ideal S4096x2048 .bf16) (j : Fin 8) (f : Fin 688) (d : Fin 2048) :
    prod A B (ix3 j f d) = (∑ t : Fin 4096, A (ix3 j f t) * B (ix2 t d) : EReal) := rfl

theorem mm_raw (p : Vec Ideal S1x688x4096 .bf16) (q : Vec Ideal S4096x1024 .bf16) (f : Fin 688) (e : Fin 1024) :
    k0_pay2 p q (k0_pay1 (F := Ideal)) (ix3 0 f e) = (∑ t, p (ix3 0 f t) * q (ix2 t e) : EReal) := by
  pointwise [k0_pay2, k0_pay1]
theorem twin_raw (p : Vec Ideal S1x688x1024 .f32) (f : Fin 688) (e : Fin 1024) : k0_pay3 p (ix3 0 f e) = p (ix3 0 f e) := by
  pointwise [k0_pay3]

/-- What a point leaves in the product's block and in its twin's. -/
theorem left_2 (t : Fin cfg0.N) : (dats m 0 c).after 2 t = k0_pay2 (iblk m c 0 t) (iblk m c 1 t) (k0_pay1 (F := Ideal)) := by
  rw [after0_2]; unfold outsAt0; frame_out
theorem left_3 (t : Fin cfg0.N) : (dats m 0 c).after 3 t = k0_pay3 (k0_pay2 (iblk m c 0 t) (iblk m c 1 t) (k0_pay1 (F := Ideal))) := by
  rw [after0_3]; unfold outsAt0; frame_out

theorem left_val (t : Fin cfg0.N) (f : Fin 688) (e : Fin 1024) (h0 : t.val % 8 < 8) (h1 : t.val / 8 * 1024 + e.val < 2048) :
    k0_pay2 (iblk m c 0 t) (iblk m c 1 t) (k0_pay1 (F := Ideal)) (ix3 0 f e) = prod (V m c main_arg0) (V m c main_arg1) (ix3 ⟨t.val % 8, h0⟩ f ⟨t.val / 8 * 1024 + e.val, h1⟩) := by
  rw [mm_raw, prod_at]
  refine Finset.sum_congr rfl fun s _ => congrArg₂ (fun x y : EReal => x * y) ?_ ?_
  · blk_ext [iblk, (idx t).1]
  · blk_ext [iblk, (idx t).2.1]
theorem mm_array : (dats m 0 c).arrAt 2 cfg0.N = prod (V m c main_arg0) (V m c main_arg1) := by
  refine (dats m 0 c).arrAt_eq_of_covers 2 _ (by decide +kernel) fun t hf y => ?_
  have ht := points t
  have h2 : (y 2).val < 1024 := (y 2).isLt
  blk_simp [(idx t).2.2.1]
  rw [left_2]
  refine (congrArg (k0_pay2 _ _ _) (show y = ix3 0 (y 1) (y 2) from by ext a; fin_cases a <;> first | rfl | exact congrArg Fin.val (Subsingleton.elim (α := Fin 1) _ _))).trans ((left_val m c t (y 1) (y 2) (by omega) (by omega)).trans ?_)
  blk_ext [(idx t).2.2.1]
theorem twin_array : (dats m 0 c).arrAt 3 cfg0.N = prod (V m c main_arg0) (V m c main_arg1) := by
  refine (dats m 0 c).arrAt_eq_of_covers 3 _ (by decide +kernel) fun t hf y => ?_
  have ht := points t
  have h2 : (y 2).val < 1024 := (y 2).isLt
  blk_simp [(idx t).2.2.2]
  rw [left_3]
  refine (congrArg (k0_pay3 _) (show y = ix3 0 (y 1) (y 2) from by ext a; fin_cases a <;> first | rfl | exact congrArg Fin.val (Subsingleton.elim (α := Fin 1) _ _))).trans ((twin_raw _ (y 1) (y 2)).trans ((left_val m c t (y 1) (y 2) (by omega) (by omega)).trans ?_))
  blk_ext [(idx t).2.2.2]

theorem ref_raw (A : FVec Ideal S8x688x4096 .bf16) (B : FVec Ideal S4096x2048 .bf16) (j : Fin 8) (f : Fin 688) (d : Fin 2048) :
    refProd A B (ix3 j f d) = (∑ t : Fin 4096, A (ix3 j f t) * B (ix2 t d) : EReal) := by
  pointwise [refProd]
  exact Finset.sum_congr rfl fun t _ => mul_comm _ _
theorem same (A : FVec Ideal S8x688x4096 .bf16) (B : FVec Ideal S4096x2048 .bf16) : refProd A B = prod A B := funext fun x => by
  have e : x = ix3 (x 0) (x 1) (x 2) := by ext i; fin_cases i <;> rfl
  exact (congrArg (refProd A B) e).trans ((ref_raw A B (x 0) (x 1) (x 2)).trans ((congrArg (prod A B) e).trans (prod_at A B (x 0) (x 1) (x 2))).symm)

/-- The two programs' results, equal as extended reals. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => prod (V m c main_arg0) (V m c main_arg1), fun c => prod (V m c main_arg0) (V m c main_arg1), ?_, ?_⟩
  · refine (θ_run Cert.Kernel4Ideal.defs _ _).mono (fun r h c => ?_) (Cert.Kernel4Ideal.Value.run_blocks (F := Ideal) m g)
    obtain ⟨h0, h1, rest⟩ := h c
    exact ⟨h0.trans (mm_array m c), h1.trans (twin_array m c), rest⟩
  · refine (θ_run Cert.Reference4Ideal.defs _ _).mono (fun r h c => ?_) (Cert.Reference4Ideal.Value.run (F := Ideal) m' g')
    obtain ⟨e0, e1⟩ := hargs c
    obtain ⟨h0, h1, rest⟩ := h c
    have hp : refProd (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = prod (V m c main_arg0) (V m c main_arg1) :=
      (congrArg₂ refProd e0 e1).trans ((same _ _).trans (congrArg₂ prod (V_main_arg0 m c).symm (V_main_arg1 m c).symm))
    exact ⟨h0.trans hp, h1.trans hp, rest⟩

/-- The reference's frame: the run of its operations leaves the arguments, and it declares no semaphore. -/
theorem frameReference : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

end Cert.Kernel4Ideal.Mm

end
-- ==== Proof.Product6.lean ====
module

public import proofs.«01_k».proof.Proof.Product4
public import proofs.«01_k».proof.Proof.Gen.Kernel6Ideal.Value
public import proofs.«01_k».proof.Proof.Gen.Reference6Ideal.Run
public import proofs.«01_k».proof.Defs
public import Idealize.ShloMosaic.Lib.Pipeline.ValueKit

/-! The cotangent of the two attentions' joint output: the blocks of the product with the transposed weights, as sums. -/

@[expose] public section

set_option maxRecDepth 16384

noncomputable section

namespace Cert.Reference6Ideal.Mm

open Cert.Reference6Ideal Cert.Reference6Ideal.Gen
open Idealize.ShloMosaic

/-- The reference's result of its arguments. -/
def refOut (A : FVec Ideal S4096x2048 .f32) (B : FVec Ideal S2048x2048 .bf16) : FVec Ideal S4096x2048 .f32 :=
  Host.dotGeneral dot_S4096x2048_S2048x2048_S4096x2048_1_1_0_0_n_n none A (extf .f32 B bitsLt_bf16_f32)

end Cert.Reference6Ideal.Mm

namespace Cert.Kernel6Ideal.Mm

open Cert.Kernel6Ideal Cert.Kernel6Ideal.Gen
open Cert.Reference6Ideal.Mm (refOut)
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)
theorem points (t : Fin cfg0.N) : t.val < 4 := lt_of_lt_of_eq t.isLt (by decide +kernel)

/-- Each row's products with a row of the weights, summed. -/
def out (A : FVec Ideal S4096x2048 .f32) (B : FVec Ideal S2048x2048 .bf16) (i : S4096x2048.Idx) : EReal := (∑ d : Fin 2048, A (ix2 (i 0) d) * B (ix2 (i 1) d) : EReal)
theorem out_at (A : FVec Ideal S4096x2048 .f32) (B : FVec Ideal S2048x2048 .bf16) (t : Fin 4096) (n : Fin 2048) :
    out A B (ix2 t n) = (∑ d : Fin 2048, A (ix2 t d) * B (ix2 n d) : EReal) := rfl

theorem mm_raw (p : Vec Ideal S1024x2048 .f32) (q : Vec Ideal S2048x2048 .bf16) (r : Fin 1024) (n : Fin 2048) :
    k0_pay2 p q (k0_pay1 (F := Ideal)) (ix2 r n) = (∑ d, p (ix2 r d) * q (ix2 n d) : EReal) := by
  pointwise [k0_pay2, k0_pay1]

/-- What a point leaves in its block. -/
theorem left_2 (t : Fin cfg0.N) : (dats m 0 c).after 2 t = k0_pay2 (iblk m c 0 t) (iblk m c 1 t) (k0_pay1 (F := Ideal)) := by
  rw [after0_2]; unfold outsAt0; frame_out

theorem left_val (t : Fin cfg0.N) (r : Fin 1024) (n : Fin 2048) (h : t.val * 1024 + r.val < 4096) :
    k0_pay2 (iblk m c 0 t) (iblk m c 1 t) (k0_pay1 (F := Ideal)) (ix2 r n) = out (V m c main_arg0) (V m c main_arg1) (ix2 ⟨t.val * 1024 + r.val, h⟩ n) := by
  rw [mm_raw, out_at]
  refine Finset.sum_congr rfl fun s _ => congrArg₂ (fun x y : EReal => x * y) ?_ ?_
  · blk_ext [iblk, (idx t).1]
  · blk_ext [iblk, (idx t).2.1]
theorem arr : (dats m 0 c).arrAt 2 cfg0.N = out (V m c main_arg0) (V m c main_arg1) := by
  refine (dats m 0 c).arrAt_eq_of_covers 2 _ (by decide +kernel) fun t hf y => ?_
  have ht := points t
  have h0 : (y 0).val < 1024 := (y 0).isLt
  blk_simp [(idx t).2.2]
  rw [left_2]
  refine (congrArg (k0_pay2 _ _ _) (show y = ix2 (y 0) (y 1) from by ext a; fin_cases a <;> rfl)).trans ((left_val m c t (y 0) (y 1) (by omega)).trans ?_)
  blk_ext [(idx t).2.2]
theorem out_array : (dats m 0 c).arrAt 2 cfg0.N = out (m ((c : Thread nD τ).loc main_arg0)) (m ((c : Thread nD τ).loc main_arg1)) :=
  (arr m c).trans (congrArg₂ out (V_main_arg0 m c) (V_main_arg1 m c))

theorem ref_raw (A : FVec Ideal S4096x2048 .f32) (B : FVec Ideal S2048x2048 .bf16) (t : Fin 4096) (n : Fin 2048) :
    refOut A B (ix2 t n) = (∑ d : Fin 2048, A (ix2 t d) * B (ix2 n d) : EReal) := by
  pointwise [refOut]
theorem same (A : FVec Ideal S4096x2048 .f32) (B : FVec Ideal S2048x2048 .bf16) : refOut A B = out A B := funext fun x => by
  have e : x = ix2 (x 0) (x 1) := by ext i; fin_cases i <;> rfl
  exact (congrArg (refOut A B) e).trans ((ref_raw A B (x 0) (x 1)).trans ((congrArg (out A B) e).trans (out_at A B (x 0) (x 1))).symm)

/-- The two programs' results, equal as extended reals. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => out (m ((c : Thread nD τ).loc main_arg0)) (m ((c : Thread nD τ).loc main_arg1)), ?_, ?_⟩
  · refine (θ_run Cert.Kernel6Ideal.defs _ _).mono (fun r h c => ?_) (Cert.Kernel6Ideal.Value.run_blocks (F := Ideal) m g)
    obtain ⟨h0, rest⟩ := h c
    exact ⟨h0.trans (out_array m c), rest⟩
  · refine (θ_run Cert.Reference6Ideal.defs _ _).mono (fun r h c => ?_) (Cert.Reference6Ideal.Value.run (F := Ideal) m' g')
    obtain ⟨e0, e1⟩ := hargs c
    obtain ⟨h0, rest⟩ := h c
    exact ⟨h0.trans ((congrArg₂ refOut e0 e1).trans (same _ _)), rest⟩

/-- The reference's frame: the run of its operations leaves the arguments, and it declares no semaphore. -/
theorem frameReference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Kernel6Ideal.Mm

end
-- ==== Proof.Product5.lean ====
module

public import proofs.«01_k».proof.Proof.Product6
public import proofs.«01_k».proof.Proof.Gen.Kernel5Ideal.Value
public import proofs.«01_k».proof.Proof.Gen.Reference5Ideal.Run
public import proofs.«01_k».proof.Defs
public import Idealize.ShloMosaic.Lib.Pipeline.ValueKit

/-! The first half-step's down projection: the sum over the chunks of hidden units, halved and added to the residual. -/

@[expose] public section

set_option maxRecDepth 16384

noncomputable section

namespace Cert.Reference5Ideal.Mm

open Cert.Reference5Ideal Cert.Reference5Ideal.Gen
open Idealize.ShloMosaic

/-- The reference's result of its arguments. -/
def refOut (A : FVec Ideal S4096x2048 .f32) (B : FVec Ideal S8x688x4096 .bf16) (W : FVec Ideal S8x688x2048 .bf16) : FVec Ideal S4096x2048 .f32 :=
  addf A (mulf (broadcastInDim S4096x2048 ![] bcast_S_S4096x2048 (constant S_ .f32 0x3F000000#32)) (Host.dotGeneral dot_S4096x5504_S5504x2048_S4096x2048_1_0_0_1_n_n none (transpose S4096x5504 [1, 0] (shapeCast _ (extf .f32 B bitsLt_bf16_f32) shapeCasts_S8x688x4096_S5504x4096) transposes_S5504x4096_S4096x5504_1_0) (shapeCast _ (extf .f32 W bitsLt_bf16_f32) shapeCasts_S8x688x2048_S5504x2048)))

end Cert.Reference5Ideal.Mm

namespace Cert.Kernel5Ideal.Mm

open Cert.Kernel5Ideal Cert.Kernel5Ideal.Gen
open Cert.Reference5Ideal.Mm (refOut)
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val / 8, 0] ∧ win0_1.index t = ![t.val % 8, 0, t.val / 8]
    ∧ win0_2.index t = ![t.val % 8, 0, 0] ∧ win0_3.index t = ![t.val / 8, 0] :=
  (by decide +kernel : ∀ t : Fin grid0.N, _)
theorem points (t : Fin cfg0.N) : t.val < 32 := lt_of_lt_of_eq t.isLt (by decide +kernel)

section Spec
variable (A : FVec Ideal S4096x2048 .f32) (B : FVec Ideal S8x688x4096 .bf16) (W : FVec Ideal S8x688x2048 .bf16)

/-- One hidden unit's product; the units of a chunk of 688 lie side by side. -/
def unit (r : Fin 4096) (d : Fin 2048) (k : ℕ) : EReal :=
  if h : k < 5504 then (B (ix3 ⟨k / 688, by omega⟩ ⟨k % 688, by omega⟩ r) * W (ix3 ⟨k / 688, by omega⟩ ⟨k % 688, by omega⟩ d) : EReal) else 0
theorem unit_at (r : Fin 4096) (d : Fin 2048) (j : Fin 8) (f : Fin 688) : unit B W r d (j.val * 688 + f.val) = (B (ix3 j f r) * W (ix3 j f d) : EReal) := by
  have h : j.val * 688 + f.val < 5504 := by omega
  have e0 : (⟨(j.val * 688 + f.val) / 688, by omega⟩ : Fin 8) = j := Fin.ext (by show (j.val * 688 + f.val) / 688 = j.val; omega)
  have e1 : (⟨(j.val * 688 + f.val) % 688, by omega⟩ : Fin 688) = f := Fin.ext (by show (j.val * 688 + f.val) % 688 = f.val; omega)
  unfold unit
  rw [dif_pos h, e0, e1]
/-- One chunk's sum. -/
def chunk (r : Fin 4096) (d : Fin 2048) (j : Fin 8) : EReal := (∑ f : Fin 688, B (ix3 j f r) * W (ix3 j f d) : EReal)
/-- The sum of the first chunks. -/
def part (r : Fin 4096) (d : Fin 2048) (j : ℕ) : EReal := ∑ k ∈ Finset.range (j * 688), unit B W r d k
theorem part_zero (r : Fin 4096) (d : Fin 2048) : part B W r d 0 = 0 := by
  unfold part
  rw [Nat.zero_mul, Finset.range_zero, Finset.sum_empty]
theorem part_step (r : Fin 4096) (d : Fin 2048) (j : Fin 8) : part B W r d j.val + chunk B W r d j = part B W r d (j.val + 1) := by
  unfold part chunk
  rw [Nat.add_mul, Nat.one_mul, Finset.sum_range_add, ← Fin.sum_univ_eq_sum_range (fun k => unit B W r d (j.val * 688 + k))]
  exact congrArg (fun y : EReal => _ + y) (Finset.sum_congr rfl fun f _ => (unit_at B W r d j f).symm)

/-- The residual plus half the sum over every hidden unit. -/
def out (i : S4096x2048.Idx) : EReal := A i + Ideal.ofBits FTy.f32 0x3F000000#32 * part B W (i 0) (i 1) 8
theorem out_at (t : Fin 4096) (d : Fin 2048) : out A B W (ix2 t d) = A (ix2 t d) + Ideal.ofBits FTy.f32 0x3F000000#32 * part B W t d 8 := rfl

theorem ref_raw (t : Fin 4096) (d : Fin 2048) : refOut A B W (ix2 t d) = (A (ix2 t d) + Ideal.ofBits FTy.f32 0x3F000000#32 * ∑ k : Fin 5504, B (ix3 ⟨k.val / 688, by omega⟩ ⟨k.val % 688, by omega⟩ t) * W (ix3 ⟨k.val / 688, by omega⟩ ⟨k.val % 688, by omega⟩ d) : EReal) := by
  pointwise [refOut]
theorem ref_sum (t : Fin 4096) (d : Fin 2048) : (∑ k : Fin 5504, B (ix3 ⟨k.val / 688, by omega⟩ ⟨k.val % 688, by omega⟩ t) * W (ix3 ⟨k.val / 688, by omega⟩ ⟨k.val % 688, by omega⟩ d) : EReal) = part B W t d 8 := by
  unfold part
  rw [← Fin.sum_univ_eq_sum_range (fun k => unit B W t d k)]
  refine Finset.sum_congr rfl fun k _ => ?_
  unfold unit
  rw [dif_pos k.isLt]
theorem same : refOut A B W = out A B W := funext fun x => by
  have e : x = ix2 (x 0) (x 1) := by ext i; fin_cases i <;> rfl
  refine (congrArg (refOut A B W) e).trans ((ref_raw A B W (x 0) (x 1)).trans ?_)
  refine Eq.trans ?_ ((congrArg (out A B W) e).trans (out_at A B W (x 0) (x 1))).symm
  exact congrArg (fun y : EReal => A (ix2 (x 0) (x 1)) + Ideal.ofBits FTy.f32 0x3F000000#32 * y) (ref_sum B W (x 0) (x 1))
end Spec

theorem zero_raw (r : Fin 1024) (d : Fin 2048) : k0_pay1 (F := Ideal) (ix2 r d) = (0 : EReal) := by
  pointwise [k0_pay1]
/-- The sum over a chunk's blocks. -/
def piece (p : Vec Ideal S1x688x1024 .bf16) (q : Vec Ideal S1x688x2048 .bf16) (r : Fin 1024) (d : Fin 2048) : EReal := (∑ f, p (ix3 0 f r) * q (ix3 0 f d) : EReal)
theorem step_raw (y : Vec Ideal S1024x2048 .f32) (p : Vec Ideal S1x688x1024 .bf16) (q : Vec Ideal S1x688x2048 .bf16) (r : Fin 1024) (d : Fin 2048) :
    k0_pay2 y p q (ix2 r d) = (y (ix2 r d) + piece p q r d : EReal) := by
  unfold piece
  pointwise [k0_pay2]
theorem last_raw (x y : Vec Ideal S1024x2048 .f32) (r : Fin 1024) (d : Fin 2048) :
    k0_pay3 x y (ix2 r d) = (x (ix2 r d) + Ideal.ofBits FTy.f32 0x3F000000#32 * y (ix2 r d) : EReal) := by
  pointwise [k0_pay3]

/-- A point's chunk of products. -/
theorem chunk_val (t : Fin cfg0.N) (r : Fin 1024) (d : Fin 2048) (h : t.val / 8 * 1024 + r.val < 4096) :
    piece (iblk m c 1 t) (iblk m c 2 t) r d = chunk (V m c main_arg1) (V m c main_arg2) ⟨t.val / 8 * 1024 + r.val, h⟩ d ⟨t.val % 8, Nat.mod_lt _ (by decide)⟩ := by
  refine Finset.sum_congr rfl fun s _ => congrArg₂ (fun x y : EReal => x * y) ?_ ?_
  · blk_ext [iblk, (idx t).2.1]
  · blk_ext [iblk, (idx t).2.2.1]
theorem rows_val (t : Fin cfg0.N) (r : Fin 1024) (d : Fin 2048) (h : t.val / 8 * 1024 + r.val < 4096) :
    (iblk m c 0 t : FVec Ideal S1024x2048 .f32) (ix2 r d) = (V m c main_arg0 : FVec Ideal S4096x2048 .f32) (ix2 ⟨t.val / 8 * 1024 + r.val, h⟩ d) := by
  blk_ext [iblk, (idx t).1]

/-- What a point leaves, from what the point before left. -/
theorem first_eq (t : Fin cfg0.N) (h0 : t.val % 8 = 0) : outsAt0 m c t.val t.isLt = k0_pay2 (k0_pay1 (F := Ideal)) (iblk m c 1 t) (iblk m c 2 t) :=
  (outsAt0_A m c t h0 (by omega)).trans (Value.out_A_3_eq ..)
theorem later_eq (t : Fin cfg0.N) (h0 : ¬t.val % 8 = 0) (h1 : ¬t.val % 8 = 7) :
    outsAt0 m c t.val t.isLt = k0_pay2 (outsAt0 m c (t.val - 1) (Nat.lt_of_le_of_lt (Nat.sub_le _ _) t.isLt)) (iblk m c 1 t) (iblk m c 2 t) :=
  (outsAt0_B m c t h0 h1).trans (Value.out_B_3_eq ..)
theorem last_eq (t : Fin cfg0.N) (h0 : ¬t.val % 8 = 0) (h1 : t.val % 8 = 7) :
    outsAt0 m c t.val t.isLt = k0_pay3 (iblk m c 0 t) (k0_pay2 (outsAt0 m c (t.val - 1) (Nat.lt_of_le_of_lt (Nat.sub_le _ _) t.isLt)) (iblk m c 1 t) (iblk m c 2 t)) :=
  (outsAt0_C m c t h0 h1).trans (Value.out_C_3_eq ..)

/-- Before its last chunk a block of rows holds the sum of the chunks so far. -/
theorem kept_val : ∀ (n : ℕ) (hn : n < cfg0.N) (_ : ¬n % 8 = 7) (r : Fin 1024) (d : Fin 2048) (h : n / 8 * 1024 + r.val < 4096),
    outsAt0 m c n hn (ix2 r d) = part (V m c main_arg1) (V m c main_arg2) ⟨n / 8 * 1024 + r.val, h⟩ d (n % 8 + 1) := by
  intro n
  induction n with
  | zero =>
    intro hn h7 r d h
    refine (congrFun (first_eq m c ⟨0, hn⟩ rfl) _).trans ((step_raw _ _ _ r d).trans ?_)
    rw [zero_raw, chunk_val m c ⟨0, hn⟩ r d h, ← part_zero (V m c main_arg1) (V m c main_arg2) ⟨0 / 8 * 1024 + r.val, h⟩ d]
    exact part_step _ _ _ d 0
  | succ n ih =>
    intro hn h7 r d h
    by_cases h0 : (n + 1) % 8 = 0
    · refine (congrFun (first_eq m c ⟨n + 1, hn⟩ h0) _).trans ((step_raw _ _ _ r d).trans ?_)
      rw [zero_raw, chunk_val m c ⟨n + 1, hn⟩ r d h, ← part_zero (V m c main_arg1) (V m c main_arg2) ⟨(n + 1) / 8 * 1024 + r.val, h⟩ d]
      refine Eq.trans ?_ (part_step _ _ _ d ⟨(n + 1) % 8, Nat.mod_lt _ (by decide)⟩)
      rw [show part (V m c main_arg1) (V m c main_arg2) ⟨(n + 1) / 8 * 1024 + r.val, h⟩ d (⟨(n + 1) % 8, Nat.mod_lt _ (by decide)⟩ : Fin 8).val = part (V m c main_arg1) (V m c main_arg2) ⟨(n + 1) / 8 * 1024 + r.val, h⟩ d 0 from congrArg _ h0]
    · have ed : n / 8 = (n + 1) / 8 := by omega
      have em : n % 8 + 1 = (n + 1) % 8 := by omega
      have hr : n / 8 * 1024 + r.val < 4096 := by omega
      refine (congrFun (later_eq m c ⟨n + 1, hn⟩ h0 h7) _).trans ((step_raw _ _ _ r d).trans ?_)
      rw [chunk_val m c ⟨n + 1, hn⟩ r d h]
      refine Eq.trans (congrArg (fun y : EReal => y + _) ?_) (part_step _ _ _ d ⟨(n + 1) % 8, Nat.mod_lt _ (by decide)⟩)
      refine (ih (by omega) (by omega) r d hr).trans ?_
      exact congrArg₂ (fun a b => part (V m c main_arg1) (V m c main_arg2) a d b) (Fin.ext (by show n / 8 * 1024 + r.val = (n + 1) / 8 * 1024 + r.val; omega)) em

theorem left_val (t : Fin cfg0.N) (h7 : t.val % 8 = 7) (r : Fin 1024) (d : Fin 2048) (h : t.val / 8 * 1024 + r.val < 4096) :
    outsAt0 m c t.val t.isLt (ix2 r d) = out (V m c main_arg0) (V m c main_arg1) (V m c main_arg2) (ix2 ⟨t.val / 8 * 1024 + r.val, h⟩ d) := by
  have ht := points t
  have hr : (t.val - 1) / 8 * 1024 + r.val < 4096 := by omega
  refine (congrFun (last_eq m c t (by omega) h7) _).trans ((last_raw _ _ r d).trans ?_)
  rw [out_at, rows_val m c t r d h]
  refine congrArg (fun y : EReal => _ + _ * y) ((step_raw _ _ _ r d).trans ?_)
  rw [chunk_val m c t r d h, kept_val m c (t.val - 1) (Nat.lt_of_le_of_lt (Nat.sub_le _ _) t.isLt) (by omega) r d hr]
  have e : part (V m c main_arg1) (V m c main_arg2) ⟨(t.val - 1) / 8 * 1024 + r.val, hr⟩ d ((t.val - 1) % 8 + 1)
      = part (V m c main_arg1) (V m c main_arg2) ⟨t.val / 8 * 1024 + r.val, h⟩ d (⟨t.val % 8, Nat.mod_lt _ (by decide)⟩ : Fin 8).val :=
    congrArg₂ (fun a b => part (V m c main_arg1) (V m c main_arg2) a d b) (Fin.ext (by show (t.val - 1) / 8 * 1024 + r.val = t.val / 8 * 1024 + r.val; omega)) (by show (t.val - 1) % 8 + 1 = t.val % 8; omega)
  rw [e]
  refine (part_step _ _ _ d ⟨t.val % 8, Nat.mod_lt _ (by decide)⟩).trans ?_
  exact congrArg _ (by show t.val % 8 + 1 = 8; omega)

theorem arr : (dats m 0 c).arrAt 3 cfg0.N = out (V m c main_arg0) (V m c main_arg1) (V m c main_arg2) := by
  refine (dats m 0 c).arrAt_eq_of_covers 3 _ (by decide +kernel) fun t hf y => ?_
  have ht := points t
  have h0 : (y 0).val < 1024 := (y 0).isLt
  blk_simp [(idx t).2.2.2]
  rw [after0_3]
  refine (congrArg (outsAt0 m c t.val t.isLt) (show y = ix2 (y 0) (y 1) from by ext a; fin_cases a <;> rfl)).trans ((left_val m c t ((flush0_3 t).mp hf) (y 0) (y 1) (by omega)).trans ?_)
  blk_ext [(idx t).2.2.2]
theorem out_array : (dats m 0 c).arrAt 3 cfg0.N = out (m ((c : Thread nD τ).loc main_arg0)) (m ((c : Thread nD τ).loc main_arg1)) (m ((c : Thread nD τ).loc main_arg2)) :=
  (arr m c).trans (congr (congrArg₂ out (V_main_arg0 m c) (V_main_arg1 m c)) (V_main_arg2 m c))

/-- The two programs' results, equal as extended reals. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => out (m ((c : Thread nD τ).loc main_arg0)) (m ((c : Thread nD τ).loc main_arg1)) (m ((c : Thread nD τ).loc main_arg2)), ?_, ?_⟩
  · refine (θ_run Cert.Kernel5Ideal.defs _ _).mono (fun r h c => ?_) (Cert.Kernel5Ideal.Value.run_blocks (F := Ideal) m g)
    obtain ⟨h0, rest⟩ := h c
    exact ⟨h0.trans (out_array m c), rest⟩
  · refine (θ_run Cert.Reference5Ideal.defs _ _).mono (fun r h c => ?_) (Cert.Reference5Ideal.Value.run (F := Ideal) m' g')
    obtain ⟨e0, e1, e2⟩ := hargs c
    obtain ⟨h0, rest⟩ := h c
    exact ⟨h0.trans ((congr (congrArg₂ refOut e0 e1) e2).trans (same _ _ _)), rest⟩

/-- The reference's frame: the run of its operations leaves the arguments, and it declares no semaphore. -/
theorem frameReference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Kernel5Ideal.Mm

end
-- ==== Proof.lean ====
module

public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_inputs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Regions
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Gen.Reference2Ideal.Run
public import proofs.«01_k».proof.Proof.Gen.Pre_finite_inputs2
public import proofs.«01_k».proof.Proof.Frames
public import proofs.«01_k».proof.Proof.Value2
public import proofs.«01_k».proof.Proof.Product3
public import proofs.«01_k».proof.Proof.Product4
public import proofs.«01_k».proof.Proof.Product5
public import proofs.«01_k».proof.Proof.Product6

@[expose] public section

noncomputable section

namespace Cert.Proof

open Idealize.ShloMosaic Idealize.SL.Sem

/-- The reference's frame: the run of its operations leaves the arguments, and it declares no semaphore. -/
theorem frameReference : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem frameReference2 : Cert.quiescent_Reference2Ideal (hReference2Ideal := Cert.Reference2Ideal.Gen.facts) := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

/-- The kernel's mask constant is the one the idealized kernel names. -/
theorem preserves : Cert.preserves_Kernel_KernelIdeal := IdealRules.named_const.statement _ _ _ _ _ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_inputs.Gen.facts, Cert.Pre_finite_inputs2.Gen.facts,
  frame, fun m ρ _ => Cert.KernelIdeal.Fox.frame m ρ, fun m ρ _ => Cert.KernelIdeal.Fox.frame m ρ,
  frameReference, fun m ρ _ => frameReference m ρ trivial,
  frame2, fun m ρ _ => Cert.Kernel2Ideal.Ffn.frame m ρ, fun m ρ _ => Cert.Kernel2Ideal.Ffn.frame m ρ,
  frameReference2, fun m ρ _ => frameReference2 m ρ trivial,
  fun m ρ _ => Cert.Kernel3.Gen.frame m ρ, fun m ρ _ => Cert.Kernel3Ideal.Gen.frame m ρ, Cert.Kernel3Ideal.Mm.frameReference,
  fun m ρ _ => Cert.Kernel4.Gen.frame m ρ, fun m ρ _ => Cert.Kernel4Ideal.Gen.frame m ρ, Cert.Kernel4Ideal.Mm.frameReference,
  fun m ρ _ => Cert.Kernel5.Gen.frame m ρ, fun m ρ _ => Cert.Kernel5Ideal.Gen.frame m ρ, Cert.Kernel5Ideal.Mm.frameReference,
  fun m ρ _ => Cert.Kernel6.Gen.frame m ρ, fun m ρ _ => Cert.Kernel6Ideal.Gen.frame m ρ, Cert.Kernel6Ideal.Mm.frameReference,
  preserves, Cert.Fox.algebraic, trivial, Cert.Ffn.algebraic,
  trivial, Cert.Kernel3Ideal.Mm.algebraic,
  trivial, Cert.Kernel4Ideal.Mm.algebraic,
  trivial, Cert.Kernel5Ideal.Mm.algebraic,
  trivial, Cert.Kernel6Ideal.Mm.algebraic⟩

end Cert.Proof

end
